-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_on_gmlp_results_pre_finite [hKernelIdeal : Cert.KernelIdeal.Facts] [hReferenceIdeal : Cert.ReferenceIdeal.Facts] [hPre_finite : Cert.Pre_finite.Facts] [hOn_gmlp_results : Cert.On_gmlp_results.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v184_0)) (v1 : (c : Dev Cert.KernelIdeal.nD) → Buf (Elt Ideal) ((c.tc : Thread Cert.KernelIdeal.nD Cert.KernelIdeal.τ).loc Cert.KernelIdeal.main_v184_1)) (v2 : (c : Dev Cert.KernelIdeal.nD) → Buf (Elt Ideal) ((c.tc : Thread Cert.KernelIdeal.nD Cert.KernelIdeal.τ).loc Cert.KernelIdeal.main_v184_2)) (v3 : (c : Dev Cert.KernelIdeal.nD) → Buf (Elt Ideal) ((c.tc : Thread Cert.KernelIdeal.nD Cert.KernelIdeal.τ).loc Cert.KernelIdeal.main_v184_3)) (v4 : (c : Dev Cert.KernelIdeal.nD) → Buf (Elt Ideal) ((c.tc : Thread Cert.KernelIdeal.nD Cert.KernelIdeal.τ).loc Cert.KernelIdeal.main_v184_4)) (v5 : (c : Dev Cert.KernelIdeal.nD) → Buf (Elt Ideal) ((c.tc : Thread Cert.KernelIdeal.nD Cert.KernelIdeal.τ).loc Cert.KernelIdeal.main_v184_5)) (v6 : (c : Dev Cert.KernelIdeal.nD) → Buf (Elt Ideal) ((c.tc : Thread Cert.KernelIdeal.nD Cert.KernelIdeal.τ).loc Cert.KernelIdeal.main_v184_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1536, 4096]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v184_0) i = v0 c i)
          ∧ (∀ i : (⟨2, ![256, 4096]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v184_1) i = v1 c i)
          ∧ (∀ i : (⟨2, ![256, 2048]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.KernelIdeal.nD Cert.KernelIdeal.τ).loc Cert.KernelIdeal.main_v184_2) i = v2 c i)
          ∧ (∀ i : (⟨3, ![8, 128, 128]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.KernelIdeal.nD Cert.KernelIdeal.τ).loc Cert.KernelIdeal.main_v184_3) i = v3 c i)
          ∧ (∀ i : (⟨2, ![8, 128]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.KernelIdeal.nD Cert.KernelIdeal.τ).loc Cert.KernelIdeal.main_v184_4) i = v4 c i)
          ∧ (∀ i : (⟨2, ![8, 512]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.KernelIdeal.nD Cert.KernelIdeal.τ).loc Cert.KernelIdeal.main_v184_5) i = v5 c i)
          ∧ (∀ i : (⟨2, ![8, 128]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.KernelIdeal.nD Cert.KernelIdeal.τ).loc Cert.KernelIdeal.main_v184_6) i = v6 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![1536, 4096]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v526) i = v0 c i)
          ∧ (∀ i : (⟨2, ![256, 4096]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v527) i = v1 c i)
          ∧ (∀ i : (⟨2, ![256, 2048]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 i = 1#1 → r.2.mem ((c.tc : Thread Cert.ReferenceIdeal.nD Cert.ReferenceIdeal.τ).loc Cert.ReferenceIdeal.main_v524) i = v2 c i)
          ∧ (∀ i : (⟨3, ![8, 128, 128]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 i = 1#1 → r.2.mem ((c.tc : Thread Cert.ReferenceIdeal.nD Cert.ReferenceIdeal.τ).loc Cert.ReferenceIdeal.main_v529) i = v3 c i)
          ∧ (∀ i : (⟨2, ![8, 128]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 i = 1#1 → r.2.mem ((c.tc : Thread Cert.ReferenceIdeal.nD Cert.ReferenceIdeal.τ).loc Cert.ReferenceIdeal.main_v530) i = v4 c i)
          ∧ (∀ i : (⟨2, ![8, 512]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 i = 1#1 → r.2.mem ((c.tc : Thread Cert.ReferenceIdeal.nD Cert.ReferenceIdeal.τ).loc Cert.ReferenceIdeal.main_v532) i = v5 c i)
          ∧ (∀ i : (⟨2, ![8, 128]⟩ : Shape).Idx, (Cert.On_gmlp_results.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 i = 1#1 → r.2.mem ((c.tc : Thread Cert.ReferenceIdeal.nD Cert.ReferenceIdeal.τ).loc Cert.ReferenceIdeal.main_v342) i = v6 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v41_0)) (v1 : (c : Dev Cert.Kernel2Ideal.nD) → Buf (Elt Ideal) ((c.tc : Thread Cert.Kernel2Ideal.nD Cert.Kernel2Ideal.τ).loc Cert.Kernel2Ideal.main_v41_1)) (v2 : (c : Dev Cert.Kernel2Ideal.nD) → Buf (Elt Ideal) ((c.tc : Thread Cert.Kernel2Ideal.nD Cert.Kernel2Ideal.τ).loc Cert.Kernel2Ideal.main_v41_2)) (v3 : (c : Dev Cert.Kernel2Ideal.nD) → Buf (Elt Ideal) ((c.tc : Thread Cert.Kernel2Ideal.nD Cert.Kernel2Ideal.τ).loc Cert.Kernel2Ideal.main_v41_3)) (v4 : (c : Dev Cert.Kernel2Ideal.nD) → Buf (Elt Ideal) ((c.tc : Thread Cert.Kernel2Ideal.nD Cert.Kernel2Ideal.τ).loc Cert.Kernel2Ideal.main_v41_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v41_0) = v0 c
          ∧ r.2.mem ((c.tc : Thread Cert.Kernel2Ideal.nD Cert.Kernel2Ideal.τ).loc Cert.Kernel2Ideal.main_v41_1) = v1 c
          ∧ r.2.mem ((c.tc : Thread Cert.Kernel2Ideal.nD Cert.Kernel2Ideal.τ).loc Cert.Kernel2Ideal.main_v41_2) = v2 c
          ∧ r.2.mem ((c.tc : Thread Cert.Kernel2Ideal.nD Cert.Kernel2Ideal.τ).loc Cert.Kernel2Ideal.main_v41_3) = v3 c
          ∧ r.2.mem ((c.tc : Thread Cert.Kernel2Ideal.nD Cert.Kernel2Ideal.τ).loc Cert.Kernel2Ideal.main_v41_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v174) = v0 c
          ∧ r.2.mem ((c.tc : Thread Cert.Reference2Ideal.nD Cert.Reference2Ideal.τ).loc Cert.Reference2Ideal.main_v175) = v1 c
          ∧ r.2.mem ((c.tc : Thread Cert.Reference2Ideal.nD Cert.Reference2Ideal.τ).loc Cert.Reference2Ideal.main_v176) = v2 c
          ∧ r.2.mem ((c.tc : Thread Cert.Reference2Ideal.nD Cert.Reference2Ideal.τ).loc Cert.Reference2Ideal.main_v166) = v3 c
          ∧ r.2.mem ((c.tc : Thread Cert.Reference2Ideal.nD Cert.Reference2Ideal.τ).loc Cert.Reference2Ideal.main_v173) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v11)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v6_0)) (v1 : (c : Dev Cert.Kernel6Ideal.nD) → Buf (Elt Ideal) ((c.tc : Thread Cert.Kernel6Ideal.nD Cert.Kernel6Ideal.τ).loc Cert.Kernel6Ideal.main_v6_1)) (v2 : (c : Dev Cert.Kernel6Ideal.nD) → Buf (Elt Ideal) ((c.tc : Thread Cert.Kernel6Ideal.nD Cert.Kernel6Ideal.τ).loc Cert.Kernel6Ideal.main_v6_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v6_0) = v0 c
          ∧ r.2.mem ((c.tc : Thread Cert.Kernel6Ideal.nD Cert.Kernel6Ideal.τ).loc Cert.Kernel6Ideal.main_v6_1) = v1 c
          ∧ r.2.mem ((c.tc : Thread Cert.Kernel6Ideal.nD Cert.Kernel6Ideal.τ).loc Cert.Kernel6Ideal.main_v6_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_v20) = v1 c
          ∧ r.2.mem ((c.tc : Thread Cert.Reference6Ideal.nD Cert.Reference6Ideal.τ).loc Cert.Reference6Ideal.main_v33) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)) →
    ∃ (v0 : (c : Dev Cert.Kernel7Ideal.nD) → Buf (Elt Ideal) ((c.tc : Thread Cert.Kernel7Ideal.nD Cert.Kernel7Ideal.τ).loc Cert.Kernel7Ideal.main_v14_0)) (v1 : (c : Dev Cert.Kernel7Ideal.nD) → Buf (Elt Ideal) ((c.tc : Thread Cert.Kernel7Ideal.nD Cert.Kernel7Ideal.τ).loc Cert.Kernel7Ideal.main_v14_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14_0) = v0 c
          ∧ r.2.mem ((c.tc : Thread Cert.Kernel7Ideal.nD Cert.Kernel7Ideal.τ).loc Cert.Kernel7Ideal.main_v14_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite2 : Cert.Pre_finite2.Facts) (hOn_gmlp_results : Cert.On_gmlp_results.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_on_gmlp_results_pre_finite (hKernelIdeal := hKernelIdeal) (hReferenceIdeal := hReferenceIdeal) (hPre_finite := hPre_finite) (hOn_gmlp_results := hOn_gmlp_results)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_gmlp_results.lean ====
abbrev S1x4096x1024 : Shape := ⟨3, ![1, 4096, 1024]⟩
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S1536x4096 : Shape := ⟨2, ![1536, 4096]⟩
abbrev S_ : Shape := ⟨0, ![]⟩
abbrev S256x4096 : Shape := ⟨2, ![256, 4096]⟩
abbrev S256x2048 : Shape := ⟨2, ![256, 2048]⟩
abbrev S8x128x128 : Shape := ⟨3, ![8, 128, 128]⟩
abbrev S8x128 : Shape := ⟨2, ![8, 128]⟩
abbrev S8x512 : Shape := ⟨2, ![8, 512]⟩

class Facts : Prop where
  bcast_S_S1536x4096 : S_.BroadcastsInDim S1536x4096 (![] : Fin 0 → Fin S1536x4096.rank)
  bcast_S_S256x4096 : S_.BroadcastsInDim S256x4096 (![] : Fin 0 → Fin S256x4096.rank)
  bcast_S_S256x2048 : S_.BroadcastsInDim S256x2048 (![] : Fin 0 → Fin S256x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S8x512 : S_.BroadcastsInDim S8x512 (![] : Fin 0 → Fin S8x512.rank)

variable [Facts]

def fn {F : FTy → Type} [FloatOps F] (main_arg0 : FVec F S1x4096x1024 .f32) (main_arg1 : FVec F S1x4096x1792 .f32) (main_arg2 : IVec S1x4096 32) (main_arg3 : FVec F S1x512 .f32) (main_arg4 : FVec F S1x512 .f32) (main_arg5 : FVec F S1x8x128x128 .f32) (main_arg6 : FVec F S1x8x128 .f32) (main_arg7 : FVec F S1x8 .f32) : IVec S1536x4096 1 × IVec S256x4096 1 × IVec S256x2048 1 × IVec S8x128x128 1 × IVec S8x128 1 × IVec S8x512 1 × IVec S8x128 1 :=
  let main_v0 : IVec S1536x4096 32 := iotaInDim S1536x4096 32 0
  let main_c : IVec S_ 32 := constantI S_ 32 1024#32
  let main_v1 : IVec S1536x4096 32 := broadcastInDim S1536x4096 ![] bcast_S_S1536x4096 main_c
  let main_v2 : IVec S1536x4096 1 := cmpi .slt main_v0 main_v1
  let main_c_0 : IVec S_ 1 := constantI S_ 1 0#1
  let main_v3 : IVec S256x4096 1 := broadcastInDim S256x4096 ![] bcast_S_S256x4096 main_c_0
  let main_c_1 : IVec S_ 1 := constantI S_ 1 0#1
  let main_v4 : IVec S256x2048 1 := broadcastInDim S256x2048 ![] bcast_S_S256x2048 main_c_1
  let main_c_2 : IVec S_ 1 := constantI S_ 1 1#1
  let main_v5 : IVec S8x128x128 1 := broadcastInDim S8x128x128 ![] bcast_S_S8x128x128 main_c_2
  let main_c_3 : IVec S_ 1 := constantI S_ 1 1#1
  let main_v6 : IVec S8x128 1 := broadcastInDim S8x128 ![] bcast_S_S8x128 main_c_3
  let main_c_4 : IVec S_ 1 := constantI S_ 1 1#1
  let main_v7 : IVec S8x512 1 := broadcastInDim S8x512 ![] bcast_S_S8x512 main_c_4
  let main_c_5 : IVec S_ 1 := constantI S_ 1 0#1
  let main_v8 : IVec S8x128 1 := broadcastInDim S8x128 ![] bcast_S_S8x128 main_c_5
  (main_v2, main_v3, main_v4, main_v5, main_v6, main_v7, main_v8)
-- ==== Pre_finite.lean ====
abbrev S1x4096x1024 : Shape := ⟨3, ![1, 4096, 1024]⟩
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x4096x1792 : S_.BroadcastsInDim S1x4096x1792 (![] : Fin 0 → Fin S1x4096x1792.rank)
  reducesTo_S1x4096x1792_S_d0_1_2 : S1x4096x1792.ReducesTo [0, 1, 2] S_
  bcast_S_S1x512 : S_.BroadcastsInDim S1x512 (![] : Fin 0 → Fin S1x512.rank)
  reducesTo_S1x512_S_d0_1 : S1x512.ReducesTo [0, 1] S_
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x8 : S_.BroadcastsInDim S1x8 (![] : Fin 0 → Fin S1x8.rank)
  reducesTo_S1x8_S_d0_1 : S1x8.ReducesTo [0, 1] S_

variable [Facts]

def fn_part1 {F : FTy → Type} [FloatOps F] (main_arg5 : FVec F S1x8x128x128 .f32) (main_arg6 : FVec F S1x8x128 .f32) (main_arg7 : FVec F S1x8 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1x8x128x128 .f32 := Host.absf main_arg5
  let main_cst_6 : FVec F S_ .f32 := constant S_ .f32 0x7F800000#32
  let main_v20 : FVec F S1x8x128x128 .f32 := broadcastInDim S1x8x128x128 ![] bcast_S_S1x8x128x128 main_cst_6
  let main_v21 : IVec S1x8x128x128 1 := cmpf .olt main_v19 main_v20
  let main_c_7 : IVec S_ 1 := constantI S_ 1 1#1
  let main_v22 : IVec S_ 1 := (fun x v => Host.reduce IntOp.andi x v reducesTo_S1x8x128x128_S_d0_1_2_3 h_S_) main_v21 main_c_7
  let main_v23 : IVec S_ 1 := andi main_v18 main_v22
  let main_v24 : FVec F S1x8x128 .f32 := Host.absf main_arg6
  let main_cst_8 : FVec F S_ .f32 := constant S_ .f32 0x7F800000#32
  let main_v25 : FVec F S1x8x128 .f32 := broadcastInDim S1x8x128 ![] bcast_S_S1x8x128 main_cst_8
  let main_v26 : IVec S1x8x128 1 := cmpf .olt main_v24 main_v25
  let main_c_9 : IVec S_ 1 := constantI S_ 1 1#1
  let main_v27 : IVec S_ 1 := (fun x v => Host.reduce IntOp.andi x v reducesTo_S1x8x128_S_d0_1_2 h_S_) main_v26 main_c_9
  let main_v28 : IVec S_ 1 := andi main_v23 main_v27
  let main_v29 : FVec F S1x8 .f32 := Host.absf main_arg7
  let main_cst_10 : FVec F S_ .f32 := constant S_ .f32 0x7F800000#32
  let main_v30 : FVec F S1x8 .f32 := broadcastInDim S1x8 ![] bcast_S_S1x8 main_cst_10
  let main_v31 : IVec S1x8 1 := cmpf .olt main_v29 main_v30
  let main_c_11 : IVec S_ 1 := constantI S_ 1 1#1
  let main_v32 : IVec S_ 1 := (fun x v => Host.reduce IntOp.andi x v reducesTo_S1x8_S_d0_1 h_S_) main_v31 main_c_11
  let main_v33 : IVec S_ 1 := andi main_v28 main_v32
  main_v33

def fn {F : FTy → Type} [FloatOps F] (main_arg0 : FVec F S1x4096x1024 .f32) (main_arg1 : FVec F S1x4096x1792 .f32) (main_arg2 : IVec S1x4096 32) (main_arg3 : FVec F S1x512 .f32) (main_arg4 : FVec F S1x512 .f32) (main_arg5 : FVec F S1x8x128x128 .f32) (main_arg6 : FVec F S1x8x128 .f32) (main_arg7 : FVec F S1x8 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1792 .f32 := Host.absf main_arg1
  let main_cst_0 : FVec F S_ .f32 := constant S_ .f32 0x7F800000#32
  let main_v5 : FVec F S1x4096x1792 .f32 := broadcastInDim S1x4096x1792 ![] bcast_S_S1x4096x1792 main_cst_0
  let main_v6 : IVec S1x4096x1792 1 := cmpf .olt main_v4 main_v5
  let main_c_1 : IVec S_ 1 := constantI S_ 1 1#1
  let main_v7 : IVec S_ 1 := (fun x v => Host.reduce IntOp.andi x v reducesTo_S1x4096x1792_S_d0_1_2 h_S_) main_v6 main_c_1
  let main_v8 : IVec S_ 1 := andi main_v3 main_v7
  let main_v9 : FVec F S1x512 .f32 := Host.absf main_arg3
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg4
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg5 main_arg6 main_arg7 main_v13 main_v16
-- ==== Pre_finite2.lean ====
abbrev S1x4096x1024 : Shape := ⟨3, ![1, 4096, 1024]⟩
abbrev S1x1024x4096 : Shape := ⟨3, ![1, 1024, 4096]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x4096 : S_.BroadcastsInDim S1x1024x4096 (![] : Fin 0 → Fin S1x1024x4096.rank)
  reducesTo_S1x1024x4096_S_d0_1_2 : S1x1024x4096.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg7 : FVec F S1x1024 .f32) (main_v33 : IVec S_ 1) : IVec S_ 1 :=
  let main_v34 : FVec F S1x1024 .f32 := Host.absf main_arg7
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  main_v38

def fn_part1 {F : FTy → Type} [FloatOps F] (main_arg4 : FVec F S1x1024 .f32) (main_arg5 : FVec F S1x1024 .f32) (main_arg6 : FVec F S1x1024 .f32) (main_arg7 : FVec F S1x1024 .f32) (main_v13 : IVec S_ 1) (main_v16 : IVec S1x4096x1024 1) : IVec S_ 1 :=
  let main_c_5 : IVec S_ 1 := constantI S_ 1 1#1
  let main_v17 : IVec S_ 1 := (fun x v => Host.reduce IntOp.andi x v reducesTo_S1x4096x1024_S_d0_1_2 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S1x1024 .f32 := Host.absf main_arg5
  let main_cst_8 : FVec F S_ .f32 := constant S_ .f32 0x7F800000#32
  let main_v25 : FVec F S1x1024 .f32 := broadcastInDim S1x1024 ![] bcast_S_S1x1024 main_cst_8
  let main_v26 : IVec S1x1024 1 := cmpf .olt main_v24 main_v25
  let main_c_9 : IVec S_ 1 := constantI S_ 1 1#1
  let main_v27 : IVec S_ 1 := (fun x v => Host.reduce IntOp.andi x v reducesTo_S1x1024_S_d0_1 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S1x4096x1024 .f32) (main_arg1 : FVec F S1x4096x1024 .f32) (main_arg2 : FVec F S1x1024x4096 .f32) (main_arg3 : FVec F S1x4096x1024 .f32) (main_arg4 : FVec F S1x1024 .f32) (main_arg5 : FVec F S1x1024 .f32) (main_arg6 : FVec F S1x1024 .f32) (main_arg7 : FVec F S1x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x4096x1024 .f32 := Host.absf main_arg1
  let main_cst_0 : FVec F S_ .f32 := constant S_ .f32 0x7F800000#32
  let main_v5 : FVec F S1x4096x1024 .f32 := broadcastInDim S1x4096x1024 ![] bcast_S_S1x4096x1024 main_cst_0
  let main_v6 : IVec S1x4096x1024 1 := cmpf .olt main_v4 main_v5
  let main_c_1 : IVec S_ 1 := constantI S_ 1 1#1
  let main_v7 : IVec S_ 1 := (fun x v => Host.reduce IntOp.andi x v reducesTo_S1x4096x1024_S_d0_1_2 h_S_) main_v6 main_c_1
  let main_v8 : IVec S_ 1 := andi main_v3 main_v7
  let main_v9 : FVec F S1x1024x4096 .f32 := Host.absf main_arg2
  let main_cst_2 : FVec F S_ .f32 := constant S_ .f32 0x7F800000#32
  let main_v10 : FVec F S1x1024x4096 .f32 := broadcastInDim S1x1024x4096 ![] bcast_S_S1x1024x4096 main_cst_2
  let main_v11 : IVec S1x1024x4096 1 := cmpf .olt main_v9 main_v10
  let main_c_3 : IVec S_ 1 := constantI S_ 1 1#1
  let main_v12 : IVec S_ 1 := (fun x v => Host.reduce IntOp.andi x v reducesTo_S1x1024x4096_S_d0_1_2 h_S_) main_v11 main_c_3
  let main_v13 : IVec S_ 1 := andi main_v8 main_v12
  let main_v14 : FVec F S1x4096x1024 .f32 := Host.absf main_arg3
  let main_cst_4 : FVec F S_ .f32 := constant S_ .f32 0x7F800000#32
  let main_v15 : FVec F S1x4096x1024 .f32 := broadcastInDim S1x4096x1024 ![] bcast_S_S1x4096x1024 main_cst_4
  let main_v16 : IVec S1x4096x1024 1 := cmpf .olt main_v14 main_v15
  fn_part1 (F := F) main_arg4 main_arg5 main_arg6 main_arg7 main_v13 main_v16
-- ==== Kernel.lean ====
abbrev S1x4096x1024 : Shape := ⟨3, ![1, 4096, 1024]⟩
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S4096x1024 : Shape := ⟨2, ![4096, 1024]⟩
abbrev S1024x4096 : Shape := ⟨2, ![1024, 4096]⟩
abbrev S4096x1792 : Shape := ⟨2, ![4096, 1792]⟩
abbrev S1792x4096 : Shape := ⟨2, ![1792, 4096]⟩
abbrev S32 : Shape := ⟨1, ![32]⟩
abbrev S_ : Shape := ⟨0, ![]⟩
abbrev S8x128x128 : Shape := ⟨3, ![8, 128, 128]⟩
abbrev S8x128 : Shape := ⟨2, ![8, 128]⟩
abbrev S8 : Shape := ⟨1, ![8]⟩
abbrev S512x1 : Shape := ⟨2, ![512, 1]⟩
abbrev S1x32 : Shape := ⟨2, ![1, 32]⟩
abbrev S2x32 : Shape := ⟨2, ![2, 32]⟩
abbrev S64 : Shape := ⟨1, ![64]⟩
abbrev S64x1 : Shape := ⟨2, ![64, 1]⟩
abbrev S64x4096 : Shape := ⟨2, ![64, 4096]⟩
abbrev S2x256x128 : Shape := ⟨3, ![2, 256, 128]⟩
abbrev S4096 : Shape := ⟨1, ![4096]⟩
abbrev S4096x512 : Shape := ⟨2, ![4096, 512]⟩
abbrev S4096x128 : Shape := ⟨2, ![4096, 128]⟩
abbrev S4096x2x64 : Shape := ⟨3, ![4096, 2, 64]⟩
abbrev S4096x1 : Shape := ⟨2, ![4096, 1]⟩
abbrev S4096x32 : Shape := ⟨2, ![4096, 32]⟩
abbrev S4096x1x32 : Shape := ⟨3, ![4096, 1, 32]⟩
abbrev S4096x2x32 : Shape := ⟨3, ![4096, 2, 32]⟩
abbrev S32x128x2x64 : Shape := ⟨4, ![32, 128, 2, 64]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S4096x8x64 : Shape := ⟨3, ![4096, 8, 64]⟩
abbrev S4096x8x32 : Shape := ⟨3, ![4096, 8, 32]⟩
abbrev S32x128x2x4x64 : Shape := ⟨5, ![32, 128, 2, 4, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x4 : Shape := ⟨2, ![2, 4]⟩
abbrev S1x2x4x1x1 : Shape := ⟨5, ![1, 2, 4, 1, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S16x4x512 : Shape := ⟨3, ![16, 4, 512]⟩
abbrev S16x8x512 : Shape := ⟨3, ![16, 8, 512]⟩
abbrev S128x512 : Shape := ⟨2, ![128, 512]⟩
abbrev S1536x4096 : Shape := ⟨2, ![1536, 4096]⟩
abbrev S256x4096 : Shape := ⟨2, ![256, 4096]⟩
abbrev S256x2048 : Shape := ⟨2, ![256, 2048]⟩
abbrev S8x512 : Shape := ⟨2, ![8, 512]⟩
abbrev S1024x256 : Shape := ⟨2, ![1024, 256]⟩
abbrev S512x256 : Shape := ⟨2, ![512, 256]⟩
abbrev S256x256 : Shape := ⟨2, ![256, 256]⟩
abbrev S256x128 : Shape := ⟨2, ![256, 128]⟩
abbrev S64x256 : Shape := ⟨2, ![64, 256]⟩
abbrev S64x128 : Shape := ⟨2, ![64, 128]⟩
abbrev S1536x256 : Shape := ⟨2, ![1536, 256]⟩
abbrev S512x128 : Shape := ⟨2, ![512, 128]⟩
abbrev S128x128 : Shape := ⟨2, ![128, 128]⟩
abbrev S1x128x128 : Shape := ⟨3, ![1, 128, 128]⟩
abbrev S1x128 : Shape := ⟨2, ![1, 128]⟩
abbrev S32x256 : Shape := ⟨2, ![32, 256]⟩
abbrev S1 : Shape := ⟨1, ![1]⟩
abbrev S1x256x128 : Shape := ⟨3, ![1, 256, 128]⟩
abbrev S32x128 : Shape := ⟨2, ![32, 128]⟩
abbrev S256x512 : Shape := ⟨2, ![256, 512]⟩
abbrev S64x512 : Shape := ⟨2, ![64, 512]⟩
abbrev S512 : Shape := ⟨1, ![512]⟩

abbrev nBuf : Space → Nat
  | .hbm => 241
  | .vmem => 41
  | .smem => 1
  | _ => 0

abbrev hbmTy0_0 (i : Nat) : BufTy := match i % 128 with
  | 0 => ⟨S1x4096x1024, .f32⟩
  | 1 => ⟨S1x4096x1792, .f32⟩
  | 2 => ⟨S1x4096, .i32⟩
  | 3 => ⟨S1x512, .f32⟩
  | 4 => ⟨S1x512, .f32⟩
  | 5 => ⟨S1x8x128x128, .f32⟩
  | 6 => ⟨S1x8x128, .f32⟩
  | 7 => ⟨S1x8, .f32⟩
  | 8 => ⟨S4096x1024, .f32⟩
  | 9 => ⟨S1024x4096, .f32⟩
  | 10 => ⟨S4096x1792, .f32⟩
  | 11 => ⟨S1792x4096, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S8x128x128, .f32⟩
  | 27 => ⟨S8x128, .f32⟩
  | 28 => ⟨S8, .f32⟩
  | 29 => ⟨S512x1, .f32⟩
  | 30 => ⟨S512x1, .f32⟩
  | 31 => ⟨S1x32, .f32⟩
  | 32 => ⟨S2x32, .f32⟩
  | 33 => ⟨S64, .f32⟩
  | 34 => ⟨S64x1, .f32⟩
  | 35 => ⟨S1x4096, .f32⟩
  | 36 => ⟨S64x4096, .f32⟩
  | 37 => ⟨S64x4096, .f32⟩
  | 38 => ⟨S64x4096, .f32⟩
  | 39 => ⟨S64x4096, .i32⟩
  | 40 => ⟨S64x4096, .f32⟩
  | 41 => ⟨S64x4096, .f32⟩
  | 42 => ⟨S_, .i32⟩
  | 43 => ⟨S64x4096, .i32⟩
  | 44 => ⟨S64x4096, .i1⟩
  | 45 => ⟨S_, .f32⟩
  | 46 => ⟨S_, .f32⟩
  | 47 => ⟨S64x4096, .f32⟩
  | 48 => ⟨S64x4096, .f32⟩
  | 49 => ⟨S64x4096, .f32⟩
  | 50 => ⟨S64x4096, .f32⟩
  | 51 => ⟨S64x4096, .f32⟩
  | 52 => ⟨S2x256x128, .i32⟩
  | 53 => ⟨S2x256x128, .i32⟩
  | 54 => ⟨S2x256x128, .i32⟩
  | 55 => ⟨S_, .i32⟩
  | 56 => ⟨S2x256x128, .i32⟩
  | 57 => ⟨S2x256x128, .i1⟩
  | 58 => ⟨S_, .i32⟩
  | 59 => ⟨S2x256x128, .i32⟩
  | 60 => ⟨S2x256x128, .i32⟩
  | 61 => ⟨S2x256x128, .i32⟩
  | 62 => ⟨S_, .i32⟩
  | 63 => ⟨S2x256x128, .i32⟩
  | 64 => ⟨S2x256x128, .i1⟩
  | 65 => ⟨S_, .i32⟩
  | 66 => ⟨S2x256x128, .i32⟩
  | 67 => ⟨S2x256x128, .i1⟩
  | 68 => ⟨S2x256x128, .i1⟩
  | 69 => ⟨S_, .i32⟩
  | 70 => ⟨S2x256x128, .i32⟩
  | 71 => ⟨S2x256x128, .i1⟩
  | 72 => ⟨S2x256x128, .i1⟩
  | 73 => ⟨S2x256x128, .i1⟩
  | 74 => ⟨S_, .f32⟩
  | 75 => ⟨S_, .f32⟩
  | 76 => ⟨S2x256x128, .f32⟩
  | 77 => ⟨S2x256x128, .f32⟩
  | 78 => ⟨S2x256x128, .f32⟩
  | 79 => ⟨S2x256x128, .f32⟩
  | 80 => ⟨S4096x1792, .f32⟩
  | 81 => ⟨S4096, .i32⟩
  | 82 => ⟨S4096x512, .f32⟩
  | 83 => ⟨S4096x128, .f32⟩
  | 84 => ⟨S4096x2x64, .f32⟩
  | 85 => ⟨S32, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S4096, .f32⟩
  | 100 => ⟨S4096x1, .f32⟩
  | 101 => ⟨S1x32, .f32⟩
  | 102 => ⟨S4096x32, .f32⟩
  | 103 => ⟨S4096x32, .f32⟩
  | 104 => ⟨S4096x32, .f32⟩
  | 105 => ⟨S4096x32, .f32⟩
  | 106 => ⟨S4096x1x32, .f32⟩
  | 107 => ⟨S4096x32, .f32⟩
  | 108 => ⟨S4096x1x32, .f32⟩
  | 109 => ⟨S4096x2x32, .f32⟩
  | 110 => ⟨S4096x2x32, .f32⟩
  | 111 => ⟨S4096x2x32, .f32⟩
  | 112 => ⟨S4096x2x32, .f32⟩
  | 113 => ⟨S4096x2x32, .f32⟩
  | 114 => ⟨S4096x2x32, .f32⟩
  | 115 => ⟨S4096x2x32, .f32⟩
  | 116 => ⟨S4096x2x32, .f32⟩
  | 117 => ⟨S4096x2x32, .f32⟩
  | 118 => ⟨S4096x2x32, .f32⟩
  | 119 => ⟨S4096x2x32, .f32⟩
  | 120 => ⟨S4096x2x32, .f32⟩
  | 121 => ⟨S4096x2x64, .f32⟩
  | 122 => ⟨S32x128x2x64, .f32⟩
  | 123 => ⟨S1x128x2x64, .f32⟩
  | 124 => ⟨S_, .f32⟩
  | 125 => ⟨S1x128x2x64, .f32⟩
  | 126 => ⟨S31x128x2x64, .f32⟩
  | 127 => ⟨S32x128x2x64, .f32⟩
  | _ => ⟨S1x4096x1024, .f32⟩

abbrev hbmTy0_1 (i : Nat) : BufTy := match i % 128 with
  | 0 => ⟨S32x256x2x64, .f32⟩
  | 1 => ⟨S4096x8x64, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S4096, .f32⟩
  | 17 => ⟨S4096x1, .f32⟩
  | 18 => ⟨S1x32, .f32⟩
  | 19 => ⟨S4096x32, .f32⟩
  | 20 => ⟨S4096x32, .f32⟩
  | 21 => ⟨S4096x32, .f32⟩
  | 22 => ⟨S4096x32, .f32⟩
  | 23 => ⟨S4096x1x32, .f32⟩
  | 24 => ⟨S4096x32, .f32⟩
  | 25 => ⟨S4096x1x32, .f32⟩
  | 26 => ⟨S4096x8x32, .f32⟩
  | 27 => ⟨S4096x8x32, .f32⟩
  | 28 => ⟨S4096x8x32, .f32⟩
  | 29 => ⟨S4096x8x32, .f32⟩
  | 30 => ⟨S4096x8x32, .f32⟩
  | 31 => ⟨S4096x8x32, .f32⟩
  | 32 => ⟨S4096x8x32, .f32⟩
  | 33 => ⟨S4096x8x32, .f32⟩
  | 34 => ⟨S4096x8x32, .f32⟩
  | 35 => ⟨S4096x8x32, .f32⟩
  | 36 => ⟨S4096x8x32, .f32⟩
  | 37 => ⟨S4096x8x32, .f32⟩
  | 38 => ⟨S4096x8x64, .f32⟩
  | 39 => ⟨S32x128x2x4x64, .f32⟩
  | 40 => ⟨S32x2x256x128x4, .f32⟩
  | 41 => ⟨S32x2x4x128x256, .f32⟩
  | 42 => ⟨S_, .f32⟩
  | 43 => ⟨S32x2x4x128x256, .f32⟩
  | 44 => ⟨S32x2x4x128x256, .f32⟩
  | 45 => ⟨S128, .i32⟩
  | 46 => ⟨S128x1, .i32⟩
  | 47 => ⟨S256, .i32⟩
  | 48 => ⟨S1x256, .i32⟩
  | 49 => ⟨S_, .i32⟩
  | 50 => ⟨S128x1, .i32⟩
  | 51 => ⟨S128x1, .i32⟩
  | 52 => ⟨S128x256, .i32⟩
  | 53 => ⟨S128x256, .i32⟩
  | 54 => ⟨S128x256, .i32⟩
  | 55 => ⟨S_, .i32⟩
  | 56 => ⟨S128x256, .i32⟩
  | 57 => ⟨S128x256, .i1⟩
  | 58 => ⟨S_, .i32⟩
  | 59 => ⟨S128x256, .i32⟩
  | 60 => ⟨S128x256, .i1⟩
  | 61 => ⟨S128x256, .i1⟩
  | 62 => ⟨S32, .i32⟩
  | 63 => ⟨S32x1x1, .i32⟩
  | 64 => ⟨S_, .i32⟩
  | 65 => ⟨S32x1x1, .i32⟩
  | 66 => ⟨S32x1x1, .i32⟩
  | 67 => ⟨S1x1x256, .i32⟩
  | 68 => ⟨S32x1x256, .i32⟩
  | 69 => ⟨S32x1x256, .i32⟩
  | 70 => ⟨S32x1x256, .i32⟩
  | 71 => ⟨S_, .i32⟩
  | 72 => ⟨S32x1x256, .i32⟩
  | 73 => ⟨S32x1x256, .i32⟩
  | 74 => ⟨S1x128x256, .i1⟩
  | 75 => ⟨S_, .i32⟩
  | 76 => ⟨S32x1x256, .i32⟩
  | 77 => ⟨S32x1x256, .i1⟩
  | 78 => ⟨S32x128x256, .i1⟩
  | 79 => ⟨S32x128x256, .i1⟩
  | 80 => ⟨S32x128x256, .i1⟩
  | 81 => ⟨S32x1x1x128x256, .i1⟩
  | 82 => ⟨S_, .f32⟩
  | 83 => ⟨S_, .f32⟩
  | 84 => ⟨S32x2x4x128x256, .i1⟩
  | 85 => ⟨S32x2x4x128x256, .f32⟩
  | 86 => ⟨S32x2x4x128x256, .f32⟩
  | 87 => ⟨S2x4, .f32⟩
  | 88 => ⟨S1x2x4x1x1, .f32⟩
  | 89 => ⟨S32x2x4x128x1, .f32⟩
  | 90 => ⟨S32x2x4x128x257, .f32⟩
  | 91 => ⟨S_, .f32⟩
  | 92 => ⟨S32x2x4x128, .f32⟩
  | 93 => ⟨S32x2x4x128x1, .f32⟩
  | 94 => ⟨S32x2x4x128x257, .f32⟩
  | 95 => ⟨S32x2x4x128x257, .f32⟩
  | 96 => ⟨S32x2x4x128x257, .f32⟩
  | 97 => ⟨S_, .f32⟩
  | 98 => ⟨S32x2x4x128, .f32⟩
  | 99 => ⟨S32x2x4x128, .f32⟩
  | 100 => ⟨S32x2x4x128, .f32⟩
  | 101 => ⟨S16x4x512, .f32⟩
  | 102 => ⟨S_, .i32⟩
  | 103 => ⟨S_, .f32⟩
  | 104 => ⟨S16x8x512, .f32⟩
  | 105 => ⟨S128x512, .f32⟩
  | 106 => ⟨S1536x4096, .bf16⟩
  | 107 => ⟨S256x4096, .f32⟩
  | 108 => ⟨S256x2048, .f32⟩
  | 109 => ⟨S8x128x128, .bf16⟩
  | 110 => ⟨S8x128, .f32⟩
  | 111 => ⟨S8x512, .f32⟩
  | 112 => ⟨S8x128, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S256x256, .f32⟩
  | .local _ .vmem, ⟨9, _⟩ => ⟨S256x256, .f32⟩
  | .local _ .vmem, ⟨10, _⟩ => ⟨S256x128, .f32⟩
  | .local _ .vmem, ⟨11, _⟩ => ⟨S256x128, .f32⟩
  | .local _ .vmem, ⟨12, _⟩ => ⟨S64x256, .f32⟩
  | .local _ .vmem, ⟨13, _⟩ => ⟨S64x256, .f32⟩
  | .local _ .vmem, ⟨14, _⟩ => ⟨S64x256, .f32⟩
  | .local _ .vmem, ⟨15, _⟩ => ⟨S64x256, .f32⟩
  | .local _ .vmem, ⟨16, _⟩ => ⟨S64x128, .f32⟩
  | .local _ .vmem, ⟨17, _⟩ => ⟨S64x128, .f32⟩
  | .local _ .vmem, ⟨18, _⟩ => ⟨S64x128, .f32⟩
  | .local _ .vmem, ⟨19, _⟩ => ⟨S64x128, .f32⟩
  | .local _ .vmem, ⟨20, _⟩ => ⟨S8x128x128, .f32⟩
  | .local _ .vmem, ⟨21, _⟩ => ⟨S8x128, .f32⟩
  | .local _ .vmem, ⟨22, _⟩ => ⟨S512x1, .f32⟩
  | .local _ .vmem, ⟨23, _⟩ => ⟨S512x1, .f32⟩
  | .local _ .vmem, ⟨24, _⟩ => ⟨S2x256x128, .f32⟩
  | .local _ .vmem, ⟨25, _⟩ => ⟨S8x512, .f32⟩
  | .local _ .vmem, ⟨26, _⟩ => ⟨S8x512, .f32⟩
  | .local _ .vmem, ⟨27, _⟩ => ⟨S1536x256, .bf16⟩
  | .local _ .vmem, ⟨28, _⟩ => ⟨S1536x256, .bf16⟩
  | .local _ .vmem, ⟨29, _⟩ => ⟨S256x256, .f32⟩
  | .local _ .vmem, ⟨30, _⟩ => ⟨S256x256, .f32⟩
  | .local _ .vmem, ⟨31, _⟩ => ⟨S256x128, .f32⟩
  | .local _ .vmem, ⟨32, _⟩ => ⟨S256x128, .f32⟩
  | .local _ .vmem, ⟨33, _⟩ => ⟨S8x128x128, .bf16⟩
  | .local _ .vmem, ⟨34, _⟩ => ⟨S8x128, .f32⟩
  | .local _ .vmem, ⟨35, _⟩ => ⟨S8x512, .f32⟩
  | .local _ .vmem, ⟨36, _⟩ => ⟨S8x128, .f32⟩
  | .local _ .vmem, ⟨37, _⟩ => ⟨S512x128, .f32⟩
  | .local _ .vmem, ⟨38, _⟩ => ⟨S512x128, .f32⟩
  | .local _ .vmem, ⟨39, _⟩ => ⟨S8x128x128, .bf16⟩
  | .local _ .vmem, ⟨40, _⟩ => ⟨S8x128x128, .f32⟩
  | .local _ .smem, ⟨0, _⟩ => ⟨S8, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_c_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_cst_11 : Ref sig .tc := ⟨.hbm, 75, rfl⟩
abbrev main_call1_v0 : Ref sig .tc := ⟨.hbm, 76, rfl⟩
abbrev main_call1_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_cst_13 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_16 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_17 : Ref sig .tc := ⟨.hbm, 131, rfl⟩
abbrev main_v100 : Ref sig .tc := ⟨.hbm, 132, rfl⟩
abbrev main_v101 : Ref sig .tc := ⟨.hbm, 133, rfl⟩
abbrev main_cst_18 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_19 : Ref sig .tc := ⟨.hbm, 138, rfl⟩
abbrev main_v105 : Ref sig .tc := ⟨.hbm, 139, rfl⟩
abbrev main_v106 : Ref sig .tc := ⟨.hbm, 140, rfl⟩
abbrev main_cst_20 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_21 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_c_22 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_c_23 : Ref sig .tc := ⟨.hbm, 183, rfl⟩
abbrev main_v146 : Ref sig .tc := ⟨.hbm, 184, rfl⟩
abbrev main_v147 : Ref sig .tc := ⟨.hbm, 185, rfl⟩
abbrev main_c_24 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_c_25 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_c_26 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_c_27 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_cst_28 : Ref sig .tc := ⟨.hbm, 210, rfl⟩
abbrev main_call2_v0 : Ref sig .tc := ⟨.hbm, 211, rfl⟩
abbrev main_call2_v1 : Ref sig .tc := ⟨.hbm, 212, rfl⟩
abbrev main_call2_v2 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_cst_29 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_cst_30 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_c_31 : Ref sig .tc := ⟨.hbm, 230, rfl⟩
abbrev main_call3_v0 : Ref sig .tc := ⟨.hbm, 231, rfl⟩
abbrev main_v182 : Ref sig .tc := ⟨.hbm, 232, rfl⟩
abbrev main_v183 : Ref sig .tc := ⟨.hbm, 233, rfl⟩
abbrev main_v184_0 : Ref sig .tc := ⟨.hbm, 234, rfl⟩
abbrev main_v184_1 : Ref sig .tc := ⟨.hbm, 235, rfl⟩
abbrev main_v184_2 : Ref sig .tc := ⟨.hbm, 236, rfl⟩
abbrev main_v184_3 : Ref sig .tc := ⟨.hbm, 237, rfl⟩
abbrev main_v184_4 : Ref sig .tc := ⟨.hbm, 238, rfl⟩
abbrev main_v184_5 : Ref sig .tc := ⟨.hbm, 239, rfl⟩
abbrev main_v184_6 : Ref sig .tc := ⟨.hbm, 240, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg22_0 : Ref sig .tc := ⟨.vmem, 35, rfl⟩
abbrev cc0_stg23_0 : Ref sig .tc := ⟨.vmem, 36, rfl⟩
abbrev cc0_scratch0 : Ref sig .tc := ⟨.vmem, 37, rfl⟩
abbrev cc0_scratch1 : Ref sig .tc := ⟨.vmem, 38, rfl⟩
abbrev cc0_scratch2 : Ref sig .tc := ⟨.vmem, 39, rfl⟩
abbrev cc0_scratch3 : Ref sig .tc := ⟨.vmem, 40, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem21_0 : DmaSem sig := 35
abbrev cc0_sem22_0 : DmaSem sig := 36
abbrev cc0_sem23_0 : DmaSem sig := 37

abbrev nD : Nat := 1
abbrev τ : Topo := Topo.v7x

variable {F : FTy → Type} [FloatOps F]

abbrev grid0 : Pipeline.Grid := ⟨1, ![16], ![false]⟩

def k0_off1 (i : grid0.Coords) : Fin 3 → Nat :=
  let arg0 : BitVec 32 := BitVec.ofNat 32 (i 0).val
  let c1_i32 : BitVec 32 := 1#32
  let v745 : BitVec 32 := Scalar.minsi arg0 c1_i32
  let v746 : Index := Scalar.indexCast v745
  let c0_448 : Index := 0#32
  let c0_449 : Index := 0#32
  ![v746.toNat, 0, 0]
def k0_cond3 (i : grid0.Coords) : BitVec 1 :=
  let arg0 : BitVec 32 := BitVec.ofNat 32 (i 0).val
  let c15_i32 : BitVec 32 := 15#32
  let v1264 : BitVec 1 := Scalar.cmpi .eq arg0 c15_i32
  let v1265 : BitVec 32 := Scalar.extui v1264
  let c0_i32_593 : BitVec 32 := 0#32
  let v1266 : BitVec 1 := Scalar.cmpi .ne v1265 c0_i32_593
  v1266

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let c2_i32 : BitVec 32 := 2#32
  let c0_i32 : BitVec 32 := 0#32
  ![c2_i32.toNat, arg0.toNat]

def cc0_transform_5 (i : grid0.Coords) : Fin 2 → Nat :=
  let arg0 : BitVec 32 := BitVec.ofNat 32 (i 0).val
  let c6_i32 : BitVec 32 := 6#32
  let c0_i32 : BitVec 32 := 0#32
  ![c6_i32.toNat, arg0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![c6_i32.toNat, v2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_10 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![c0_i32_5.toNat, v11.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1536x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x128x128 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S8x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S8x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S1x4096x1024 : Shape := ⟨3, ![1, 4096, 1024]⟩
abbrev S1x4096x1792 : Shape := ⟨3, ![1, 4096, 1792]⟩
abbrev S1x4096 : Shape := ⟨2, ![1, 4096]⟩
abbrev S1x512 : Shape := ⟨2, ![1, 512]⟩
abbrev S1x8x128x128 : Shape := ⟨4, ![1, 8, 128, 128]⟩
abbrev S1x8x128 : Shape := ⟨3, ![1, 8, 128]⟩
abbrev S1x8 : Shape := ⟨2, ![1, 8]⟩
abbrev S8x1 : Shape := ⟨2, ![8, 1]⟩
abbrev S8x128 : Shape := ⟨2, ![8, 128]⟩
abbrev S1x4096x256 : Shape := ⟨3, ![1, 4096, 256]⟩
abbrev S4096x256 : Shape := ⟨2, ![4096, 256]⟩
abbrev S4096x1792 : Shape := ⟨2, ![4096, 1792]⟩
abbrev S4096x512 : Shape := ⟨2, ![4096, 512]⟩
abbrev S4096x128 : Shape := ⟨2, ![4096, 128]⟩
abbrev S512 : Shape := ⟨1, ![512]⟩
abbrev S8x128x128 : Shape := ⟨3, ![8, 128, 128]⟩
abbrev S_ : Shape := ⟨0, ![]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩
abbrev S4096x2x64 : Shape := ⟨3, ![4096, 2, 64]⟩
abbrev S32 : Shape := ⟨1, ![32]⟩
abbrev S1x32 : Shape := ⟨2, ![1, 32]⟩
abbrev S4096x32 : Shape := ⟨2, ![4096, 32]⟩
abbrev S4096x1x32 : Shape := ⟨3, ![4096, 1, 32]⟩
abbrev S4096x2x32 : Shape := ⟨3, ![4096, 2, 32]⟩
abbrev S32x128x2x64 : Shape := ⟨4, ![32, 128, 2, 64]⟩
abbrev S32x1x1x1 : Shape := ⟨4, ![32, 1, 1, 1]⟩
abbrev S1x128x2x64 : Shape := ⟨4, ![1, 128, 2, 64]⟩
abbrev S31x128x2x64 : Shape := ⟨4, ![31, 128, 2, 64]⟩
abbrev S32x256x2x64 : Shape := ⟨4, ![32, 256, 2, 64]⟩
abbrev S4096x8x64 : Shape := ⟨3, ![4096, 8, 64]⟩
abbrev S4096x8x32 : Shape := ⟨3, ![4096, 8, 32]⟩
abbrev S32x128x2x4x64 : Shape := ⟨5, ![32, 128, 2, 4, 64]⟩
abbrev S32x2x256x128x4 : Shape := ⟨5, ![32, 2, 256, 128, 4]⟩
abbrev S32x2x4x128x256 : Shape := ⟨5, ![32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S2x4x128 : Shape := ⟨3, ![2, 4, 128]⟩
abbrev S1x2x4x128x1 : Shape := ⟨5, ![1, 2, 4, 128, 1]⟩
abbrev S32x2x4x128x1 : Shape := ⟨5, ![32, 2, 4, 128, 1]⟩
abbrev S32x2x4x128x257 : Shape := ⟨5, ![32, 2, 4, 128, 257]⟩
abbrev S32x2x4x128 : Shape := ⟨4, ![32, 2, 4, 128]⟩
abbrev S32x2x64x4x128 : Shape := ⟨5, ![32, 2, 64, 4, 128]⟩
abbrev S4096x1024 : Shape := ⟨2, ![4096, 1024]⟩
abbrev S32x2x64x256 : Shape := ⟨4, ![32, 2, 64, 256]⟩
abbrev S32x2x128x4x64 : Shape := ⟨5, ![32, 2, 128, 4, 64]⟩
abbrev S32x2x256x64 : Shape := ⟨4, ![32, 2, 256, 64]⟩
abbrev S1792x4096 : Shape := ⟨2, ![1792, 4096]⟩
abbrev S16x2x128x256 : Shape := ⟨4, ![16, 2, 128, 256]⟩
abbrev S16x1x128x256 : Shape := ⟨4, ![16, 1, 128, 256]⟩
abbrev S16x128x256 : Shape := ⟨3, ![16, 128, 256]⟩
abbrev S2048x256 : Shape := ⟨2, ![2048, 256]⟩
abbrev S256x2048 : Shape := ⟨2, ![256, 2048]⟩
abbrev S1536x4096 : Shape := ⟨2, ![1536, 4096]⟩
abbrev S256x4096 : Shape := ⟨2, ![256, 4096]⟩
abbrev S6x512 : Shape := ⟨2, ![6, 512]⟩
abbrev S8x512 : Shape := ⟨2, ![8, 512]⟩

abbrev nBuf : Space → Nat
  | .hbm => 703
  | .vmem => 0
  | .smem => 0
  | _ => 0

abbrev hbmTy0_0 (i : Nat) : BufTy := match i % 128 with
  | 0 => ⟨S1x4096x1024, .f32⟩
  | 1 => ⟨S1x4096x1792, .f32⟩
  | 2 => ⟨S1x4096, .i32⟩
  | 3 => ⟨S1x512, .f32⟩
  | 4 => ⟨S1x512, .f32⟩
  | 5 => ⟨S1x8x128x128, .f32⟩
  | 6 => ⟨S1x8x128, .f32⟩
  | 7 => ⟨S1x8, .f32⟩
  | 8 => ⟨S8x1, .f32⟩
  | 9 => ⟨S8x128, .f32⟩
  | 10 => ⟨S1x4096x256, .f32⟩
  | 11 => ⟨S4096x256, .f32⟩
  | 12 => ⟨S4096x1792, .f32⟩
  | 13 => ⟨S4096x512, .f32⟩
  | 14 => ⟨S4096x512, .f32⟩
  | 15 => ⟨S4096x512, .f32⟩
  | 16 => ⟨S4096x128, .f32⟩
  | 17 => ⟨S4096x128, .f32⟩
  | 18 => ⟨S4096x128, .f32⟩
  | 19 => ⟨S4096x128, .f32⟩
  | 20 => ⟨S512, .f32⟩
  | 21 => ⟨S512, .f32⟩
  | 22 => ⟨S8x128x128, .f32⟩
  | 23 => ⟨S8x128, .f32⟩
  | 24 => ⟨S_, .f32⟩
  | 25 => ⟨S_, .f32⟩
  | 26 => ⟨S_, .f32⟩
  | 27 => ⟨S4096x512, .f32⟩
  | 28 => ⟨S4096x512, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S4096x512, .f32⟩
  | 50 => ⟨S_, .f32⟩
  | 51 => ⟨S_, .f32⟩
  | 52 => ⟨S_, .f32⟩
  | 53 => ⟨S4096x512, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S_, .f32⟩
  | 66 => ⟨S4096x512, .f32⟩
  | 67 => ⟨S4096x512, .f32⟩
  | 68 => ⟨S4096x512, .f32⟩
  | 69 => ⟨S_, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S4096x512, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S4096x512, .f32⟩
  | 83 => ⟨S4096x512, .f32⟩
  | 84 => ⟨S4096x512, .f32⟩
  | 85 => ⟨S_, .f32⟩
  | 86 => ⟨S4096x512, .f32⟩
  | 87 => ⟨S4096x512, .f32⟩
  | 88 => ⟨S_, .f32⟩
  | 89 => ⟨S4096, .f32⟩
  | 90 => ⟨S4096x1, .f32⟩
  | 91 => ⟨S_, .f32⟩
  | 92 => ⟨S4096x1, .f32⟩
  | 93 => ⟨S4096x1, .f32⟩
  | 94 => ⟨S4096x512, .f32⟩
  | 95 => ⟨S4096x512, .f32⟩
  | 96 => ⟨S_, .f32⟩
  | 97 => ⟨S4096x1, .f32⟩
  | 98 => ⟨S4096x1, .f32⟩
  | 99 => ⟨S4096x1, .f32⟩
  | 100 => ⟨S4096x1, .f32⟩
  | 101 => ⟨S_, .f32⟩
  | 102 => ⟨S4096x1, .f32⟩
  | 103 => ⟨S4096x1, .f32⟩
  | 104 => ⟨S4096x512, .f32⟩
  | 105 => ⟨S4096x512, .f32⟩
  | 106 => ⟨S1x512, .f32⟩
  | 107 => ⟨S4096x512, .f32⟩
  | 108 => ⟨S4096x512, .f32⟩
  | 109 => ⟨S1x512, .f32⟩
  | 110 => ⟨S4096x512, .f32⟩
  | 111 => ⟨S4096x512, .f32⟩
  | 112 => ⟨S32x128x8x64, .f32⟩
  | 113 => ⟨S_, .f32⟩
  | 114 => ⟨S128x128, .f32⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S_, .f32⟩
  | 122 => ⟨S128x128, .f32⟩
  | 123 => ⟨S128x128, .f32⟩
  | 124 => ⟨S1x128x128, .f32⟩
  | 125 => ⟨S8x128x128, .f32⟩
  | 126 => ⟨S8x128x128, .f32⟩
  | 127 => ⟨S8x32x64x128, .f32⟩
  | _ => ⟨S1x4096x1024, .f32⟩

abbrev hbmTy0_1 (i : Nat) : BufTy := match i % 128 with
  | 0 => ⟨S32x128x8x64, .f32⟩
  | 1 => ⟨S128x8, .f32⟩
  | 2 => ⟨S1x128x8x1, .f32⟩
  | 3 => ⟨S32x128x8x64, .f32⟩
  | 4 => ⟨S32x128x8x64, .f32⟩
  | 5 => ⟨S32x128x8x64, .f32⟩
  | 6 => ⟨S32x128x8x64, .f32⟩
  | 7 => ⟨S4096x512, .f32⟩
  | 8 => ⟨S4096, .i32⟩
  | 9 => ⟨S4096x2x64, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S4096, .f32⟩
  | 25 => ⟨S4096x1, .f32⟩
  | 26 => ⟨S1x32, .f32⟩
  | 27 => ⟨S4096x32, .f32⟩
  | 28 => ⟨S4096x32, .f32⟩
  | 29 => ⟨S4096x32, .f32⟩
  | 30 => ⟨S4096x32, .f32⟩
  | 31 => ⟨S4096x1x32, .f32⟩
  | 32 => ⟨S4096x32, .f32⟩
  | 33 => ⟨S4096x1x32, .f32⟩
  | 34 => ⟨S4096x2x32, .f32⟩
  | 35 => ⟨S4096x2x32, .f32⟩
  | 36 => ⟨S4096x2x32, .f32⟩
  | 37 => ⟨S4096x2x32, .f32⟩
  | 38 => ⟨S4096x2x32, .f32⟩
  | 39 => ⟨S4096x2x32, .f32⟩
  | 40 => ⟨S4096x2x32, .f32⟩
  | 41 => ⟨S4096x2x32, .f32⟩
  | 42 => ⟨S4096x2x32, .f32⟩
  | 43 => ⟨S4096x2x32, .f32⟩
  | 44 => ⟨S4096x2x32, .f32⟩
  | 45 => ⟨S4096x2x32, .f32⟩
  | 46 => ⟨S4096x2x64, .f32⟩
  | 47 => ⟨S4096x2x64, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S32, .f32⟩
  | 56 => ⟨S_, .f32⟩
  | 57 => ⟨S32, .f32⟩
  | 58 => ⟨S32, .f32⟩
  | 59 => ⟨S_, .f32⟩
  | 60 => ⟨S32, .f32⟩
  | 61 => ⟨S32, .f32⟩
  | 62 => ⟨S4096, .f32⟩
  | 63 => ⟨S4096x1, .f32⟩
  | 64 => ⟨S1x32, .f32⟩
  | 65 => ⟨S4096x32, .f32⟩
  | 66 => ⟨S4096x32, .f32⟩
  | 67 => ⟨S4096x32, .f32⟩
  | 68 => ⟨S4096x32, .f32⟩
  | 69 => ⟨S4096x1x32, .f32⟩
  | 70 => ⟨S4096x32, .f32⟩
  | 71 => ⟨S4096x1x32, .f32⟩
  | 72 => ⟨S4096x2x32, .f32⟩
  | 73 => ⟨S4096x2x32, .f32⟩
  | 74 => ⟨S4096x2x32, .f32⟩
  | 75 => ⟨S4096x2x32, .f32⟩
  | 76 => ⟨S4096x2x32, .f32⟩
  | 77 => ⟨S4096x2x32, .f32⟩
  | 78 => ⟨S4096x2x32, .f32⟩
  | 79 => ⟨S4096x2x32, .f32⟩
  | 80 => ⟨S4096x2x32, .f32⟩
  | 81 => ⟨S4096x2x32, .f32⟩
  | 82 => ⟨S4096x2x32, .f32⟩
  | 83 => ⟨S4096x2x32, .f32⟩
  | 84 => ⟨S4096x2x64, .f32⟩
  | 85 => ⟨S32x128x2x64, .f32⟩
  | 86 => ⟨S32x128x2x64, .f32⟩
  | 87 => ⟨S32, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S32, .i32⟩
  | 95 => ⟨S32, .i32⟩
  | 96 => ⟨S_, .i32⟩
  | 97 => ⟨S32, .i32⟩
  | 98 => ⟨S32, .i1⟩
  | 99 => ⟨S_, .i32⟩
  | 100 => ⟨S32, .i32⟩
  | 101 => ⟨S32, .i1⟩
  | 102 => ⟨S_, .i32⟩
  | 103 => ⟨S_, .i1⟩
  | 104 => ⟨S32, .i1⟩
  | 105 => ⟨S32, .i1⟩
  | 106 => ⟨S32, .i1⟩
  | 107 => ⟨S32, .i32⟩
  | 108 => ⟨S32, .i32⟩
  | 109 => ⟨S32, .i32⟩
  | 110 => ⟨S_, .i32⟩
  | 111 => ⟨S32, .i32⟩
  | 112 => ⟨S32, .i1⟩
  | 113 => ⟨S32x1x1x1, .i1⟩
  | 114 => ⟨S1x128x2x64, .f32⟩
  | 115 => ⟨S_, .f32⟩
  | 116 => ⟨S1x128x2x64, .f32⟩
  | 117 => ⟨S31x128x2x64, .f32⟩
  | 118 => ⟨S32x128x2x64, .f32⟩
  | 119 => ⟨S_, .f32⟩
  | 120 => ⟨S1x128x2x64, .f32⟩
  | 121 => ⟨S1x128x2x64, .f32⟩
  | 122 => ⟨S_, .f32⟩
  | 123 => ⟨S1x128x2x64, .f32⟩
  | 124 => ⟨S31x128x2x64, .f32⟩
  | 125 => ⟨S32x128x2x64, .f32⟩
  | 126 => ⟨S_, .f32⟩
  | 127 => ⟨S1x128x2x64, .f32⟩
  | _ => ⟨S1x4096x1024, .f32⟩

abbrev hbmTy0_2 (i : Nat) : BufTy := match i % 128 with
  | 0 => ⟨S32x128x2x64, .i1⟩
  | 1 => ⟨S32x128x2x64, .f32⟩
  | 2 => ⟨S32x256x2x64, .f32⟩
  | 3 => ⟨S4096x2x64, .f32⟩
  | 4 => ⟨S4096x2x64, .f32⟩
  | 5 => ⟨S32x128x2x64, .f32⟩
  | 6 => ⟨S32x128x2x64, .f32⟩
  | 7 => ⟨S32, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S32, .i32⟩
  | 15 => ⟨S32, .i32⟩
  | 16 => ⟨S_, .i32⟩
  | 17 => ⟨S32, .i32⟩
  | 18 => ⟨S32, .i1⟩
  | 19 => ⟨S_, .i32⟩
  | 20 => ⟨S32, .i32⟩
  | 21 => ⟨S32, .i1⟩
  | 22 => ⟨S_, .i32⟩
  | 23 => ⟨S_, .i1⟩
  | 24 => ⟨S32, .i1⟩
  | 25 => ⟨S32, .i1⟩
  | 26 => ⟨S32, .i1⟩
  | 27 => ⟨S32, .i32⟩
  | 28 => ⟨S32, .i32⟩
  | 29 => ⟨S32, .i32⟩
  | 30 => ⟨S_, .i32⟩
  | 31 => ⟨S32, .i32⟩
  | 32 => ⟨S32, .i1⟩
  | 33 => ⟨S32x1x1x1, .i1⟩
  | 34 => ⟨S1x128x2x64, .f32⟩
  | 35 => ⟨S_, .f32⟩
  | 36 => ⟨S1x128x2x64, .f32⟩
  | 37 => ⟨S31x128x2x64, .f32⟩
  | 38 => ⟨S32x128x2x64, .f32⟩
  | 39 => ⟨S_, .f32⟩
  | 40 => ⟨S1x128x2x64, .f32⟩
  | 41 => ⟨S1x128x2x64, .f32⟩
  | 42 => ⟨S_, .f32⟩
  | 43 => ⟨S1x128x2x64, .f32⟩
  | 44 => ⟨S31x128x2x64, .f32⟩
  | 45 => ⟨S32x128x2x64, .f32⟩
  | 46 => ⟨S_, .f32⟩
  | 47 => ⟨S1x128x2x64, .f32⟩
  | 48 => ⟨S32x128x2x64, .i1⟩
  | 49 => ⟨S32x128x2x64, .f32⟩
  | 50 => ⟨S32x256x2x64, .f32⟩
  | 51 => ⟨S4096x8x64, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S4096, .f32⟩
  | 67 => ⟨S4096x1, .f32⟩
  | 68 => ⟨S1x32, .f32⟩
  | 69 => ⟨S4096x32, .f32⟩
  | 70 => ⟨S4096x32, .f32⟩
  | 71 => ⟨S4096x32, .f32⟩
  | 72 => ⟨S4096x32, .f32⟩
  | 73 => ⟨S4096x1x32, .f32⟩
  | 74 => ⟨S4096x32, .f32⟩
  | 75 => ⟨S4096x1x32, .f32⟩
  | 76 => ⟨S4096x8x32, .f32⟩
  | 77 => ⟨S4096x8x32, .f32⟩
  | 78 => ⟨S4096x8x32, .f32⟩
  | 79 => ⟨S4096x8x32, .f32⟩
  | 80 => ⟨S4096x8x32, .f32⟩
  | 81 => ⟨S4096x8x32, .f32⟩
  | 82 => ⟨S4096x8x32, .f32⟩
  | 83 => ⟨S4096x8x32, .f32⟩
  | 84 => ⟨S4096x8x32, .f32⟩
  | 85 => ⟨S4096x8x32, .f32⟩
  | 86 => ⟨S4096x8x32, .f32⟩
  | 87 => ⟨S4096x8x32, .f32⟩
  | 88 => ⟨S4096x8x64, .f32⟩
  | 89 => ⟨S32x128x2x4x64, .f32⟩
  | 90 => ⟨S32x2x256x128x4, .f32⟩
  | 91 => ⟨S32x2x4x128x256, .f32⟩
  | 92 => ⟨S_, .f32⟩
  | 93 => ⟨S32x2x4x128x256, .f32⟩
  | 94 => ⟨S32x2x4x128x256, .f32⟩
  | 95 => ⟨S128, .i32⟩
  | 96 => ⟨S128x1, .i32⟩
  | 97 => ⟨S256, .i32⟩
  | 98 => ⟨S1x256, .i32⟩
  | 99 => ⟨S_, .i32⟩
  | 100 => ⟨S128x1, .i32⟩
  | 101 => ⟨S128x1, .i32⟩
  | 102 => ⟨S128x256, .i32⟩
  | 103 => ⟨S128x256, .i32⟩
  | 104 => ⟨S128x256, .i32⟩
  | 105 => ⟨S_, .i32⟩
  | 106 => ⟨S128x256, .i32⟩
  | 107 => ⟨S128x256, .i1⟩
  | 108 => ⟨S_, .i32⟩
  | 109 => ⟨S128x256, .i32⟩
  | 110 => ⟨S128x256, .i1⟩
  | 111 => ⟨S128x256, .i1⟩
  | 112 => ⟨S32, .i32⟩
  | 113 => ⟨S32x1x1, .i32⟩
  | 114 => ⟨S_, .i32⟩
  | 115 => ⟨S32x1x1, .i32⟩
  | 116 => ⟨S32x1x1, .i32⟩
  | 117 => ⟨S1x1x256, .i32⟩
  | 118 => ⟨S32x1x256, .i32⟩
  | 119 => ⟨S32x1x256, .i32⟩
  | 120 => ⟨S32x1x256, .i32⟩
  | 121 => ⟨S_, .i32⟩
  | 122 => ⟨S32x1x256, .i32⟩
  | 123 => ⟨S32x1x256, .i32⟩
  | 124 => ⟨S1x128x256, .i1⟩
  | 125 => ⟨S_, .i32⟩
  | 126 => ⟨S32x1x256, .i32⟩
  | 127 => ⟨S32x1x256, .i1⟩
  | _ => ⟨S1x4096x1024, .f32⟩

abbrev hbmTy0_3 (i : Nat) : BufTy := match i % 128 with
  | 0 => ⟨S32x128x256, .i1⟩
  | 1 => ⟨S32x128x256, .i1⟩
  | 2 => ⟨S32x128x256, .i1⟩
  | 3 => ⟨S32x1x1x128x256, .i1⟩
  | 4 => ⟨S_, .f32⟩
  | 5 => ⟨S_, .f32⟩
  | 6 => ⟨S32x2x4x128x256, .i1⟩
  | 7 => ⟨S32x2x4x128x256, .f32⟩
  | 8 => ⟨S32x2x4x128x256, .f32⟩
  | 9 => ⟨S_, .f32⟩
  | 10 => ⟨S32x2x4x128x256, .f32⟩
  | 11 => ⟨S2x4x128, .f32⟩
  | 12 => ⟨S1x2x4x128x1, .f32⟩
  | 13 => ⟨S32x2x4x128x1, .f32⟩
  | 14 => ⟨S32x2x4x128x257, .f32⟩
  | 15 => ⟨S_, .f32⟩
  | 16 => ⟨S32x2x4x128, .f32⟩
  | 17 => ⟨S32x2x4x128x1, .f32⟩
  | 18 => ⟨S32x2x4x128x257, .f32⟩
  | 19 => ⟨S32x2x4x128x257, .i1⟩
  | 20 => ⟨S32x2x4x128x257, .f32⟩
  | 21 => ⟨S_, .f32⟩
  | 22 => ⟨S32x2x4x128, .f32⟩
  | 23 => ⟨S_, .f32⟩
  | 24 => ⟨S32x2x4x128, .f32⟩
  | 25 => ⟨S32x2x4x128, .f32⟩
  | 26 => ⟨S_, .f32⟩
  | 27 => ⟨S32x2x4x128, .f32⟩
  | 28 => ⟨S32x2x4x128, .i1⟩
  | 29 => ⟨S_, .f32⟩
  | 30 => ⟨S32x2x4x128, .f32⟩
  | 31 => ⟨S32x2x4x128, .i1⟩
  | 32 => ⟨S_, .f32⟩
  | 33 => ⟨S32x2x4x128, .f32⟩
  | 34 => ⟨S_, .f32⟩
  | 35 => ⟨S32x2x4x128, .f32⟩
  | 36 => ⟨S_, .f32⟩
  | 37 => ⟨S32x2x4x128, .f32⟩
  | 38 => ⟨S32x2x4x128, .f32⟩
  | 39 => ⟨S32x2x4x128, .f32⟩
  | 40 => ⟨S32x2x4x128x1, .f32⟩
  | 41 => ⟨S32x2x4x128x257, .f32⟩
  | 42 => ⟨S32x2x4x128x257, .f32⟩
  | 43 => ⟨S32x2x4x128x257, .f32⟩
  | 44 => ⟨S_, .f32⟩
  | 45 => ⟨S32x2x4x128, .f32⟩
  | 46 => ⟨S32x2x4x128x1, .f32⟩
  | 47 => ⟨S32x2x4x128x257, .f32⟩
  | 48 => ⟨S32x2x4x128x257, .f32⟩
  | 49 => ⟨S32x2x4x128x1, .f32⟩
  | 50 => ⟨S_, .f32⟩
  | 51 => ⟨S32x2x4x128x1, .f32⟩
  | 52 => ⟨S32x2x4x128x1, .f32⟩
  | 53 => ⟨S32x2x4x128x256, .f32⟩
  | 54 => ⟨S32x2x64x4x128, .f32⟩
  | 55 => ⟨S32x128x2x4x64, .f32⟩
  | 56 => ⟨S4096x512, .f32⟩
  | 57 => ⟨S4096x1024, .f32⟩
  | 58 => ⟨S1x4096x1024, .f32⟩
  | 59 => ⟨S_, .f32⟩
  | 60 => ⟨S4096x1024, .f32⟩
  | 61 => ⟨S4096x512, .f32⟩
  | 62 => ⟨S4096x512, .f32⟩
  | 63 => ⟨S32x128x2x4x64, .f32⟩
  | 64 => ⟨S32x2x64x4x128, .f32⟩
  | 65 => ⟨S32x2x4x128x256, .f32⟩
  | 66 => ⟨S32x2x64x256, .f32⟩
  | 67 => ⟨S32x256x2x64, .f32⟩
  | 68 => ⟨S_, .f32⟩
  | 69 => ⟨S32x2x4x128x257, .f32⟩
  | 70 => ⟨S32x2x4x128x257, .f32⟩
  | 71 => ⟨S32x2x4x128x257, .f32⟩
  | 72 => ⟨S32x2x4x128x257, .f32⟩
  | 73 => ⟨S_, .f32⟩
  | 74 => ⟨S32x2x4x128, .f32⟩
  | 75 => ⟨S32x2x4x128x1, .f32⟩
  | 76 => ⟨S32x2x4x128x1, .f32⟩
  | 77 => ⟨S32x2x4x128x257, .f32⟩
  | 78 => ⟨S32x2x4x128x257, .f32⟩
  | 79 => ⟨S_, .f32⟩
  | 80 => ⟨S32x2x4x128, .f32⟩
  | 81 => ⟨S32x2x4x128x257, .f32⟩
  | 82 => ⟨S32x2x4x128x257, .f32⟩
  | 83 => ⟨S32x2x4x128x257, .f32⟩
  | 84 => ⟨S32x2x4x128x256, .f32⟩
  | 85 => ⟨S32x2x4x128x1, .f32⟩
  | 86 => ⟨S_, .f32⟩
  | 87 => ⟨S2x4x128, .f32⟩
  | 88 => ⟨S1x2x4x128x1, .f32⟩
  | 89 => ⟨S_, .f32⟩
  | 90 => ⟨S2x4x128, .f32⟩
  | 91 => ⟨S8x128, .f32⟩
  | 92 => ⟨S_, .f32⟩
  | 93 => ⟨S32x2x4x128x256, .f32⟩
  | 94 => ⟨S32x2x4x128x256, .f32⟩
  | 95 => ⟨S_, .f32⟩
  | 96 => ⟨S32x2x4x128x256, .f32⟩
  | 97 => ⟨S32x2x4x128x256, .f32⟩
  | 98 => ⟨S32x2x256x128x4, .f32⟩
  | 99 => ⟨S32x2x128x4x64, .f32⟩
  | 100 => ⟨S32x128x2x4x64, .f32⟩
  | 101 => ⟨S32x2x256x64, .f32⟩
  | 102 => ⟨S32x256x2x64, .f32⟩
  | 103 => ⟨S4096x8x64, .f32⟩
  | 104 => ⟨S4096x8x32, .f32⟩
  | 105 => ⟨S4096x8x32, .f32⟩
  | 106 => ⟨S4096x8x32, .f32⟩
  | 107 => ⟨S4096x8x32, .f32⟩
  | 108 => ⟨S4096x8x32, .f32⟩
  | 109 => ⟨S4096x8x32, .f32⟩
  | 110 => ⟨S4096x8x32, .f32⟩
  | 111 => ⟨S4096x8x32, .f32⟩
  | 112 => ⟨S4096x8x32, .f32⟩
  | 113 => ⟨S4096x8x32, .f32⟩
  | 114 => ⟨S4096x8x32, .f32⟩
  | 115 => ⟨S4096x8x32, .f32⟩
  | 116 => ⟨S4096x8x32, .f32⟩
  | 117 => ⟨S_, .f32⟩
  | 118 => ⟨S4096x8x64, .f32⟩
  | 119 => ⟨S_, .f32⟩
  | 120 => ⟨S4096x8x64, .f32⟩
  | 121 => ⟨S4096x8x64, .f32⟩
  | 122 => ⟨S4096x512, .f32⟩
  | 123 => ⟨S32x128x2x64, .f32⟩
  | 124 => ⟨S32x128x2x64, .f32⟩
  | 125 => ⟨S_, .f32⟩
  | 126 => ⟨S32x128x2x64, .f32⟩
  | 127 => ⟨S32x128x2x64, .f32⟩
  | _ => ⟨S1x4096x1024, .f32⟩

abbrev hbmTy0_4 (i : Nat) : BufTy := match i % 128 with
  | 0 => ⟨S32x128x2x64, .f32⟩
  | 1 => ⟨S1x128x2x64, .f32⟩
  | 2 => ⟨S31x128x2x64, .f32⟩
  | 3 => ⟨S_, .f32⟩
  | 4 => ⟨S32x128x2x64, .f32⟩
  | 5 => ⟨S32x128x2x64, .f32⟩
  | 6 => ⟨S1x128x2x64, .f32⟩
  | 7 => ⟨S31x128x2x64, .f32⟩
  | 8 => ⟨S_, .f32⟩
  | 9 => ⟨S32x128x2x64, .f32⟩
  | 10 => ⟨S4096x2x64, .f32⟩
  | 11 => ⟨S4096x2x64, .f32⟩
  | 12 => ⟨S4096x128, .f32⟩
  | 13 => ⟨S4096x128, .f32⟩
  | 14 => ⟨S32x128x2x64, .f32⟩
  | 15 => ⟨S32x128x2x64, .f32⟩
  | 16 => ⟨S_, .f32⟩
  | 17 => ⟨S32x128x2x64, .f32⟩
  | 18 => ⟨S32x128x2x64, .f32⟩
  | 19 => ⟨S32x128x2x64, .f32⟩
  | 20 => ⟨S1x128x2x64, .f32⟩
  | 21 => ⟨S31x128x2x64, .f32⟩
  | 22 => ⟨S_, .f32⟩
  | 23 => ⟨S32x128x2x64, .f32⟩
  | 24 => ⟨S32x128x2x64, .f32⟩
  | 25 => ⟨S1x128x2x64, .f32⟩
  | 26 => ⟨S31x128x2x64, .f32⟩
  | 27 => ⟨S_, .f32⟩
  | 28 => ⟨S32x128x2x64, .f32⟩
  | 29 => ⟨S4096x2x64, .f32⟩
  | 30 => ⟨S4096x2x64, .f32⟩
  | 31 => ⟨S4096x2x32, .f32⟩
  | 32 => ⟨S4096x2x32, .f32⟩
  | 33 => ⟨S4096x2x32, .f32⟩
  | 34 => ⟨S4096x2x32, .f32⟩
  | 35 => ⟨S4096x2x32, .f32⟩
  | 36 => ⟨S4096x2x32, .f32⟩
  | 37 => ⟨S4096x2x32, .f32⟩
  | 38 => ⟨S4096x2x32, .f32⟩
  | 39 => ⟨S4096x2x32, .f32⟩
  | 40 => ⟨S4096x2x32, .f32⟩
  | 41 => ⟨S4096x2x32, .f32⟩
  | 42 => ⟨S4096x2x32, .f32⟩
  | 43 => ⟨S4096x2x32, .f32⟩
  | 44 => ⟨S_, .f32⟩
  | 45 => ⟨S4096x2x64, .f32⟩
  | 46 => ⟨S_, .f32⟩
  | 47 => ⟨S4096x2x64, .f32⟩
  | 48 => ⟨S4096x2x64, .f32⟩
  | 49 => ⟨S4096x128, .f32⟩
  | 50 => ⟨S4096x2x32, .f32⟩
  | 51 => ⟨S4096x2x32, .f32⟩
  | 52 => ⟨S4096x2x32, .f32⟩
  | 53 => ⟨S4096x2x32, .f32⟩
  | 54 => ⟨S4096x2x32, .f32⟩
  | 55 => ⟨S4096x2x32, .f32⟩
  | 56 => ⟨S4096x2x32, .f32⟩
  | 57 => ⟨S4096x2x32, .f32⟩
  | 58 => ⟨S4096x2x32, .f32⟩
  | 59 => ⟨S4096x2x32, .f32⟩
  | 60 => ⟨S4096x2x32, .f32⟩
  | 61 => ⟨S4096x2x32, .f32⟩
  | 62 => ⟨S4096x2x32, .f32⟩
  | 63 => ⟨S_, .f32⟩
  | 64 => ⟨S4096x2x64, .f32⟩
  | 65 => ⟨S_, .f32⟩
  | 66 => ⟨S4096x2x64, .f32⟩
  | 67 => ⟨S4096x2x64, .f32⟩
  | 68 => ⟨S4096x128, .f32⟩
  | 69 => ⟨S32x128x8x64, .f32⟩
  | 70 => ⟨S32x128x8x64, .f32⟩
  | 71 => ⟨S32x128x8x64, .f32⟩
  | 72 => ⟨S4096x512, .f32⟩
  | 73 => ⟨S_, .f32⟩
  | 74 => ⟨S128x8, .f32⟩
  | 75 => ⟨S1x128x8x1, .f32⟩
  | 76 => ⟨S_, .f32⟩
  | 77 => ⟨S128x8, .f32⟩
  | 78 => ⟨S8x128, .f32⟩
  | 79 => ⟨S8x32x64x128, .f32⟩
  | 80 => ⟨S8x128x128, .f32⟩
  | 81 => ⟨S8x32x64x128, .f32⟩
  | 82 => ⟨S32x128x8x64, .f32⟩
  | 83 => ⟨S8x128x128, .f32⟩
  | 84 => ⟨S8x128x128, .f32⟩
  | 85 => ⟨S4096x512, .f32⟩
  | 86 => ⟨S_, .f32⟩
  | 87 => ⟨S512, .f32⟩
  | 88 => ⟨S1x512, .f32⟩
  | 89 => ⟨S_, .f32⟩
  | 90 => ⟨S512, .f32⟩
  | 91 => ⟨S4096x512, .f32⟩
  | 92 => ⟨S_, .f32⟩
  | 93 => ⟨S512, .f32⟩
  | 94 => ⟨S1x512, .f32⟩
  | 95 => ⟨S4096x512, .f32⟩
  | 96 => ⟨S4096x512, .f32⟩
  | 97 => ⟨S_, .f32⟩
  | 98 => ⟨S512, .f32⟩
  | 99 => ⟨S4096x512, .f32⟩
  | 100 => ⟨S_, .f32⟩
  | 101 => ⟨S4096, .f32⟩
  | 102 => ⟨S4096x1, .f32⟩
  | 103 => ⟨S4096x512, .f32⟩
  | 104 => ⟨S4096x512, .f32⟩
  | 105 => ⟨S4096x1, .f32⟩
  | 106 => ⟨S4096x512, .f32⟩
  | 107 => ⟨S_, .f32⟩
  | 108 => ⟨S4096, .f32⟩
  | 109 => ⟨S4096x1, .f32⟩
  | 110 => ⟨S_, .f32⟩
  | 111 => ⟨S4096x1, .f32⟩
  | 112 => ⟨S4096x1, .f32⟩
  | 113 => ⟨S_, .f32⟩
  | 114 => ⟨S4096, .f32⟩
  | 115 => ⟨S4096x512, .f32⟩
  | 116 => ⟨S4096x512, .f32⟩
  | 117 => ⟨S4096x512, .f32⟩
  | 118 => ⟨S_, .f32⟩
  | 119 => ⟨S4096, .f32⟩
  | 120 => ⟨S4096x1, .f32⟩
  | 121 => ⟨S4096x512, .f32⟩
  | 122 => ⟨S4096x1, .f32⟩
  | 123 => ⟨S_, .f32⟩
  | 124 => ⟨S4096x1, .f32⟩
  | 125 => ⟨S4096x1, .f32⟩
  | 126 => ⟨S_, .f32⟩
  | 127 => ⟨S4096, .f32⟩
  | _ => ⟨S1x4096x1024, .f32⟩

abbrev hbmTy0_5 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S_, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S4096x512, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S4096x512, .f32⟩
  | 27 => ⟨S_, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S4096x512, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S1x8x128, .f32⟩
  | 41 => ⟨S1x8x128x128, .f32⟩
  | 42 => ⟨S1x512, .f32⟩
  | 43 => ⟨S1x512, .f32⟩
  | 44 => ⟨S4096x256, .f32⟩
  | 45 => ⟨S4096x1792, .f32⟩
  | 46 => ⟨S1x4096x1792, .f32⟩
  | 47 => ⟨S4096x1792, .f32⟩
  | 48 => ⟨S1792x4096, .f32⟩
  | 49 => ⟨S16x2x128x256, .f32⟩
  | 50 => ⟨S16x1x128x256, .f32⟩
  | 51 => ⟨S16x128x256, .f32⟩
  | 52 => ⟨S2048x256, .f32⟩
  | 53 => ⟨S256x2048, .f32⟩
  | 54 => ⟨S1536x4096, .f32⟩
  | 55 => ⟨S1536x4096, .bf16⟩
  | 56 => ⟨S256x4096, .f32⟩
  | 57 => ⟨S8x128x128, .f32⟩
  | 58 => ⟨S8x128x128, .bf16⟩
  | 59 => ⟨S8x128, .f32⟩
  | 60 => ⟨S_, .f32⟩
  | 61 => ⟨S6x512, .f32⟩
  | 62 => ⟨S8x512, .f32⟩
  | _ => ⟨S1x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_6 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_9 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_20 : Ref sig .tc := ⟨.hbm, 113, rfl⟩
abbrev main_v84 : Ref sig .tc := ⟨.hbm, 114, rfl⟩
abbrev main_call0_v0 : Ref sig .tc := ⟨.hbm, 115, rfl⟩
abbrev main_call0_c : Ref sig .tc := ⟨.hbm, 116, rfl⟩
abbrev main_call0_v1 : Ref sig .tc := ⟨.hbm, 117, rfl⟩
abbrev main_call0_v2 : Ref sig .tc := ⟨.hbm, 118, rfl⟩
abbrev main_call0_v3 : Ref sig .tc := ⟨.hbm, 119, rfl⟩
abbrev main_call0_v4 : Ref sig .tc := ⟨.hbm, 120, rfl⟩
abbrev main_call0_cst : Ref sig .tc := ⟨.hbm, 121, rfl⟩
abbrev main_call0_v5 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_v102 : Ref sig .tc := ⟨.hbm, 141, rfl⟩
abbrev main_cst_22 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_23 : Ref sig .tc := ⟨.hbm, 146, rfl⟩
abbrev main_v106 : Ref sig .tc := ⟨.hbm, 147, rfl⟩
abbrev main_v107 : Ref sig .tc := ⟨.hbm, 148, rfl⟩
abbrev main_cst_24 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_25 : Ref sig .tc := ⟨.hbm, 177, rfl⟩
abbrev main_v135 : Ref sig .tc := ⟨.hbm, 178, rfl⟩
abbrev main_v136 : Ref sig .tc := ⟨.hbm, 179, rfl⟩
abbrev main_cst_26 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_cst_27 : Ref sig .tc := ⟨.hbm, 184, rfl⟩
abbrev main_v140 : Ref sig .tc := ⟨.hbm, 185, rfl⟩
abbrev main_v141 : Ref sig .tc := ⟨.hbm, 186, rfl⟩
abbrev main_cst_28 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_c : Ref sig .tc := ⟨.hbm, 216, rfl⟩
abbrev main_call1_v0 : Ref sig .tc := ⟨.hbm, 217, rfl⟩
abbrev main_call1_c : Ref sig .tc := ⟨.hbm, 218, rfl⟩
abbrev main_call1_v1 : Ref sig .tc := ⟨.hbm, 219, rfl⟩
abbrev main_call1_c_0 : Ref sig .tc := ⟨.hbm, 220, rfl⟩
abbrev main_call1_v2 : Ref sig .tc := ⟨.hbm, 221, rfl⟩
abbrev main_call1_v3 : Ref sig .tc := ⟨.hbm, 222, rfl⟩
abbrev main_call1_v4 : Ref sig .tc := ⟨.hbm, 223, rfl⟩
abbrev main_call1_c_1 : Ref sig .tc := ⟨.hbm, 224, rfl⟩
abbrev main_call1_v5 : Ref sig .tc := ⟨.hbm, 225, rfl⟩
abbrev main_call1_v6 : Ref sig .tc := ⟨.hbm, 226, rfl⟩
abbrev main_call1_c_2 : Ref sig .tc := ⟨.hbm, 227, rfl⟩
abbrev main_call1_v7 : Ref sig .tc := ⟨.hbm, 228, rfl⟩
abbrev main_call1_v8 : Ref sig .tc := ⟨.hbm, 229, rfl⟩
abbrev main_call1_c_3 : Ref sig .tc := ⟨.hbm, 230, rfl⟩
abbrev main_call1_v9 : Ref sig .tc := ⟨.hbm, 231, rfl⟩
abbrev main_call1_v10 : Ref sig .tc := ⟨.hbm, 232, rfl⟩
abbrev main_call1_v11 : Ref sig .tc := ⟨.hbm, 233, rfl⟩
abbrev main_call1_v12 : Ref sig .tc := ⟨.hbm, 234, rfl⟩
abbrev main_call1_v13 : Ref sig .tc := ⟨.hbm, 235, rfl⟩
abbrev main_call1_v14 : Ref sig .tc := ⟨.hbm, 236, rfl⟩
abbrev main_v170 : Ref sig .tc := ⟨.hbm, 237, rfl⟩
abbrev main_c_29 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_cst_30 : Ref sig .tc := ⟨.hbm, 243, rfl⟩
abbrev main_v175 : Ref sig .tc := ⟨.hbm, 244, rfl⟩
abbrev main_v176 : Ref sig .tc := ⟨.hbm, 245, rfl⟩
abbrev main_v177 : Ref sig .tc := ⟨.hbm, 246, rfl⟩
abbrev main_cst_31 : Ref sig .tc := ⟨.hbm, 247, rfl⟩
abbrev main_v178 : Ref sig .tc := ⟨.hbm, 248, rfl⟩
abbrev main_v179 : Ref sig .tc := ⟨.hbm, 249, rfl⟩
abbrev main_cst_32 : Ref sig .tc := ⟨.hbm, 250, rfl⟩
abbrev main_v180 : Ref sig .tc := ⟨.hbm, 251, rfl⟩
abbrev main_v181 : Ref sig .tc := ⟨.hbm, 252, rfl⟩
abbrev main_v182 : Ref sig .tc := ⟨.hbm, 253, rfl⟩
abbrev main_cst_33 : Ref sig .tc := ⟨.hbm, 254, rfl⟩
abbrev main_v183 : Ref sig .tc := ⟨.hbm, 255, rfl⟩
abbrev main_v184_1 : Ref sig .tc := ⟨.hbm, 256, rfl⟩
abbrev main_v184_0 : Ref sig .tc := ⟨.hbm, 257, rfl⟩
abbrev main_v185 : Ref sig .tc := ⟨.hbm, 258, rfl⟩
abbrev main_v186 : Ref sig .tc := ⟨.hbm, 259, rfl⟩
abbrev main_v187 : Ref sig .tc := ⟨.hbm, 260, rfl⟩
abbrev main_v188 : Ref sig .tc := ⟨.hbm, 261, rfl⟩
abbrev main_v189 : Ref sig .tc := ⟨.hbm, 262, rfl⟩
abbrev main_v190 : Ref sig .tc := ⟨.hbm, 263, rfl⟩
abbrev main_c_34 : Ref sig .tc := ⟨.hbm, 264, rfl⟩
abbrev main_call3_v0 : Ref sig .tc := ⟨.hbm, 265, rfl⟩
abbrev main_call3_c : Ref sig .tc := ⟨.hbm, 266, rfl⟩
abbrev main_call3_v1 : Ref sig .tc := ⟨.hbm, 267, rfl⟩
abbrev main_call3_c_0 : Ref sig .tc := ⟨.hbm, 268, rfl⟩
abbrev main_call3_v2 : Ref sig .tc := ⟨.hbm, 269, rfl⟩
abbrev main_call3_v3 : Ref sig .tc := ⟨.hbm, 270, rfl⟩
abbrev main_call3_v4 : Ref sig .tc := ⟨.hbm, 271, rfl⟩
abbrev main_call3_c_1 : Ref sig .tc := ⟨.hbm, 272, rfl⟩
abbrev main_call3_v5 : Ref sig .tc := ⟨.hbm, 273, rfl⟩
abbrev main_call3_v6 : Ref sig .tc := ⟨.hbm, 274, rfl⟩
abbrev main_call3_c_2 : Ref sig .tc := ⟨.hbm, 275, rfl⟩
abbrev main_call3_v7 : Ref sig .tc := ⟨.hbm, 276, rfl⟩
abbrev main_call3_v8 : Ref sig .tc := ⟨.hbm, 277, rfl⟩
abbrev main_call3_c_3 : Ref sig .tc := ⟨.hbm, 278, rfl⟩
abbrev main_call3_v9 : Ref sig .tc := ⟨.hbm, 279, rfl⟩
abbrev main_call3_v10 : Ref sig .tc := ⟨.hbm, 280, rfl⟩
abbrev main_call3_v11 : Ref sig .tc := ⟨.hbm, 281, rfl⟩
abbrev main_call3_v12 : Ref sig .tc := ⟨.hbm, 282, rfl⟩
abbrev main_call3_v13 : Ref sig .tc := ⟨.hbm, 283, rfl⟩
abbrev main_call3_v14 : Ref sig .tc := ⟨.hbm, 284, rfl⟩
abbrev main_v191 : Ref sig .tc := ⟨.hbm, 285, rfl⟩
abbrev main_c_35 : Ref sig .tc := ⟨.hbm, 286, rfl⟩
abbrev main_v192 : Ref sig .tc := ⟨.hbm, 287, rfl⟩
abbrev main_v193 : Ref sig .tc := ⟨.hbm, 288, rfl⟩
abbrev main_v194 : Ref sig .tc := ⟨.hbm, 289, rfl⟩
abbrev main_v195 : Ref sig .tc := ⟨.hbm, 290, rfl⟩
abbrev main_cst_36 : Ref sig .tc := ⟨.hbm, 291, rfl⟩
abbrev main_v196 : Ref sig .tc := ⟨.hbm, 292, rfl⟩
abbrev main_v197 : Ref sig .tc := ⟨.hbm, 293, rfl⟩
abbrev main_v198 : Ref sig .tc := ⟨.hbm, 294, rfl⟩
abbrev main_cst_37 : Ref sig .tc := ⟨.hbm, 295, rfl⟩
abbrev main_v199 : Ref sig .tc := ⟨.hbm, 296, rfl⟩
abbrev main_v200 : Ref sig .tc := ⟨.hbm, 297, rfl⟩
abbrev main_cst_38 : Ref sig .tc := ⟨.hbm, 298, rfl⟩
abbrev main_v201 : Ref sig .tc := ⟨.hbm, 299, rfl⟩
abbrev main_v202 : Ref sig .tc := ⟨.hbm, 300, rfl⟩
abbrev main_v203 : Ref sig .tc := ⟨.hbm, 301, rfl⟩
abbrev main_cst_39 : Ref sig .tc := ⟨.hbm, 302, rfl⟩
abbrev main_v204 : Ref sig .tc := ⟨.hbm, 303, rfl⟩
abbrev main_v205_1 : Ref sig .tc := ⟨.hbm, 304, rfl⟩
abbrev main_v205_0 : Ref sig .tc := ⟨.hbm, 305, rfl⟩
abbrev main_v206 : Ref sig .tc := ⟨.hbm, 306, rfl⟩
abbrev main_v207 : Ref sig .tc := ⟨.hbm, 307, rfl⟩
abbrev main_v208 : Ref sig .tc := ⟨.hbm, 308, rfl⟩
abbrev main_cst_40 : Ref sig .tc := ⟨.hbm, 309, rfl⟩
abbrev main_v209 : Ref sig .tc := ⟨.hbm, 310, rfl⟩
abbrev main_v210 : Ref sig .tc := ⟨.hbm, 311, rfl⟩
abbrev main_cst_41 : Ref sig .tc := ⟨.hbm, 312, rfl⟩
abbrev main_v211 : Ref sig .tc := ⟨.hbm, 313, rfl⟩
abbrev main_v212 : Ref sig .tc := ⟨.hbm, 314, rfl⟩
abbrev main_v213 : Ref sig .tc := ⟨.hbm, 315, rfl⟩
abbrev main_cst_42 : Ref sig .tc := ⟨.hbm, 316, rfl⟩
abbrev main_v214 : Ref sig .tc := ⟨.hbm, 317, rfl⟩
abbrev main_v215 : Ref sig .tc := ⟨.hbm, 318, rfl⟩
abbrev main_cst_43 : Ref sig .tc := ⟨.hbm, 319, rfl⟩
abbrev main_v216 : Ref sig .tc := ⟨.hbm, 320, rfl⟩
abbrev main_v217 : Ref sig .tc := ⟨.hbm, 321, rfl⟩
abbrev main_v218 : Ref sig .tc := ⟨.hbm, 322, rfl⟩
abbrev main_v219 : Ref sig .tc := ⟨.hbm, 323, rfl⟩
abbrev main_v220 : Ref sig .tc := ⟨.hbm, 324, rfl⟩
abbrev main_v221 : Ref sig .tc := ⟨.hbm, 325, rfl⟩
abbrev main_v222 : Ref sig .tc := ⟨.hbm, 326, rfl⟩
abbrev main_v223 : Ref sig .tc := ⟨.hbm, 327, rfl⟩
abbrev main_v224 : Ref sig .tc := ⟨.hbm, 328, rfl⟩
abbrev main_v225 : Ref sig .tc := ⟨.hbm, 329, rfl⟩
abbrev main_v226 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_v232 : Ref sig .tc := ⟨.hbm, 336, rfl⟩
abbrev main_v233 : Ref sig .tc := ⟨.hbm, 337, rfl⟩
abbrev main_v234 : Ref sig .tc := ⟨.hbm, 338, rfl⟩
abbrev main_v235 : Ref sig .tc := ⟨.hbm, 339, rfl⟩
abbrev main_v236 : Ref sig .tc := ⟨.hbm, 340, rfl⟩
abbrev main_v237 : Ref sig .tc := ⟨.hbm, 341, rfl⟩
abbrev main_v238 : Ref sig .tc := ⟨.hbm, 342, rfl⟩
abbrev main_v239 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_cst_44 : Ref sig .tc := ⟨.hbm, 348, rfl⟩
abbrev main_v244 : Ref sig .tc := ⟨.hbm, 349, rfl⟩
abbrev main_v245 : Ref sig .tc := ⟨.hbm, 350, rfl⟩
abbrev main_v246 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_c_45 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_v253 : Ref sig .tc := ⟨.hbm, 359, rfl⟩
abbrev main_v254 : Ref sig .tc := ⟨.hbm, 360, rfl⟩
abbrev main_c_46 : Ref sig .tc := ⟨.hbm, 361, rfl⟩
abbrev main_v255 : Ref sig .tc := ⟨.hbm, 362, rfl⟩
abbrev main_v256 : Ref sig .tc := ⟨.hbm, 363, rfl⟩
abbrev main_c_47 : Ref sig .tc := ⟨.hbm, 364, rfl⟩
abbrev main_v257 : Ref sig .tc := ⟨.hbm, 365, rfl⟩
abbrev main_v258 : Ref sig .tc := ⟨.hbm, 366, rfl⟩
abbrev main_v259 : Ref sig .tc := ⟨.hbm, 367, rfl⟩
abbrev main_v260 : Ref sig .tc := ⟨.hbm, 368, rfl⟩
abbrev main_v261 : Ref sig .tc := ⟨.hbm, 369, rfl⟩
abbrev main_c_48 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_v266 : Ref sig .tc := ⟨.hbm, 375, rfl⟩
abbrev main_v267 : Ref sig .tc := ⟨.hbm, 376, rfl⟩
abbrev main_c_49 : Ref sig .tc := ⟨.hbm, 377, rfl⟩
abbrev main_v268 : Ref sig .tc := ⟨.hbm, 378, rfl⟩
abbrev main_v269 : Ref sig .tc := ⟨.hbm, 379, rfl⟩
abbrev main_v270 : Ref sig .tc := ⟨.hbm, 380, rfl⟩
abbrev main_c_50 : Ref sig .tc := ⟨.hbm, 381, rfl⟩
abbrev main_v271 : Ref sig .tc := ⟨.hbm, 382, rfl⟩
abbrev main_v272 : Ref sig .tc := ⟨.hbm, 383, rfl⟩
abbrev main_v273 : Ref sig .tc := ⟨.hbm, 384, rfl⟩
abbrev main_v274 : Ref sig .tc := ⟨.hbm, 385, rfl⟩
abbrev main_v275 : Ref sig .tc := ⟨.hbm, 386, rfl⟩
abbrev main_v276 : Ref sig .tc := ⟨.hbm, 387, rfl⟩
abbrev main_cst_51 : Ref sig .tc := ⟨.hbm, 388, rfl⟩
abbrev main_call5_v0 : Ref sig .tc := ⟨.hbm, 389, rfl⟩
abbrev main_v277_1 : Ref sig .tc := ⟨.hbm, 390, rfl⟩
abbrev main_call5_v2 : Ref sig .tc := ⟨.hbm, 391, rfl⟩
abbrev main_v277_0 : Ref sig .tc := ⟨.hbm, 392, rfl⟩
abbrev main_call5_cst : Ref sig .tc := ⟨.hbm, 393, rfl⟩
abbrev main_v277_2 : Ref sig .tc := ⟨.hbm, 394, rfl⟩
abbrev main_v278 : Ref sig .tc := ⟨.hbm, 395, rfl⟩
abbrev main_v279 : Ref sig .tc := ⟨.hbm, 396, rfl⟩
abbrev main_v280 : Ref sig .tc := ⟨.hbm, 397, rfl⟩
abbrev main_v281 : Ref sig .tc := ⟨.hbm, 398, rfl⟩
abbrev main_cst_52 : Ref sig .tc := ⟨.hbm, 399, rfl⟩
abbrev main_v282 : Ref sig .tc := ⟨.hbm, 400, rfl⟩
abbrev main_v283 : Ref sig .tc := ⟨.hbm, 401, rfl⟩
abbrev main_v284 : Ref sig .tc := ⟨.hbm, 402, rfl⟩
abbrev main_v285 : Ref sig .tc := ⟨.hbm, 403, rfl⟩
abbrev main_v286 : Ref sig .tc := ⟨.hbm, 404, rfl⟩
abbrev main_cst_53 : Ref sig .tc := ⟨.hbm, 405, rfl⟩
abbrev main_v287 : Ref sig .tc := ⟨.hbm, 406, rfl⟩
abbrev main_cst_54 : Ref sig .tc := ⟨.hbm, 407, rfl⟩
abbrev main_v288 : Ref sig .tc := ⟨.hbm, 408, rfl⟩
abbrev main_v289 : Ref sig .tc := ⟨.hbm, 409, rfl⟩
abbrev main_cst_55 : Ref sig .tc := ⟨.hbm, 410, rfl⟩
abbrev main_v290 : Ref sig .tc := ⟨.hbm, 411, rfl⟩
abbrev main_v291 : Ref sig .tc := ⟨.hbm, 412, rfl⟩
abbrev main_cst_56 : Ref sig .tc := ⟨.hbm, 413, rfl⟩
abbrev main_v292 : Ref sig .tc := ⟨.hbm, 414, rfl⟩
abbrev main_v293 : Ref sig .tc := ⟨.hbm, 415, rfl⟩
abbrev main_cst_57 : Ref sig .tc := ⟨.hbm, 416, rfl⟩
abbrev main_v294 : Ref sig .tc := ⟨.hbm, 417, rfl⟩
abbrev main_cst_58 : Ref sig .tc := ⟨.hbm, 418, rfl⟩
abbrev main_v295 : Ref sig .tc := ⟨.hbm, 419, rfl⟩
abbrev main_cst_59 : Ref sig .tc := ⟨.hbm, 420, rfl⟩
abbrev main_v296 : Ref sig .tc := ⟨.hbm, 421, rfl⟩
abbrev main_v297 : Ref sig .tc := ⟨.hbm, 422, rfl⟩
abbrev main_v298 : Ref sig .tc := ⟨.hbm, 423, rfl⟩
abbrev main_v299 : Ref sig .tc := ⟨.hbm, 424, rfl⟩
abbrev main_v300 : Ref sig .tc := ⟨.hbm, 425, rfl⟩
abbrev main_v301 : Ref sig .tc := ⟨.hbm, 426, rfl⟩
abbrev main_v302 : Ref sig .tc := ⟨.hbm, 427, rfl⟩
abbrev main_cst_60 : Ref sig .tc := ⟨.hbm, 428, rfl⟩
abbrev main_v303 : Ref sig .tc := ⟨.hbm, 429, rfl⟩
abbrev main_v304 : Ref sig .tc := ⟨.hbm, 430, rfl⟩
abbrev main_v305 : Ref sig .tc := ⟨.hbm, 431, rfl⟩
abbrev main_v306 : Ref sig .tc := ⟨.hbm, 432, rfl⟩
abbrev main_v307 : Ref sig .tc := ⟨.hbm, 433, rfl⟩
abbrev main_cst_61 : Ref sig .tc := ⟨.hbm, 434, rfl⟩
abbrev main_v308 : Ref sig .tc := ⟨.hbm, 435, rfl⟩
abbrev main_v309 : Ref sig .tc := ⟨.hbm, 436, rfl⟩
abbrev main_v310 : Ref sig .tc := ⟨.hbm, 437, rfl⟩
abbrev main_v311 : Ref sig .tc := ⟨.hbm, 438, rfl⟩
abbrev main_v312 : Ref sig .tc := ⟨.hbm, 439, rfl⟩
abbrev main_v313 : Ref sig .tc := ⟨.hbm, 440, rfl⟩
abbrev main_v314 : Ref sig .tc := ⟨.hbm, 441, rfl⟩
abbrev main_v315 : Ref sig .tc := ⟨.hbm, 442, rfl⟩
abbrev main_cst_62 : Ref sig .tc := ⟨.hbm, 443, rfl⟩
abbrev main_v316 : Ref sig .tc := ⟨.hbm, 444, rfl⟩
abbrev main_v317 : Ref sig .tc := ⟨.hbm, 445, rfl⟩
abbrev main_v318 : Ref sig .tc := ⟨.hbm, 446, rfl⟩
abbrev main_v319 : Ref sig .tc := ⟨.hbm, 447, rfl⟩
abbrev main_v320 : Ref sig .tc := ⟨.hbm, 448, rfl⟩
abbrev main_v321 : Ref sig .tc := ⟨.hbm, 449, rfl⟩
abbrev main_v322 : Ref sig .tc := ⟨.hbm, 450, rfl⟩
abbrev main_v323 : Ref sig .tc := ⟨.hbm, 451, rfl⟩
abbrev main_cst_63 : Ref sig .tc := ⟨.hbm, 452, rfl⟩
abbrev main_v324 : Ref sig .tc := ⟨.hbm, 453, rfl⟩
abbrev main_v325 : Ref sig .tc := ⟨.hbm, 454, rfl⟩
abbrev main_v326 : Ref sig .tc := ⟨.hbm, 455, rfl⟩
abbrev main_v327 : Ref sig .tc := ⟨.hbm, 456, rfl⟩
abbrev main_cst_64 : Ref sig .tc := ⟨.hbm, 457, rfl⟩
abbrev main_v328 : Ref sig .tc := ⟨.hbm, 458, rfl⟩
abbrev main_v329 : Ref sig .tc := ⟨.hbm, 459, rfl⟩
abbrev main_v330 : Ref sig .tc := ⟨.hbm, 460, rfl⟩
abbrev main_v331 : Ref sig .tc := ⟨.hbm, 461, rfl⟩
abbrev main_v332 : Ref sig .tc := ⟨.hbm, 462, rfl⟩
abbrev main_cst_65 : Ref sig .tc := ⟨.hbm, 463, rfl⟩
abbrev main_v333 : Ref sig .tc := ⟨.hbm, 464, rfl⟩
abbrev main_v334 : Ref sig .tc := ⟨.hbm, 465, rfl⟩
abbrev main_v335 : Ref sig .tc := ⟨.hbm, 466, rfl⟩
abbrev main_v336 : Ref sig .tc := ⟨.hbm, 467, rfl⟩
abbrev main_v337 : Ref sig .tc := ⟨.hbm, 468, rfl⟩
abbrev main_v338 : Ref sig .tc := ⟨.hbm, 469, rfl⟩
abbrev main_cst_66 : Ref sig .tc := ⟨.hbm, 470, rfl⟩
abbrev main_v339 : Ref sig .tc := ⟨.hbm, 471, rfl⟩
abbrev main_v340 : Ref sig .tc := ⟨.hbm, 472, rfl⟩
abbrev main_cst_67 : Ref sig .tc := ⟨.hbm, 473, rfl⟩
abbrev main_v341 : Ref sig .tc := ⟨.hbm, 474, rfl⟩
abbrev main_v342 : Ref sig .tc := ⟨.hbm, 475, rfl⟩
abbrev main_call6_cst : Ref sig .tc := ⟨.hbm, 476, rfl⟩
abbrev main_call6_v0 : Ref sig .tc := ⟨.hbm, 477, rfl⟩
abbrev main_v343 : Ref sig .tc := ⟨.hbm, 478, rfl⟩
abbrev main_cst_68 : Ref sig .tc := ⟨.hbm, 479, rfl⟩
abbrev main_v344 : Ref sig .tc := ⟨.hbm, 480, rfl⟩
abbrev main_v345 : Ref sig .tc := ⟨.hbm, 481, rfl⟩
abbrev main_v346 : Ref sig .tc := ⟨.hbm, 482, rfl⟩
abbrev main_v347 : Ref sig .tc := ⟨.hbm, 483, rfl⟩
abbrev main_v348 : Ref sig .tc := ⟨.hbm, 484, rfl⟩
abbrev main_v349 : Ref sig .tc := ⟨.hbm, 485, rfl⟩
abbrev main_v350 : Ref sig .tc := ⟨.hbm, 486, rfl⟩
abbrev main_v351 : Ref sig .tc := ⟨.hbm, 487, rfl⟩
abbrev main_v352 : Ref sig .tc := ⟨.hbm, 488, rfl⟩
abbrev main_v353 : Ref sig .tc := ⟨.hbm, 489, rfl⟩
abbrev main_v354 : Ref sig .tc := ⟨.hbm, 490, rfl⟩
abbrev main_v355 : Ref sig .tc := ⟨.hbm, 491, rfl⟩
abbrev main_v356 : Ref sig .tc := ⟨.hbm, 492, rfl⟩
abbrev main_v357 : Ref sig .tc := ⟨.hbm, 493, rfl⟩
abbrev main_v358 : Ref sig .tc := ⟨.hbm, 494, rfl⟩
abbrev main_v359 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩
abbrev main_cst_69 : Ref sig .tc := ⟨.hbm, 501, rfl⟩
abbrev main_v365 : Ref sig .tc := ⟨.hbm, 502, rfl⟩
abbrev main_cst_70 : Ref sig .tc := ⟨.hbm, 503, rfl⟩
abbrev main_v366 : Ref sig .tc := ⟨.hbm, 504, rfl⟩
abbrev main_v367 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_call7_cst : Ref sig .tc := ⟨.hbm, 509, rfl⟩
abbrev main_call7_v0 : Ref sig .tc := ⟨.hbm, 510, rfl⟩
abbrev main_v371_1 : Ref sig .tc := ⟨.hbm, 511, rfl⟩
abbrev main_v371_0 : Ref sig .tc := ⟨.hbm, 512, rfl⟩
abbrev main_v372 : Ref sig .tc := ⟨.hbm, 513, rfl⟩
abbrev main_v373 : Ref sig .tc := ⟨.hbm, 514, rfl⟩
abbrev main_cst_71 : Ref sig .tc := ⟨.hbm, 515, rfl⟩
abbrev main_v374 : Ref sig .tc := ⟨.hbm, 516, rfl⟩
abbrev main_v375 : Ref sig .tc := ⟨.hbm, 517, rfl⟩
abbrev main_v376 : Ref sig .tc := ⟨.hbm, 518, rfl⟩
abbrev main_v377 : Ref sig .tc := ⟨.hbm, 519, rfl⟩
abbrev main_cst_72 : Ref sig .tc := ⟨.hbm, 520, rfl⟩
abbrev main_v378 : Ref sig .tc := ⟨.hbm, 521, rfl⟩
abbrev main_v379 : Ref sig .tc := ⟨.hbm, 522, rfl⟩
abbrev main_v380 : Ref sig .tc := ⟨.hbm, 523, rfl⟩
abbrev main_v381 : Ref sig .tc := ⟨.hbm, 524, rfl⟩
abbrev main_v382 : Ref sig .tc := ⟨.hbm, 525, rfl⟩
abbrev main_v383 : Ref sig .tc := ⟨.hbm, 526, rfl⟩
abbrev main_v384 : Ref sig .tc := ⟨.hbm, 527, rfl⟩
abbrev main_call8_cst : Ref sig .tc := ⟨.hbm, 528, rfl⟩
abbrev main_call8_v0 : Ref sig .tc := ⟨.hbm, 529, rfl⟩
abbrev main_v385_1 : Ref sig .tc := ⟨.hbm, 530, rfl⟩
abbrev main_v385_0 : Ref sig .tc := ⟨.hbm, 531, rfl⟩
abbrev main_v386 : Ref sig .tc := ⟨.hbm, 532, rfl⟩
abbrev main_v387 : Ref sig .tc := ⟨.hbm, 533, rfl⟩
abbrev main_cst_73 : Ref sig .tc := ⟨.hbm, 534, rfl⟩
abbrev main_v388 : Ref sig .tc := ⟨.hbm, 535, rfl⟩
abbrev main_v389 : Ref sig .tc := ⟨.hbm, 536, rfl⟩
abbrev main_v390 : Ref sig .tc := ⟨.hbm, 537, rfl⟩
abbrev main_v391 : Ref sig .tc := ⟨.hbm, 538, rfl⟩
abbrev main_cst_74 : Ref sig .tc := ⟨.hbm, 539, rfl⟩
abbrev main_v392 : Ref sig .tc := ⟨.hbm, 540, rfl⟩
abbrev main_v393 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_v397 : Ref sig .tc := ⟨.hbm, 545, rfl⟩
abbrev main_v398 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_v402 : Ref sig .tc := ⟨.hbm, 550, rfl⟩
abbrev main_v403 : Ref sig .tc := ⟨.hbm, 551, rfl⟩
abbrev main_v404 : Ref sig .tc := ⟨.hbm, 552, rfl⟩
abbrev main_v405 : Ref sig .tc := ⟨.hbm, 553, rfl⟩
abbrev main_v406 : Ref sig .tc := ⟨.hbm, 554, rfl⟩
abbrev main_v407 : Ref sig .tc := ⟨.hbm, 555, rfl⟩
abbrev main_cst_75 : Ref sig .tc := ⟨.hbm, 556, rfl⟩
abbrev main_v408 : Ref sig .tc := ⟨.hbm, 557, rfl⟩
abbrev main_cst_76 : Ref sig .tc := ⟨.hbm, 558, rfl⟩
abbrev main_v409 : Ref sig .tc := ⟨.hbm, 559, rfl⟩
abbrev main_v410 : Ref sig .tc := ⟨.hbm, 560, rfl⟩
abbrev main_v411 : Ref sig .tc := ⟨.hbm, 561, rfl⟩
abbrev main_v412 : Ref sig .tc := ⟨.hbm, 562, rfl⟩
abbrev main_v413 : Ref sig .tc := ⟨.hbm, 563, rfl⟩
abbrev main_v414 : Ref sig .tc := ⟨.hbm, 564, rfl⟩
abbrev main_v415 : Ref sig .tc := ⟨.hbm, 565, rfl⟩
abbrev main_v416 : Ref sig .tc := ⟨.hbm, 566, rfl⟩
abbrev main_v417 : Ref sig .tc := ⟨.hbm, 567, rfl⟩
abbrev main_v418 : Ref sig .tc := ⟨.hbm, 568, rfl⟩
abbrev main_v419 : Ref sig .tc := ⟨.hbm, 569, rfl⟩
abbrev main_v420 : Ref sig .tc := ⟨.hbm, 570, rfl⟩
abbrev main_v421 : Ref sig .tc := ⟨.hbm, 571, rfl⟩
abbrev main_v422 : Ref sig .tc := ⟨.hbm, 572, rfl⟩
abbrev main_v423 : Ref sig .tc := ⟨.hbm, 573, rfl⟩
abbrev main_v424 : Ref sig .tc := ⟨.hbm, 574, rfl⟩
abbrev main_cst_77 : Ref sig .tc := ⟨.hbm, 575, rfl⟩
abbrev main_v425 : Ref sig .tc := ⟨.hbm, 576, rfl⟩
abbrev main_cst_78 : Ref sig .tc := ⟨.hbm, 577, rfl⟩
abbrev main_v426 : Ref sig .tc := ⟨.hbm, 578, rfl⟩
abbrev main_v427 : Ref sig .tc := ⟨.hbm, 579, rfl⟩
abbrev main_v428 : Ref sig .tc := ⟨.hbm, 580, rfl⟩
abbrev main_v429 : Ref sig .tc := ⟨.hbm, 581, rfl⟩
abbrev main_v430 : Ref sig .tc := ⟨.hbm, 582, rfl⟩
abbrev main_v431 : Ref sig .tc := ⟨.hbm, 583, rfl⟩
abbrev main_v432 : Ref sig .tc := ⟨.hbm, 584, rfl⟩
abbrev main_cst_79 : Ref sig .tc := ⟨.hbm, 585, rfl⟩
abbrev main_v433 : Ref sig .tc := ⟨.hbm, 586, rfl⟩
abbrev main_v434 : Ref sig .tc := ⟨.hbm, 587, rfl⟩
abbrev main_cst_80 : Ref sig .tc := ⟨.hbm, 588, rfl⟩
abbrev main_v435 : Ref sig .tc := ⟨.hbm, 589, rfl⟩
abbrev main_v436 : Ref sig .tc := ⟨.hbm, 590, rfl⟩
abbrev main_v437 : Ref sig .tc := ⟨.hbm, 591, rfl⟩
abbrev main_v438 : Ref sig .tc := ⟨.hbm, 592, rfl⟩
abbrev main_v439 : Ref sig .tc := ⟨.hbm, 593, rfl⟩
abbrev main_v440 : Ref sig .tc := ⟨.hbm, 594, rfl⟩
abbrev main_v441 : Ref sig .tc := ⟨.hbm, 595, rfl⟩
abbrev main_v442 : Ref sig .tc := ⟨.hbm, 596, rfl⟩
abbrev main_v443 : Ref sig .tc := ⟨.hbm, 597, rfl⟩
abbrev main_cst_81 : Ref sig .tc := ⟨.hbm, 598, rfl⟩
abbrev main_v444 : Ref sig .tc := ⟨.hbm, 599, rfl⟩
abbrev main_v445 : Ref sig .tc := ⟨.hbm, 600, rfl⟩
abbrev main_cst_82 : Ref sig .tc := ⟨.hbm, 601, rfl⟩
abbrev main_v446 : Ref sig .tc := ⟨.hbm, 602, rfl⟩
abbrev main_v447 : Ref sig .tc := ⟨.hbm, 603, rfl⟩
abbrev main_cst_83 : Ref sig .tc := ⟨.hbm, 604, rfl⟩
abbrev main_v448 : Ref sig .tc := ⟨.hbm, 605, rfl⟩
abbrev main_v449 : Ref sig .tc := ⟨.hbm, 606, rfl⟩
abbrev main_v450 : Ref sig .tc := ⟨.hbm, 607, rfl⟩
abbrev main_v451 : Ref sig .tc := ⟨.hbm, 608, rfl⟩
abbrev main_cst_84 : Ref sig .tc := ⟨.hbm, 609, rfl⟩
abbrev main_v452 : Ref sig .tc := ⟨.hbm, 610, rfl⟩
abbrev main_v453 : Ref sig .tc := ⟨.hbm, 611, rfl⟩
abbrev main_cst_85 : Ref sig .tc := ⟨.hbm, 612, rfl⟩
abbrev main_v454 : Ref sig .tc := ⟨.hbm, 613, rfl⟩
abbrev main_v455 : Ref sig .tc := ⟨.hbm, 614, rfl⟩
abbrev main_v456 : Ref sig .tc := ⟨.hbm, 615, rfl⟩
abbrev main_v457 : Ref sig .tc := ⟨.hbm, 616, rfl⟩
abbrev main_v458 : Ref sig .tc := ⟨.hbm, 617, rfl⟩
abbrev main_v459 : Ref sig .tc := ⟨.hbm, 618, rfl⟩
abbrev main_cst_86 : Ref sig .tc := ⟨.hbm, 619, rfl⟩
abbrev main_v460 : Ref sig .tc := ⟨.hbm, 620, rfl⟩
abbrev main_v461 : Ref sig .tc := ⟨.hbm, 621, rfl⟩
abbrev main_cst_87 : Ref sig .tc := ⟨.hbm, 622, rfl⟩
abbrev main_v462 : Ref sig .tc := ⟨.hbm, 623, rfl⟩
abbrev main_v463 : Ref sig .tc := ⟨.hbm, 624, rfl⟩
abbrev main_cst_88 : Ref sig .tc := ⟨.hbm, 625, rfl⟩
abbrev main_v464 : Ref sig .tc := ⟨.hbm, 626, rfl⟩
abbrev main_v465 : Ref sig .tc := ⟨.hbm, 627, rfl⟩
abbrev main_v466 : Ref sig .tc := ⟨.hbm, 628, rfl⟩
abbrev main_v467 : Ref sig .tc := ⟨.hbm, 629, rfl⟩
abbrev main_cst_89 : Ref sig .tc := ⟨.hbm, 630, rfl⟩
abbrev main_v468 : Ref sig .tc := ⟨.hbm, 631, rfl⟩
abbrev main_v469 : Ref sig .tc := ⟨.hbm, 632, rfl⟩
abbrev main_v470 : Ref sig .tc := ⟨.hbm, 633, rfl⟩
abbrev main_v471 : Ref sig .tc := ⟨.hbm, 634, rfl⟩
abbrev main_cst_90 : Ref sig .tc := ⟨.hbm, 635, rfl⟩
abbrev main_v472 : Ref sig .tc := ⟨.hbm, 636, rfl⟩
abbrev main_v473 : Ref sig .tc := ⟨.hbm, 637, rfl⟩
abbrev main_cst_91 : Ref sig .tc := ⟨.hbm, 638, rfl⟩
abbrev main_v474 : Ref sig .tc := ⟨.hbm, 639, rfl⟩
abbrev main_v475 : Ref sig .tc := ⟨.hbm, 640, rfl⟩
abbrev main_v476 : Ref sig .tc := ⟨.hbm, 641, rfl⟩
abbrev main_v477 : Ref sig .tc := ⟨.hbm, 642, rfl⟩
abbrev main_v478 : Ref sig .tc := ⟨.hbm, 643, rfl⟩
abbrev main_cst_92 : Ref sig .tc := ⟨.hbm, 644, rfl⟩
abbrev main_v479 : Ref sig .tc := ⟨.hbm, 645, rfl⟩
abbrev main_v480 : Ref sig .tc := ⟨.hbm, 646, rfl⟩
abbrev main_v481 : Ref sig .tc := ⟨.hbm, 647, rfl⟩
abbrev main_cst_93 : Ref sig .tc := ⟨.hbm, 648, rfl⟩
abbrev main_v482 : Ref sig .tc := ⟨.hbm, 649, rfl⟩
abbrev main_v483 : Ref sig .tc := ⟨.hbm, 650, rfl⟩
abbrev main_v484 : Ref sig .tc := ⟨.hbm, 651, rfl⟩
abbrev main_v485 : Ref sig .tc := ⟨.hbm, 652, rfl⟩
abbrev main_v486 : Ref sig .tc := ⟨.hbm, 653, rfl⟩
abbrev main_v487 : Ref sig .tc := ⟨.hbm, 654, rfl⟩
abbrev main_v488 : Ref sig .tc := ⟨.hbm, 655, rfl⟩
abbrev main_v489 : Ref sig .tc := ⟨.hbm, 656, rfl⟩
abbrev main_v490 : Ref sig .tc := ⟨.hbm, 657, rfl⟩
abbrev main_v491 : Ref sig .tc := ⟨.hbm, 658, rfl⟩
abbrev main_v492 : Ref sig .tc := ⟨.hbm, 659, rfl⟩
abbrev main_v493 : Ref sig .tc := ⟨.hbm, 660, rfl⟩
abbrev main_v494 : Ref sig .tc := ⟨.hbm, 661, rfl⟩
abbrev main_v495 : Ref sig .tc := ⟨.hbm, 662, rfl⟩
abbrev main_cst_94 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_cst_95 : Ref sig .tc := ⟨.hbm, 667, rfl⟩
abbrev main_v499 : Ref sig .tc := ⟨.hbm, 668, rfl⟩
abbrev main_v500 : Ref sig .tc := ⟨.hbm, 669, rfl⟩
abbrev main_v501 : Ref sig .tc := ⟨.hbm, 670, rfl⟩
abbrev main_v502 : Ref sig .tc := ⟨.hbm, 671, rfl⟩
abbrev main_v503 : Ref sig .tc := ⟨.hbm, 672, rfl⟩
abbrev main_v504 : Ref sig .tc := ⟨.hbm, 673, rfl⟩
abbrev main_v505 : Ref sig .tc := ⟨.hbm, 674, rfl⟩
abbrev main_v506 : Ref sig .tc := ⟨.hbm, 675, rfl⟩
abbrev main_v507 : Ref sig .tc := ⟨.hbm, 676, rfl⟩
abbrev main_v508 : Ref sig .tc := ⟨.hbm, 677, rfl⟩
abbrev main_v509 : Ref sig .tc := ⟨.hbm, 678, rfl⟩
abbrev main_v510 : Ref sig .tc := ⟨.hbm, 679, rfl⟩
abbrev main_v511 : Ref sig .tc := ⟨.hbm, 680, rfl⟩
abbrev main_v512 : Ref sig .tc := ⟨.hbm, 681, rfl⟩
abbrev main_v513 : Ref sig .tc := ⟨.hbm, 682, rfl⟩
abbrev main_v514 : Ref sig .tc := ⟨.hbm, 683, rfl⟩
abbrev main_v515 : Ref sig .tc := ⟨.hbm, 684, rfl⟩
abbrev main_v516 : Ref sig .tc := ⟨.hbm, 685, rfl⟩
abbrev main_v517 : Ref sig .tc := ⟨.hbm, 686, rfl⟩
abbrev main_v518 : Ref sig .tc := ⟨.hbm, 687, rfl⟩
abbrev main_v519 : Ref sig .tc := ⟨.hbm, 688, rfl⟩
abbrev main_v520 : Ref sig .tc := ⟨.hbm, 689, rfl⟩
abbrev main_v521 : Ref sig .tc := ⟨.hbm, 690, rfl⟩
abbrev main_v522 : Ref sig .tc := ⟨.hbm, 691, rfl⟩
abbrev main_v523 : Ref sig .tc := ⟨.hbm, 692, rfl⟩
abbrev main_v524 : Ref sig .tc := ⟨.hbm, 693, rfl⟩
abbrev main_v525 : Ref sig .tc := ⟨.hbm, 694, rfl⟩
abbrev main_v526 : Ref sig .tc := ⟨.hbm, 695, rfl⟩
abbrev main_v527 : Ref sig .tc := ⟨.hbm, 696, rfl⟩
abbrev main_v528 : Ref sig .tc := ⟨.hbm, 697, rfl⟩
abbrev main_v529 : Ref sig .tc := ⟨.hbm, 698, rfl⟩
abbrev main_v530 : Ref sig .tc := ⟨.hbm, 699, rfl⟩
abbrev main_cst_96 : Ref sig .tc := ⟨.hbm, 700, rfl⟩
abbrev main_v531 : Ref sig .tc := ⟨.hbm, 701, rfl⟩
abbrev main_v532 : Ref sig .tc := ⟨.hbm, 702, rfl⟩

abbrev nD : Nat := 1
abbrev τ : Topo := Topo.v7x

variable {F : FTy → Type} [FloatOps F]
-- ==== Kernel2.lean ====
abbrev S1x4096x1024 : Shape := ⟨3, ![1, 4096, 1024]⟩
abbrev S1x1024x4096 : Shape := ⟨3, ![1, 1024, 4096]⟩
abbrev S1x1024 : Shape := ⟨2, ![1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x8x2x256 : Shape := ⟨4, ![1024, 8, 2, 256]⟩
abbrev S8x2x256x1024 : Shape := ⟨4, ![8, 2, 256, 1024]⟩
abbrev S1024x8x1x256 : Shape := ⟨4, ![1024, 8, 1, 256]⟩
abbrev S1024x8x256 : Shape := ⟨3, ![1024, 8, 256]⟩
abbrev S8x1024x256 : Shape := ⟨3, ![8, 1024, 256]⟩
abbrev S8x1x256x1024 : Shape := ⟨4, ![8, 1, 256, 1024]⟩
abbrev S8x256x1024 : Shape := ⟨3, ![8, 256, 1024]⟩
abbrev S4096x4096 : Shape := ⟨2, ![4096, 4096]⟩
abbrev S8x1024 : Shape := ⟨2, ![8, 1024]⟩
abbrev S256x1024 : Shape := ⟨2, ![256, 1024]⟩
abbrev S256x1 : Shape := ⟨2, ![256, 1]⟩
abbrev S256x4096 : Shape := ⟨2, ![256, 4096]⟩
abbrev S2x2x8 : Shape := ⟨3, ![2, 2, 8]⟩
abbrev S1x1x1 : Shape := ⟨3, ![1, 1, 1]⟩
abbrev S1024x256 : Shape := ⟨2, ![1024, 256]⟩
abbrev S1x1024x256 : Shape := ⟨3, ![1, 1024, 256]⟩
abbrev S1x256x1024 : Shape := ⟨3, ![1, 256, 1024]⟩
abbrev S256 : Shape := ⟨1, ![256]⟩
abbrev S1 : Shape := ⟨1, ![1]⟩
abbrev S1x1 : Shape := ⟨2, ![1, 1]⟩
abbrev S1024 : Shape := ⟨1, ![1024]⟩

abbrev nBuf : Space → Nat
  | .hbm => 59
  | .vmem => 24
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S1024x4096, .f32⟩
  | .hbm, ⟨38, _⟩ => ⟨S1024x4096, .bf16⟩
  | .hbm, ⟨39, _⟩ => ⟨S1024x8x2x256, .bf16⟩
  | .hbm, ⟨40, _⟩ => ⟨S4096x1024, .f32⟩
  | .hbm, ⟨41, _⟩ => ⟨S4096x1024, .bf16⟩
  | .hbm, ⟨42, _⟩ => ⟨S8x2x256x1024, .bf16⟩
  | .hbm, ⟨43, _⟩ => ⟨S4096x1024, .f32⟩
  | .hbm, ⟨44, _⟩ => ⟨S1024x8x1x256, .bf16⟩
  | .hbm, ⟨45, _⟩ => ⟨S1024x8x256, .bf16⟩
  | .hbm, ⟨46, _⟩ => ⟨S8x1024x256, .bf16⟩
  | .hbm, ⟨47, _⟩ => ⟨S1024x8x1x256, .bf16⟩
  | .hbm, ⟨48, _⟩ => ⟨S1024x8x256, .bf16⟩
  | .hbm, ⟨49, _⟩ => ⟨S8x1024x256, .bf16⟩
  | .hbm, ⟨50, _⟩ => ⟨S8x1x256x1024, .bf16⟩
  | .hbm, ⟨51, _⟩ => ⟨S8x256x1024, .bf16⟩
  | .hbm, ⟨52, _⟩ => ⟨S8x1x256x1024, .bf16⟩
  | .hbm, ⟨53, _⟩ => ⟨S8x256x1024, .bf16⟩
  | .hbm, ⟨54, _⟩ => ⟨S4096x4096, .bf16⟩
  | .hbm, ⟨55, _⟩ => ⟨S4096x4096, .bf16⟩
  | .hbm, ⟨56, _⟩ => ⟨S4096x1024, .bf16⟩
  | .hbm, ⟨57, _⟩ => ⟨S4096x1024, .f32⟩
  | .hbm, ⟨58, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1, .f32⟩
  | .local _ .vmem, ⟨3, _⟩ => ⟨S256x1, .f32⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x4096, .bf16⟩
  | .local _ .vmem, ⟨13, _⟩ => ⟨S256x4096, .bf16⟩
  | .local _ .vmem, ⟨14, _⟩ => ⟨S256x4096, .bf16⟩
  | .local _ .vmem, ⟨15, _⟩ => ⟨S256x4096, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S8x1024, .f32⟩
  | .local _ .vmem, ⟨21, _⟩ => ⟨S256x4096, .f32⟩
  | .local _ .vmem, ⟨22, _⟩ => ⟨S1024x4096, .bf16⟩
  | .local _ .vmem, ⟨23, _⟩ => ⟨S4096x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41_0 : Ref sig .tc := ⟨.hbm, 54, rfl⟩
abbrev main_v41_1 : Ref sig .tc := ⟨.hbm, 55, rfl⟩
abbrev main_v41_2 : Ref sig .tc := ⟨.hbm, 56, rfl⟩
abbrev main_v41_3 : Ref sig .tc := ⟨.hbm, 57, rfl⟩
abbrev main_v41_4 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S1x4096x1024 : Shape := ⟨3, ![1, 4096, 1024]⟩
abbrev S1x1024x4096 : Shape := ⟨3, ![1, 1024, 4096]⟩
abbrev S1x1024 : Shape := ⟨2, ![1, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S4096x4096 : Shape := ⟨2, ![4096, 4096]⟩
abbrev S3x1024 : Shape := ⟨2, ![3, 1024]⟩
abbrev S8x1024 : Shape := ⟨2, ![8, 1024]⟩

abbrev nBuf : Space → Nat
  | .hbm => 238
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S1x1024x4096, .f32⟩
  | 3 => ⟨S1x4096x1024, .f32⟩
  | 4 => ⟨S1x1024, .f32⟩
  | 5 => ⟨S1x1024, .f32⟩
  | 6 => ⟨S1x1024, .f32⟩
  | 7 => ⟨S1x1024, .f32⟩
  | 8 => ⟨S4096x1024, .f32⟩
  | 9 => ⟨S1024, .f32⟩
  | 10 => ⟨S1024, .f32⟩
  | 11 => ⟨S_, .f32⟩
  | 12 => ⟨S4096, .f32⟩
  | 13 => ⟨S4096x1, .f32⟩
  | 14 => ⟨S_, .f32⟩
  | 15 => ⟨S4096x1, .f32⟩
  | 16 => ⟨S4096x1, .f32⟩
  | 17 => ⟨S4096x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S_, .f32⟩
  | 32 => ⟨S4096x1, .f32⟩
  | 33 => ⟨S4096x1, .f32⟩
  | 34 => ⟨S4096x1, .f32⟩
  | 35 => ⟨S4096x1, .f32⟩
  | 36 => ⟨S_, .f32⟩
  | 37 => ⟨S4096x1, .f32⟩
  | 38 => ⟨S4096x1, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S1x1024, .f32⟩
  | 45 => ⟨S4096x1024, .f32⟩
  | 46 => ⟨S4096x1024, .f32⟩
  | 47 => ⟨S1024x4096, .f32⟩
  | 48 => ⟨S4096x4096, .f32⟩
  | 49 => ⟨S_, .f32⟩
  | 50 => ⟨S4096x4096, .f32⟩
  | 51 => ⟨S4096x4096, .f32⟩
  | 52 => ⟨S_, .f32⟩
  | 53 => ⟨S4096x4096, .f32⟩
  | 54 => ⟨S4096x4096, .i1⟩
  | 55 => ⟨S_, .f32⟩
  | 56 => ⟨S4096x4096, .f32⟩
  | 57 => ⟨S4096x4096, .f32⟩
  | 58 => ⟨S_, .f32⟩
  | 59 => ⟨S4096x4096, .f32⟩
  | 60 => ⟨S4096x4096, .f32⟩
  | 61 => ⟨S_, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S1024, .f32⟩
  | 68 => ⟨S1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S4096x1024, .f32⟩
  | 89 => ⟨S4096x1024, .f32⟩
  | 90 => ⟨S_, .f32⟩
  | 91 => ⟨S4096x1, .f32⟩
  | 92 => ⟨S4096x1, .f32⟩
  | 93 => ⟨S4096x1, .f32⟩
  | 94 => ⟨S4096x1, .f32⟩
  | 95 => ⟨S_, .f32⟩
  | 96 => ⟨S4096x1, .f32⟩
  | 97 => ⟨S4096x1, .f32⟩
  | 98 => ⟨S4096x1024, .f32⟩
  | 99 => ⟨S4096x1024, .f32⟩
  | 100 => ⟨S1x1024, .f32⟩
  | 101 => ⟨S4096x1024, .f32⟩
  | 102 => ⟨S4096x1024, .f32⟩
  | 103 => ⟨S1x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096, .f32⟩
  | 113 => ⟨S_, .f32⟩
  | 114 => ⟨S4096, .f32⟩
  | 115 => ⟨S4096, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S4096, .f32⟩
  | 124 => ⟨S_, .f32⟩
  | 125 => ⟨S4096, .f32⟩
  | 126 => ⟨S4096, .f32⟩
  | 127 => ⟨S4096x1024, .f32⟩
  | _ => ⟨S1x4096x1024, .f32⟩

abbrev hbmTy0_1 (i : Nat) : BufTy := match i % 128 with
  | 0 => ⟨S4096x1024, .f32⟩
  | 1 => ⟨S_, .f32⟩
  | 2 => ⟨S1024, .f32⟩
  | 3 => ⟨S1x1024, .f32⟩
  | 4 => ⟨S_, .f32⟩
  | 5 => ⟨S1024, .f32⟩
  | 6 => ⟨S4096x1024, .f32⟩
  | 7 => ⟨S_, .f32⟩
  | 8 => ⟨S1024, .f32⟩
  | 9 => ⟨S1x1024, .f32⟩
  | 10 => ⟨S4096x1024, .f32⟩
  | 11 => ⟨S4096x1024, .f32⟩
  | 12 => ⟨S_, .f32⟩
  | 13 => ⟨S1024, .f32⟩
  | 14 => ⟨S4096x1024, .f32⟩
  | 15 => ⟨S_, .f32⟩
  | 16 => ⟨S4096, .f32⟩
  | 17 => ⟨S4096x1, .f32⟩
  | 18 => ⟨S4096x1024, .f32⟩
  | 19 => ⟨S4096x1024, .f32⟩
  | 20 => ⟨S4096x1, .f32⟩
  | 21 => ⟨S4096x1024, .f32⟩
  | 22 => ⟨S_, .f32⟩
  | 23 => ⟨S4096, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S_, .f32⟩
  | 34 => ⟨S4096, .f32⟩
  | 35 => ⟨S4096x1, .f32⟩
  | 36 => ⟨S4096x1024, .f32⟩
  | 37 => ⟨S4096x1, .f32⟩
  | 38 => ⟨S_, .f32⟩
  | 39 => ⟨S4096x1, .f32⟩
  | 40 => ⟨S4096x1, .f32⟩
  | 41 => ⟨S_, .f32⟩
  | 42 => ⟨S4096, .f32⟩
  | 43 => ⟨S4096x1024, .f32⟩
  | 44 => ⟨S4096x1024, .f32⟩
  | 45 => ⟨S4096x4096, .f32⟩
  | 46 => ⟨S_, .f32⟩
  | 47 => ⟨S4096x1024, .f32⟩
  | 48 => ⟨S4096x1024, .f32⟩
  | 49 => ⟨S4096x4096, .f32⟩
  | 50 => ⟨S_, .f32⟩
  | 51 => ⟨S4096x4096, .f32⟩
  | 52 => ⟨S4096x4096, .f32⟩
  | 53 => ⟨S4096x1024, .f32⟩
  | 54 => ⟨S4096x1024, .f32⟩
  | 55 => ⟨S_, .f32⟩
  | 56 => ⟨S1024, .f32⟩
  | 57 => ⟨S1x1024, .f32⟩
  | 58 => ⟨S_, .f32⟩
  | 59 => ⟨S1024, .f32⟩
  | 60 => ⟨S4096x1024, .f32⟩
  | 61 => ⟨S_, .f32⟩
  | 62 => ⟨S1024, .f32⟩
  | 63 => ⟨S1x1024, .f32⟩
  | 64 => ⟨S4096x1024, .f32⟩
  | 65 => ⟨S4096x1024, .f32⟩
  | 66 => ⟨S_, .f32⟩
  | 67 => ⟨S1024, .f32⟩
  | 68 => ⟨S4096x1024, .f32⟩
  | 69 => ⟨S_, .f32⟩
  | 70 => ⟨S4096, .f32⟩
  | 71 => ⟨S4096x1, .f32⟩
  | 72 => ⟨S4096x1024, .f32⟩
  | 73 => ⟨S4096x1024, .f32⟩
  | 74 => ⟨S4096x1, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S4096x1024, .f32⟩
  | 87 => ⟨S_, .f32⟩
  | 88 => ⟨S4096, .f32⟩
  | 89 => ⟨S4096x1, .f32⟩
  | 90 => ⟨S4096x1024, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x1024, .f32⟩
  | 98 => ⟨S4096x1024, .f32⟩
  | 99 => ⟨S1x1024, .f32⟩
  | 100 => ⟨S1x1024, .f32⟩
  | 101 => ⟨S1x1024, .f32⟩
  | 102 => ⟨S1x1024, .f32⟩
  | 103 => ⟨S1x1024, .f32⟩
  | 104 => ⟨S_, .f32⟩
  | 105 => ⟨S3x1024, .f32⟩
  | 106 => ⟨S8x1024, .f32⟩
  | 107 => ⟨S4096x4096, .bf16⟩
  | 108 => ⟨S4096x4096, .bf16⟩
  | 109 => ⟨S4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call0_cst : Ref sig .tc := ⟨.hbm, 49, rfl⟩
abbrev main_call0_v0 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_cst_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_15 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_16 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_17 : Ref sig .tc := ⟨.hbm, 108, rfl⟩
abbrev main_v80 : Ref sig .tc := ⟨.hbm, 109, rfl⟩
abbrev main_v81 : Ref sig .tc := ⟨.hbm, 110, rfl⟩
abbrev main_cst_18 : Ref sig .tc := ⟨.hbm, 111, rfl⟩
abbrev main_v82 : Ref sig .tc := ⟨.hbm, 112, rfl⟩
abbrev main_cst_19 : Ref sig .tc := ⟨.hbm, 113, rfl⟩
abbrev main_v83 : Ref sig .tc := ⟨.hbm, 114, rfl⟩
abbrev main_v84 : Ref sig .tc := ⟨.hbm, 115, rfl⟩
abbrev main_cst_20 : Ref sig .tc := ⟨.hbm, 116, rfl⟩
abbrev main_v85 : Ref sig .tc := ⟨.hbm, 117, rfl⟩
abbrev main_cst_21 : Ref sig .tc := ⟨.hbm, 118, rfl⟩
abbrev main_v86 : Ref sig .tc := ⟨.hbm, 119, rfl⟩
abbrev main_cst_22 : Ref sig .tc := ⟨.hbm, 120, rfl⟩
abbrev main_cst_23 : Ref sig .tc := ⟨.hbm, 121, rfl⟩
abbrev main_v87 : Ref sig .tc := ⟨.hbm, 122, rfl⟩
abbrev main_v88 : Ref sig .tc := ⟨.hbm, 123, rfl⟩
abbrev main_cst_24 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_25 : Ref sig .tc := ⟨.hbm, 129, rfl⟩
abbrev main_v93 : Ref sig .tc := ⟨.hbm, 130, rfl⟩
abbrev main_v94 : Ref sig .tc := ⟨.hbm, 131, rfl⟩
abbrev main_cst_26 : Ref sig .tc := ⟨.hbm, 132, rfl⟩
abbrev main_v95 : Ref sig .tc := ⟨.hbm, 133, rfl⟩
abbrev main_v96 : Ref sig .tc := ⟨.hbm, 134, rfl⟩
abbrev main_cst_27 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_28 : Ref sig .tc := ⟨.hbm, 140, rfl⟩
abbrev main_v101 : Ref sig .tc := ⟨.hbm, 141, rfl⟩
abbrev main_v102 : Ref sig .tc := ⟨.hbm, 142, rfl⟩
abbrev main_cst_29 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_cst_30 : Ref sig .tc := ⟨.hbm, 150, rfl⟩
abbrev main_v109 : Ref sig .tc := ⟨.hbm, 151, rfl⟩
abbrev main_v110 : Ref sig .tc := ⟨.hbm, 152, rfl⟩
abbrev main_cst_31 : Ref sig .tc := ⟨.hbm, 153, rfl⟩
abbrev main_v111 : Ref sig .tc := ⟨.hbm, 154, rfl⟩
abbrev main_v112 : Ref sig .tc := ⟨.hbm, 155, rfl⟩
abbrev main_cst_32 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_33 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_34 : Ref sig .tc := ⟨.hbm, 166, rfl⟩
abbrev main_v121 : Ref sig .tc := ⟨.hbm, 167, rfl⟩
abbrev main_v122 : Ref sig .tc := ⟨.hbm, 168, rfl⟩
abbrev main_cst_35 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_36 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_cst_37 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_38 : Ref sig .tc := ⟨.hbm, 183, rfl⟩
abbrev main_v134 : Ref sig .tc := ⟨.hbm, 184, rfl⟩
abbrev main_v135 : Ref sig .tc := ⟨.hbm, 185, rfl⟩
abbrev main_cst_39 : Ref sig .tc := ⟨.hbm, 186, rfl⟩
abbrev main_v136 : Ref sig .tc := ⟨.hbm, 187, rfl⟩
abbrev main_v137 : Ref sig .tc := ⟨.hbm, 188, rfl⟩
abbrev main_cst_40 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_cst_41 : Ref sig .tc := ⟨.hbm, 194, rfl⟩
abbrev main_v142 : Ref sig .tc := ⟨.hbm, 195, rfl⟩
abbrev main_v143 : Ref sig .tc := ⟨.hbm, 196, rfl⟩
abbrev main_cst_42 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_v149 : Ref sig .tc := ⟨.hbm, 203, rfl⟩
abbrev main_cst_43 : Ref sig .tc := ⟨.hbm, 204, rfl⟩
abbrev main_v150 : Ref sig .tc := ⟨.hbm, 205, rfl⟩
abbrev main_v151 : Ref sig .tc := ⟨.hbm, 206, rfl⟩
abbrev main_cst_44 : Ref sig .tc := ⟨.hbm, 207, rfl⟩
abbrev main_v152 : Ref sig .tc := ⟨.hbm, 208, rfl⟩
abbrev main_v153 : Ref sig .tc := ⟨.hbm, 209, rfl⟩
abbrev main_cst_45 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_46 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_47 : Ref sig .tc := ⟨.hbm, 220, rfl⟩
abbrev main_v162 : Ref sig .tc := ⟨.hbm, 221, rfl⟩
abbrev main_v163 : Ref sig .tc := ⟨.hbm, 222, rfl⟩
abbrev main_cst_48 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_cst_49 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x1024x1024 : Shape := ⟨3, ![1, 1024, 1024]⟩
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S1024x4096, .bf16⟩
  | .hbm, ⟨7, _⟩ => ⟨S1024x1024, .f32⟩
  | .hbm, ⟨8, _⟩ => ⟨S1024x1024, .bf16⟩
  | .hbm, ⟨9, _⟩ => ⟨S1024x4096, .f32⟩
  | .hbm, ⟨10, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference3Ideal.lean ====
abbrev S1x4096x1024 : Shape := ⟨3, ![1, 4096, 1024]⟩
abbrev S1x1024x1024 : Shape := ⟨3, ![1, 1024, 1024]⟩
abbrev S4096x1024 : Shape := ⟨2, ![4096, 1024]⟩
abbrev S1024x1024 : Shape := ⟨2, ![1024, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x4096, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x4096x1536 : Shape := ⟨3, ![1, 4096, 1536]⟩
abbrev S1x4096x256 : Shape := ⟨3, ![1, 4096, 256]⟩
abbrev S1x2048x256 : Shape := ⟨3, ![1, 2048, 256]⟩
abbrev S1x1024x1792 : Shape := ⟨3, ![1, 1024, 1792]⟩
abbrev S4096x1536 : Shape := ⟨2, ![4096, 1536]⟩
abbrev S1536x4096 : Shape := ⟨2, ![1536, 4096]⟩
abbrev S4096x256 : Shape := ⟨2, ![4096, 256]⟩
abbrev S256x4096 : Shape := ⟨2, ![256, 4096]⟩
abbrev S2048x256 : Shape := ⟨2, ![2048, 256]⟩
abbrev S256x2048 : Shape := ⟨2, ![256, 2048]⟩
abbrev S4096x1024 : Shape := ⟨2, ![4096, 1024]⟩
abbrev S1024x1792 : Shape := ⟨2, ![1024, 1792]⟩
abbrev S1792x1024 : Shape := ⟨2, ![1792, 1024]⟩
abbrev S1536x512 : Shape := ⟨2, ![1536, 512]⟩
abbrev S256x512 : Shape := ⟨2, ![256, 512]⟩
abbrev S256x256 : Shape := ⟨2, ![256, 256]⟩
abbrev S512x1024 : Shape := ⟨2, ![512, 1024]⟩
abbrev S256x128 : Shape := ⟨2, ![256, 128]⟩
abbrev S1536x1024 : Shape := ⟨2, ![1536, 1024]⟩
abbrev S256x1024 : Shape := ⟨2, ![256, 1024]⟩

abbrev nBuf : Space → Nat
  | .hbm => 17
  | .vmem => 12
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1536, .f32⟩
  | .hbm, ⟨2, _⟩ => ⟨S1x4096x256, .f32⟩
  | .hbm, ⟨3, _⟩ => ⟨S1x2048x256, .f32⟩
  | .hbm, ⟨4, _⟩ => ⟨S1x1024x1792, .f32⟩
  | .hbm, ⟨5, _⟩ => ⟨S4096x1536, .f32⟩
  | .hbm, ⟨6, _⟩ => ⟨S1536x4096, .f32⟩
  | .hbm, ⟨7, _⟩ => ⟨S1536x4096, .bf16⟩
  | .hbm, ⟨8, _⟩ => ⟨S4096x256, .f32⟩
  | .hbm, ⟨9, _⟩ => ⟨S256x4096, .f32⟩
  | .hbm, ⟨10, _⟩ => ⟨S2048x256, .f32⟩
  | .hbm, ⟨11, _⟩ => ⟨S256x2048, .f32⟩
  | .hbm, ⟨12, _⟩ => ⟨S4096x1024, .f32⟩
  | .hbm, ⟨13, _⟩ => ⟨S1024x1792, .f32⟩
  | .hbm, ⟨14, _⟩ => ⟨S1792x1024, .f32⟩
  | .hbm, ⟨15, _⟩ => ⟨S1792x1024, .bf16⟩
  | .hbm, ⟨16, _⟩ => ⟨S4096x1024, .f32⟩
  | .local _ .vmem, ⟨0, _⟩ => ⟨S1536x512, .bf16⟩
  | .local _ .vmem, ⟨1, _⟩ => ⟨S1536x512, .bf16⟩
  | .local _ .vmem, ⟨2, _⟩ => ⟨S256x512, .f32⟩
  | .local _ .vmem, ⟨3, _⟩ => ⟨S256x512, .f32⟩
  | .local _ .vmem, ⟨4, _⟩ => ⟨S256x256, .f32⟩
  | .local _ .vmem, ⟨5, _⟩ => ⟨S256x256, .f32⟩
  | .local _ .vmem, ⟨6, _⟩ => ⟨S512x1024, .f32⟩
  | .local _ .vmem, ⟨7, _⟩ => ⟨S512x1024, .f32⟩
  | .local _ .vmem, ⟨8, _⟩ => ⟨S1792x1024, .bf16⟩
  | .local _ .vmem, ⟨9, _⟩ => ⟨S512x1024, .f32⟩
  | .local _ .vmem, ⟨10, _⟩ => ⟨S512x1024, .f32⟩
  | .local _ .vmem, ⟨11, _⟩ => ⟨S256x512, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1792x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S1x4096x1024 : Shape := ⟨3, ![1, 4096, 1024]⟩
abbrev S1x4096x1536 : Shape := ⟨3, ![1, 4096, 1536]⟩
abbrev S1x4096x256 : Shape := ⟨3, ![1, 4096, 256]⟩
abbrev S1x2048x256 : Shape := ⟨3, ![1, 2048, 256]⟩
abbrev S1x1024x1792 : Shape := ⟨3, ![1, 1024, 1792]⟩
abbrev S_ : Shape := ⟨0, ![]⟩
abbrev S4096x1024 : Shape := ⟨2, ![4096, 1024]⟩
abbrev S1024x1792 : Shape := ⟨2, ![1024, 1792]⟩
abbrev S4096x1792 : Shape := ⟨2, ![4096, 1792]⟩
abbrev S4096x256 : Shape := ⟨2, ![4096, 256]⟩
abbrev S16x256x256 : Shape := ⟨3, ![16, 256, 256]⟩
abbrev S16x128x256 : Shape := ⟨3, ![16, 128, 256]⟩
abbrev S2048x256 : Shape := ⟨2, ![2048, 256]⟩
abbrev S4096x1536 : Shape := ⟨2, ![4096, 1536]⟩

abbrev nBuf : Space → Nat
  | .hbm => 36
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1536, .f32⟩
  | .hbm, ⟨2, _⟩ => ⟨S1x4096x256, .f32⟩
  | .hbm, ⟨3, _⟩ => ⟨S1x2048x256, .f32⟩
  | .hbm, ⟨4, _⟩ => ⟨S1x1024x1792, .f32⟩
  | .hbm, ⟨5, _⟩ => ⟨S_, .f32⟩
  | .hbm, ⟨6, _⟩ => ⟨S4096x1024, .f32⟩
  | .hbm, ⟨7, _⟩ => ⟨S1024x1792, .f32⟩
  | .hbm, ⟨8, _⟩ => ⟨S4096x1792, .f32⟩
  | .hbm, ⟨9, _⟩ => ⟨S4096x256, .f32⟩
  | .hbm, ⟨10, _⟩ => ⟨S16x256x256, .f32⟩
  | .hbm, ⟨11, _⟩ => ⟨S16x128x256, .f32⟩
  | .hbm, ⟨12, _⟩ => ⟨S2048x256, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1536, .f32⟩
  | .hbm, ⟨17, _⟩ => ⟨S4096x1024, .f32⟩
  | .hbm, ⟨18, _⟩ => ⟨S4096x1536, .f32⟩
  | .hbm, ⟨19, _⟩ => ⟨S4096x256, .f32⟩
  | .hbm, ⟨20, _⟩ => ⟨S2048x256, .f32⟩
  | .hbm, ⟨21, _⟩ => ⟨S_, .f32⟩
  | .hbm, ⟨22, _⟩ => ⟨S4096x1792, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S16x128x256, .f32⟩
  | .hbm, ⟨27, _⟩ => ⟨S_, .f32⟩
  | .hbm, ⟨28, _⟩ => ⟨S16x256x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x1792, .f32⟩
  | .hbm, ⟨33, _⟩ => ⟨S4096x1792, .f32⟩
  | .hbm, ⟨34, _⟩ => ⟨S4096x1024, .f32⟩
  | .hbm, ⟨35, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x1024x1792 : Shape := ⟨3, ![1, 1024, 1792]⟩
abbrev S4096x1024 : Shape := ⟨2, ![4096, 1024]⟩
abbrev S1024x1792 : Shape := ⟨2, ![1024, 1792]⟩
abbrev S1792x1024 : Shape := ⟨2, ![1792, 1024]⟩
abbrev S1792x4096 : Shape := ⟨2, ![1792, 4096]⟩
abbrev S512x1024 : Shape := ⟨2, ![512, 1024]⟩
abbrev S1792x512 : Shape := ⟨2, ![1792, 512]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S4096x1024, .f32⟩
  | .hbm, ⟨3, _⟩ => ⟨S1024x1792, .f32⟩
  | .hbm, ⟨4, _⟩ => ⟨S1792x1024, .f32⟩
  | .hbm, ⟨5, _⟩ => ⟨S1792x1024, .bf16⟩
  | .hbm, ⟨6, _⟩ => ⟨S1792x4096, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1792x1024, .bf16⟩
  | .local _ .vmem, ⟨3, _⟩ => ⟨S1792x512, .f32⟩
  | .local _ .vmem, ⟨4, _⟩ => ⟨S1792x512, .f32⟩
  | .local _ .vmem, ⟨5, _⟩ => ⟨S512x1024, .bf16⟩
  | .local _ .vmem, ⟨6, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1792x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S1x4096x1024 : Shape := ⟨3, ![1, 4096, 1024]⟩
abbrev S1x1024x1792 : Shape := ⟨3, ![1, 1024, 1792]⟩
abbrev S4096x1024 : Shape := ⟨2, ![4096, 1024]⟩
abbrev S1024x1792 : Shape := ⟨2, ![1024, 1792]⟩
abbrev S4096x1792 : Shape := ⟨2, ![4096, 1792]⟩
abbrev S1792x4096 : Shape := ⟨2, ![1792, 4096]⟩

abbrev nBuf : Space → Nat
  | .hbm => 8
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x1792, .f32⟩
  | .hbm, ⟨2, _⟩ => ⟨S4096x1024, .f32⟩
  | .hbm, ⟨3, _⟩ => ⟨S1024x1792, .f32⟩
  | .hbm, ⟨4, _⟩ => ⟨S4096x1792, .f32⟩
  | .hbm, ⟨5, _⟩ => ⟨S1792x4096, .f32⟩
  | .hbm, ⟨6, _⟩ => ⟨S4096x1024, .f32⟩
  | .hbm, ⟨7, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S1x4096x1024 : Shape := ⟨3, ![1, 4096, 1024]⟩
abbrev S1x1024x1024 : Shape := ⟨3, ![1, 1024, 1024]⟩
abbrev S1x1024 : Shape := ⟨2, ![1, 1024]⟩
abbrev S4096x1024 : Shape := ⟨2, ![4096, 1024]⟩
abbrev S1024x4096 : Shape := ⟨2, ![1024, 4096]⟩
abbrev S1024x1024 : Shape := ⟨2, ![1024, 1024]⟩
abbrev S4096x1 : Shape := ⟨2, ![4096, 1]⟩
abbrev S1024x512 : Shape := ⟨2, ![1024, 512]⟩
abbrev S512x1024 : Shape := ⟨2, ![512, 1024]⟩
abbrev S512x1 : Shape := ⟨2, ![512, 1]⟩
abbrev S512 : Shape := ⟨1, ![512]⟩

abbrev nBuf : Space → Nat
  | .hbm => 14
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S4096x1024, .f32⟩
  | .hbm, ⟨9, _⟩ => ⟨S1024x1024, .f32⟩
  | .hbm, ⟨10, _⟩ => ⟨S1024x1024, .bf16⟩
  | .hbm, ⟨11, _⟩ => ⟨S4096x1024, .f32⟩
  | .hbm, ⟨12, _⟩ => ⟨S4096x1, .f32⟩
  | .hbm, ⟨13, _⟩ => ⟨S4096x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1024, .bf16⟩
  | .local _ .vmem, ⟨12, _⟩ => ⟨S512x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S1x4096x1024 : Shape := ⟨3, ![1, 4096, 1024]⟩
abbrev S1x1024x1024 : Shape := ⟨3, ![1, 1024, 1024]⟩
abbrev S1x1024 : Shape := ⟨2, ![1, 1024]⟩
abbrev S4096x1024 : Shape := ⟨2, ![4096, 1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S1x1024x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== Kernel7.lean ====
abbrev S1x4096 : Shape := ⟨2, ![1, 4096]⟩
abbrev S32 : Shape := ⟨1, ![32]⟩
abbrev S_ : Shape := ⟨0, ![]⟩
abbrev S1x32 : Shape := ⟨2, ![1, 32]⟩
abbrev S2x32 : Shape := ⟨2, ![2, 32]⟩
abbrev S64 : Shape := ⟨1, ![64]⟩
abbrev S64x1 : Shape := ⟨2, ![64, 1]⟩
abbrev S64x4096 : Shape := ⟨2, ![64, 4096]⟩
abbrev S1x512 : Shape := ⟨2, ![1, 512]⟩
abbrev S64x512 : Shape := ⟨2, ![64, 512]⟩

abbrev nBuf : Space → Nat
  | .hbm => 21
  | .vmem => 7
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1x32, .f32⟩
  | .hbm, ⟨16, _⟩ => ⟨S2x32, .f32⟩
  | .hbm, ⟨17, _⟩ => ⟨S64, .f32⟩
  | .hbm, ⟨18, _⟩ => ⟨S64x1, .f32⟩
  | .hbm, ⟨19, _⟩ => ⟨S64x4096, .f32⟩
  | .hbm, ⟨20, _⟩ => ⟨S64x4096, .f32⟩
  | .local _ .vmem, ⟨0, _⟩ => ⟨S1x512, .i32⟩
  | .local _ .vmem, ⟨1, _⟩ => ⟨S1x512, .i32⟩
  | .local _ .vmem, ⟨2, _⟩ => ⟨S64x1, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | _, _ => ⟨S1x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S1x4096 : Shape := ⟨2, ![1, 4096]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S64x4096 : Shape := ⟨2, ![64, 4096]⟩

abbrev nBuf : Space → Nat
  | .hbm => 29
  | .vmem => 0
  | .smem => 0
  | _ => 0

abbrev bufTy : (tb : Table) → Fin (tcTables nBuf tb) → BufTy
  | .hbm, ⟨0, _⟩ => ⟨S1x4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .i32⟩
  | .hbm, ⟨16, _⟩ => ⟨S4096, .f32⟩
  | .hbm, ⟨17, _⟩ => ⟨S4096x1, .f32⟩
  | .hbm, ⟨18, _⟩ => ⟨S1x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S4096x32, .f32⟩
  | .hbm, ⟨24, _⟩ => ⟨S4096x64, .f32⟩
  | .hbm, ⟨25, _⟩ => ⟨S64x4096, .f32⟩
  | .hbm, ⟨26, _⟩ => ⟨S4096x32, .f32⟩
  | .hbm, ⟨27, _⟩ => ⟨S4096x64, .f32⟩
  | .hbm, ⟨28, _⟩ => ⟨S64x4096, .f32⟩
  | _, _ => ⟨S1x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Proof.HostArrays.lean ====
/- The arrays that the host prepares for the call, as terms of the arguments. -/
module

public import proofs.«01_k».proof.Proof.Gen.KernelIdeal.Frame
public import Idealize.ShloMosaic.Lib.Pipeline.ValueKit
public import Idealize.ShloMosaic.Lib.Claim

@[expose] public section

set_option maxRecDepth 16384

noncomputable section

namespace Cert.Entry

open Idealize.ShloMosaic Idealize.ShloMosaic.TcCoe Idealize.SL.Sem Idealize.ShloMosaic.Pipeline
open Cert.KernelIdeal Cert.KernelIdeal.Gen

variable (m : (ℓ : Loc nD τ sig) → Buf (Elt Ideal) ℓ)

section arrays
variable (c : Dev nD)

/-- The cotangent, transposed so that a token is a column. -/
theorem V_dcat : V m c main_v1 = transpose S1024x4096 [1, 0]
    (shapeCast S4096x1024 (m (c.tc.loc main_arg0)) shapeCasts_S1x4096x1024_S4096x1024)
    transposes_S4096x1024_S1024x4096_1_0 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The mixer's input, transposed so that a token is a column. -/
theorem V_h : V m c main_v3 = transpose S1792x4096 [1, 0]
    (shapeCast S4096x1792 (m (c.tc.loc main_arg1)) shapeCasts_S1x4096x1792_S4096x1792)
    transposes_S4096x1792_S1792x4096_1_0 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The spatial weights without their leading axis. -/
theorem V_w : V m c main_v14 = shapeCast S8x128x128 (m (c.tc.loc main_arg5)) shapeCasts_S1x8x128x128_S8x128x128 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The spatial biases without their leading axis. -/
theorem V_bs : V m c main_v15 = shapeCast S8x128 (m (c.tc.loc main_arg6)) shapeCasts_S1x8x128_S8x128 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The scale as a column. -/
theorem V_g : V m c main_v17 = shapeCast S512x1 (m (c.tc.loc main_arg3)) shapeCasts_S1x512_S512x1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

/-- The shift as a column. -/
theorem V_b : V m c main_v18 = shapeCast S512x1 (m (c.tc.loc main_arg4)) shapeCasts_S1x512_S512x1 := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  entry_read
  rfl

end arrays

end Cert.Entry

end
-- ==== Proof.Lift.lean ====
/- Arrays of extended reals whose entries are real numbers, and the operations of the kernel on them.

   `Lifts2 x f` says that the two-axis array `x` holds the real number `f i j` at row `i` and column `j`;
   `Lifts1` and `Lifts3` say it of arrays with one and three axes. The coordinates are plain natural numbers, so that
   a slice, a block or a reshape of an array is a change of argument of `f`. Each lemma below carries one array
   operation from arrays to these real functions. -/
module

public import Idealize.ShloMosaic.Lib.Pipeline.Value
public import Idealize.ShloMosaic.Lib.ValueIdx
public import Idealize.ShloMosaic.Lib.IdealHost
public import Idealize.ShloMosaic.Init

@[expose] public section

set_option maxRecDepth 16384

noncomputable section

open scoped BigOperators

namespace Cert.Lift

open Idealize.ShloMosaic Idealize.ShloMosaic.ValueIdx

variable {φ ψ : FTy}

/-- The one-axis array holds the real `f i` at `i`. -/
def Lifts1 {a : ℕ} (x : FVec Ideal ⟨1, ![a]⟩ φ) (f : ℕ → ℝ) : Prop :=
  ∀ i, x i = ((f (i 0).val : ℝ) : EReal)

/-- The two-axis array holds the real `f i j` at `(i, j)`. -/
def Lifts2 {a b : ℕ} (x : FVec Ideal ⟨2, ![a, b]⟩ φ) (f : ℕ → ℕ → ℝ) : Prop :=
  ∀ i, x i = ((f (i 0).val (i 1).val : ℝ) : EReal)

/-- The three-axis array holds the real `f i j k` at `(i, j, k)`. -/
def Lifts3 {a b c : ℕ} (x : FVec Ideal ⟨3, ![a, b, c]⟩ φ) (f : ℕ → ℕ → ℕ → ℝ) : Prop :=
  ∀ i, x i = ((f (i 0).val (i 1).val (i 2).val : ℝ) : EReal)

/-- A finite sum of real numbers is the same sum among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over `Fin n` of a function of the number is the sum over the numbers below `n`. -/
theorem sum_fin (n : ℕ) (f : ℕ → ℝ) : ∑ k : Fin n, f k.val = ∑ k ∈ Finset.range n, f k :=
  Fin.sum_univ_eq_sum_range f n

section two
variable {a b c : ℕ}

/-- Only the values inside the array matter. -/
theorem Lifts2.congr {x : FVec Ideal ⟨2, ![a, b]⟩ φ} {f g : ℕ → ℕ → ℝ} (h : Lifts2 x f)
    (e : ∀ i j, i < a → j < b → f i j = g i j) : Lifts2 x g := fun i => by
  rw [h i, e _ _ (idx2_lt0 i) (idx2_lt1 i)]

theorem Lifts2.mul {x y : FVec Ideal ⟨2, ![a, b]⟩ φ} {f g : ℕ → ℕ → ℝ} (hx : Lifts2 x f) (hy : Lifts2 y g) :
    Lifts2 (mulf x y) (fun i j => f i j * g i j) := fun i => by
  show x i * y i = _
  rw [hx i, hy i]; exact (EReal.coe_mul _ _).symm

theorem Lifts2.add {x y : FVec Ideal ⟨2, ![a, b]⟩ φ} {f g : ℕ → ℕ → ℝ} (hx : Lifts2 x f) (hy : Lifts2 y g) :
    Lifts2 (addf x y) (fun i j => f i j + g i j) := fun i => by
  show x i + y i = _
  rw [hx i, hy i]; exact (EReal.coe_add _ _).symm

theorem Lifts2.sub {x y : FVec Ideal ⟨2, ![a, b]⟩ φ} {f g : ℕ → ℕ → ℝ} (hx : Lifts2 x f) (hy : Lifts2 y g) :
    Lifts2 (subf x y) (fun i j => f i j - g i j) := fun i => by
  show x i - y i = _
  rw [hx i, hy i]; exact (EReal.coe_sub _ _).symm

/-- Every entry is the same number. -/
theorem Lifts2.splat {v : Ideal φ} {r : ℝ} (h : v = ((r : ℝ) : EReal)) :
    Lifts2 (broadcast ⟨2, ![a, b]⟩ v : FVec Ideal ⟨2, ![a, b]⟩ φ) (fun _ _ => r) := fun _ => h

theorem Lifts2.divSplat {x : FVec Ideal ⟨2, ![a, b]⟩ φ} {f : ℕ → ℕ → ℝ} (hx : Lifts2 x f) {v : Ideal φ} {r : ℝ}
    (h : v = ((r : ℝ) : EReal)) (hr : r ≠ 0) :
    Lifts2 (divf x (broadcast ⟨2, ![a, b]⟩ v)) (fun i j => f i j / r) := fun i => by
  show Ideal.div (x i) v = _
  rw [hx i, h, Ideal.div_coe hr, ← EReal.coe_mul]; congr 1; ring

theorem Lifts2.tanh {x : FVec Ideal ⟨2, ![a, b]⟩ φ} {f : ℕ → ℕ → ℝ} (hx : Lifts2 x f) :
    Lifts2 (Idealize.ShloMosaic.tanh x) (fun i j => Real.tanh (f i j)) := fun i => by
  show Ideal.tanh (x i) = _
  rw [hx i]; rfl

theorem Lifts2.exp {x : FVec Ideal ⟨2, ![a, b]⟩ φ} {f : ℕ → ℕ → ℝ} (hx : Lifts2 x f) :
    Lifts2 (Idealize.ShloMosaic.exp x) (fun i j => Real.exp (f i j)) := fun i => by
  show Ideal.exp (x i) = _
  rw [hx i]; rfl

theorem Lifts2.rsqrt {x : FVec Ideal ⟨2, ![a, b]⟩ φ} {f : ℕ → ℕ → ℝ} (hx : Lifts2 x f) (hp : ∀ i j, 0 < f i j) :
    Lifts2 (Idealize.ShloMosaic.rsqrt x) (fun i j => (Real.sqrt (f i j))⁻¹) := fun i => by
  show Ideal.rsqrt (x i) = _
  rw [hx i, Ideal.rsqrt_coe, if_neg (not_lt.mpr (hp _ _).le), if_neg (hp _ _).ne']

/-- A change of format keeps every value. -/
theorem Lifts2.trunc {x : FVec Ideal ⟨2, ![a, b]⟩ φ} {f : ℕ → ℕ → ℝ} (hx : Lifts2 x f) (h : ψ.bits < φ.bits) :
    Lifts2 (truncf ψ x h) f := hx

/-- A cast to the same shape keeps every value. -/
theorem Lifts2.cast {x : FVec Ideal ⟨2, ![a, b]⟩ φ} {f : ℕ → ℕ → ℝ} (hx : Lifts2 x f)
    (h : (⟨2, ![a, b]⟩ : Shape).ShapeCasts ⟨2, ![a, b]⟩) : Lifts2 (shapeCast ⟨2, ![a, b]⟩ x h) f := fun i => by
  rw [shapeCast_apply x h i i rfl]; exact hx i

/-- A slice reads the function at shifted coordinates. -/
theorem Lifts2.slice {x : FVec Ideal ⟨2, ![a, b]⟩ φ} {f : ℕ → ℕ → ℝ} (hx : Lifts2 x f) {a' b' : ℕ} (r s : ℕ)
    (h : (⟨2, ![a, b]⟩ : Shape).Slices ![r, s] ⟨2, ![a', b']⟩) :
    Lifts2 (extractStridedSlice ⟨2, ![a', b']⟩ ![r, s] x h) (fun i j => f (r + i) (s + j)) := fun i => by
  unfold extractStridedSlice
  rw [hx]
  rfl

/-- One row repeated down the rows. -/
theorem Lifts2.rows {x : FVec Ideal ⟨2, ![1, b]⟩ φ} {f : ℕ → ℕ → ℝ} (hx : Lifts2 x f) (hb : b ≠ 1)
    (h : (⟨2, ![1, b]⟩ : Shape).Broadcasts ⟨2, ![a, b]⟩) :
    Lifts2 (broadcastTo ⟨2, ![a, b]⟩ x h) (fun _ j => f 0 j) := fun i => by
  rw [broadcastTo_apply x h i (ix2 0 (i 1)) (fun q => by
    match q with
    | ⟨0, _⟩ => rfl
    | ⟨1, _⟩ => exact (if_neg hb).symm)]
  exact hx _

/-- One column repeated along the columns. -/
theorem Lifts2.cols {x : FVec Ideal ⟨2, ![a, 1]⟩ φ} {f : ℕ → ℕ → ℝ} (hx : Lifts2 x f) (ha : a ≠ 1)
    (h : (⟨2, ![a, 1]⟩ : Shape).Broadcasts ⟨2, ![a, b]⟩) :
    Lifts2 (broadcastTo ⟨2, ![a, b]⟩ x h) (fun i _ => f i 0) := fun i => by
  rw [broadcastTo_apply x h i (ix2 (i 0) 0) (fun q => by
    match q with
    | ⟨0, _⟩ => exact (if_neg ha).symm
    | ⟨1, _⟩ => rfl)]
  exact hx _

/-- The sum down the rows, kept as one row. -/
theorem Lifts2.sumRows {x : FVec Ideal ⟨2, ![a, b]⟩ .f32} {f : ℕ → ℕ → ℝ} (hx : Lifts2 x f)
    (h : (⟨2, ![a, b]⟩ : Shape).Reduces [0] ⟨1, ![b]⟩) (hφ hacc)
    (hc : (⟨1, ![b]⟩ : Shape).ShapeCasts ⟨2, ![1, b]⟩) :
    Lifts2 (shapeCast ⟨2, ![1, b]⟩ (multiReduction .add [0] ⟨1, ![b]⟩ x 0x00000000#32 h hφ hacc) hc)
      (fun _ j => ∑ k ∈ Finset.range a, f k j) := fun i => by
  rw [shapeCast_apply _ hc i (ix1 (i 1)) (by
    rw [Shape.rowMajor_val_one, Shape.rowMajor_val_two]
    have : (i 0).val = 0 := by have := idx2_lt0 i; omega
    show (i 1).val = (i 0).val * b + (i 1).val
    rw [this]; omega)]
  rw [Ideal.multiReduction_add_single x _ h hφ hacc]
  beta_reduce
  rw [← sum_fin a (fun k => f k _), coe_sum]
  refine Finset.sum_congr rfl fun k _ => ?_
  rw [hx]
  have e0 : (h.lift (ix1 (i 1)) k 0).val = k.val := rfl
  have e1 : (h.lift (ix1 (i 1)) k 1).val = (i 1).val := rfl
  rw [e0, e1]

/-- Rows and columns exchanged. -/
theorem Lifts2.transpose {x : FVec Ideal ⟨2, ![a, b]⟩ φ} {f : ℕ → ℕ → ℝ} (hx : Lifts2 x f)
    (h : (⟨2, ![a, b]⟩ : Shape).Transposes [1, 0] ⟨2, ![b, a]⟩) :
    Lifts2 (Idealize.ShloMosaic.transpose ⟨2, ![b, a]⟩ [1, 0] x h) (fun i j => f j i) := fun i => by
  rw [transpose_apply [1, 0] x h i (ix2 (i 1) (i 0)) (fun q => by match q with | ⟨0, _⟩ => rfl | ⟨1, _⟩ => rfl)]
  exact hx _

/-- Two arrays side by side. -/
theorem Lifts2.beside {x : FVec Ideal ⟨2, ![a, b]⟩ φ} {y : FVec Ideal ⟨2, ![a, c]⟩ φ} {f g : ℕ → ℕ → ℝ} {n : ℕ}
    (hx : Lifts2 x f) (hy : Lifts2 y g)
    (h : Shape.Concatenates [⟨2, ![a, b]⟩, ⟨2, ![a, c]⟩] ⟨2, ![a, n]⟩ 1) :
    Lifts2 (concatenate ⟨2, ![a, n]⟩ 1 [⟨⟨2, ![a, b]⟩, x⟩, ⟨⟨2, ![a, c]⟩, y⟩] h)
      (fun i j => if j < b then f i j else g i (j - b)) := fun i => by
  beta_reduce
  have hn : n = b + c := by simpa using h.2.2.symm
  have h1 := idx2_lt1 i
  by_cases hj : (i 1).val < b
  · rw [concatenate_pair_apply_left 1 x y h i rfl (ix2 (i 0) ⟨(i 1).val, hj⟩) (fun q => by
      match q with | ⟨0, _⟩ => rfl | ⟨1, _⟩ => rfl), if_pos hj]
    exact hx _
  · rw [concatenate_pair_apply_right 1 x y h i rfl rfl (ix2 (i 0) ⟨(i 1).val - b, by omega⟩) (fun q hq => by
      match q with | ⟨0, _⟩ => rfl | ⟨1, _⟩ => exact absurd rfl hq) (by
        show (i 1).val - b + b = (i 1).val; omega), if_neg hj]
    exact hy _

/-- Two arrays one above the other. -/
theorem Lifts2.above {x : FVec Ideal ⟨2, ![a, c]⟩ φ} {y : FVec Ideal ⟨2, ![b, c]⟩ φ} {f g : ℕ → ℕ → ℝ} {n : ℕ}
    (hx : Lifts2 x f) (hy : Lifts2 y g)
    (h : Shape.Concatenates [⟨2, ![a, c]⟩, ⟨2, ![b, c]⟩] ⟨2, ![n, c]⟩ 0) :
    Lifts2 (concatenate ⟨2, ![n, c]⟩ 0 [⟨⟨2, ![a, c]⟩, x⟩, ⟨⟨2, ![b, c]⟩, y⟩] h)
      (fun i j => if i < a then f i j else g (i - a) j) := fun i => by
  beta_reduce
  have hn : n = a + b := by simpa using h.2.2.symm
  have h1 := idx2_lt0 i
  by_cases hj : (i 0).val < a
  · rw [concatenate_pair_apply_left 0 x y h i rfl (ix2 ⟨(i 0).val, hj⟩ (i 1)) (fun q => by
      match q with | ⟨0, _⟩ => rfl | ⟨1, _⟩ => rfl), if_pos hj]
    exact hx _
  · rw [concatenate_pair_apply_right 0 x y h i rfl rfl (ix2 ⟨(i 0).val - a, by omega⟩ (i 1)) (fun q hq => by
      match q with | ⟨1, _⟩ => rfl | ⟨0, _⟩ => exact absurd rfl hq) (by
        show (i 0).val - a + a = (i 0).val; omega), if_neg hj]
    exact hy _

end two

section product
variable {m k n : ℕ}

/-- The product `x yᵀ`: both arrays are summed along their columns. -/
theorem Lifts2.mulNT {x : FVec Ideal ⟨2, ![m, k]⟩ φ} {y : FVec Ideal ⟨2, ![n, k]⟩ ψ} {f g : ℕ → ℕ → ℝ}
    (hx : Lifts2 x f) (hy : Lifts2 y g) (wf) :
    Lifts2 (matmul (⟨[1], [1], [0], [0], [], [], wf⟩ : DotDims ⟨2, ![m, k]⟩ ⟨2, ![n, k]⟩ ⟨2, ![m, n]⟩) none x y
      (constant ⟨2, ![m, n]⟩ .f32 0x00000000#32)) (fun i j => ∑ q ∈ Finset.range k, f i q * g j q) := fun i => by
  refine (Ideal.matmul_constant_zero_apply _ none x y i).trans ?_
  beta_reduce
  rw [← sum_fin k (fun q => f _ q * g _ q), coe_sum,
    ← Equiv.sum_comp (contrEquiv1 _ k rfl rfl).symm]
  refine Finset.sum_congr rfl fun q _ => ?_
  rw [hx, hy, ← EReal.coe_mul]
  rfl

/-- The product `xᵀ y`: both arrays are summed down their rows. -/
theorem Lifts2.mulTN {x : FVec Ideal ⟨2, ![k, m]⟩ φ} {y : FVec Ideal ⟨2, ![k, n]⟩ ψ} {f g : ℕ → ℕ → ℝ}
    (hx : Lifts2 x f) (hy : Lifts2 y g) (wf) :
    Lifts2 (matmul (⟨[0], [0], [1], [1], [], [], wf⟩ : DotDims ⟨2, ![k, m]⟩ ⟨2, ![k, n]⟩ ⟨2, ![m, n]⟩) none x y
      (constant ⟨2, ![m, n]⟩ .f32 0x00000000#32)) (fun i j => ∑ q ∈ Finset.range k, f q i * g q j) := fun i => by
  refine (Ideal.matmul_constant_zero_apply _ none x y i).trans ?_
  beta_reduce
  rw [← sum_fin k (fun q => f q _ * g q _), coe_sum,
    ← Equiv.sum_comp (contrEquiv1 _ k rfl rfl).symm]
  refine Finset.sum_congr rfl fun q _ => ?_
  rw [hx, hy, ← EReal.coe_mul]
  rfl

/-- The product `x y`. -/
theorem Lifts2.mulNN {x : FVec Ideal ⟨2, ![m, k]⟩ φ} {y : FVec Ideal ⟨2, ![k, n]⟩ ψ} {f g : ℕ → ℕ → ℝ}
    (hx : Lifts2 x f) (hy : Lifts2 y g) (wf) :
    Lifts2 (matmul (⟨[1], [0], [0], [1], [], [], wf⟩ : DotDims ⟨2, ![m, k]⟩ ⟨2, ![k, n]⟩ ⟨2, ![m, n]⟩) none x y
      (constant ⟨2, ![m, n]⟩ .f32 0x00000000#32)) (fun i j => ∑ q ∈ Finset.range k, f i q * g q j) := fun i => by
  refine (Ideal.matmul_constant_zero_apply _ none x y i).trans ?_
  beta_reduce
  rw [← sum_fin k (fun q => f _ q * g q _), coe_sum,
    ← Equiv.sum_comp (contrEquiv1 _ k rfl rfl).symm]
  refine Finset.sum_congr rfl fun q _ => ?_
  rw [hx, hy, ← EReal.coe_mul]
  rfl

end product

section three
variable {a b : ℕ}

/-- The one slab of a `1 × a × b` array as a two-axis array. -/
theorem Lifts3.slab {x : FVec Ideal ⟨3, ![1, a, b]⟩ φ} {f : ℕ → ℕ → ℕ → ℝ} (hx : Lifts3 x f)
    (h : (⟨3, ![1, a, b]⟩ : Shape).ShapeCasts ⟨2, ![a, b]⟩) :
    Lifts2 (shapeCast ⟨2, ![a, b]⟩ x h) (fun i j => f 0 i j) := fun i => by
  rw [shapeCast_apply x h i (ix3 0 (i 0) (i 1)) (by
    rw [Shape.rowMajor_val_three, Shape.rowMajor_val_two]
    show (0 * a + (i 0).val) * b + (i 1).val = (i 0).val * b + (i 1).val
    rw [Nat.zero_mul, Nat.zero_add])]
  exact hx _

/-- A two-axis array as the one slab of a `1 × a × b` array. -/
theorem Lifts2.asSlab {x : FVec Ideal ⟨2, ![a, b]⟩ φ} {f : ℕ → ℕ → ℝ} (hx : Lifts2 x f)
    (h : (⟨2, ![a, b]⟩ : Shape).ShapeCasts ⟨3, ![1, a, b]⟩) :
    Lifts3 (shapeCast ⟨3, ![1, a, b]⟩ x h) (fun _ i j => f i j) := fun i => by
  rw [shapeCast_apply x h i (ix2 (i 1) (i 2)) (by
    rw [Shape.rowMajor_val_three, Shape.rowMajor_val_two]
    have : (i 0).val = 0 := by have h0 : (i 0).val < 1 := (i 0).isLt; omega
    show (i 1).val * b + (i 2).val = ((i 0).val * a + (i 1).val) * b + (i 2).val
    rw [this, Nat.zero_mul, Nat.zero_add])]
  exact hx _

end three

end Cert.Lift

end
-- ==== Proof.Model.lean ====
/- The gradient of the mixer as real functions of the call's inputs: what both programs are shown to compute.

   A token is `t`, a column of the 512 wide gated half is `c`; `c / 64` is the head and `t / 128` the block of 128
   tokens that the spatial weights mix. Nothing here mentions a program. -/
module

public import Mathlib.Analysis.SpecialFunctions.Trigonometric.Basic
public import Mathlib.Analysis.SpecialFunctions.Trigonometric.DerivHyp
public import Mathlib.Tactic.Ring
public import Mathlib.Tactic.FieldSimp
public import Mathlib.Tactic.Positivity
public import Idealize.ShloMosaic.Init

@[expose] public section

noncomputable section

open scoped BigOperators

namespace Cert.Model

/-- The arguments of the call as real numbers: the cotangent of the mixer's output, the mixer's input, the scale and
    shift of the normalisation, the spatial weights and biases, and the sinks; and the positions of the tokens. -/
structure Inputs where
  dcat : ℕ → ℕ → ℝ
  h : ℕ → ℕ → ℝ
  g : ℕ → ℝ
  b : ℕ → ℝ
  w : ℕ → ℕ → ℕ → ℝ
  bs : ℕ → ℕ → ℝ
  sink : ℕ → ℝ
  pos : ℕ → ℤ

/-- The constant of the hyperbolic-tangent form of the gate, the number that single precision keeps for `√(2/π)`. -/
def geluC : ℝ := 13386282 / 16777216
/-- The cubic coefficient of the gate. -/
def geluA : ℝ := 8943 / 200000
/-- The number that single precision keeps for the normalisation's `1e-5`. -/
def eps : ℝ := 10995116 / 1099511627776

theorem eps_pos : 0 < eps := by unfold eps; norm_num

/-- The hyperbolic tangent in the gate. -/
def gTanh (x : ℝ) : ℝ := Real.tanh (geluC * (x + geluA * (x * x * x)))
/-- The gate. -/
def gelu (x : ℝ) : ℝ := x * (1 / 2 * (1 + gTanh x))
/-- The gate's derivative. -/
def dgelu (x : ℝ) : ℝ :=
  1 / 2 * (1 + gTanh x) + 1 / 2 * x * (1 - gTanh x * gTanh x) * (geluC * (1 + 3 * geluA * (x * x)))

namespace Inputs
variable (I : Inputs)

/-- The gated half that multiplies. -/
def u (t c : ℕ) : ℝ := I.h t c
/-- The gated half that is normalised and mixed. -/
def v (t c : ℕ) : ℝ := I.h t (512 + c)
/-- The mean of a token's gated values. -/
def mean (t : ℕ) : ℝ := (∑ c ∈ Finset.range 512, gelu (I.v t c)) / 512
/-- A gated value minus the mean. -/
def cen (t c : ℕ) : ℝ := gelu (I.v t c) - I.mean t
/-- The variance of a token's gated values, with the small constant added. -/
def vareps (t : ℕ) : ℝ := (∑ c ∈ Finset.range 512, I.cen t c * I.cen t c) / 512 + eps
/-- One over the standard deviation. -/
def rstd (t : ℕ) : ℝ := (Real.sqrt (I.vareps t))⁻¹
/-- The normalised value. -/
def vhat (t c : ℕ) : ℝ := I.cen t c * I.rstd t
/-- The normalised value, scaled and shifted. -/
def vp (t c : ℕ) : ℝ := I.vhat t c * I.g c + I.b c
/-- The spatial weights below and on the diagonal. -/
def wm (hh p s : ℕ) : ℝ := if s ≤ p then I.w hh p s else 0
/-- The mixed value of token `t`: the block's tokens weighted by the head's row, and the bias. -/
def mixed (t c : ℕ) : ℝ :=
  (∑ s ∈ Finset.range 128, I.vp (128 * (t / 128) + s) c * I.wm (c / 64) (t % 128) s) + I.bs (c / 64) (t % 128)
/-- The cotangent of the mixed value. -/
def dmix (t c : ℕ) : ℝ := I.dcat t c * gelu (I.u t c)
/-- The gradient of the multiplying half. -/
def du (t c : ℕ) : ℝ := I.dcat t c * I.mixed t c * dgelu (I.u t c)
/-- The cotangent of the scaled and shifted value. -/
def dvp (t c : ℕ) : ℝ :=
  ∑ p ∈ Finset.range 128, I.dmix (128 * (t / 128) + p) c * I.wm (c / 64) p (t % 128)
/-- The cotangent of the normalised value. -/
def dxh (t c : ℕ) : ℝ := I.dvp t c * I.g c
/-- The gradient of the normalised half. -/
def dv (t c : ℕ) : ℝ :=
  I.rstd t * (I.dxh t c - (∑ k ∈ Finset.range 512, I.dxh t k) / 512
    - I.vhat t c * ((∑ k ∈ Finset.range 512, I.dxh t k * I.vhat t k) / 512)) * dgelu (I.v t c)
/-- The gradient of the gated columns of the input: the multiplying half's, then the normalised half's. -/
def dhGate (t c : ℕ) : ℝ := if c < 512 then I.du t c else I.dv t (c - 512)
/-- The part of the biases' gradient that comes from block `n` of tokens. -/
def gbsBlock (n hh p : ℕ) : ℝ := ∑ d ∈ Finset.range 64, I.dmix (128 * n + p) (64 * hh + d)
/-- The part of the spatial weights' gradient that comes from block `n` of tokens, before the mask. -/
def gwsBlock (n hh p s : ℕ) : ℝ :=
  ∑ d ∈ Finset.range 64, I.dmix (128 * n + p) (64 * hh + d) * I.vp (128 * n + s) (64 * hh + d)
/-- The gradient of the spatial biases. -/
def gbs (hh p : ℕ) : ℝ := ∑ n ∈ Finset.range 32, I.gbsBlock n hh p
/-- The gradient of the spatial weights. -/
def gws (hh p s : ℕ) : ℝ := if s ≤ p then ∑ n ∈ Finset.range 32, I.gwsBlock n hh p s else 0
/-- The gradient of the normalisation's scale. -/
def dg (c : ℕ) : ℝ := ∑ t ∈ Finset.range 4096, I.dvp t c * I.vhat t c
/-- The gradient of the normalisation's shift. -/
def db (c : ℕ) : ℝ := ∑ t ∈ Finset.range 4096, I.dvp t c

theorem vareps_pos (t : ℕ) : 0 < I.vareps t := by
  unfold vareps
  have : 0 ≤ ∑ c ∈ Finset.range 512, I.cen t c * I.cen t c := Finset.sum_nonneg fun c _ => mul_self_nonneg _
  have := eps_pos
  positivity

theorem rstd_sq (t : ℕ) : I.rstd t * I.rstd t = 1 / I.vareps t := by
  unfold rstd
  rw [← mul_inv, Real.mul_self_sqrt (I.vareps_pos t).le, one_div]

/-- The values minus their mean add up to nothing. -/
theorem sum_cen (t : ℕ) : ∑ c ∈ Finset.range 512, I.cen t c = 0 := by
  simp only [cen, Finset.sum_sub_distrib, Finset.sum_const, Finset.card_range, nsmul_eq_mul]
  unfold mean
  push_cast
  ring

end Inputs

end Cert.Model

end
-- ==== Proof.Finite.lean ====
/- The real numbers that finite argument arrays hold.

   `Inputs.of` reads the eight arguments as the real inputs of `Model`; where every entry of the float arguments is
   finite, which is what the claim's precondition says, the arrays hold these real numbers. -/
module

public import proofs.«01_k».proof.Pre_finite
public import proofs.«01_k».proof.Proof.Lift
public import proofs.«01_k».proof.Proof.Model
public import Idealize.ShloMosaic.Lib.ReduceAll

@[expose] public section

set_option maxRecDepth 16384

noncomputable section

namespace Cert.Finite

open Idealize.ShloMosaic Idealize.ShloMosaic.ValueIdx Cert.Lift Cert.Model
open Cert.Pre_finite (S1x4096x1024 S1x4096x1792 S1x4096 S1x512 S1x8x128x128 S1x8x128 S1x8 S_)

/-- An array of which every entry is a real number. -/
def AllReal {s : Shape} {φ : FTy} (x : FVec Ideal s φ) : Prop := ∀ i, x i = ((EReal.toReal (x i) : ℝ) : EReal)

/-- The entry at natural coordinates, a real number; nothing outside the array. -/
def at2 {a b : ℕ} {φ : FTy} (x : FVec Ideal ⟨2, ![a, b]⟩ φ) (i j : ℕ) : ℝ :=
  if h : i < a ∧ j < b then EReal.toReal (x (ix2 ⟨i, h.1⟩ ⟨j, h.2⟩)) else 0

def at3 {a b c : ℕ} {φ : FTy} (x : FVec Ideal ⟨3, ![a, b, c]⟩ φ) (i j k : ℕ) : ℝ :=
  if h : i < a ∧ j < b ∧ k < c then EReal.toReal (x (ix3 ⟨i, h.1⟩ ⟨j, h.2.1⟩ ⟨k, h.2.2⟩)) else 0

def at4 {a b c d : ℕ} {φ : FTy} (x : FVec Ideal ⟨4, ![a, b, c, d]⟩ φ) (i j k l : ℕ) : ℝ :=
  if h : i < a ∧ j < b ∧ k < c ∧ l < d then
    EReal.toReal (x (ix4 ⟨i, h.1⟩ ⟨j, h.2.1⟩ ⟨k, h.2.2.1⟩ ⟨l, h.2.2.2⟩)) else 0

theorem AllReal.lifts2 {a b : ℕ} {φ : FTy} {x : FVec Ideal ⟨2, ![a, b]⟩ φ} (h : AllReal x) : Lifts2 x (at2 x) := by
  intro i
  have hi : (i 0).val < a ∧ (i 1).val < b := ⟨(i 0).isLt, (i 1).isLt⟩
  unfold at2
  rw [dif_pos hi, show ix2 ⟨(i 0).val, hi.1⟩ ⟨(i 1).val, hi.2⟩ = i from
    funext fun q => by match q with | ⟨0, _⟩ => rfl | ⟨1, _⟩ => rfl]
  exact h i

theorem AllReal.lifts3 {a b c : ℕ} {φ : FTy} {x : FVec Ideal ⟨3, ![a, b, c]⟩ φ} (h : AllReal x) :
    Lifts3 x (at3 x) := by
  intro i
  have hi : (i 0).val < a ∧ (i 1).val < b ∧ (i 2).val < c := ⟨(i 0).isLt, (i 1).isLt, (i 2).isLt⟩
  unfold at3
  rw [dif_pos hi, show ix3 ⟨(i 0).val, hi.1⟩ ⟨(i 1).val, hi.2.1⟩ ⟨(i 2).val, hi.2.2⟩ = i from
    funext fun q => by match q with | ⟨0, _⟩ => rfl | ⟨1, _⟩ => rfl | ⟨2, _⟩ => rfl]
  exact h i

/-- The entry at four coordinates. -/
theorem AllReal.at_four {a b c d : ℕ} {φ : FTy} {x : FVec Ideal ⟨4, ![a, b, c, d]⟩ φ} (h : AllReal x) (i : Fin a)
    (j : Fin b) (k : Fin c) (l : Fin d) : x (ix4 i j k l) = ((at4 x i.val j.val k.val l.val : ℝ) : EReal) := by
  unfold at4
  rw [dif_pos ⟨i.isLt, j.isLt, k.isLt, l.isLt⟩]
  exact h _

/-- The real inputs that the arguments hold. -/
def inputs (a0 : FVec Ideal S1x4096x1024 .f32) (a1 : FVec Ideal S1x4096x1792 .f32) (a2 : IVec S1x4096 32)
    (a3 a4 : FVec Ideal S1x512 .f32) (a5 : FVec Ideal S1x8x128x128 .f32) (a6 : FVec Ideal S1x8x128 .f32)
    (a7 : FVec Ideal S1x8 .f32) : Inputs where
  dcat := at3 a0 0
  h := at3 a1 0
  g := at2 a3 0
  b := at2 a4 0
  w := at4 a5 0
  bs := at3 a6 0
  sink := at2 a7 0
  pos t := if h : t < 4096 then (a2 (ix2 0 ⟨t, h⟩)).toInt else 0

/-- An entry below plus infinity in size is a real number. -/
theorem real_of_abs_lt {x : EReal} (h : Ideal.cmp .olt (max x (-x)) ⊤ = 1#1) : x = ((EReal.toReal x : ℝ) : EReal) := by
  have hlt : max x (-x) < ⊤ := by
    by_contra hc
    simp [Ideal.cmp, hc] at h
  refine (EReal.coe_toReal ?_ ?_).symm
  · rintro rfl; simp at hlt
  · rintro rfl; simp at hlt

theorem inf_word : (Ideal.ofBits .f32 0x7F800000#32 : EReal) = ⊤ := by simp [Ideal.ofBits, Ideal.ieee]

instance : Subsingleton S_.Idx := ⟨fun a b => funext fun q => q.elim0⟩

theorem and_eq_one {a b : BitVec 1} (h : a &&& b = 1#1) : a = 1#1 ∧ b = 1#1 := by
  revert h; revert a b; decide

/-- One argument's part of the precondition: every entry of the array is a real number. -/
theorem allReal_of_reduce {s : Shape} {axes} {x : FVec Ideal s .f32}
    (hb : S_.BroadcastsInDim s (![] : Fin 0 → Fin s.rank)) (hr : s.ReducesTo axes S_) (hu : 0 < S_.numel)
    (j : S_.Idx)
    (e : Host.reduce IntOp.andi (cmpf .olt (Host.absf x) (broadcastInDim s ![] hb (constant S_ .f32 0x7F800000#32)))
      (constantI S_ 1 1#1) hr hu j = 1#1) : AllReal x := fun i => by
  have := Host.reduce_andi_all _ _ hr hu j e i
  have h2 : Ideal.cmp .olt (max (x i) (-(x i))) (Ideal.ofBits .f32 0x7F800000#32) = 1#1 := this
  rw [inf_word] at h2
  exact real_of_abs_lt h2

variable [Cert.Pre_finite.Facts]

/-- The precondition: the entries of every float argument are real numbers. -/
theorem allReal_of_pre {a0 : FVec Ideal S1x4096x1024 .f32} {a1 : FVec Ideal S1x4096x1792 .f32} {a2 : IVec S1x4096 32}
    {a3 a4 : FVec Ideal S1x512 .f32} {a5 : FVec Ideal S1x8x128x128 .f32} {a6 : FVec Ideal S1x8x128 .f32}
    {a7 : FVec Ideal S1x8 .f32} (h : Cert.Pre_finite.fn a0 a1 a2 a3 a4 a5 a6 a7 = fun _ => 1#1) :
    AllReal a0 ∧ AllReal a1 ∧ AllReal a3 ∧ AllReal a4 ∧ AllReal a5 ∧ AllReal a6 ∧ AllReal a7 := by
  have h0 := congrFun h (fun q => q.elim0)
  dsimp only [Cert.Pre_finite.fn, Cert.Pre_finite.fn_part1] at h0
  obtain ⟨h0, h7⟩ := and_eq_one h0
  obtain ⟨h0, h6⟩ := and_eq_one h0
  obtain ⟨h0, h5⟩ := and_eq_one h0
  obtain ⟨h0, h4⟩ := and_eq_one h0
  obtain ⟨h0, h3⟩ := and_eq_one h0
  obtain ⟨h0, h1⟩ := and_eq_one h0
  clear h
  refine ⟨?_, ?_, ?_, ?_, ?_, ?_, ?_⟩
  · exact allReal_of_reduce (x := a0) _ _ _ _ h0
  · exact allReal_of_reduce (x := a1) _ _ _ _ h1
  · exact allReal_of_reduce (x := a3) _ _ _ _ h3
  · exact allReal_of_reduce (x := a4) _ _ _ _ h4
  · exact allReal_of_reduce (x := a5) _ _ _ _ h5
  · exact allReal_of_reduce (x := a6) _ _ _ _ h6
  · exact allReal_of_reduce (x := a7) _ _ _ _ h7

end Cert.Finite

end
-- ==== Proof.Entry.lean ====
/- What the call finds when it starts: the arrays its arguments are prepared into, and the blocks of one grid point.

   The cotangent and the mixer's input arrive with the tokens along the columns, the spatial weights and biases and the
   normalisation's scale and shift as they are. Grid point `t` reads the columns `256 t` to `256 t + 255`. -/
module

public import proofs.«01_k».proof.Proof.Gen.KernelIdeal.Frame
public import Idealize.ShloMosaic.Lib.Pipeline.ValueKit
public import proofs.«01_k».proof.Proof.HostArrays
public import proofs.«01_k».proof.Proof.Finite

@[expose] public section

set_option maxRecDepth 16384

noncomputable section

namespace Cert.Entry

open Idealize.ShloMosaic Idealize.ShloMosaic.TcCoe Idealize.SL.Sem Idealize.ShloMosaic.Pipeline
open Cert.KernelIdeal Cert.KernelIdeal.Gen Cert.Lift Cert.Model Cert.Finite

variable (m : (ℓ : Loc nD τ sig) → Buf (Elt Ideal) ℓ)

/-- The real inputs that the arguments of core `c` hold. -/
def inp (c : Dev nD) : Inputs :=
  inputs (m (c.tc.loc main_arg0)) (m (c.tc.loc main_arg1)) (m (c.tc.loc main_arg2)) (m (c.tc.loc main_arg3))
    (m (c.tc.loc main_arg4)) (m (c.tc.loc main_arg5)) (m (c.tc.loc main_arg6)) (m (c.tc.loc main_arg7))

/-- Every float argument of core `c` is an array of real numbers. -/
structure Real (c : Dev nD) : Prop where
  a0 : AllReal (φ := .f32) (s := S1x4096x1024) (m (c.tc.loc main_arg0))
  a1 : AllReal (φ := .f32) (s := S1x4096x1792) (m (c.tc.loc main_arg1))
  a3 : AllReal (φ := .f32) (s := S1x512) (m (c.tc.loc main_arg3))
  a4 : AllReal (φ := .f32) (s := S1x512) (m (c.tc.loc main_arg4))
  a5 : AllReal (φ := .f32) (s := S1x8x128x128) (m (c.tc.loc main_arg5))
  a6 : AllReal (φ := .f32) (s := S1x8x128) (m (c.tc.loc main_arg6))
  a7 : AllReal (φ := .f32) (s := S1x8) (m (c.tc.loc main_arg7))

/-- One row as a column. -/
theorem column {a : ℕ} {x : FVec Ideal ⟨2, ![1, a]⟩ .f32} {f : ℕ → ℕ → ℝ} (hx : Lifts2 x f)
    (e : (⟨2, ![1, a]⟩ : Shape).ShapeCasts ⟨2, ![a, 1]⟩) :
    Lifts2 (shapeCast ⟨2, ![a, 1]⟩ x e) (fun i _ => f 0 i) := fun i => by
  rw [shapeCast_apply x e i (ValueIdx.ix2 0 (i 0)) (by
    rw [Shape.rowMajor_val_two, Shape.rowMajor_val_two]
    have : (i 1).val < 1 := ValueIdx.idx2_lt1 i
    show 0 * a + (i 0).val = (i 0).val * 1 + (i 1).val
    omega)]
  exact hx _

section values
variable {m} {c : Dev nD} (h : Real m c)
include h

/-- The cotangent, one token per column. -/
theorem dcat_array : Lifts2 (φ := .f32) (V m c main_v1 : FVec Ideal S1024x4096 .f32) (fun i j => (inp m c).dcat j i) := by
  rw [V_dcat]
  exact ((h.a0.lifts3).slab _).transpose _

/-- The mixer's input, one token per column. -/
theorem h_array : Lifts2 (φ := .f32) (V m c main_v3 : FVec Ideal S1792x4096 .f32) (fun i j => (inp m c).h j i) := by
  rw [V_h]
  exact ((h.a1.lifts3).slab _).transpose _

theorem bs_array : Lifts2 (φ := .f32) (V m c main_v15 : FVec Ideal S8x128 .f32) (fun i j => (inp m c).bs i j) := by
  rw [V_bs]
  exact (h.a6.lifts3).slab _

theorem g_array : Lifts2 (φ := .f32) (V m c main_v17 : FVec Ideal S512x1 .f32) (fun i _ => (inp m c).g i) := by
  rw [V_g]
  exact column (h.a3.lifts2) _

theorem b_array : Lifts2 (φ := .f32) (V m c main_v18 : FVec Ideal S512x1 .f32) (fun i _ => (inp m c).b i) := by
  rw [V_b]
  exact column (h.a4.lifts2) _

theorem w_array : Lifts3 (φ := .f32) (V m c main_v14 : FVec Ideal S8x128x128 .f32) (fun i j k => (inp m c).w i j k) := by
  rw [V_w]
  intro i
  rw [shapeCast_apply _ shapeCasts_S1x8x128x128_S8x128x128 i (ValueIdx.ix4 0 (i 0) (i 1) (i 2)) (by
    rw [Shape.rowMajor_val_three, Shape.rowMajor_val_four]
    show ((0 * 8 + (i 0).val) * 128 + (i 1).val) * 128 + (i 2).val = ((i 0).val * 128 + (i 1).val) * 128 + (i 2).val
    omega)]
  exact h.a5.at_four 0 (i 0) (i 1) (i 2)

end values

section blocks
variable {m} {c : Dev nD} (h : Real m c) (t : Fin cfg0.N)
include h

/-- The cotangent's block at a grid point. -/
theorem dcat_block : Lifts2 (φ := .f32) (iblk m c 1 t : FVec Ideal S1024x256 .f32)
    (fun i j => (inp m c).dcat (256 * t.val + j) i) := fun i => by
  show V m c main_v1 ((win0_1.rect t).emb i) = _
  refine (dcat_array h _).trans ?_
  beta_reduce
  rw [Window.rect_emb_val win0_1 t i 0, Window.rect_emb_val win0_1 t i 1,
    (by decide +kernel : ∀ t : Fin grid0.N, win0_1.index t = ![0, t.val]) t]
  show (((inp m c).dcat (t.val * 256 + (i 1).val) (0 * 1024 + (i 0).val) : ℝ) : EReal) = _
  rw [Nat.zero_mul, Nat.zero_add, Nat.mul_comm]

/-- The multiplying half's block at a grid point. -/
theorem u_block : Lifts2 (φ := .f32) (X0_2 m c t : FVec Ideal S512x256 .f32)
    (fun i j => (inp m c).u (256 * t.val + j) i) := fun i => by
  unfold X0_2 Pipeline.Window.fill
  rw [dif_pos (moved0_2 t i)]
  show V m c main_v3 ((win0_2.rect t).emb _) = _
  refine (h_array h _).trans ?_
  beta_reduce
  rw [Window.rect_emb_val win0_2 t _ 0, Window.rect_emb_val win0_2 t _ 1,
    (by decide +kernel : ∀ t : Fin grid0.N, win0_2.index t = ![0, t.val]) t]
  show (((inp m c).h (t.val * 256 + (i 1).val) (0 * 512 + (i 0).val) : ℝ) : EReal) = _
  rw [Nat.zero_mul, Nat.zero_add, Nat.mul_comm]
  rfl

/-- The normalised half's block at a grid point. -/
theorem v_block : Lifts2 (φ := .f32) (X0_3 m c t : FVec Ideal S512x256 .f32)
    (fun i j => (inp m c).v (256 * t.val + j) i) := fun i => by
  unfold X0_3 Pipeline.Window.fill
  rw [dif_pos (moved0_3 t i)]
  show V m c main_v3 ((win0_3.rect t).emb _) = _
  refine (h_array h _).trans ?_
  beta_reduce
  rw [Window.rect_emb_val win0_3 t _ 0, Window.rect_emb_val win0_3 t _ 1,
    (by decide +kernel : ∀ t : Fin grid0.N, win0_3.index t = ![1, t.val]) t]
  show (((inp m c).h (t.val * 256 + (i 1).val) (1 * 512 + (i 0).val) : ℝ) : EReal) = _
  rw [Nat.one_mul, Nat.mul_comm]
  rfl

theorem w_block : Lifts3 (φ := .f32) (iblk m c 11 t : FVec Ideal S8x128x128 .f32) (fun i j k => (inp m c).w i j k) := fun i => by
  show V m c main_v14 ((win0_11.rect t).emb i) = _
  refine (w_array h _).trans ?_
  beta_reduce
  rw [Window.rect_emb_val win0_11 t i 0, Window.rect_emb_val win0_11 t i 1, Window.rect_emb_val win0_11 t i 2,
    (by decide +kernel : ∀ t : Fin grid0.N, win0_11.index t = ![0, 0, 0]) t]
  show (((inp m c).w (0 * 8 + (i 0).val) (0 * 128 + (i 1).val) (0 * 128 + (i 2).val) : ℝ) : EReal) = _
  simp only [Nat.zero_mul, Nat.zero_add]

theorem bs_block : Lifts2 (φ := .f32) (iblk m c 12 t : FVec Ideal S8x128 .f32) (fun i j => (inp m c).bs i j) := fun i => by
  show V m c main_v15 ((win0_12.rect t).emb i) = _
  refine (bs_array h _).trans ?_
  beta_reduce
  rw [Window.rect_emb_val win0_12 t i 0, Window.rect_emb_val win0_12 t i 1,
    (by decide +kernel : ∀ t : Fin grid0.N, win0_12.index t = ![0, 0]) t]
  show (((inp m c).bs (0 * 8 + (i 0).val) (0 * 128 + (i 1).val) : ℝ) : EReal) = _
  simp only [Nat.zero_mul, Nat.zero_add]

theorem g_block : Lifts2 (φ := .f32) (iblk m c 13 t : FVec Ideal S512x1 .f32) (fun i _ => (inp m c).g i) := fun i => by
  show V m c main_v17 ((win0_13.rect t).emb i) = _
  refine (g_array h _).trans ?_
  beta_reduce
  rw [Window.rect_emb_val win0_13 t i 0,
    (by decide +kernel : ∀ t : Fin grid0.N, win0_13.index t = ![0, 0]) t]
  show (((inp m c).g (0 * 512 + (i 0).val) : ℝ) : EReal) = _
  simp only [Nat.zero_mul, Nat.zero_add]

theorem b_block : Lifts2 (φ := .f32) (iblk m c 14 t : FVec Ideal S512x1 .f32) (fun i _ => (inp m c).b i) := fun i => by
  show V m c main_v18 ((win0_14.rect t).emb i) = _
  refine (b_array h _).trans ?_
  beta_reduce
  rw [Window.rect_emb_val win0_14 t i 0,
    (by decide +kernel : ∀ t : Fin grid0.N, win0_14.index t = ![0, 0]) t]
  show (((inp m c).b (0 * 512 + (i 0).val) : ℝ) : EReal) = _
  simp only [Nat.zero_mul, Nat.zero_add]

end blocks

end Cert.Entry

end
-- ==== Proof.Block.lean ====
/- What one grid point computes of the gated half, from real inputs.

   A grid point holds 256 tokens along the columns and the 512 gated columns along the rows; token `j` of the point is
   token `T + j` of the sequence. The lemmas follow the body: the gate and its derivative, the normalisation, the eight
   heads of each of the two blocks of 128 tokens, and the normalisation's gradient. -/
module

public import proofs.«01_k».proof.Proof.Gen.KernelIdeal.Skeleton
public import proofs.«01_k».proof.Proof.Lift
public import proofs.«01_k».proof.Proof.Model
public import Idealize.ShloMosaic.PureOps.IdealRules
public import Idealize.ShloMosaic.Lib.WordCmp

@[expose] public section

set_option maxRecDepth 16384

noncomputable section

open scoped BigOperators

namespace Cert.Block

open Idealize.ShloMosaic Cert.KernelIdeal Cert.KernelIdeal.Gen Cert.Lift Cert.Model

section words

theorem half_word : (Scalar.ofBits .f32 0x3F000000#32 : Ideal .f32) = ((1 / 2 : ℝ) : EReal) := by
  show Ideal.ofBits _ _ = _
  simp [Ideal.ofBits, Ideal.ieee, -EReal.coe_mul]; norm_num

theorem one_word : (Scalar.ofBits .f32 0x3F800000#32 : Ideal .f32) = ((1 : ℝ) : EReal) := by
  show Ideal.ofBits _ _ = _
  simp [Ideal.ofBits, Ideal.ieee, -EReal.coe_mul]; norm_num

theorem width_word : (Scalar.ofBits .f32 0x44000000#32 : Ideal .f32) = ((512 : ℝ) : EReal) := by
  show Ideal.ofBits _ _ = _
  simp [Ideal.ofBits, Ideal.ieee, -EReal.coe_mul]; norm_num

theorem geluC_word : (Scalar.ofBits .f32 0x3F4C422A#32 : Ideal .f32) = ((geluC : ℝ) : EReal) := by
  show Ideal.ofBits _ _ = _
  simp [Ideal.ofBits, Ideal.ieee, -EReal.coe_mul, geluC]; norm_num

theorem eps_word : (Scalar.ofBits .f32 0x3727C5AC#32 : Ideal .f32) = ((eps : ℝ) : EReal) := by
  show Ideal.ofBits _ _ = _
  simp [Ideal.ofBits, Ideal.ieee, -EReal.coe_mul, eps]; norm_num

theorem geluA_named : (Named.named κ "gelu_a" 0x3D372713#32 : Ideal .f32) = ((geluA : ℝ) : EReal) :=
  IdealRules.named_const.ideal_named_scalar _ _ _ _ rfl

theorem gelu3A_named : (Named.named κ "gelu_3a" 0x3E095D4F#32 : Ideal .f32) = ((3 * geluA : ℝ) : EReal) := by
  refine (IdealRules.named_const.ideal_named_scalar _ _ _ _ rfl).trans ?_
  norm_num [geluA]

end words

section gate
variable {x : FVec Ideal S512x256 .f32} {f : ℕ → ℕ → ℝ}

/-- The first gated half, read from its block. -/
theorem pay32_lifts (hx : Lifts2 x f) : Lifts2 (k0_pay32 (F := Ideal) x) f := hx.cast _

theorem pay33_lifts (hx : Lifts2 x f) : Lifts2 (k0_pay33 (F := Ideal) x) (fun i j => f i j * f i j) :=
  (pay32_lifts hx).mul (pay32_lifts hx)

theorem pay34_lifts (hx : Lifts2 x f) : Lifts2 (k0_pay34 (F := Ideal) x) (fun i j => gTanh (f i j)) :=
  ((Lifts2.splat geluC_word).mul ((pay32_lifts hx).add ((Lifts2.splat geluA_named).mul
    ((pay33_lifts hx).mul (pay32_lifts hx))))).tanh

theorem pay35_lifts (hx : Lifts2 x f) :
    Lifts2 (k0_pay35 (F := Ideal) x) (fun i j => 1 / 2 * (1 + gTanh (f i j))) :=
  (Lifts2.splat half_word).mul ((Lifts2.splat one_word).add (pay34_lifts hx))

/-- The gate of the multiplying half. -/
theorem pay36_lifts (hx : Lifts2 x f) : Lifts2 (k0_pay36 (F := Ideal) x) (fun i j => gelu (f i j)) :=
  (pay32_lifts hx).mul (pay35_lifts hx)

/-- The derivative of the gate of the multiplying half. -/
theorem pay37_lifts (hx : Lifts2 x f) : Lifts2 (k0_pay37 (F := Ideal) x) (fun i j => dgelu (f i j)) :=
  (pay35_lifts hx).add ((((Lifts2.splat half_word).mul (pay32_lifts hx)).mul
    ((Lifts2.splat one_word).sub ((pay34_lifts hx).mul (pay34_lifts hx)))).mul
    ((Lifts2.splat geluC_word).mul ((Lifts2.splat one_word).add
      ((Lifts2.splat gelu3A_named).mul (pay33_lifts hx)))))

/-- The derivative of the gate of the normalised half. -/
theorem pay42_lifts (hx : Lifts2 x f) : Lifts2 (k0_pay42 (F := Ideal) x) (fun i j => dgelu (f i j)) :=
  pay37_lifts hx

theorem gate_v_lifts (hx : Lifts2 x f) :
    Lifts2 (mulf (k0_pay38 (F := Ideal) x) (k0_pay41 (F := Ideal) x)) (fun i j => gelu (f i j)) :=
  pay36_lifts hx

end gate

section norm
variable (I : Inputs) (T : ℕ)
variable {x : FVec Ideal S512x256 .f32} {sc sh : FVec Ideal S512x1 .f32}

/-- The gated value minus its token's mean. -/
theorem pay44_lifts (hx : Lifts2 x (fun c j => I.v (T + j) c)) :
    Lifts2 (k0_pay44 (F := Ideal) x) (fun c j => I.cen (T + j) c) :=
  (gate_v_lifts hx).sub (((Lifts2.sumRows (gate_v_lifts hx) _ _ _ _).divSplat width_word (by norm_num)).rows
    (by norm_num) _)

/-- One over the standard deviation of a token. -/
theorem pay45_lifts (hx : Lifts2 x (fun c j => I.v (T + j) c)) :
    Lifts2 (k0_pay45 (F := Ideal) x) (fun _ j => I.rstd (T + j)) :=
  Lifts2.rsqrt (f := fun _ j => I.vareps (T + j)) (((Lifts2.sumRows ((pay44_lifts I T hx).mul (pay44_lifts I T hx)) _ _ _ _).divSplat width_word
    (by norm_num)).add (Lifts2.splat eps_word)) (fun _ j => I.vareps_pos _)

/-- The normalised value. -/
theorem pay46_lifts (hx : Lifts2 x (fun c j => I.v (T + j) c)) :
    Lifts2 (k0_pay46 (k0_pay44 (F := Ideal) x) (k0_pay45 (F := Ideal) x)) (fun c j => I.vhat (T + j) c) :=
  (pay44_lifts I T hx).mul ((pay45_lifts I T hx).rows (by norm_num) _)

/-- The normalised value, scaled and shifted. -/
theorem pay47_lifts (hx : Lifts2 x (fun c j => I.v (T + j) c)) (hg : Lifts2 sc (fun c _ => I.g c))
    (hb : Lifts2 sh (fun c _ => I.b c)) :
    Lifts2 (k0_pay47 (k0_pay31 (F := Ideal) sc) (k0_pay43 (F := Ideal) sh) (k0_pay44 (F := Ideal) x)
      (k0_pay45 (F := Ideal) x)) (fun c j => I.vp (T + j) c) :=
  Lifts2.trunc (((pay46_lifts I T hx).mul ((hg.cast _).cols (by norm_num) _)).add
    ((hb.cast _).cols (by norm_num) _)) _

/-- The cotangent of the mixed value. -/
theorem pay49_lifts {da u : FVec Ideal S512x256 .f32} (hd : Lifts2 da (fun c j => I.dcat (T + j) c))
    (hu : Lifts2 u (fun c j => I.u (T + j) c)) :
    Lifts2 (k0_pay49 (k0_pay36 (F := Ideal) u) da) (fun c j => I.dmix (T + j) c) :=
  (hd.cast _).mul (pay36_lifts hu)

end norm

section heads
variable (I : Inputs) (n : ℕ)

/-- The multiplying half's gradient of one head `hd` and one block `b` of tokens. -/
theorem du_piece {da uag : FVec Ideal S512x256 .f32} {vp : FVec Ideal S512x256 .bf16}
    {wm : FVec Ideal S1x128x128 .bf16} {bs : FVec Ideal S1x128 .f32} (r s hd b : ℕ) (hr : r = 64 * hd)
    (hs : s = 128 * b)
    (hda : Lifts2 da (fun c j => I.dcat (256 * n + j) c))
    (hvp : Lifts2 vp (fun c j => I.vp (256 * n + j) c))
    (hug : Lifts2 uag (fun c j => dgelu (I.u (256 * n + j) c)))
    (hwm : Lifts3 wm (fun _ p q => I.wm hd p q)) (hbs : Lifts2 bs (fun _ p => I.bs hd p))
    (h : S512x256.Slices ![r, s] S64x128) (c1 c2 c3 c4) :
    Lifts2 (truncf .bf16 (mulf (mulf (extractStridedSlice S64x128 ![r, s] da h)
      (addf (matmul dot_S64x128_S128x128_S64x128_1_1_0_0_n_n none (extractStridedSlice S64x128 ![r, s] vp h)
        (shapeCast S128x128 wm c1) (constant S64x128 .f32 0x00000000#32))
        (broadcastTo S64x128 (shapeCast S1x128 bs c2) c3)))
      (extractStridedSlice S64x128 ![r, s] uag h)) c4) (fun i j => I.du (256 * n + (s + j)) (r + i)) := by
  refine Lifts2.congr (((((hda.slice r s h).mul (((hvp.slice r s h).mulNT (hwm.slab c1) _).add
    ((hbs.cast c2).rows (by norm_num) c3))).mul (hug.slice r s h)).trunc c4)) fun i j hi hj => ?_
  subst hr hs
  have e1 : (64 * hd + i) / 64 = hd := by omega
  have e2 : (256 * n + (128 * b + j)) / 128 = 2 * n + b := by omega
  have e3 : (256 * n + (128 * b + j)) % 128 = j := by omega
  unfold Inputs.du Inputs.mixed
  rw [e1, e2, e3]
  congr 3
  refine Finset.sum_congr rfl fun q _ => ?_
  rw [show 256 * n + (128 * b + q) = 128 * (2 * n + b) + q by ring]

/-- One head's cotangent of the mixed value, in one block of tokens. -/
theorem dmix_piece {dm : FVec Ideal S512x256 .f32} (r s : ℕ)
    (hdm : Lifts2 dm (fun c j => I.dmix (256 * n + j) c)) (h : S512x256.Slices ![r, s] S64x128) :
    Lifts2 (extractStridedSlice S64x128 ![r, s] dm h) (fun i j => I.dmix (256 * n + (s + j)) (r + i)) :=
  hdm.slice r s h

/-- One head's row of the biases' gradient grows by what one block of tokens adds. -/
theorem gbs_piece {dm : FVec Ideal S512x256 .f32} {acc : FVec Ideal S1x128 .f32} {f : ℕ → ℝ} (r s hd b : ℕ)
    (hr : r = 64 * hd) (hs : s = 128 * b)
    (hdm : Lifts2 dm (fun c j => I.dmix (256 * n + j) c)) (ha : Lifts2 acc (fun _ p => f p))
    (h : S512x256.Slices ![r, s] S64x128) (c1 c2 c3 c4 c5) :
    Lifts2 (addf (shapeCast S1x128 acc c1) (shapeCast S1x128 (multiReduction .add [0] S128
      (extractStridedSlice S64x128 ![r, s] dm h) 0x00000000#32 c2 c3 c4) c5))
      (fun _ p => f p + I.gbsBlock (2 * n + b) hd p) := by
  refine Lifts2.congr ((ha.cast c1).add (Lifts2.sumRows (hdm.slice r s h) c2 c3 c4 c5)) fun i j hi hj => ?_
  subst hr hs
  unfold Inputs.gbsBlock
  congr 1
  refine Finset.sum_congr rfl fun q _ => ?_
  rw [show 256 * n + (128 * b + j) = 128 * (2 * n + b) + j by ring]

/-- One head's slab of the spatial weights' gradient grows by what one block of tokens adds. -/
theorem gws_piece {dm : FVec Ideal S512x256 .f32} {vp : FVec Ideal S512x256 .bf16}
    {acc : FVec Ideal S1x128x128 .f32} {f : ℕ → ℕ → ℝ} (r s hd b : ℕ)
    (hr : r = 64 * hd) (hs : s = 128 * b)
    (hdm : Lifts2 dm (fun c j => I.dmix (256 * n + j) c)) (hvp : Lifts2 vp (fun c j => I.vp (256 * n + j) c))
    (ha : Lifts3 acc (fun _ p q => f p q))
    (h : S512x256.Slices ![r, s] S64x128) (c1 c2 c3) :
    Lifts3 (shapeCast S1x128x128 (addf (shapeCast S128x128 acc c1)
      (matmul dot_S64x128_S64x128_S128x128_0_0_1_1_n_n none
        (truncf .bf16 (extractStridedSlice S64x128 ![r, s] dm h) c2)
        (extractStridedSlice S64x128 ![r, s] vp h) (constant S128x128 .f32 0x00000000#32))) c3)
      (fun _ p q => f p q + I.gwsBlock (2 * n + b) hd p q) := by
  refine Lifts2.asSlab (Lifts2.congr ((ha.slab c1).add
    (((hdm.slice r s h).trunc c2).mulTN (hvp.slice r s h) _)) fun i j hi hj => ?_) c3
  subst hr hs
  unfold Inputs.gwsBlock
  congr 1
  refine Finset.sum_congr rfl fun q _ => ?_
  rw [show 256 * n + (128 * b + j) = 128 * (2 * n + b) + j by ring,
    show 256 * n + (128 * b + i) = 128 * (2 * n + b) + i by ring]

/-- One head's row of the biases' gradient after both blocks of tokens. -/
theorem gbs_pair {dm : FVec Ideal S512x256 .f32} {acc : FVec Ideal S1x128 .f32} {f : ℕ → ℝ} (r hd : ℕ) (hr : r = 64 * hd)
    (hdm : Lifts2 dm (fun c j => I.dmix (256 * n + j) c)) (ha : Lifts2 acc (fun _ p => f p))
    (h : S512x256.Slices ![r, 0] S64x128) (h' : S512x256.Slices ![r, 128] S64x128) (c1 c2 c3 c4 c5) :
    Lifts2 (addf (shapeCast S1x128 (addf (shapeCast S1x128 acc c1) (shapeCast S1x128 (multiReduction .add [0] S128
        (extractStridedSlice S64x128 ![r, 0] dm h) 0x00000000#32 c2 c3 c4) c5)) c1)
      (shapeCast S1x128 (multiReduction .add [0] S128
        (extractStridedSlice S64x128 ![r, 128] dm h') 0x00000000#32 c2 c3 c4) c5))
      (fun _ p => f p + I.gbsBlock (2 * n + 0) hd p + I.gbsBlock (2 * n + 1) hd p) :=
  gbs_piece I n r 128 hd 1 hr rfl hdm (gbs_piece I n r 0 hd 0 hr rfl hdm ha h c1 c2 c3 c4 c5) h' c1 c2 c3 c4 c5

/-- One head's slab of the spatial weights' gradient after both blocks of tokens. -/
theorem gws_pair {dm : FVec Ideal S512x256 .f32} {vp : FVec Ideal S512x256 .bf16}
    {acc : FVec Ideal S1x128x128 .f32} {f : ℕ → ℕ → ℝ} (r hd : ℕ) (hr : r = 64 * hd)
    (hdm : Lifts2 dm (fun c j => I.dmix (256 * n + j) c)) (hvp : Lifts2 vp (fun c j => I.vp (256 * n + j) c))
    (ha : Lifts3 acc (fun _ p q => f p q))
    (h : S512x256.Slices ![r, 0] S64x128) (h' : S512x256.Slices ![r, 128] S64x128) (c1 c2 c3) :
    Lifts3 (shapeCast S1x128x128 (addf (shapeCast S128x128 (shapeCast S1x128x128 (addf (shapeCast S128x128 acc c1)
        (matmul dot_S64x128_S64x128_S128x128_0_0_1_1_n_n none
          (truncf .bf16 (extractStridedSlice S64x128 ![r, 0] dm h) c2)
          (extractStridedSlice S64x128 ![r, 0] vp h) (constant S128x128 .f32 0x00000000#32))) c3) c1)
      (matmul dot_S64x128_S64x128_S128x128_0_0_1_1_n_n none
        (truncf .bf16 (extractStridedSlice S64x128 ![r, 128] dm h') c2)
        (extractStridedSlice S64x128 ![r, 128] vp h') (constant S128x128 .f32 0x00000000#32))) c3)
      (fun _ p q => f p q + I.gwsBlock (2 * n + 0) hd p q + I.gwsBlock (2 * n + 1) hd p q) :=
  gws_piece I n r 128 hd 1 hr rfl hdm hvp (gws_piece I n r 0 hd 0 hr rfl hdm hvp ha h c1 c2 c3) h' c1 c2 c3

/-- A slab with what lies above its diagonal put to nothing. -/
theorem masked_slab {w : FVec Ideal S1x128x128 .f32} {f : ℕ → ℕ → ℝ} (hw : Lifts3 w (fun _ p q => f p q))
    (i0 i1 c1 c2 c3) :
    Lifts3 (shapeCast S1x128x128 (truncf .bf16 (select
        (cmpi .sge (iota .tc S128x128 32 [0] i0) (iota .tc S128x128 32 [1] i1)) (shapeCast S128x128 w c1)
        (broadcast S128x128 (Scalar.ofBits (F := Ideal) .f32 0x00000000#32))) c2) c3)
      (fun _ p q => if q ≤ p then f p q else 0) := by
  refine Lifts2.asSlab (Lifts2.trunc (fun i => ?_) c2) c3
  have h0 : (i 0).val < 128 := (i 0).isLt
  have h1 : (i 1).val < 128 := (i 1).isLt
  have e : cmpi .sge (iota .tc S128x128 32 [0] i0) (iota .tc S128x128 32 [1] i1) i
      = BitVec.ofBool (decide ((i 1).val ≤ (i 0).val)) := by
    refine Eq.trans ?_ (WordCmp.cmpi_sge_ofNat (w := 32) (by omega) (by omega))
    show IntOp.cmpi .sge (BitVec.ofNat 32 (0 * 128 + (i 0).val)) (BitVec.ofNat 32 (0 * 128 + (i 1).val)) = _
    rw [Nat.zero_mul, Nat.zero_add, Nat.zero_add]
  show Scalar.select _ _ _ = _
  rw [e]
  by_cases hq : (i 1).val ≤ (i 0).val
  · simp only [hq, decide_true, if_true]
    exact hw.slab c1 i
  · simp only [hq, decide_false, if_false]
    show Ideal.ofBits .f32 0x00000000#32 = _
    simp

/-- One head's cotangent of the normalised, scaled and shifted value, in one block of tokens. -/
theorem dvp_piece {dm : FVec Ideal S512x256 .f32} {wm : FVec Ideal S1x128x128 .bf16} (r s hd b : ℕ)
    (hr : r = 64 * hd) (hs : s = 128 * b)
    (hdm : Lifts2 dm (fun c j => I.dmix (256 * n + j) c)) (hwm : Lifts3 wm (fun _ p q => I.wm hd p q))
    (h : S512x256.Slices ![r, s] S64x128) (c1 c2) :
    Lifts2 (matmul dot_S64x128_S128x128_S64x128_1_0_0_1_n_n none
        (truncf .bf16 (extractStridedSlice S64x128 ![r, s] dm h) c1)
        (shapeCast S128x128 wm c2) (constant S64x128 .f32 0x00000000#32))
      (fun i j => I.dvp (256 * n + (s + j)) (r + i)) := by
  refine Lifts2.congr (((hdm.slice r s h).trunc c1).mulNN (hwm.slab c2) _) fun i j hi hj => ?_
  subst hr hs
  have e1 : (64 * hd + i) / 64 = hd := by omega
  have e2 : (256 * n + (128 * b + j)) / 128 = 2 * n + b := by omega
  have e3 : (256 * n + (128 * b + j)) % 128 = j := by omega
  unfold Inputs.dvp
  rw [e1, e2, e3]
  refine Finset.sum_congr rfl fun q _ => ?_
  rw [show 256 * n + (128 * b + q) = 128 * (2 * n + b) + q by ring]

end heads

section back
variable (I : Inputs) (T : ℕ)
variable {x dv : FVec Ideal S512x256 .f32} {sc : FVec Ideal S512x1 .f32}

theorem pay172_lifts (hd : Lifts2 dv (fun c j => I.dvp (T + j) c)) (hg : Lifts2 sc (fun c _ => I.g c)) :
    Lifts2 (k0_pay172 (k0_pay31 (F := Ideal) sc) dv) (fun c j => I.dxh (T + j) c) :=
  hd.mul ((hg.cast _).cols (by norm_num) _)

/-- The gradient of the normalised half: the normalisation's gradient times the gate's derivative. -/
theorem pay176_lifts (hx : Lifts2 x (fun c j => I.v (T + j) c)) (hd : Lifts2 dv (fun c j => I.dvp (T + j) c))
    (hg : Lifts2 sc (fun c _ => I.g c)) :
    Lifts2 (k0_pay176 (k0_pay42 (F := Ideal) x) (k0_pay45 (F := Ideal) x)
      (k0_pay46 (k0_pay44 (F := Ideal) x) (k0_pay45 (F := Ideal) x))
      (k0_pay173 (k0_pay31 (F := Ideal) sc) dv)
      (k0_pay174 (k0_pay31 (F := Ideal) sc) (k0_pay46 (k0_pay44 (F := Ideal) x) (k0_pay45 (F := Ideal) x)) dv)
      k0_pay175) (fun c j => I.dv (T + j) c) :=
  Lifts2.trunc ((((pay45_lifts I T hx).rows (by norm_num) _).mul
    (((pay172_lifts I T hd hg).sub (((Lifts2.sumRows (pay172_lifts I T hd hg) _ _ _ _).divSplat width_word
      (by norm_num)).rows (by norm_num) _)).sub ((pay46_lifts I T hx).mul
      (((Lifts2.sumRows ((pay172_lifts I T hd hg).mul (pay46_lifts I T hx)) _ _ _ _).divSplat width_word
      (by norm_num)).rows (by norm_num) _)))).mul (pay42_lifts hx)) _

end back

end Cert.Block

end
-- ==== Proof.Pieces.lean ====
/- Buffers filled by several stores, and arrays put together from parts.

   A buffer of which every entry was stored by one of several rectangles holds the real function that the stored
   pieces hold, each at its own offset. The lists are written newest store first, and what was stored before the
   pieces that cover the buffer does not matter. -/
module

public import proofs.«01_k».proof.Proof.Lift
public import Idealize.ShloMosaic.Lib.Pipeline.ReadBack
public import Idealize.ShloMosaic.Lib.Pipeline.ValueKit

@[expose] public section

set_option maxRecDepth 16384

noncomputable section

namespace Cert.Lift

open Idealize.ShloMosaic Idealize.ShloMosaic.ValueIdx

variable {φ : FTy}

/-- A load of a rectangle reads the function at shifted coordinates. -/
theorem Lifts2.ld {A B a b : ℕ} {x : FVec Ideal ⟨2, ![A, B]⟩ φ} {f : ℕ → ℕ → ℝ} (hx : Lifts2 x f) (r s : ℕ)
    (inb : ∀ q : Fin 2, (![r, s] : Fin 2 → ℕ) q + (![a, b] : Fin 2 → ℕ) q ≤ (⟨2, ![A, B]⟩ : Shape).size q) :
    Lifts2 (a := a) (b := b) (φ := φ) (fun i => x ((Rect.unit (s := ⟨2, ![A, B]⟩) ![r, s] ![a, b] inb).idx i))
      (fun i j => f (r + i) (s + j)) := fun i => by
  refine (hx _).trans ?_
  show ((f (r + 1 * (i 0).val) (s + 1 * (i 1).val) : ℝ) : EReal) = _
  rw [Nat.one_mul, Nat.one_mul]

/-- A load of one slab. -/
theorem Lifts3.ld {A B C : ℕ} {x : FVec Ideal ⟨3, ![A, B, C]⟩ φ} {f : ℕ → ℕ → ℕ → ℝ} (hx : Lifts3 x f) (r : ℕ)
    (inb : ∀ q : Fin 3, (![r, 0, 0] : Fin 3 → ℕ) q + (![1, B, C] : Fin 3 → ℕ) q ≤ (⟨3, ![A, B, C]⟩ : Shape).size q) :
    Lifts3 (a := 1) (b := B) (c := C) (φ := φ)
      (fun i => x ((Rect.unit (s := ⟨3, ![A, B, C]⟩) ![r, 0, 0] ![1, B, C] inb).idx i))
      (fun _ j k => f r j k) := fun i => by
  refine (hx _).trans ?_
  have h0 : (i 0).val < 1 := (i 0).isLt
  show ((f (r + 1 * (i 0).val) (0 + 1 * (i 1).val) (0 + 1 * (i 2).val) : ℝ) : EReal) = _
  rw [Nat.one_mul, Nat.one_mul, Nat.one_mul, Nat.zero_add, Nat.zero_add, show (i 0).val = 0 by omega, Nat.add_zero]

section pieces
variable {Val : EltTy → Type} [∀ e, Nonempty (Val e)] {e : EltTy}

/-- A two-axis buffer whose eight rows are stored one by one holds `G` when the rows do. -/
theorem rows_eq {b : ℕ} (G : (⟨2, ![8, b]⟩ : Shape).Idx → Val e) (L' : List (View.Piece Val ⟨2, ![8, b]⟩ e))
    {i0 i1 i2 i3 i4 i5 i6 i7} {w0 w1 w2 w3 w4 w5 w6 w7 : (⟨2, ![1, b]⟩ : Shape).Idx → Val e}
    (h0 : ∀ x, w0 x = G ((Rect.unit (s := ⟨2, ![8, b]⟩) ![0, 0] ![1, b] i0).emb x))
    (h1 : ∀ x, w1 x = G ((Rect.unit (s := ⟨2, ![8, b]⟩) ![1, 0] ![1, b] i1).emb x))
    (h2 : ∀ x, w2 x = G ((Rect.unit (s := ⟨2, ![8, b]⟩) ![2, 0] ![1, b] i2).emb x))
    (h3 : ∀ x, w3 x = G ((Rect.unit (s := ⟨2, ![8, b]⟩) ![3, 0] ![1, b] i3).emb x))
    (h4 : ∀ x, w4 x = G ((Rect.unit (s := ⟨2, ![8, b]⟩) ![4, 0] ![1, b] i4).emb x))
    (h5 : ∀ x, w5 x = G ((Rect.unit (s := ⟨2, ![8, b]⟩) ![5, 0] ![1, b] i5).emb x))
    (h6 : ∀ x, w6 x = G ((Rect.unit (s := ⟨2, ![8, b]⟩) ![6, 0] ![1, b] i6).emb x))
    (h7 : ∀ x, w7 x = G ((Rect.unit (s := ⟨2, ![8, b]⟩) ![7, 0] ![1, b] i7).emb x)) (y) :
    View.canon (⟨Rect.unit (s := ⟨2, ![8, b]⟩) ![7, 0] ![1, b] i7, w7⟩ :: ⟨Rect.unit ![6, 0] ![1, b] i6, w6⟩ ::
      ⟨Rect.unit ![5, 0] ![1, b] i5, w5⟩ :: ⟨Rect.unit ![4, 0] ![1, b] i4, w4⟩ ::
      ⟨Rect.unit ![3, 0] ![1, b] i3, w3⟩ :: ⟨Rect.unit ![2, 0] ![1, b] i2, w2⟩ ::
      ⟨Rect.unit ![1, 0] ![1, b] i1, w1⟩ :: ⟨Rect.unit ![0, 0] ![1, b] i0, w0⟩ :: L') y = G y := by
  refine View.canon_append_of_piecesOf G L' [_, _, _, _, _, _, _, _] ⟨h7, h6, h5, h4, h3, h2, h1, h0, trivial⟩ y ?_
  have hy : (y 0).val < 8 := (y 0).isLt
  have hz : (y 1).val < b := (y 1).isLt
  simp only [List.exists_mem_cons_iff, List.not_mem_nil, false_and, exists_false, or_false]
  simp only [Rect.mem_set_unit, Fin.forall_fin_two]
  show ((7 ≤ (y 0).val ∧ (y 0).val < 7 + 1) ∧ 0 ≤ (y 1).val ∧ (y 1).val < 0 + b) ∨
    ((6 ≤ (y 0).val ∧ (y 0).val < 6 + 1) ∧ 0 ≤ (y 1).val ∧ (y 1).val < 0 + b) ∨
    ((5 ≤ (y 0).val ∧ (y 0).val < 5 + 1) ∧ 0 ≤ (y 1).val ∧ (y 1).val < 0 + b) ∨
    ((4 ≤ (y 0).val ∧ (y 0).val < 4 + 1) ∧ 0 ≤ (y 1).val ∧ (y 1).val < 0 + b) ∨
    ((3 ≤ (y 0).val ∧ (y 0).val < 3 + 1) ∧ 0 ≤ (y 1).val ∧ (y 1).val < 0 + b) ∨
    ((2 ≤ (y 0).val ∧ (y 0).val < 2 + 1) ∧ 0 ≤ (y 1).val ∧ (y 1).val < 0 + b) ∨
    ((1 ≤ (y 0).val ∧ (y 0).val < 1 + 1) ∧ 0 ≤ (y 1).val ∧ (y 1).val < 0 + b) ∨
    ((0 ≤ (y 0).val ∧ (y 0).val < 0 + 1) ∧ 0 ≤ (y 1).val ∧ (y 1).val < 0 + b)
  omega

/-- A three-axis buffer whose eight slabs are stored one by one holds `G` when the slabs do. -/
theorem slabs_eq {b c : ℕ} (G : (⟨3, ![8, b, c]⟩ : Shape).Idx → Val e) (L' : List (View.Piece Val ⟨3, ![8, b, c]⟩ e))
    {i0 i1 i2 i3 i4 i5 i6 i7} {w0 w1 w2 w3 w4 w5 w6 w7 : (⟨3, ![1, b, c]⟩ : Shape).Idx → Val e}
    (h0 : ∀ x, w0 x = G ((Rect.unit (s := ⟨3, ![8, b, c]⟩) ![0, 0, 0] ![1, b, c] i0).emb x))
    (h1 : ∀ x, w1 x = G ((Rect.unit (s := ⟨3, ![8, b, c]⟩) ![1, 0, 0] ![1, b, c] i1).emb x))
    (h2 : ∀ x, w2 x = G ((Rect.unit (s := ⟨3, ![8, b, c]⟩) ![2, 0, 0] ![1, b, c] i2).emb x))
    (h3 : ∀ x, w3 x = G ((Rect.unit (s := ⟨3, ![8, b, c]⟩) ![3, 0, 0] ![1, b, c] i3).emb x))
    (h4 : ∀ x, w4 x = G ((Rect.unit (s := ⟨3, ![8, b, c]⟩) ![4, 0, 0] ![1, b, c] i4).emb x))
    (h5 : ∀ x, w5 x = G ((Rect.unit (s := ⟨3, ![8, b, c]⟩) ![5, 0, 0] ![1, b, c] i5).emb x))
    (h6 : ∀ x, w6 x = G ((Rect.unit (s := ⟨3, ![8, b, c]⟩) ![6, 0, 0] ![1, b, c] i6).emb x))
    (h7 : ∀ x, w7 x = G ((Rect.unit (s := ⟨3, ![8, b, c]⟩) ![7, 0, 0] ![1, b, c] i7).emb x)) (y) :
    View.canon (⟨Rect.unit (s := ⟨3, ![8, b, c]⟩) ![7, 0, 0] ![1, b, c] i7, w7⟩ ::
      ⟨Rect.unit ![6, 0, 0] ![1, b, c] i6, w6⟩ ::
      ⟨Rect.unit ![5, 0, 0] ![1, b, c] i5, w5⟩ :: ⟨Rect.unit ![4, 0, 0] ![1, b, c] i4, w4⟩ ::
      ⟨Rect.unit ![3, 0, 0] ![1, b, c] i3, w3⟩ :: ⟨Rect.unit ![2, 0, 0] ![1, b, c] i2, w2⟩ ::
      ⟨Rect.unit ![1, 0, 0] ![1, b, c] i1, w1⟩ :: ⟨Rect.unit ![0, 0, 0] ![1, b, c] i0, w0⟩ :: L') y = G y := by
  refine View.canon_append_of_piecesOf G L' [_, _, _, _, _, _, _, _] ⟨h7, h6, h5, h4, h3, h2, h1, h0, trivial⟩ y ?_
  have hy : (y 0).val < 8 := (y 0).isLt
  have hz : (y 1).val < b := (y 1).isLt
  have hx : (y 2).val < c := (y 2).isLt
  simp only [List.exists_mem_cons_iff, List.not_mem_nil, false_and, exists_false, or_false]
  have key : ∀ r : ℕ, ∀ inb, (y 0).val = r → y ∈ (Rect.unit (s := ⟨3, ![8, b, c]⟩) ![r, 0, 0] ![1, b, c] inb).set := by
    intro r inb hr
    refine Rect.mem_set_unit.mpr fun q => ?_
    match q with
    | ⟨0, _⟩ => exact ⟨hr.ge, by show (y 0).val < r + 1; omega⟩
    | ⟨1, _⟩ => exact ⟨Nat.zero_le _, by show (y 1).val < 0 + b; omega⟩
    | ⟨2, _⟩ => exact ⟨Nat.zero_le _, by show (y 2).val < 0 + c; omega⟩
  have : (y 0).val = 7 ∨ (y 0).val = 6 ∨ (y 0).val = 5 ∨ (y 0).val = 4 ∨ (y 0).val = 3 ∨ (y 0).val = 2 ∨
    (y 0).val = 1 ∨ (y 0).val = 0 := by omega
  exact this.imp (key 7 i7) (Or.imp (key 6 i6) (Or.imp (key 5 i5) (Or.imp (key 4 i4) (Or.imp (key 3 i3)
    (Or.imp (key 2 i2) (Or.imp (key 1 i1) (key 0 i0)))))))

end pieces

/-- A stored piece that holds `f` at its offset is a piece of the buffer that holds `f`. -/
theorem Lifts2.piece {A B a b : ℕ} {w : FVec Ideal ⟨2, ![a, b]⟩ φ} {f : ℕ → ℕ → ℝ} (r s : ℕ)
    (h : Lifts2 w (fun i j => f (r + i) (s + j)))
    (inb : ∀ q : Fin 2, (![r, s] : Fin 2 → ℕ) q + (![a, b] : Fin 2 → ℕ) q ≤ (⟨2, ![A, B]⟩ : Shape).size q)
    (x : (⟨2, ![a, b]⟩ : Shape).Idx) :
    w x = (fun y : (⟨2, ![A, B]⟩ : Shape).Idx => ((f (y 0).val (y 1).val : ℝ) : EReal))
      ((Rect.unit (s := ⟨2, ![A, B]⟩) ![r, s] ![a, b] inb).emb x) := by
  refine (h x).trans ?_
  show _ = ((f (r + 1 * (x 0).val) (s + 1 * (x 1).val) : ℝ) : EReal)
  rw [Nat.one_mul, Nat.one_mul]

theorem Lifts3.piece {A B C : ℕ} {w : FVec Ideal ⟨3, ![1, B, C]⟩ φ} {f : ℕ → ℕ → ℕ → ℝ} (r : ℕ)
    (h : Lifts3 w (fun _ j k => f r j k))
    (inb : ∀ q : Fin 3, (![r, 0, 0] : Fin 3 → ℕ) q + (![1, B, C] : Fin 3 → ℕ) q ≤ (⟨3, ![A, B, C]⟩ : Shape).size q)
    (x : (⟨3, ![1, B, C]⟩ : Shape).Idx) :
    w x = (fun y : (⟨3, ![A, B, C]⟩ : Shape).Idx => ((f (y 0).val (y 1).val (y 2).val : ℝ) : EReal))
      ((Rect.unit (s := ⟨3, ![A, B, C]⟩) ![r, 0, 0] ![1, B, C] inb).emb x) := by
  refine (h x).trans ?_
  have h0 : (x 0).val < 1 := (x 0).isLt
  show _ = ((f (r + 1 * (x 0).val) (0 + 1 * (x 1).val) (0 + 1 * (x 2).val) : ℝ) : EReal)
  rw [Nat.one_mul, Nat.one_mul, Nat.one_mul, Nat.zero_add, Nat.zero_add, show (x 0).val = 0 by omega, Nat.add_zero]

/-- Eight rows stored one by one. -/
theorem rows8 {b : ℕ} (f : ℕ → ℕ → ℝ) (L' : List (View.Piece (Elt Ideal) ⟨2, ![8, b]⟩ .f32))
    {i0 i1 i2 i3 i4 i5 i6 i7} {w0 w1 w2 w3 w4 w5 w6 w7 : FVec Ideal ⟨2, ![1, b]⟩ .f32}
    (h0 : Lifts2 w0 (fun i j => f (0 + i) (0 + j))) (h1 : Lifts2 w1 (fun i j => f (1 + i) (0 + j)))
    (h2 : Lifts2 w2 (fun i j => f (2 + i) (0 + j))) (h3 : Lifts2 w3 (fun i j => f (3 + i) (0 + j)))
    (h4 : Lifts2 w4 (fun i j => f (4 + i) (0 + j))) (h5 : Lifts2 w5 (fun i j => f (5 + i) (0 + j)))
    (h6 : Lifts2 w6 (fun i j => f (6 + i) (0 + j))) (h7 : Lifts2 w7 (fun i j => f (7 + i) (0 + j))) :
    Lifts2 (φ := .f32) (View.canon (Val := Elt Ideal) (e := .f32)
      (⟨Rect.unit (s := ⟨2, ![8, b]⟩) ![7, 0] ![1, b] i7, w7⟩ :: ⟨Rect.unit ![6, 0] ![1, b] i6, w6⟩ ::
      ⟨Rect.unit ![5, 0] ![1, b] i5, w5⟩ :: ⟨Rect.unit ![4, 0] ![1, b] i4, w4⟩ ::
      ⟨Rect.unit ![3, 0] ![1, b] i3, w3⟩ :: ⟨Rect.unit ![2, 0] ![1, b] i2, w2⟩ ::
      ⟨Rect.unit ![1, 0] ![1, b] i1, w1⟩ :: ⟨Rect.unit ![0, 0] ![1, b] i0, w0⟩ :: L')) f :=
  rows_eq (Val := Elt Ideal) (e := .f32) (fun y => ((f (y 0).val (y 1).val : ℝ) : EReal)) L'
    (Lifts2.piece 0 0 h0 i0) (Lifts2.piece 1 0 h1 i1) (Lifts2.piece 2 0 h2 i2) (Lifts2.piece 3 0 h3 i3)
    (Lifts2.piece 4 0 h4 i4) (Lifts2.piece 5 0 h5 i5) (Lifts2.piece 6 0 h6 i6) (Lifts2.piece 7 0 h7 i7)

/-- Eight slabs stored one by one. -/
theorem slabs8 {b c : ℕ} (f : ℕ → ℕ → ℕ → ℝ) (L' : List (View.Piece (Elt Ideal) ⟨3, ![8, b, c]⟩ .f32))
    {i0 i1 i2 i3 i4 i5 i6 i7} {w0 w1 w2 w3 w4 w5 w6 w7 : FVec Ideal ⟨3, ![1, b, c]⟩ .f32}
    (h0 : Lifts3 w0 (fun _ j k => f 0 j k)) (h1 : Lifts3 w1 (fun _ j k => f 1 j k))
    (h2 : Lifts3 w2 (fun _ j k => f 2 j k)) (h3 : Lifts3 w3 (fun _ j k => f 3 j k))
    (h4 : Lifts3 w4 (fun _ j k => f 4 j k)) (h5 : Lifts3 w5 (fun _ j k => f 5 j k))
    (h6 : Lifts3 w6 (fun _ j k => f 6 j k)) (h7 : Lifts3 w7 (fun _ j k => f 7 j k)) :
    Lifts3 (φ := .f32) (View.canon (Val := Elt Ideal) (e := .f32)
      (⟨Rect.unit (s := ⟨3, ![8, b, c]⟩) ![7, 0, 0] ![1, b, c] i7, w7⟩ ::
      ⟨Rect.unit ![6, 0, 0] ![1, b, c] i6, w6⟩ ::
      ⟨Rect.unit ![5, 0, 0] ![1, b, c] i5, w5⟩ :: ⟨Rect.unit ![4, 0, 0] ![1, b, c] i4, w4⟩ ::
      ⟨Rect.unit ![3, 0, 0] ![1, b, c] i3, w3⟩ :: ⟨Rect.unit ![2, 0, 0] ![1, b, c] i2, w2⟩ ::
      ⟨Rect.unit ![1, 0, 0] ![1, b, c] i1, w1⟩ :: ⟨Rect.unit ![0, 0, 0] ![1, b, c] i0, w0⟩ :: L')) f :=
  slabs_eq (Val := Elt Ideal) (e := .f32) (fun y => ((f (y 0).val (y 1).val (y 2).val : ℝ) : EReal)) L'
    (Lifts3.piece 0 h0 i0) (Lifts3.piece 1 h1 i1) (Lifts3.piece 2 h2 i2) (Lifts3.piece 3 h3 i3)
    (Lifts3.piece 4 h4 i4) (Lifts3.piece 5 h5 i5) (Lifts3.piece 6 h6 i6) (Lifts3.piece 7 h7 i7)

/-- Eight slabs of half precision stored one by one. -/
theorem slabs8h {b c : ℕ} (f : ℕ → ℕ → ℕ → ℝ) (L' : List (View.Piece (Elt Ideal) ⟨3, ![8, b, c]⟩ .bf16))
    {i0 i1 i2 i3 i4 i5 i6 i7} {w0 w1 w2 w3 w4 w5 w6 w7 : FVec Ideal ⟨3, ![1, b, c]⟩ .bf16}
    (h0 : Lifts3 w0 (fun _ j k => f 0 j k)) (h1 : Lifts3 w1 (fun _ j k => f 1 j k))
    (h2 : Lifts3 w2 (fun _ j k => f 2 j k)) (h3 : Lifts3 w3 (fun _ j k => f 3 j k))
    (h4 : Lifts3 w4 (fun _ j k => f 4 j k)) (h5 : Lifts3 w5 (fun _ j k => f 5 j k))
    (h6 : Lifts3 w6 (fun _ j k => f 6 j k)) (h7 : Lifts3 w7 (fun _ j k => f 7 j k)) :
    Lifts3 (φ := .bf16) (View.canon (Val := Elt Ideal) (e := .bf16)
      (⟨Rect.unit (s := ⟨3, ![8, b, c]⟩) ![7, 0, 0] ![1, b, c] i7, w7⟩ ::
      ⟨Rect.unit ![6, 0, 0] ![1, b, c] i6, w6⟩ ::
      ⟨Rect.unit ![5, 0, 0] ![1, b, c] i5, w5⟩ :: ⟨Rect.unit ![4, 0, 0] ![1, b, c] i4, w4⟩ ::
      ⟨Rect.unit ![3, 0, 0] ![1, b, c] i3, w3⟩ :: ⟨Rect.unit ![2, 0, 0] ![1, b, c] i2, w2⟩ ::
      ⟨Rect.unit ![1, 0, 0] ![1, b, c] i1, w1⟩ :: ⟨Rect.unit ![0, 0, 0] ![1, b, c] i0, w0⟩ :: L')) f :=
  slabs_eq (Val := Elt Ideal) (e := .bf16) (fun y => ((f (y 0).val (y 1).val (y 2).val : ℝ) : EReal)) L'
    (Lifts3.piece 0 h0 i0) (Lifts3.piece 1 h1 i1) (Lifts3.piece 2 h2 i2) (Lifts3.piece 3 h3 i3)
    (Lifts3.piece 4 h4 i4) (Lifts3.piece 5 h5 i5) (Lifts3.piece 6 h6 i6) (Lifts3.piece 7 h7 i7)

/-- Eight arrays of the same height one above the other. -/
theorem stack8 {a b n : ℕ} (hn : n = 8 * a) (f : ℕ → ℕ → ℝ) {w0 w1 w2 w3 w4 w5 w6 w7 : FVec Ideal ⟨2, ![a, b]⟩ φ}
    (h0 : Lifts2 w0 f) (h1 : Lifts2 w1 (fun i j => f (a + i) j))
    (h2 : Lifts2 w2 (fun i j => f (2 * a + i) j)) (h3 : Lifts2 w3 (fun i j => f (3 * a + i) j))
    (h4 : Lifts2 w4 (fun i j => f (4 * a + i) j)) (h5 : Lifts2 w5 (fun i j => f (5 * a + i) j))
    (h6 : Lifts2 w6 (fun i j => f (6 * a + i) j)) (h7 : Lifts2 w7 (fun i j => f (7 * a + i) j))
    (hc : Shape.Concatenates [⟨2, ![a, b]⟩, ⟨2, ![a, b]⟩, ⟨2, ![a, b]⟩, ⟨2, ![a, b]⟩, ⟨2, ![a, b]⟩, ⟨2, ![a, b]⟩,
      ⟨2, ![a, b]⟩, ⟨2, ![a, b]⟩] ⟨2, ![n, b]⟩ 0) :
    Lifts2 (concatenate ⟨2, ![n, b]⟩ 0 [⟨⟨2, ![a, b]⟩, w0⟩, ⟨⟨2, ![a, b]⟩, w1⟩, ⟨⟨2, ![a, b]⟩, w2⟩,
      ⟨⟨2, ![a, b]⟩, w3⟩, ⟨⟨2, ![a, b]⟩, w4⟩, ⟨⟨2, ![a, b]⟩, w5⟩, ⟨⟨2, ![a, b]⟩, w6⟩, ⟨⟨2, ![a, b]⟩, w7⟩] hc) f := by
  intro y
  have hy : (y 0).val < n := idx2_lt0 y
  have key : ∀ (k : ℕ) (hk : k < 8) (w : FVec Ideal ⟨2, ![a, b]⟩ φ) (h : Lifts2 w (fun i j => f (k * a + i) j))
      (hw : ([⟨⟨2, ![a, b]⟩, w0⟩, ⟨⟨2, ![a, b]⟩, w1⟩, ⟨⟨2, ![a, b]⟩, w2⟩,
      ⟨⟨2, ![a, b]⟩, w3⟩, ⟨⟨2, ![a, b]⟩, w4⟩, ⟨⟨2, ![a, b]⟩, w5⟩, ⟨⟨2, ![a, b]⟩, w6⟩, ⟨⟨2, ![a, b]⟩, w7⟩] :
        List ((s : Shape) × (s.Idx → Ideal φ)))[k]'hk = ⟨⟨2, ![a, b]⟩, w⟩)
      (hlo : k * a ≤ (y 0).val) (hhi : (y 0).val < (k + 1) * a),
      concatenate ⟨2, ![n, b]⟩ 0 [⟨⟨2, ![a, b]⟩, w0⟩, ⟨⟨2, ![a, b]⟩, w1⟩, ⟨⟨2, ![a, b]⟩, w2⟩,
      ⟨⟨2, ![a, b]⟩, w3⟩, ⟨⟨2, ![a, b]⟩, w4⟩, ⟨⟨2, ![a, b]⟩, w5⟩, ⟨⟨2, ![a, b]⟩, w6⟩, ⟨⟨2, ![a, b]⟩, w7⟩] hc y =
        ((f (y 0).val (y 1).val : ℝ) : EReal) := by
    intro k hk w h hw hlo hhi
    have hs : (y 0).val - k * a < a := by rw [Nat.add_mul, Nat.one_mul] at hhi; omega
    rw [concatenate_apply_piece 0 [⟨⟨2, ![a, b]⟩, w0⟩, ⟨⟨2, ![a, b]⟩, w1⟩, ⟨⟨2, ![a, b]⟩, w2⟩,
      ⟨⟨2, ![a, b]⟩, w3⟩, ⟨⟨2, ![a, b]⟩, w4⟩, ⟨⟨2, ![a, b]⟩, w5⟩, ⟨⟨2, ![a, b]⟩, w6⟩, ⟨⟨2, ![a, b]⟩, w7⟩] hc y k hk ⟨2, ![a, b]⟩ w hw rfl (k * a) (by
      match k, hk with
      | 0, _ => show 0 = 0 * a; omega
      | 1, _ => show a + 0 = 1 * a; omega
      | 2, _ => show a + (a + 0) = 2 * a; omega
      | 3, _ => show a + (a + (a + 0)) = 3 * a; omega
      | 4, _ => show a + (a + (a + (a + 0))) = 4 * a; omega
      | 5, _ => show a + (a + (a + (a + (a + 0)))) = 5 * a; omega
      | 6, _ => show a + (a + (a + (a + (a + (a + 0))))) = 6 * a; omega
      | 7, _ => show a + (a + (a + (a + (a + (a + (a + 0)))))) = 7 * a; omega)
      (ValueIdx.ix2 ⟨(y 0).val - k * a, hs⟩ (y 1)) (fun q hq => by
        match q with
        | ⟨0, _⟩ => exact absurd rfl hq
        | ⟨1, _⟩ => rfl) (by show k * a + ((y 0).val - k * a) = (y 0).val; omega)]
    refine (h _).trans ?_
    show ((f (k * a + ((y 0).val - k * a)) (y 1).val : ℝ) : EReal) = _
    rw [Nat.add_sub_cancel' hlo]
  have : (y 0).val < 1 * a ∨ 1 * a ≤ (y 0).val ∧ (y 0).val < 2 * a ∨ 2 * a ≤ (y 0).val ∧ (y 0).val < 3 * a ∨
      3 * a ≤ (y 0).val ∧ (y 0).val < 4 * a ∨ 4 * a ≤ (y 0).val ∧ (y 0).val < 5 * a ∨
      5 * a ≤ (y 0).val ∧ (y 0).val < 6 * a ∨ 6 * a ≤ (y 0).val ∧ (y 0).val < 7 * a ∨
      7 * a ≤ (y 0).val ∧ (y 0).val < 8 * a := by omega
  rcases this with h | ⟨l, h⟩ | ⟨l, h⟩ | ⟨l, h⟩ | ⟨l, h⟩ | ⟨l, h⟩ | ⟨l, h⟩ | ⟨l, h⟩
  · exact key 0 (by omega) w0 (h0.congr fun i j _ _ => by rw [Nat.zero_mul, Nat.zero_add]) rfl (by omega) h
  · exact key 1 (by omega) w1 (h1.congr fun i j _ _ => by rw [Nat.one_mul]) rfl l h
  · exact key 2 (by omega) w2 h2 rfl l h
  · exact key 3 (by omega) w3 h3 rfl l h
  · exact key 4 (by omega) w4 h4 rfl l h
  · exact key 5 (by omega) w5 h5 rfl l h
  · exact key 6 (by omega) w6 h6 rfl l h
  · exact key 7 (by omega) w7 h7 rfl l h

/-- A load of one row. -/
theorem Lifts2.ldRow {A B : ℕ} {x : FVec Ideal ⟨2, ![A, B]⟩ φ} {f : ℕ → ℕ → ℝ} (hx : Lifts2 x f) (r : ℕ)
    (inb : ∀ q : Fin 2, (![r, 0] : Fin 2 → ℕ) q + (![1, B] : Fin 2 → ℕ) q ≤ (⟨2, ![A, B]⟩ : Shape).size q) :
    Lifts2 (a := 1) (b := B) (φ := φ) (fun i => x ((Rect.unit (s := ⟨2, ![A, B]⟩) ![r, 0] ![1, B] inb).idx i))
      (fun _ j => f r j) :=
  (hx.ld r 0 inb).congr fun i j hi _ => by rw [Nat.zero_add, show i = 0 by omega, Nat.add_zero]

/-- A row as the part of an array from that row on. -/
theorem Lifts2.row {B : ℕ} {w : FVec Ideal ⟨2, ![1, B]⟩ φ} {f : ℕ → ℕ → ℝ} (r : ℕ) (h : Lifts2 w (fun _ j => f r j)) :
    Lifts2 w (fun i j => f (r + i) (0 + j)) :=
  h.congr fun i j hi _ => by rw [Nat.zero_add, show i = 0 by omega, Nat.add_zero]

/-- Eight rows stored one by one, each given by its own row of the function. -/
theorem rows8r {b : ℕ} (f : ℕ → ℕ → ℝ) (L' : List (View.Piece (Elt Ideal) ⟨2, ![8, b]⟩ .f32))
    {i0 i1 i2 i3 i4 i5 i6 i7} {w0 w1 w2 w3 w4 w5 w6 w7 : FVec Ideal ⟨2, ![1, b]⟩ .f32}
    (h0 : Lifts2 w0 (fun _ j => f 0 j)) (h1 : Lifts2 w1 (fun _ j => f 1 j)) (h2 : Lifts2 w2 (fun _ j => f 2 j))
    (h3 : Lifts2 w3 (fun _ j => f 3 j)) (h4 : Lifts2 w4 (fun _ j => f 4 j)) (h5 : Lifts2 w5 (fun _ j => f 5 j))
    (h6 : Lifts2 w6 (fun _ j => f 6 j)) (h7 : Lifts2 w7 (fun _ j => f 7 j)) :
    Lifts2 (φ := .f32) (View.canon (Val := Elt Ideal) (e := .f32)
      (⟨Rect.unit (s := ⟨2, ![8, b]⟩) ![7, 0] ![1, b] i7, w7⟩ :: ⟨Rect.unit ![6, 0] ![1, b] i6, w6⟩ ::
      ⟨Rect.unit ![5, 0] ![1, b] i5, w5⟩ :: ⟨Rect.unit ![4, 0] ![1, b] i4, w4⟩ ::
      ⟨Rect.unit ![3, 0] ![1, b] i3, w3⟩ :: ⟨Rect.unit ![2, 0] ![1, b] i2, w2⟩ ::
      ⟨Rect.unit ![1, 0] ![1, b] i1, w1⟩ :: ⟨Rect.unit ![0, 0] ![1, b] i0, w0⟩ :: L')) f :=
  rows8 f L' (Lifts2.row (f := f) 0 h0) (Lifts2.row (f := f) 1 h1) (Lifts2.row (f := f) 2 h2) (Lifts2.row (f := f) 3 h3)
    (Lifts2.row (f := f) 4 h4) (Lifts2.row (f := f) 5 h5) (Lifts2.row (f := f) 6 h6) (Lifts2.row (f := f) 7 h7)

end Cert.Lift

end
-- ==== Proof.PointIn.lean ====
/- What the body's first values hold at one grid point, from the blocks that the point finds. -/
module

public import proofs.«01_k».proof.Proof.Entry
public import proofs.«01_k».proof.Proof.Block
public import proofs.«01_k».proof.Proof.Pieces

@[expose] public section

set_option maxRecDepth 16384

noncomputable section

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c) (t : Fin cfg0.N)
include h

/-- The gated half of the cotangent's block. -/
theorem da (inb) : Lifts2 (φ := .f32) (View.ld (iblk m c 1 t) (Rect.unit (s := S1024x256) ![0, 0] ![512, 256] inb))
    (fun i j => (inp m c).dcat (256 * t.val + j) i) :=
  ((dcat_block h t).ld 0 0 inb).congr fun i j _ _ => by rw [Nat.zero_add, Nat.zero_add]

/-- The cotangent of the mixed values. -/
theorem dm (inb e) : Lifts2 (φ := .f32) (mulf (shapeCast S512x256 (View.ld (iblk m c 1 t)
    (Rect.unit (s := S1024x256) ![0, 0] ![512, 256] inb)) e) (k0_pay36 (F := Ideal) (X0_2 m c t)))
    (fun i j => (inp m c).dmix (256 * t.val + j) i) :=
  ((da h t inb).cast e).mul (pay36_lifts (u_block h t))

/-- The normalised values, scaled and shifted. -/
theorem vp (e1 e2 e3 e4) : Lifts2 (φ := .bf16) (truncf .bf16 (addf (mulf (mulf (k0_pay44 (F := Ideal) (X0_3 m c t))
      (broadcastTo S512x256 (k0_pay45 (F := Ideal) (X0_3 m c t)) e1))
      (broadcastTo S512x256 (k0_pay31 (F := Ideal) (iblk m c 13 t)) e2))
      (broadcastTo S512x256 (k0_pay43 (F := Ideal) (iblk m c 14 t)) e3)) e4)
    (fun i j => (inp m c).vp (256 * t.val + j) i) :=
  pay47_lifts (inp m c) (256 * t.val) (v_block h t) (g_block h t) (b_block h t)

end Cert.Point

end
-- ==== Proof.PointGws.lean ====
/- The accumulated gradient of the spatial weights after each grid point. -/
module

public import proofs.«01_k».proof.Proof.PointIn

@[expose] public section

set_option maxRecDepth 16384

noncomputable section

namespace Cert.Point

open Idealize.ShloMosaic Idealize.ShloMosaic.TcCoe Idealize.SL.Sem
open Cert.KernelIdeal Cert.KernelIdeal.Gen Cert.Lift Cert.Model Cert.Entry Cert.Block

/-- A reset accumulator holds nothing. -/
theorem zeros_slabs (e : S8x128x128.ShapeCasts S8x128x128) : Lifts3 (φ := .f32) (shapeCast S8x128x128
    (broadcast S8x128x128 (Scalar.ofBits (F := Ideal) .f32 0x00000000#32)) e) (fun _ _ _ => 0) := fun i => by
  rw [shapeCast_apply _ e i i rfl]
  show Ideal.ofBits .f32 0x00000000#32 = _
  simp

variable {m : (ℓ : Loc nD τ sig) → Buf (Elt Ideal) ℓ} {c : Dev nD} (h : Real m c) (t : Fin cfg0.N)
include h

/-- The first point starts from nothing. -/
theorem gws_A (h0 : t.val % 16 = 0) (h2 : ¬t.val % 16 = 15) :
    Lifts3 (φ := .f32) (outsAt0 m c t.val t.isLt).2.2.2.2.2.2.2.2.2.2 (fun hd p q =>
      0 + (inp m c).gwsBlock (2 * t.val + 0) hd p q + (inp m c).gwsBlock (2 * t.val + 1) hd p q) := by
  rw [outsAt0_A m c t h0 h0 h2]
  frame_open
  simp (disch := decide) only [↓ View.readCov_skip, ↓ View.readCov_cons_toLoadRect, ↓ View.readCov_fill]
  frame_out
  try simp only [read_unread_whole]
  have a := dm h t
  have b := vp h t
  have hp : Lifts3 (k0_pay25 (F := Ideal)) (fun _ _ _ => 0) := zeros_slabs _
  exact slabs8 _ _
    (gws_pair _ _ 0 0 rfl (a _ _) (b _ _ _ _) (hp.ld 0 _) _ _ _ _ _)
    (gws_pair _ _ 64 1 rfl (a _ _) (b _ _ _ _) (hp.ld 1 _) _ _ _ _ _)
    (gws_pair _ _ 128 2 rfl (a _ _) (b _ _ _ _) (hp.ld 2 _) _ _ _ _ _)
    (gws_pair _ _ 192 3 rfl (a _ _) (b _ _ _ _) (hp.ld 3 _) _ _ _ _ _)
    (gws_pair _ _ 256 4 rfl (a _ _) (b _ _ _ _) (hp.ld 4 _) _ _ _ _ _)
    (gws_pair _ _ 320 5 rfl (a _ _) (b _ _ _ _) (hp.ld 5 _) _ _ _ _ _)
    (gws_pair _ _ 384 6 rfl (a _ _) (b _ _ _ _) (hp.ld 6 _) _ _ _ _ _)
    (gws_pair _ _ 448 7 rfl (a _ _) (b _ _ _ _) (hp.ld 7 _) _ _ _ _ _)

/-- A middle point adds what its two blocks of tokens give. -/
theorem gws_B (h0 : ¬t.val % 16 = 0) (h2 : ¬t.val % 16 = 15) (ht) {f : ℕ → ℕ → ℕ → ℝ}
    (hp : Lifts3 (φ := .f32) (outsAt0 m c (t.val - 1) ht).2.2.2.2.2.2.2.2.2.2 f) :
    Lifts3 (φ := .f32) (outsAt0 m c t.val t.isLt).2.2.2.2.2.2.2.2.2.2 (fun hd p q =>
      f hd p q + (inp m c).gwsBlock (2 * t.val + 0) hd p q + (inp m c).gwsBlock (2 * t.val + 1) hd p q) := by
  rw [outsAt0_B m c t h0 h0 h2]
  frame_open
  simp (disch := decide) only [↓ View.readCov_skip, ↓ View.readCov_cons_toLoadRect, ↓ View.readCov_fill]
  frame_out
  simp only [read_unread_whole]
  have a := dm h t
  have b := vp h t
  exact slabs8 _ _
    (gws_pair _ _ 0 0 rfl (a _ _) (b _ _ _ _) (hp.ld 0 _) _ _ _ _ _)
    (gws_pair _ _ 64 1 rfl (a _ _) (b _ _ _ _) (hp.ld 1 _) _ _ _ _ _)
    (gws_pair _ _ 128 2 rfl (a _ _) (b _ _ _ _) (hp.ld 2 _) _ _ _ _ _)
    (gws_pair _ _ 192 3 rfl (a _ _) (b _ _ _ _) (hp.ld 3 _) _ _ _ _ _)
    (gws_pair _ _ 256 4 rfl (a _ _) (b _ _ _ _) (hp.ld 4 _) _ _ _ _ _)
    (gws_pair _ _ 320 5 rfl (a _ _) (b _ _ _ _) (hp.ld 5 _) _ _ _ _ _)
    (gws_pair _ _ 384 6 rfl (a _ _) (b _ _ _ _) (hp.ld 6 _) _ _ _ _ _)
    (gws_pair _ _ 448 7 rfl (a _ _) (b _ _ _ _) (hp.ld 7 _) _ _ _ _ _)

/-- The last point adds what its two blocks of tokens give. -/
theorem gws_C (h0 : ¬t.val % 16 = 0) (h2 : t.val % 16 = 15) (ht) {f : ℕ → ℕ → ℕ → ℝ}
    (hp : Lifts3 (φ := .f32) (outsAt0 m c (t.val - 1) ht).2.2.2.2.2.2.2.2.2.2 f) :
    Lifts3 (φ := .f32) (outsAt0 m c t.val t.isLt).2.2.2.2.2.2.2.2.2.2 (fun hd p q =>
      f hd p q + (inp m c).gwsBlock (2 * t.val + 0) hd p q + (inp m c).gwsBlock (2 * t.val + 1) hd p q) := by
  rw [outsAt0_C m c t h0 h0 h2]
  frame_open
  simp (disch := decide) only [↓ View.readCov_skip, ↓ View.readCov_cons_toLoadRect, ↓ View.readCov_fill]
  frame_out
  simp only [read_unread_whole]
  have a := dm h t
  have b := vp h t
  exact slabs8 _ _
    (gws_pair _ _ 0 0 rfl (a _ _) (b _ _ _ _) (hp.ld 0 _) _ _ _ _ _)
    (gws_pair _ _ 64 1 rfl (a _ _) (b _ _ _ _) (hp.ld 1 _) _ _ _ _ _)
    (gws_pair _ _ 128 2 rfl (a _ _) (b _ _ _ _) (hp.ld 2 _) _ _ _ _ _)
    (gws_pair _ _ 192 3 rfl (a _ _) (b _ _ _ _) (hp.ld 3 _) _ _ _ _ _)
    (gws_pair _ _ 256 4 rfl (a _ _) (b _ _ _ _) (hp.ld 4 _) _ _ _ _ _)
    (gws_pair _ _ 320 5 rfl (a _ _) (b _ _ _ _) (hp.ld 5 _) _ _ _ _ _)
    (gws_pair _ _ 384 6 rfl (a _ _) (b _ _ _ _) (hp.ld 6 _) _ _ _ _ _)
    (gws_pair _ _ 448 7 rfl (a _ _) (b _ _ _ _) (hp.ld 7 _) _ _ _ _ _)

end Cert.Point

end
-- ==== Proof.PointGbs.lean ====
/- The accumulated gradient of the spatial biases after each grid point. -/
module

public import proofs.«01_k».proof.Proof.PointIn

@[expose] public section

set_option maxRecDepth 16384

noncomputable section

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c) (t : Fin cfg0.N)
include h

/-- The first point starts from nothing. -/
theorem gbs_A (h0 : t.val % 16 = 0) (h2 : ¬t.val % 16 = 15) :
    Lifts2 (φ := .f32) (outsAt0 m c t.val t.isLt).2.2.2.2.1 (fun hd p =>
      0 + (inp m c).gbsBlock (2 * t.val + 0) hd p + (inp m c).gbsBlock (2 * t.val + 1) hd p) := by
  rw [outsAt0_A m c t h0 h0 h2]
  frame_open
  simp (disch := decide) only [↓ View.readCov_skip, ↓ View.readCov_cons_toLoadRect, ↓ View.readCov_fill]
  frame_out
  try simp only [read_unread_whole]
  have a := dm h t
  have hp : Lifts2 (k0_pay26 (F := Ideal)) (fun _ _ => 0) := Lifts2.splat (by show Ideal.ofBits .f32 0x00000000#32 = _; simp)
  exact rows8r (fun hd p => 0 + (inp m c).gbsBlock (2 * t.val + 0) hd p + (inp m c).gbsBlock (2 * t.val + 1) hd p) _
    (gbs_pair _ _ 0 0 rfl (a _ _) (hp.ldRow 0 _) _ _ _ _ _ _ _)
    (gbs_pair _ _ 64 1 rfl (a _ _) (hp.ldRow 1 _) _ _ _ _ _ _ _)
    (gbs_pair _ _ 128 2 rfl (a _ _) (hp.ldRow 2 _) _ _ _ _ _ _ _)
    (gbs_pair _ _ 192 3 rfl (a _ _) (hp.ldRow 3 _) _ _ _ _ _ _ _)
    (gbs_pair _ _ 256 4 rfl (a _ _) (hp.ldRow 4 _) _ _ _ _ _ _ _)
    (gbs_pair _ _ 320 5 rfl (a _ _) (hp.ldRow 5 _) _ _ _ _ _ _ _)
    (gbs_pair _ _ 384 6 rfl (a _ _) (hp.ldRow 6 _) _ _ _ _ _ _ _)
    (gbs_pair _ _ 448 7 rfl (a _ _) (hp.ldRow 7 _) _ _ _ _ _ _ _)

/-- A middle point adds what its two blocks of tokens give. -/
theorem gbs_B (h0 : ¬t.val % 16 = 0) (h2 : ¬t.val % 16 = 15) (ht) {f : ℕ → ℕ → ℝ}
    (hp : Lifts2 (φ := .f32) (outsAt0 m c (t.val - 1) ht).2.2.2.2.1 f) :
    Lifts2 (φ := .f32) (outsAt0 m c t.val t.isLt).2.2.2.2.1 (fun hd p =>
      f hd p + (inp m c).gbsBlock (2 * t.val + 0) hd p + (inp m c).gbsBlock (2 * t.val + 1) hd p) := by
  rw [outsAt0_B m c t h0 h0 h2]
  frame_open
  simp (disch := decide) only [↓ View.readCov_skip, ↓ View.readCov_cons_toLoadRect, ↓ View.readCov_fill]
  frame_out
  try simp only [read_unread_whole]
  have a := dm h t
  exact rows8r (fun hd p => f hd p + (inp m c).gbsBlock (2 * t.val + 0) hd p + (inp m c).gbsBlock (2 * t.val + 1) hd p) _
    (gbs_pair _ _ 0 0 rfl (a _ _) (hp.ldRow 0 _) _ _ _ _ _ _ _)
    (gbs_pair _ _ 64 1 rfl (a _ _) (hp.ldRow 1 _) _ _ _ _ _ _ _)
    (gbs_pair _ _ 128 2 rfl (a _ _) (hp.ldRow 2 _) _ _ _ _ _ _ _)
    (gbs_pair _ _ 192 3 rfl (a _ _) (hp.ldRow 3 _) _ _ _ _ _ _ _)
    (gbs_pair _ _ 256 4 rfl (a _ _) (hp.ldRow 4 _) _ _ _ _ _ _ _)
    (gbs_pair _ _ 320 5 rfl (a _ _) (hp.ldRow 5 _) _ _ _ _ _ _ _)
    (gbs_pair _ _ 384 6 rfl (a _ _) (hp.ldRow 6 _) _ _ _ _ _ _ _)
    (gbs_pair _ _ 448 7 rfl (a _ _) (hp.ldRow 7 _) _ _ _ _ _ _ _)

/-- The last point adds what its two blocks of tokens give. -/
theorem gbs_C (h0 : ¬t.val % 16 = 0) (h2 : t.val % 16 = 15) (ht) {f : ℕ → ℕ → ℝ}
    (hp : Lifts2 (φ := .f32) (outsAt0 m c (t.val - 1) ht).2.2.2.2.1 f) :
    Lifts2 (φ := .f32) (outsAt0 m c t.val t.isLt).2.2.2.2.1 (fun hd p =>
      f hd p + (inp m c).gbsBlock (2 * t.val + 0) hd p + (inp m c).gbsBlock (2 * t.val + 1) hd p) := by
  rw [outsAt0_C m c t h0 h0 h2]
  frame_open
  simp (disch := decide) only [↓ View.readCov_skip, ↓ View.readCov_cons_toLoadRect, ↓ View.readCov_fill]
  frame_out
  try simp only [read_unread_whole]
  have a := dm h t
  exact rows8r (fun hd p => f hd p + (inp m c).gbsBlock (2 * t.val + 0) hd p + (inp m c).gbsBlock (2 * t.val + 1) hd p) _
    (gbs_pair _ _ 0 0 rfl (a _ _) (hp.ldRow 0 _) _ _ _ _ _ _ _)
    (gbs_pair _ _ 64 1 rfl (a _ _) (hp.ldRow 1 _) _ _ _ _ _ _ _)
    (gbs_pair _ _ 128 2 rfl (a _ _) (hp.ldRow 2 _) _ _ _ _ _ _ _)
    (gbs_pair _ _ 192 3 rfl (a _ _) (hp.ldRow 3 _) _ _ _ _ _ _ _)
    (gbs_pair _ _ 256 4 rfl (a _ _) (hp.ldRow 4 _) _ _ _ _ _ _ _)
    (gbs_pair _ _ 320 5 rfl (a _ _) (hp.ldRow 5 _) _ _ _ _ _ _ _)
    (gbs_pair _ _ 384 6 rfl (a _ _) (hp.ldRow 6 _) _ _ _ _ _ _ _)
    (gbs_pair _ _ 448 7 rfl (a _ _) (hp.ldRow 7 _) _ _ _ _ _ _ _)

end Cert.Point

end
-- ==== Proof.PointWm.lean ====
/- The masked spatial weights that the body keeps between grid points. -/
module

public import proofs.«01_k».proof.Proof.PointIn

@[expose] public section

set_option maxRecDepth 16384

noncomputable section

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c) (t : Fin cfg0.N)
include h

/-- The first point stores the spatial weights with what lies above their diagonals put to nothing. -/
theorem wm_A (h0 : t.val % 16 = 0) (h2 : ¬t.val % 16 = 15) :
    Lifts3 (φ := .bf16) (outsAt0 m c t.val t.isLt).2.2.2.2.2.2.2.2.2.1 (inp m c).wm := by
  rw [outsAt0_A m c t h0 h0 h2]
  frame_open
  simp (disch := decide) only [↓ View.readCov_skip, ↓ View.readCov_cons_toLoadRect, ↓ View.readCov_fill]
  frame_out
  try simp only [read_unread_whole]
  have w := w_block h t
  exact slabs8h _ _
    (masked_slab (w.ld 0 _) _ _ _ _ _)
    (masked_slab (w.ld 1 _) _ _ _ _ _)
    (masked_slab (w.ld 2 _) _ _ _ _ _)
    (masked_slab (w.ld 3 _) _ _ _ _ _)
    (masked_slab (w.ld 4 _) _ _ _ _ _)
    (masked_slab (w.ld 5 _) _ _ _ _ _)
    (masked_slab (w.ld 6 _) _ _ _ _ _)
    (masked_slab (w.ld 7 _) _ _ _ _ _)

omit h in
/-- A later point keeps them. -/
theorem wm_B (h0 : ¬t.val % 16 = 0) (h2 : ¬t.val % 16 = 15) (ht) :
    (outsAt0 m c t.val t.isLt).2.2.2.2.2.2.2.2.2.1 = (outsAt0 m c (t.val - 1) ht).2.2.2.2.2.2.2.2.2.1 := by
  rw [outsAt0_B m c t h0 h0 h2]
  frame_open
  rfl

omit h in
/-- A later point keeps them. -/
theorem wm_C (h0 : ¬t.val % 16 = 0) (h2 : t.val % 16 = 15) (ht) :
    (outsAt0 m c t.val t.isLt).2.2.2.2.2.2.2.2.2.1 = (outsAt0 m c (t.val - 1) ht).2.2.2.2.2.2.2.2.2.1 := by
  rw [outsAt0_C m c t h0 h0 h2]
  frame_open
  rfl

end Cert.Point

end
-- ==== Proof.BlockNorm.lean ====
/- The gradients that pass through the normalisation, at one grid point. -/
module

public import proofs.«01_k».proof.Proof.Block
public import proofs.«01_k».proof.Proof.Pieces

@[expose] public section

set_option maxRecDepth 16384

noncomputable section

namespace Cert.Block

open Idealize.ShloMosaic Cert.KernelIdeal Cert.KernelIdeal.Gen Cert.Lift Cert.Model

/-- Two columns of eight blocks, side by side. -/
theorem sides (f : ℕ → ℕ → ℝ) {w0 w1 w2 w3 w4 w5 w6 w7 v0 v1 v2 v3 v4 v5 v6 v7 : FVec Ideal S64x128 .f32}
    (h0 : Lifts2 w0 (fun i j => f (i + 0) j)) (g0 : Lifts2 v0 (fun i j => f (i + 0) (j + 128)))
    (h1 : Lifts2 w1 (fun i j => f (i + 64) j)) (g1 : Lifts2 v1 (fun i j => f (i + 64) (j + 128)))
    (h2 : Lifts2 w2 (fun i j => f (i + 128) j)) (g2 : Lifts2 v2 (fun i j => f (i + 128) (j + 128)))
    (h3 : Lifts2 w3 (fun i j => f (i + 192) j)) (g3 : Lifts2 v3 (fun i j => f (i + 192) (j + 128)))
    (h4 : Lifts2 w4 (fun i j => f (i + 256) j)) (g4 : Lifts2 v4 (fun i j => f (i + 256) (j + 128)))
    (h5 : Lifts2 w5 (fun i j => f (i + 320) j)) (g5 : Lifts2 v5 (fun i j => f (i + 320) (j + 128)))
    (h6 : Lifts2 w6 (fun i j => f (i + 384) j)) (g6 : Lifts2 v6 (fun i j => f (i + 384) (j + 128)))
    (h7 : Lifts2 w7 (fun i j => f (i + 448) j)) (g7 : Lifts2 v7 (fun i j => f (i + 448) (j + 128))) (e1 e2 e3) :
    Lifts2 (concatenate S512x256 1 [⟨S512x128, concatenate S512x128 0 [⟨S64x128, w0⟩, ⟨S64x128, w1⟩, ⟨S64x128, w2⟩, ⟨S64x128, w3⟩, ⟨S64x128, w4⟩, ⟨S64x128, w5⟩, ⟨S64x128, w6⟩, ⟨S64x128, w7⟩] e1⟩,
      ⟨S512x128, concatenate S512x128 0 [⟨S64x128, v0⟩, ⟨S64x128, v1⟩, ⟨S64x128, v2⟩, ⟨S64x128, v3⟩, ⟨S64x128, v4⟩, ⟨S64x128, v5⟩, ⟨S64x128, v6⟩, ⟨S64x128, v7⟩] e2⟩] e3) f := by
  have a := stack8 (n := 512) rfl f (h0.congr fun i j _ _ => by rw [Nat.add_zero])
    (h1.congr fun i j _ _ => by rw [Nat.add_comm i]) (h2.congr fun i j _ _ => by rw [Nat.add_comm i]) (h3.congr fun i j _ _ => by rw [Nat.add_comm i]) (h4.congr fun i j _ _ => by rw [Nat.add_comm i]) (h5.congr fun i j _ _ => by rw [Nat.add_comm i]) (h6.congr fun i j _ _ => by rw [Nat.add_comm i]) (h7.congr fun i j _ _ => by rw [Nat.add_comm i]) e1
  have b := stack8 (n := 512) rfl (fun i j => f i (j + 128)) (g0.congr fun i j _ _ => by rw [Nat.add_zero])
    (g1.congr fun i j _ _ => by rw [Nat.add_comm i]) (g2.congr fun i j _ _ => by rw [Nat.add_comm i]) (g3.congr fun i j _ _ => by rw [Nat.add_comm i]) (g4.congr fun i j _ _ => by rw [Nat.add_comm i]) (g5.congr fun i j _ _ => by rw [Nat.add_comm i]) (g6.congr fun i j _ _ => by rw [Nat.add_comm i]) (g7.congr fun i j _ _ => by rw [Nat.add_comm i]) e2
  refine (Lifts2.beside a b e3).congr fun i j _ _ => ?_
  by_cases hj : j < 128
  · rw [if_pos hj]
  · rw [if_neg hj]; show f i (j - 128 + 128) = _; rw [Nat.sub_add_cancel (by omega)]

/-- One head's cotangent in the first block of tokens. -/
theorem dvp_left (I : Inputs) (n : ℕ) {dm : FVec Ideal S512x256 .f32} {wm : FVec Ideal S1x128x128 .bf16} (r hd : ℕ)
    (hr : r = 64 * hd) (hdm : Lifts2 dm (fun c j => I.dmix (256 * n + j) c)) (hwm : Lifts3 wm (fun _ p q => I.wm hd p q))
    (h : S512x256.Slices ![r, 0] S64x128) (c1 c2) :
    Lifts2 (matmul dot_S64x128_S128x128_S64x128_1_0_0_1_n_n none
        (truncf .bf16 (extractStridedSlice S64x128 ![r, 0] dm h) c1)
        (shapeCast S128x128 wm c2) (constant S64x128 .f32 0x00000000#32))
      (fun i j => I.dvp (256 * n + j) (i + r)) :=
  (dvp_piece I n r 0 hd 0 hr rfl hdm hwm h c1 c2).congr fun i j _ _ => by rw [Nat.zero_add, Nat.add_comm r]

/-- One head's cotangent in the second block of tokens. -/
theorem dvp_right (I : Inputs) (n : ℕ) {dm : FVec Ideal S512x256 .f32} {wm : FVec Ideal S1x128x128 .bf16} (r hd : ℕ)
    (hr : r = 64 * hd) (hdm : Lifts2 dm (fun c j => I.dmix (256 * n + j) c)) (hwm : Lifts3 wm (fun _ p q => I.wm hd p q))
    (h : S512x256.Slices ![r, 128] S64x128) (c1 c2) :
    Lifts2 (matmul dot_S64x128_S128x128_S64x128_1_0_0_1_n_n none
        (truncf .bf16 (extractStridedSlice S64x128 ![r, 128] dm h) c1)
        (shapeCast S128x128 wm c2) (constant S64x128 .f32 0x00000000#32))
      (fun i j => I.dvp (256 * n + (j + 128)) (i + r)) :=
  (dvp_piece I n r 128 hd 1 hr rfl hdm hwm h c1 c2).congr fun i j _ _ => by rw [Nat.add_comm r, Nat.add_comm 128]

/-- The cotangent of the normalised, scaled and shifted value at all columns and tokens of a point. -/
theorem dvp_stack (I : Inputs) (n : ℕ) {dm : FVec Ideal S512x256 .f32}
    {w0 w1 w2 w3 w4 w5 w6 w7 : FVec Ideal S1x128x128 .bf16}
    (hdm : Lifts2 dm (fun c j => I.dmix (256 * n + j) c))
    (h0 : Lifts3 w0 (fun _ p q => I.wm 0 p q))
    (h1 : Lifts3 w1 (fun _ p q => I.wm 1 p q))
    (h2 : Lifts3 w2 (fun _ p q => I.wm 2 p q))
    (h3 : Lifts3 w3 (fun _ p q => I.wm 3 p q))
    (h4 : Lifts3 w4 (fun _ p q => I.wm 4 p q))
    (h5 : Lifts3 w5 (fun _ p q => I.wm 5 p q))
    (h6 : Lifts3 w6 (fun _ p q => I.wm 6 p q))
    (h7 : Lifts3 w7 (fun _ p q => I.wm 7 p q))
    (s0a s1a s2a s3a s4a s5a s6a s7a s0b s1b s2b s3b s4b s5b s6b s7b c1 c2 e1 e2 e3) :
    Lifts2 (concatenate S512x256 1 [⟨S512x128, concatenate S512x128 0 [⟨S64x128, matmul dot_S64x128_S128x128_S64x128_1_0_0_1_n_n none
        (truncf .bf16 (extractStridedSlice S64x128 ![0, 0] dm s0a) c1)
        (shapeCast S128x128 w0 c2) (constant S64x128 .f32 0x00000000#32)⟩,
      ⟨S64x128, matmul dot_S64x128_S128x128_S64x128_1_0_0_1_n_n none
        (truncf .bf16 (extractStridedSlice S64x128 ![64, 0] dm s1a) c1)
        (shapeCast S128x128 w1 c2) (constant S64x128 .f32 0x00000000#32)⟩,
      ⟨S64x128, matmul dot_S64x128_S128x128_S64x128_1_0_0_1_n_n none
        (truncf .bf16 (extractStridedSlice S64x128 ![128, 0] dm s2a) c1)
        (shapeCast S128x128 w2 c2) (constant S64x128 .f32 0x00000000#32)⟩,
      ⟨S64x128, matmul dot_S64x128_S128x128_S64x128_1_0_0_1_n_n none
        (truncf .bf16 (extractStridedSlice S64x128 ![192, 0] dm s3a) c1)
        (shapeCast S128x128 w3 c2) (constant S64x128 .f32 0x00000000#32)⟩,
      ⟨S64x128, matmul dot_S64x128_S128x128_S64x128_1_0_0_1_n_n none
        (truncf .bf16 (extractStridedSlice S64x128 ![256, 0] dm s4a) c1)
        (shapeCast S128x128 w4 c2) (constant S64x128 .f32 0x00000000#32)⟩,
      ⟨S64x128, matmul dot_S64x128_S128x128_S64x128_1_0_0_1_n_n none
        (truncf .bf16 (extractStridedSlice S64x128 ![320, 0] dm s5a) c1)
        (shapeCast S128x128 w5 c2) (constant S64x128 .f32 0x00000000#32)⟩,
      ⟨S64x128, matmul dot_S64x128_S128x128_S64x128_1_0_0_1_n_n none
        (truncf .bf16 (extractStridedSlice S64x128 ![384, 0] dm s6a) c1)
        (shapeCast S128x128 w6 c2) (constant S64x128 .f32 0x00000000#32)⟩,
      ⟨S64x128, matmul dot_S64x128_S128x128_S64x128_1_0_0_1_n_n none
        (truncf .bf16 (extractStridedSlice S64x128 ![448, 0] dm s7a) c1)
        (shapeCast S128x128 w7 c2) (constant S64x128 .f32 0x00000000#32)⟩] e1⟩,
      ⟨S512x128, concatenate S512x128 0 [⟨S64x128, matmul dot_S64x128_S128x128_S64x128_1_0_0_1_n_n none
        (truncf .bf16 (extractStridedSlice S64x128 ![0, 128] dm s0b) c1)
        (shapeCast S128x128 w0 c2) (constant S64x128 .f32 0x00000000#32)⟩,
      ⟨S64x128, matmul dot_S64x128_S128x128_S64x128_1_0_0_1_n_n none
        (truncf .bf16 (extractStridedSlice S64x128 ![64, 128] dm s1b) c1)
        (shapeCast S128x128 w1 c2) (constant S64x128 .f32 0x00000000#32)⟩,
      ⟨S64x128, matmul dot_S64x128_S128x128_S64x128_1_0_0_1_n_n none
        (truncf .bf16 (extractStridedSlice S64x128 ![128, 128] dm s2b) c1)
        (shapeCast S128x128 w2 c2) (constant S64x128 .f32 0x00000000#32)⟩,
      ⟨S64x128, matmul dot_S64x128_S128x128_S64x128_1_0_0_1_n_n none
        (truncf .bf16 (extractStridedSlice S64x128 ![192, 128] dm s3b) c1)
        (shapeCast S128x128 w3 c2) (constant S64x128 .f32 0x00000000#32)⟩,
      ⟨S64x128, matmul dot_S64x128_S128x128_S64x128_1_0_0_1_n_n none
        (truncf .bf16 (extractStridedSlice S64x128 ![256, 128] dm s4b) c1)
        (shapeCast S128x128 w4 c2) (constant S64x128 .f32 0x00000000#32)⟩,
      ⟨S64x128, matmul dot_S64x128_S128x128_S64x128_1_0_0_1_n_n none
        (truncf .bf16 (extractStridedSlice S64x128 ![320, 128] dm s5b) c1)
        (shapeCast S128x128 w5 c2) (constant S64x128 .f32 0x00000000#32)⟩,
      ⟨S64x128, matmul dot_S64x128_S128x128_S64x128_1_0_0_1_n_n none
        (truncf .bf16 (extractStridedSlice S64x128 ![384, 128] dm s6b) c1)
        (shapeCast S128x128 w6 c2) (constant S64x128 .f32 0x00000000#32)⟩,
      ⟨S64x128, matmul dot_S64x128_S128x128_S64x128_1_0_0_1_n_n none
        (truncf .bf16 (extractStridedSlice S64x128 ![448, 128] dm s7b) c1)
        (shapeCast S128x128 w7 c2) (constant S64x128 .f32 0x00000000#32)⟩] e2⟩] e3) (fun c j => I.dvp (256 * n + j) c) :=
  sides (fun c j => I.dvp (256 * n + j) c)
    (dvp_left I n 0 0 rfl hdm h0 s0a c1 c2) (dvp_right I n 0 0 rfl hdm h0 s0b c1 c2)
    (dvp_left I n 64 1 rfl hdm h1 s1a c1 c2) (dvp_right I n 64 1 rfl hdm h1 s1b c1 c2)
    (dvp_left I n 128 2 rfl hdm h2 s2a c1 c2) (dvp_right I n 128 2 rfl hdm h2 s2b c1 c2)
    (dvp_left I n 192 3 rfl hdm h3 s3a c1 c2) (dvp_right I n 192 3 rfl hdm h3 s3b c1 c2)
    (dvp_left I n 256 4 rfl hdm h4 s4a c1 c2) (dvp_right I n 256 4 rfl hdm h4 s4b c1 c2)
    (dvp_left I n 320 5 rfl hdm h5 s5a c1 c2) (dvp_right I n 320 5 rfl hdm h5 s5b c1 c2)
    (dvp_left I n 384 6 rfl hdm h6 s6a c1 c2) (dvp_right I n 384 6 rfl hdm h6 s6b c1 c2)
    (dvp_left I n 448 7 rfl hdm h7 s7a c1 c2) (dvp_right I n 448 7 rfl hdm h7 s7b c1 c2) e1 e2 e3

/-- An accumulator over the tokens grows by the two blocks of a point. -/
theorem acc_step (F : ℕ → ℕ → ℝ) (n : ℕ) {d : FVec Ideal S512x256 .f32} {acc : FVec Ideal S512x128 .f32} {f : ℕ → ℕ → ℝ}
    (ha : Lifts2 acc f) (hd : Lifts2 d (fun c j => F (256 * n + j) c)) (s1 s2 e1 e2) :
    Lifts2 (shapeCast S512x128 (addf (shapeCast S512x128 (addf acc (extractStridedSlice S512x128 ![0, 0] d s1)) e1)
      (extractStridedSlice S512x128 ![0, 128] d s2)) e2)
      (fun c p => f c p + F (128 * (2 * n + 0) + p) c + F (128 * (2 * n + 1) + p) c) :=
  ((((ha.add (hd.slice 0 0 s1)).cast e1).add (hd.slice 0 128 s2)).cast e2).congr fun c p _ _ => by
    rw [show 256 * n + (0 + p) = 128 * (2 * n + 0) + p by ring, show 256 * n + (128 + p) = 128 * (2 * n + 1) + p by ring,
      Nat.zero_add]

/-- An accumulator's row of totals. -/
theorem acc_total {acc : FVec Ideal S512x128 .f32} {f : ℕ → ℕ → ℝ} (ha : Lifts2 acc f) :
    Lifts2 (k0_pay3 (F := Ideal) acc) (fun _ c => ∑ p ∈ Finset.range 128, f c p) :=
  Lifts2.sumRows (ha.transpose _) _ _ _ _

/-- One head of the multiplying half's gradient, as rows of the gated columns' gradient. -/
theorem du_rows (I : Inputs) (n : ℕ) {da uag : FVec Ideal S512x256 .f32} {vp : FVec Ideal S512x256 .bf16}
    {wm : FVec Ideal S1x128x128 .bf16} {bs : FVec Ideal S1x128 .f32} (r s hd b : ℕ) (hr : r = 64 * hd)
    (hs : s = 128 * b) (hlt : hd < 8)
    (hda : Lifts2 da (fun c j => I.dcat (256 * n + j) c))
    (hvp : Lifts2 vp (fun c j => I.vp (256 * n + j) c))
    (hug : Lifts2 uag (fun c j => dgelu (I.u (256 * n + j) c)))
    (hwm : Lifts3 wm (fun _ p q => I.wm hd p q)) (hbs : Lifts2 bs (fun _ p => I.bs hd p))
    (h : S512x256.Slices ![r, s] S64x128) (c1 c2 c3 c4) :
    Lifts2 (truncf .bf16 (mulf (mulf (extractStridedSlice S64x128 ![r, s] da h)
      (addf (matmul dot_S64x128_S128x128_S64x128_1_1_0_0_n_n none (extractStridedSlice S64x128 ![r, s] vp h)
        (shapeCast S128x128 wm c1) (constant S64x128 .f32 0x00000000#32))
        (broadcastTo S64x128 (shapeCast S1x128 bs c2) c3)))
      (extractStridedSlice S64x128 ![r, s] uag h)) c4) (fun i j => I.dhGate (256 * n + (s + j)) (r + i)) :=
  (du_piece I n r s hd b hr hs hda hvp hug hwm hbs h c1 c2 c3 c4).congr fun i j hi _ => by
    unfold Inputs.dhGate; rw [if_pos (by omega)]

end Cert.Block

end
-- ==== Proof.PointScale.lean ====
/- The accumulated gradient of the normalisation's scale after each grid point. -/
module

public import proofs.«01_k».proof.Proof.PointIn
public import proofs.«01_k».proof.Proof.BlockNorm

@[expose] public section

set_option maxRecDepth 16384
set_option maxHeartbeats 1000000

noncomputable section

namespace Cert.Point

open Idealize.ShloMosaic Idealize.ShloMosaic.TcCoe Idealize.SL.Sem
open Cert.KernelIdeal Cert.KernelIdeal.Gen Cert.Lift Cert.Model Cert.Entry Cert.Block

/-- A reset accumulator holds nothing. -/
theorem zeros_rows (e : S512x128.ShapeCasts S512x128) : Lifts2 (φ := .f32) (shapeCast S512x128
    (broadcast S512x128 (Scalar.ofBits (F := Ideal) .f32 0x00000000#32)) e) (fun _ _ => 0) :=
  (Lifts2.splat (by show Ideal.ofBits .f32 0x00000000#32 = _; simp)).cast e

variable {m : (ℓ : Loc nD τ sig) → Buf (Elt Ideal) ℓ} {c : Dev nD} (h : Real m c) (t : Fin cfg0.N)
include h

/-- The first point starts from nothing. -/
theorem dg_A (h0 : t.val % 16 = 0) (h2 : ¬t.val % 16 = 15)  :
    Lifts2 (φ := .f32) (outsAt0 m c t.val t.isLt).2.2.2.2.2.2.2.1 (fun k p =>
      0 + (inp m c).dvp (128 * (2 * t.val + 0) + p) k * (inp m c).vhat (128 * (2 * t.val + 0) + p) k + (inp m c).dvp (128 * (2 * t.val + 1) + p) k * (inp m c).vhat (128 * (2 * t.val + 1) + p) k) := by
  rw [outsAt0_A m c t h0 h0 h2]
  frame_open
  simp (disch := decide) only [↓ View.readCov_skip, ↓ View.readCov_cons_toLoadRect, ↓ View.readCov_fill]
  frame_out
  try simp only [read_unread_whole]
  refine acc_step (fun s k => (inp m c).dvp s k * (inp m c).vhat s k) t.val ?_ ((dvp_stack (inp m c) t.val ?_ ?_ ?_ ?_ ?_ ?_ ?_ ?_ ?_ _ _ _ _ _ _ _ _ _ _ _ _ _ _ _ _ _ _ _ _ _).mul (pay46_lifts (inp m c) (256 * t.val) ?_)) _ _ _ _
  · exact zeros_rows _
  · try simp only [read_unread_whole]
    try frame_out
    exact dm h t _ _
  · simp (disch := decide) only [↓ View.readCov_skip, ↓ View.readCov_cons_toLoadRect, ↓ View.readCov_fill]
    frame_out
    exact masked_slab ((w_block h t).ld 0 _) _ _ _ _ _
  · simp (disch := decide) only [↓ View.readCov_skip, ↓ View.readCov_cons_toLoadRect, ↓ View.readCov_fill]
    frame_out
    exact masked_slab ((w_block h t).ld 1 _) _ _ _ _ _
  · simp (disch := decide) only [↓ View.readCov_skip, ↓ View.readCov_cons_toLoadRect, ↓ View.readCov_fill]
    frame_out
    exact masked_slab ((w_block h t).ld 2 _) _ _ _ _ _
  · simp (disch := decide) only [↓ View.readCov_skip, ↓ View.readCov_cons_toLoadRect, ↓ View.readCov_fill]
    frame_out
    exact masked_slab ((w_block h t).ld 3 _) _ _ _ _ _
  · simp (disch := decide) only [↓ View.readCov_skip, ↓ View.readCov_cons_toLoadRect, ↓ View.readCov_fill]
    frame_out
    exact masked_slab ((w_block h t).ld 4 _) _ _ _ _ _
  · simp (disch := decide) only [↓ View.readCov_skip, ↓ View.readCov_cons_toLoadRect, ↓ View.readCov_fill]
    frame_out
    exact masked_slab ((w_block h t).ld 5 _) _ _ _ _ _
  · simp (disch := decide) only [↓ View.readCov_skip, ↓ View.readCov_cons_toLoadRect, ↓ View.readCov_fill]
    frame_out
    exact masked_slab ((w_block h t).ld 6 _) _ _ _ _ _
  · simp (disch := decide) only [↓ View.readCov_skip, ↓ View.readCov_cons_toLoadRect, ↓ View.readCov_fill]
    frame_out
    exact masked_slab ((w_block h t).ld 7 _) _ _ _ _ _
  · try simp only [read_unread_whole]
    try frame_out
    exact v_block h t

/-- A middle point adds what its two blocks of tokens give. -/
theorem dg_B (h0 : ¬t.val % 16 = 0) (h2 : ¬t.val % 16 = 15) (ht) {f : ℕ → ℕ → ℝ}
    (hp : Lifts2 (φ := .f32) (outsAt0 m c (t.val - 1) ht).2.2.2.2.2.2.2.1 f)
    (hw : Lifts3 (φ := .bf16) (outsAt0 m c (t.val - 1) ht).2.2.2.2.2.2.2.2.2.1 (inp m c).wm) :
    Lifts2 (φ := .f32) (outsAt0 m c t.val t.isLt).2.2.2.2.2.2.2.1 (fun k p =>
      f k p + (inp m c).dvp (128 * (2 * t.val + 0) + p) k * (inp m c).vhat (128 * (2 * t.val + 0) + p) k + (inp m c).dvp (128 * (2 * t.val + 1) + p) k * (inp m c).vhat (128 * (2 * t.val + 1) + p) k) := by
  rw [outsAt0_B m c t h0 h0 h2]
  frame_open
  simp (disch := decide) only [↓ View.readCov_skip, ↓ View.readCov_cons_toLoadRect, ↓ View.readCov_fill]
  frame_out
  try simp only [read_unread_whole]
  refine acc_step (fun s k => (inp m c).dvp s k * (inp m c).vhat s k) t.val ?_ ((dvp_stack (inp m c) t.val ?_ ?_ ?_ ?_ ?_ ?_ ?_ ?_ ?_ _ _ _ _ _ _ _ _ _ _ _ _ _ _ _ _ _ _ _ _ _).mul (pay46_lifts (inp m c) (256 * t.val) ?_)) _ _ _ _
  · try simp only [read_unread_whole]
    exact hp
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _
  · try simp only [read_unread_whole]
    try frame_out
    exact v_block h t

/-- The last point adds what its two blocks of tokens give. -/
theorem dg_C (h0 : ¬t.val % 16 = 0) (h2 : t.val % 16 = 15) (ht) {f : ℕ → ℕ → ℝ}
    (hp : Lifts2 (φ := .f32) (outsAt0 m c (t.val - 1) ht).2.2.2.2.2.2.2.1 f)
    (hw : Lifts3 (φ := .bf16) (outsAt0 m c (t.val - 1) ht).2.2.2.2.2.2.2.2.2.1 (inp m c).wm) :
    Lifts2 (φ := .f32) (outsAt0 m c t.val t.isLt).2.2.2.2.2.2.2.1 (fun k p =>
      f k p + (inp m c).dvp (128 * (2 * t.val + 0) + p) k * (inp m c).vhat (128 * (2 * t.val + 0) + p) k + (inp m c).dvp (128 * (2 * t.val + 1) + p) k * (inp m c).vhat (128 * (2 * t.val + 1) + p) k) := by
  rw [outsAt0_C m c t h0 h0 h2]
  frame_open
  simp (disch := decide) only [↓ View.readCov_skip, ↓ View.readCov_cons_toLoadRect, ↓ View.readCov_fill]
  frame_out
  try simp only [read_unread_whole]
  refine acc_step (fun s k => (inp m c).dvp s k * (inp m c).vhat s k) t.val ?_ ((dvp_stack (inp m c) t.val ?_ ?_ ?_ ?_ ?_ ?_ ?_ ?_ ?_ _ _ _ _ _ _ _ _ _ _ _ _ _ _ _ _ _ _ _ _ _).mul (pay46_lifts (inp m c) (256 * t.val) ?_)) _ _ _ _
  · try simp only [read_unread_whole]
    exact hp
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _
  · try simp only [read_unread_whole]
    try frame_out
    exact v_block h t

end Cert.Point

end
-- ==== Proof.PointShift.lean ====
/- The accumulated gradient of the normalisation's shift after each grid point. -/
module

public import proofs.«01_k».proof.Proof.PointScale

@[expose] public section

set_option maxRecDepth 16384
set_option maxHeartbeats 1000000

noncomputable section

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c) (t : Fin cfg0.N)
include h

/-- The first point starts from nothing. -/
theorem db_A (h0 : t.val % 16 = 0) (h2 : ¬t.val % 16 = 15)  :
    Lifts2 (φ := .f32) (outsAt0 m c t.val t.isLt).2.2.2.2.2.2.2.2.1 (fun k p =>
      0 + (inp m c).dvp (128 * (2 * t.val + 0) + p) k + (inp m c).dvp (128 * (2 * t.val + 1) + p) k) := by
  rw [outsAt0_A m c t h0 h0 h2]
  frame_open
  simp (disch := decide) only [↓ View.readCov_skip, ↓ View.readCov_cons_toLoadRect, ↓ View.readCov_fill]
  frame_out
  try simp only [read_unread_whole]
  refine acc_step ((inp m c).dvp) t.val ?_ (dvp_stack (inp m c) t.val ?_ ?_ ?_ ?_ ?_ ?_ ?_ ?_ ?_ _ _ _ _ _ _ _ _ _ _ _ _ _ _ _ _ _ _ _ _ _) _ _ _ _
  · exact zeros_rows _
  · try simp only [read_unread_whole]
    try frame_out
    exact dm h t _ _
  · simp (disch := decide) only [↓ View.readCov_skip, ↓ View.readCov_cons_toLoadRect, ↓ View.readCov_fill]
    frame_out
    exact masked_slab ((w_block h t).ld 0 _) _ _ _ _ _
  · simp (disch := decide) only [↓ View.readCov_skip, ↓ View.readCov_cons_toLoadRect, ↓ View.readCov_fill]
    frame_out
    exact masked_slab ((w_block h t).ld 1 _) _ _ _ _ _
  · simp (disch := decide) only [↓ View.readCov_skip, ↓ View.readCov_cons_toLoadRect, ↓ View.readCov_fill]
    frame_out
    exact masked_slab ((w_block h t).ld 2 _) _ _ _ _ _
  · simp (disch := decide) only [↓ View.readCov_skip, ↓ View.readCov_cons_toLoadRect, ↓ View.readCov_fill]
    frame_out
    exact masked_slab ((w_block h t).ld 3 _) _ _ _ _ _
  · simp (disch := decide) only [↓ View.readCov_skip, ↓ View.readCov_cons_toLoadRect, ↓ View.readCov_fill]
    frame_out
    exact masked_slab ((w_block h t).ld 4 _) _ _ _ _ _
  · simp (disch := decide) only [↓ View.readCov_skip, ↓ View.readCov_cons_toLoadRect, ↓ View.readCov_fill]
    frame_out
    exact masked_slab ((w_block h t).ld 5 _) _ _ _ _ _
  · simp (disch := decide) only [↓ View.readCov_skip, ↓ View.readCov_cons_toLoadRect, ↓ View.readCov_fill]
    frame_out
    exact masked_slab ((w_block h t).ld 6 _) _ _ _ _ _
  · simp (disch := decide) only [↓ View.readCov_skip, ↓ View.readCov_cons_toLoadRect, ↓ View.readCov_fill]
    frame_out
    exact masked_slab ((w_block h t).ld 7 _) _ _ _ _ _

/-- A middle point adds what its two blocks of tokens give. -/
theorem db_B (h0 : ¬t.val % 16 = 0) (h2 : ¬t.val % 16 = 15) (ht) {f : ℕ → ℕ → ℝ}
    (hp : Lifts2 (φ := .f32) (outsAt0 m c (t.val - 1) ht).2.2.2.2.2.2.2.2.1 f)
    (hw : Lifts3 (φ := .bf16) (outsAt0 m c (t.val - 1) ht).2.2.2.2.2.2.2.2.2.1 (inp m c).wm) :
    Lifts2 (φ := .f32) (outsAt0 m c t.val t.isLt).2.2.2.2.2.2.2.2.1 (fun k p =>
      f k p + (inp m c).dvp (128 * (2 * t.val + 0) + p) k + (inp m c).dvp (128 * (2 * t.val + 1) + p) k) := by
  rw [outsAt0_B m c t h0 h0 h2]
  frame_open
  simp (disch := decide) only [↓ View.readCov_skip, ↓ View.readCov_cons_toLoadRect, ↓ View.readCov_fill]
  frame_out
  try simp only [read_unread_whole]
  refine acc_step ((inp m c).dvp) t.val ?_ (dvp_stack (inp m c) t.val ?_ ?_ ?_ ?_ ?_ ?_ ?_ ?_ ?_ _ _ _ _ _ _ _ _ _ _ _ _ _ _ _ _ _ _ _ _ _) _ _ _ _
  · try simp only [read_unread_whole]
    exact hp
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _

/-- The last point adds what its two blocks of tokens give. -/
theorem db_C (h0 : ¬t.val % 16 = 0) (h2 : t.val % 16 = 15) (ht) {f : ℕ → ℕ → ℝ}
    (hp : Lifts2 (φ := .f32) (outsAt0 m c (t.val - 1) ht).2.2.2.2.2.2.2.2.1 f)
    (hw : Lifts3 (φ := .bf16) (outsAt0 m c (t.val - 1) ht).2.2.2.2.2.2.2.2.2.1 (inp m c).wm) :
    Lifts2 (φ := .f32) (outsAt0 m c t.val t.isLt).2.2.2.2.2.2.2.2.1 (fun k p =>
      f k p + (inp m c).dvp (128 * (2 * t.val + 0) + p) k + (inp m c).dvp (128 * (2 * t.val + 1) + p) k) := by
  rw [outsAt0_C m c t h0 h0 h2]
  frame_open
  simp (disch := decide) only [↓ View.readCov_skip, ↓ View.readCov_cons_toLoadRect, ↓ View.readCov_fill]
  frame_out
  try simp only [read_unread_whole]
  refine acc_step ((inp m c).dvp) t.val ?_ (dvp_stack (inp m c) t.val ?_ ?_ ?_ ?_ ?_ ?_ ?_ ?_ ?_ _ _ _ _ _ _ _ _ _ _ _ _ _ _ _ _ _ _ _ _ _) _ _ _ _
  · try simp only [read_unread_whole]
    exact hp
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _

end Cert.Point

end
-- ==== Proof.Accum.lean ====
/- What the body's accumulators hold after each grid point: sums over the blocks of tokens seen so far. -/
module

public import proofs.«01_k».proof.Proof.PointGws
public import proofs.«01_k».proof.Proof.PointGbs
public import proofs.«01_k».proof.Proof.PointWm
public import proofs.«01_k».proof.Proof.PointShift

@[expose] public section

set_option maxRecDepth 16384

noncomputable section

open scoped BigOperators

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c)

/-- The accumulators after grid point `n`. -/
structure Held (m : (ℓ : Loc nD τ sig) → Buf (Elt Ideal) ℓ) (c : Dev nD) (n : ℕ) (hn : n < cfg0.N) : Prop where
  gws : Lifts3 (φ := .f32) (outsAt0 m c n hn).2.2.2.2.2.2.2.2.2.2
    (fun hd p q => ∑ b ∈ Finset.range (2 * (n + 1)), (inp m c).gwsBlock b hd p q)
  gbs : Lifts2 (φ := .f32) (outsAt0 m c n hn).2.2.2.2.1
    (fun hd p => ∑ b ∈ Finset.range (2 * (n + 1)), (inp m c).gbsBlock b hd p)
  dg : Lifts2 (φ := .f32) (outsAt0 m c n hn).2.2.2.2.2.2.2.1
    (fun k p => ∑ b ∈ Finset.range (2 * (n + 1)), (inp m c).dvp (128 * b + p) k * (inp m c).vhat (128 * b + p) k)
  db : Lifts2 (φ := .f32) (outsAt0 m c n hn).2.2.2.2.2.2.2.2.1
    (fun k p => ∑ b ∈ Finset.range (2 * (n + 1)), (inp m c).dvp (128 * b + p) k)
  wm : Lifts3 (φ := .bf16) (outsAt0 m c n hn).2.2.2.2.2.2.2.2.2.1 (inp m c).wm

/-- A sum over the blocks of one more point. -/
theorem sum_two (f : ℕ → ℝ) (n : ℕ) : ∑ b ∈ Finset.range (2 * (n + 1)), f b
    = ∑ b ∈ Finset.range (2 * n), f b + f (2 * n + 0) + f (2 * n + 1) := by
  rw [show 2 * (n + 1) = 2 * n + 1 + 1 by ring, Finset.sum_range_succ, Finset.sum_range_succ]; rfl

/-- The same from nothing. -/
theorem sum_first (f : ℕ → ℝ) : ∑ b ∈ Finset.range (2 * (0 + 1)), f b = 0 + f (2 * 0 + 0) + f (2 * 0 + 1) := by
  rw [sum_two, Nat.mul_zero, Finset.sum_range_zero]

include h

theorem held (n : ℕ) (hn : n < cfg0.N) : Held m c n hn := by
  induction n with
  | zero =>
    have h0 : (⟨0, hn⟩ : Fin cfg0.N).val % 16 = 0 := rfl
    have h2 : ¬(⟨0, hn⟩ : Fin cfg0.N).val % 16 = 15 := by show ¬0 % 16 = 15; decide
    constructor
    · simp only [sum_first]; exact gws_A h ⟨0, hn⟩ h0 h2
    · simp only [sum_first]; exact gbs_A h ⟨0, hn⟩ h0 h2
    · simp only [sum_first]; exact dg_A h ⟨0, hn⟩ h0 h2
    · simp only [sum_first]; exact db_A h ⟨0, hn⟩ h0 h2
    · exact wm_A h ⟨0, hn⟩ h0 h2
  | succ n ih =>
    have hN : n + 1 < 16 := hn
    have ht : n < cfg0.N := by omega
    have p := ih ht
    have h0 : ¬(⟨n + 1, hn⟩ : Fin cfg0.N).val % 16 = 0 := by show ¬(n + 1) % 16 = 0; omega
    by_cases h2 : (⟨n + 1, hn⟩ : Fin cfg0.N).val % 16 = 15
    · constructor
      · simp only [sum_two _ (n + 1)]; exact gws_C h ⟨n + 1, hn⟩ h0 h2 ht p.gws
      · simp only [sum_two _ (n + 1)]; exact gbs_C h ⟨n + 1, hn⟩ h0 h2 ht p.gbs
      · simp only [sum_two _ (n + 1)]; exact dg_C h ⟨n + 1, hn⟩ h0 h2 ht p.dg p.wm
      · simp only [sum_two _ (n + 1)]; exact db_C h ⟨n + 1, hn⟩ h0 h2 ht p.db p.wm
      · rw [wm_C ⟨n + 1, hn⟩ h0 h2 ht]; exact p.wm
    · constructor
      · simp only [sum_two _ (n + 1)]; exact gws_B h ⟨n + 1, hn⟩ h0 h2 ht p.gws
      · simp only [sum_two _ (n + 1)]; exact gbs_B h ⟨n + 1, hn⟩ h0 h2 ht p.gbs
      · simp only [sum_two _ (n + 1)]; exact dg_B h ⟨n + 1, hn⟩ h0 h2 ht p.dg p.wm
      · simp only [sum_two _ (n + 1)]; exact db_B h ⟨n + 1, hn⟩ h0 h2 ht p.db p.wm
      · rw [wm_B ⟨n + 1, hn⟩ h0 h2 ht]; exact p.wm

end Cert.Point

end
-- ==== Proof.Rows.lean ====
/- A block of the input's gradient, from the parts that the body stores of its gated rows. -/
module

public import proofs.«01_k».proof.Proof.Pieces

@[expose] public section

set_option maxRecDepth 16384

noncomputable section

namespace Cert.Lift

open Idealize.ShloMosaic

section pieces
variable {Val : EltTy → Type} [∀ e, Nonempty (Val e)] {e : EltTy}

/-- Stored last to first: the attention's rows, the normalised half's rows, the multiplying half's eight heads of the
    second block of tokens, and of the first. The gated rows hold `G` when their parts do. -/
theorem gate_rows_eq (G : (⟨2, ![1536, 256]⟩ : Shape).Idx → Val e) (L' : List (View.Piece Val ⟨2, ![1536, 256]⟩ e))
    {iq iv i0 j0 i1 j1 i2 j2 i3 j3 i4 j4 i5 j5 i6 j6 i7 j7} {wq wv : (⟨2, ![512, 256]⟩ : Shape).Idx → Val e}
    {u0 v0 u1 v1 u2 v2 u3 v3 u4 v4 u5 v5 u6 v6 u7 v7 : (⟨2, ![64, 128]⟩ : Shape).Idx → Val e}
    (hv : ∀ x, wv x = G ((Rect.unit (s := ⟨2, ![1536, 256]⟩) ![512, 0] ![512, 256] iv).emb x))
    (h0 : ∀ x, u0 x = G ((Rect.unit (s := ⟨2, ![1536, 256]⟩) ![0, 0] ![64, 128] i0).emb x))
    (g0 : ∀ x, v0 x = G ((Rect.unit (s := ⟨2, ![1536, 256]⟩) ![0, 128] ![64, 128] j0).emb x))
    (h1 : ∀ x, u1 x = G ((Rect.unit (s := ⟨2, ![1536, 256]⟩) ![64, 0] ![64, 128] i1).emb x))
    (g1 : ∀ x, v1 x = G ((Rect.unit (s := ⟨2, ![1536, 256]⟩) ![64, 128] ![64, 128] j1).emb x))
    (h2 : ∀ x, u2 x = G ((Rect.unit (s := ⟨2, ![1536, 256]⟩) ![128, 0] ![64, 128] i2).emb x))
    (g2 : ∀ x, v2 x = G ((Rect.unit (s := ⟨2, ![1536, 256]⟩) ![128, 128] ![64, 128] j2).emb x))
    (h3 : ∀ x, u3 x = G ((Rect.unit (s := ⟨2, ![1536, 256]⟩) ![192, 0] ![64, 128] i3).emb x))
    (g3 : ∀ x, v3 x = G ((Rect.unit (s := ⟨2, ![1536, 256]⟩) ![192, 128] ![64, 128] j3).emb x))
    (h4 : ∀ x, u4 x = G ((Rect.unit (s := ⟨2, ![1536, 256]⟩) ![256, 0] ![64, 128] i4).emb x))
    (g4 : ∀ x, v4 x = G ((Rect.unit (s := ⟨2, ![1536, 256]⟩) ![256, 128] ![64, 128] j4).emb x))
    (h5 : ∀ x, u5 x = G ((Rect.unit (s := ⟨2, ![1536, 256]⟩) ![320, 0] ![64, 128] i5).emb x))
    (g5 : ∀ x, v5 x = G ((Rect.unit (s := ⟨2, ![1536, 256]⟩) ![320, 128] ![64, 128] j5).emb x))
    (h6 : ∀ x, u6 x = G ((Rect.unit (s := ⟨2, ![1536, 256]⟩) ![384, 0] ![64, 128] i6).emb x))
    (g6 : ∀ x, v6 x = G ((Rect.unit (s := ⟨2, ![1536, 256]⟩) ![384, 128] ![64, 128] j6).emb x))
    (h7 : ∀ x, u7 x = G ((Rect.unit (s := ⟨2, ![1536, 256]⟩) ![448, 0] ![64, 128] i7).emb x))
    (g7 : ∀ x, v7 x = G ((Rect.unit (s := ⟨2, ![1536, 256]⟩) ![448, 128] ![64, 128] j7).emb x))
    (y : (⟨2, ![1536, 256]⟩ : Shape).Idx) (hy : (y 0).val < 1024) :
    View.canon (⟨Rect.unit (s := ⟨2, ![1536, 256]⟩) ![1024, 0] ![512, 256] iq, wq⟩ ::
      ⟨Rect.unit (s := ⟨2, ![1536, 256]⟩) ![512, 0] ![512, 256] iv, wv⟩ ::
      ⟨Rect.unit (s := ⟨2, ![1536, 256]⟩) ![448, 128] ![64, 128] j7, v7⟩ ::
      ⟨Rect.unit (s := ⟨2, ![1536, 256]⟩) ![384, 128] ![64, 128] j6, v6⟩ ::
      ⟨Rect.unit (s := ⟨2, ![1536, 256]⟩) ![320, 128] ![64, 128] j5, v5⟩ ::
      ⟨Rect.unit (s := ⟨2, ![1536, 256]⟩) ![256, 128] ![64, 128] j4, v4⟩ ::
      ⟨Rect.unit (s := ⟨2, ![1536, 256]⟩) ![192, 128] ![64, 128] j3, v3⟩ ::
      ⟨Rect.unit (s := ⟨2, ![1536, 256]⟩) ![128, 128] ![64, 128] j2, v2⟩ ::
      ⟨Rect.unit (s := ⟨2, ![1536, 256]⟩) ![64, 128] ![64, 128] j1, v1⟩ ::
      ⟨Rect.unit (s := ⟨2, ![1536, 256]⟩) ![0, 128] ![64, 128] j0, v0⟩ ::
      ⟨Rect.unit (s := ⟨2, ![1536, 256]⟩) ![448, 0] ![64, 128] i7, u7⟩ ::
      ⟨Rect.unit (s := ⟨2, ![1536, 256]⟩) ![384, 0] ![64, 128] i6, u6⟩ ::
      ⟨Rect.unit (s := ⟨2, ![1536, 256]⟩) ![320, 0] ![64, 128] i5, u5⟩ ::
      ⟨Rect.unit (s := ⟨2, ![1536, 256]⟩) ![256, 0] ![64, 128] i4, u4⟩ ::
      ⟨Rect.unit (s := ⟨2, ![1536, 256]⟩) ![192, 0] ![64, 128] i3, u3⟩ ::
      ⟨Rect.unit (s := ⟨2, ![1536, 256]⟩) ![128, 0] ![64, 128] i2, u2⟩ ::
      ⟨Rect.unit (s := ⟨2, ![1536, 256]⟩) ![64, 0] ![64, 128] i1, u1⟩ ::
      ⟨Rect.unit (s := ⟨2, ![1536, 256]⟩) ![0, 0] ![64, 128] i0, u0⟩ :: L') y = G y := by
  have hz : (y 1).val < 256 := (y 1).isLt
  refine (View.canon_cons_of_not_mem _ _ ?_).trans ?_
  · rw [Rect.mem_set_unit, Fin.forall_fin_two]
    show ¬((1024 ≤ (y 0).val ∧ (y 0).val < 1024 + 512) ∧ 0 ≤ (y 1).val ∧ (y 1).val < 0 + 256)
    omega
  refine View.canon_append_of_piecesOf G L'
    [_, _, _, _, _, _, _, _, _, _, _, _, _, _, _, _, _] ⟨hv, g7, g6, g5, g4, g3, g2, g1, g0, h7, h6, h5, h4, h3, h2, h1,
      h0, trivial⟩ y ?_
  simp only [List.exists_mem_cons_iff, List.not_mem_nil, false_and, exists_false, or_false]
  simp only [Rect.mem_set_unit, Fin.forall_fin_two]
  show ((512 ≤ (y 0).val ∧ (y 0).val < 512 + 512) ∧ 0 ≤ (y 1).val ∧ (y 1).val < 0 + 256) ∨
    ((448 ≤ (y 0).val ∧ (y 0).val < 448 + 64) ∧ 128 ≤ (y 1).val ∧ (y 1).val < 128 + 128) ∨
    ((384 ≤ (y 0).val ∧ (y 0).val < 384 + 64) ∧ 128 ≤ (y 1).val ∧ (y 1).val < 128 + 128) ∨
    ((320 ≤ (y 0).val ∧ (y 0).val < 320 + 64) ∧ 128 ≤ (y 1).val ∧ (y 1).val < 128 + 128) ∨
    ((256 ≤ (y 0).val ∧ (y 0).val < 256 + 64) ∧ 128 ≤ (y 1).val ∧ (y 1).val < 128 + 128) ∨
    ((192 ≤ (y 0).val ∧ (y 0).val < 192 + 64) ∧ 128 ≤ (y 1).val ∧ (y 1).val < 128 + 128) ∨
    ((128 ≤ (y 0).val ∧ (y 0).val < 128 + 64) ∧ 128 ≤ (y 1).val ∧ (y 1).val < 128 + 128) ∨
    ((64 ≤ (y 0).val ∧ (y 0).val < 64 + 64) ∧ 128 ≤ (y 1).val ∧ (y 1).val < 128 + 128) ∨
    ((0 ≤ (y 0).val ∧ (y 0).val < 0 + 64) ∧ 128 ≤ (y 1).val ∧ (y 1).val < 128 + 128) ∨
    ((448 ≤ (y 0).val ∧ (y 0).val < 448 + 64) ∧ 0 ≤ (y 1).val ∧ (y 1).val < 0 + 128) ∨
    ((384 ≤ (y 0).val ∧ (y 0).val < 384 + 64) ∧ 0 ≤ (y 1).val ∧ (y 1).val < 0 + 128) ∨
    ((320 ≤ (y 0).val ∧ (y 0).val < 320 + 64) ∧ 0 ≤ (y 1).val ∧ (y 1).val < 0 + 128) ∨
    ((256 ≤ (y 0).val ∧ (y 0).val < 256 + 64) ∧ 0 ≤ (y 1).val ∧ (y 1).val < 0 + 128) ∨
    ((192 ≤ (y 0).val ∧ (y 0).val < 192 + 64) ∧ 0 ≤ (y 1).val ∧ (y 1).val < 0 + 128) ∨
    ((128 ≤ (y 0).val ∧ (y 0).val < 128 + 64) ∧ 0 ≤ (y 1).val ∧ (y 1).val < 0 + 128) ∨
    ((64 ≤ (y 0).val ∧ (y 0).val < 64 + 64) ∧ 0 ≤ (y 1).val ∧ (y 1).val < 0 + 128) ∨
    ((0 ≤ (y 0).val ∧ (y 0).val < 0 + 64) ∧ 0 ≤ (y 1).val ∧ (y 1).val < 0 + 128)
  by_cases hq : 512 ≤ (y 0).val
  · exact Or.inl (by omega)
  have hk : (y 0).val / 64 = 7 ∨ (y 0).val / 64 = 6 ∨ (y 0).val / 64 = 5 ∨ (y 0).val / 64 = 4 ∨ (y 0).val / 64 = 3 ∨
    (y 0).val / 64 = 2 ∨ (y 0).val / 64 = 1 ∨ (y 0).val / 64 = 0 := by omega
  by_cases hj : 128 ≤ (y 1).val <;> rcases hk with hk | hk | hk | hk | hk | hk | hk | hk
  all_goals repeat (first | exact Or.inl (by omega) | apply Or.inr)
  omega

/-- Eight rows put to one value, and then the second and the first one stored. -/
theorem two_rows_eq {b : ℕ} (G : (⟨2, ![8, b]⟩ : Shape).Idx → Val e) (v : Val e) {i0 i1 iz}
    {w0 w1 : (⟨2, ![1, b]⟩ : Shape).Idx → Val e} {z : (⟨2, ![8, b]⟩ : Shape).Idx → Val e}
    (h0 : ∀ x, w0 x = G ((Rect.unit (s := ⟨2, ![8, b]⟩) ![0, 0] ![1, b] i0).emb x))
    (h1 : ∀ x, w1 x = G ((Rect.unit (s := ⟨2, ![8, b]⟩) ![1, 0] ![1, b] i1).emb x))
    (hz : ∀ x, z x = v) (hG : ∀ y, 2 ≤ (y 0).val → G y = v) (y) :
    View.canon [⟨Rect.unit (s := ⟨2, ![8, b]⟩) ![1, 0] ![1, b] i1, w1⟩, ⟨Rect.unit ![0, 0] ![1, b] i0, w0⟩,
       ⟨Rect.unit ![0, 0] ![8, b] iz, z⟩] y = G y := by
  have hy : (y 0).val < 8 := (y 0).isLt
  have hb : (y 1).val < b := (y 1).isLt
  by_cases e1 : (y 0).val = 1
  · refine View.canon_append_of_piecesOf G [⟨Rect.unit ![0, 0] ![1, b] i0, w0⟩, ⟨Rect.unit ![0, 0] ![8, b] iz, z⟩]
      [⟨Rect.unit ![1, 0] ![1, b] i1, w1⟩] ⟨h1, trivial⟩ y ?_
    simp only [List.exists_mem_cons_iff, List.not_mem_nil, false_and, exists_false, or_false]
    rw [Rect.mem_set_unit, Fin.forall_fin_two]
    show (1 ≤ (y 0).val ∧ (y 0).val < 1 + 1) ∧ 0 ≤ (y 1).val ∧ (y 1).val < 0 + b
    omega
  refine (View.canon_cons_of_not_mem _ _ ?_).trans ?_
  · rw [Rect.mem_set_unit, Fin.forall_fin_two]
    show ¬((1 ≤ (y 0).val ∧ (y 0).val < 1 + 1) ∧ 0 ≤ (y 1).val ∧ (y 1).val < 0 + b)
    omega
  by_cases e0 : (y 0).val = 0
  · refine View.canon_append_of_piecesOf G [⟨Rect.unit ![0, 0] ![8, b] iz, z⟩]
      [⟨Rect.unit ![0, 0] ![1, b] i0, w0⟩] ⟨h0, trivial⟩ y ?_
    simp only [List.exists_mem_cons_iff, List.not_mem_nil, false_and, exists_false, or_false]
    rw [Rect.mem_set_unit, Fin.forall_fin_two]
    show (0 ≤ (y 0).val ∧ (y 0).val < 0 + 1) ∧ 0 ≤ (y 1).val ∧ (y 1).val < 0 + b
    omega
  refine (View.canon_cons_of_not_mem _ _ ?_).trans ?_
  · rw [Rect.mem_set_unit, Fin.forall_fin_two]
    show ¬((0 ≤ (y 0).val ∧ (y 0).val < 0 + 1) ∧ 0 ≤ (y 1).val ∧ (y 1).val < 0 + b)
    omega
  rw [hG _ (by omega)]
  refine View.canon_append_of_piecesOf (fun _ => v) [] [⟨Rect.unit ![0, 0] ![8, b] iz, z⟩] ⟨hz, trivial⟩ y ?_
  simp only [List.exists_mem_cons_iff, List.not_mem_nil, false_and, exists_false, or_false]
  rw [Rect.mem_set_unit, Fin.forall_fin_two]
  show (0 ≤ (y 0).val ∧ (y 0).val < 0 + 8) ∧ 0 ≤ (y 1).val ∧ (y 1).val < 0 + b
  omega

end pieces

/-- The gated rows hold the function when their parts do. -/
theorem gate_rows (f : ℕ → ℕ → ℝ) (L' : List (View.Piece (Elt Ideal) ⟨2, ![1536, 256]⟩ .bf16))
    {iq iv i0 j0 i1 j1 i2 j2 i3 j3 i4 j4 i5 j5 i6 j6 i7 j7} {wq wv : FVec Ideal ⟨2, ![512, 256]⟩ .bf16} {u0 v0 u1 v1 u2 v2 u3 v3 u4 v4 u5 v5 u6 v6 u7 v7 : FVec Ideal ⟨2, ![64, 128]⟩ .bf16}
    (hv : Lifts2 wv (fun i j => f (512 + i) (0 + j)))
    (h0 : Lifts2 u0 (fun i j => f (0 + i) (0 + j))) (g0 : Lifts2 v0 (fun i j => f (0 + i) (128 + j)))
    (h1 : Lifts2 u1 (fun i j => f (64 + i) (0 + j))) (g1 : Lifts2 v1 (fun i j => f (64 + i) (128 + j)))
    (h2 : Lifts2 u2 (fun i j => f (128 + i) (0 + j))) (g2 : Lifts2 v2 (fun i j => f (128 + i) (128 + j)))
    (h3 : Lifts2 u3 (fun i j => f (192 + i) (0 + j))) (g3 : Lifts2 v3 (fun i j => f (192 + i) (128 + j)))
    (h4 : Lifts2 u4 (fun i j => f (256 + i) (0 + j))) (g4 : Lifts2 v4 (fun i j => f (256 + i) (128 + j)))
    (h5 : Lifts2 u5 (fun i j => f (320 + i) (0 + j))) (g5 : Lifts2 v5 (fun i j => f (320 + i) (128 + j)))
    (h6 : Lifts2 u6 (fun i j => f (384 + i) (0 + j))) (g6 : Lifts2 v6 (fun i j => f (384 + i) (128 + j)))
    (h7 : Lifts2 u7 (fun i j => f (448 + i) (0 + j))) (g7 : Lifts2 v7 (fun i j => f (448 + i) (128 + j)))
    (y : (⟨2, ![1536, 256]⟩ : Shape).Idx) (hy : (y 0).val < 1024) :
    View.canon (Val := Elt Ideal) (e := .bf16) (⟨Rect.unit (s := ⟨2, ![1536, 256]⟩) ![1024, 0] ![512, 256] iq, wq⟩ ::
      ⟨Rect.unit (s := ⟨2, ![1536, 256]⟩) ![512, 0] ![512, 256] iv, wv⟩ ::
      ⟨Rect.unit (s := ⟨2, ![1536, 256]⟩) ![448, 128] ![64, 128] j7, v7⟩ ::
      ⟨Rect.unit (s := ⟨2, ![1536, 256]⟩) ![384, 128] ![64, 128] j6, v6⟩ ::
      ⟨Rect.unit (s := ⟨2, ![1536, 256]⟩) ![320, 128] ![64, 128] j5, v5⟩ ::
      ⟨Rect.unit (s := ⟨2, ![1536, 256]⟩) ![256, 128] ![64, 128] j4, v4⟩ ::
      ⟨Rect.unit (s := ⟨2, ![1536, 256]⟩) ![192, 128] ![64, 128] j3, v3⟩ ::
      ⟨Rect.unit (s := ⟨2, ![1536, 256]⟩) ![128, 128] ![64, 128] j2, v2⟩ ::
      ⟨Rect.unit (s := ⟨2, ![1536, 256]⟩) ![64, 128] ![64, 128] j1, v1⟩ ::
      ⟨Rect.unit (s := ⟨2, ![1536, 256]⟩) ![0, 128] ![64, 128] j0, v0⟩ ::
      ⟨Rect.unit (s := ⟨2, ![1536, 256]⟩) ![448, 0] ![64, 128] i7, u7⟩ ::
      ⟨Rect.unit (s := ⟨2, ![1536, 256]⟩) ![384, 0] ![64, 128] i6, u6⟩ ::
      ⟨Rect.unit (s := ⟨2, ![1536, 256]⟩) ![320, 0] ![64, 128] i5, u5⟩ ::
      ⟨Rect.unit (s := ⟨2, ![1536, 256]⟩) ![256, 0] ![64, 128] i4, u4⟩ ::
      ⟨Rect.unit (s := ⟨2, ![1536, 256]⟩) ![192, 0] ![64, 128] i3, u3⟩ ::
      ⟨Rect.unit (s := ⟨2, ![1536, 256]⟩) ![128, 0] ![64, 128] i2, u2⟩ ::
      ⟨Rect.unit (s := ⟨2, ![1536, 256]⟩) ![64, 0] ![64, 128] i1, u1⟩ ::
      ⟨Rect.unit (s := ⟨2, ![1536, 256]⟩) ![0, 0] ![64, 128] i0, u0⟩ :: L') y = ((f (y 0).val (y 1).val : ℝ) : EReal) :=
  gate_rows_eq (Val := Elt Ideal) (e := .bf16) (fun y => ((f (y 0).val (y 1).val : ℝ) : EReal)) L'
    (Lifts2.piece 512 0 hv iv)
    (Lifts2.piece 0 0 h0 i0) (Lifts2.piece 0 128 g0 j0)
    (Lifts2.piece 64 0 h1 i1) (Lifts2.piece 64 128 g1 j1)
    (Lifts2.piece 128 0 h2 i2) (Lifts2.piece 128 128 g2 j2)
    (Lifts2.piece 192 0 h3 i3) (Lifts2.piece 192 128 g3 j3)
    (Lifts2.piece 256 0 h4 i4) (Lifts2.piece 256 128 g4 j4)
    (Lifts2.piece 320 0 h5 i5) (Lifts2.piece 320 128 g5 j5)
    (Lifts2.piece 384 0 h6 i6) (Lifts2.piece 384 128 g6 j6)
    (Lifts2.piece 448 0 h7 i7) (Lifts2.piece 448 128 g7 j7) y hy

/-- Eight rows put to nothing, and then the second and the first one stored. -/
theorem two_rows {b : ℕ} (f : ℕ → ℕ → ℝ) {i0 i1 iz} {w0 w1 : FVec Ideal ⟨2, ![1, b]⟩ .f32}
    {z : FVec Ideal ⟨2, ![8, b]⟩ .f32} (h0 : Lifts2 w0 (fun _ j => f 0 j)) (h1 : Lifts2 w1 (fun _ j => f 1 j))
    (hz : Lifts2 z (fun _ _ => 0)) (hf : ∀ i j, 2 ≤ i → f i j = 0) :
    Lifts2 (φ := .f32) (View.canon (Val := Elt Ideal) (e := .f32)
      [⟨Rect.unit (s := ⟨2, ![8, b]⟩) ![1, 0] ![1, b] i1, w1⟩, ⟨Rect.unit (s := ⟨2, ![8, b]⟩) ![0, 0] ![1, b] i0, w0⟩,
       ⟨Rect.unit (s := ⟨2, ![8, b]⟩) ![0, 0] ![8, b] iz, z⟩]) f :=
  two_rows_eq (Val := Elt Ideal) (e := .f32) (fun y => ((f (y 0).val (y 1).val : ℝ) : EReal)) ((0 : ℝ) : EReal)
    (Lifts2.piece 0 0 (Lifts2.row (f := f) 0 h0) i0) (Lifts2.piece 1 0 (Lifts2.row (f := f) 1 h1) i1) hz
    (fun y hy => by rw [hf _ _ hy])

end Cert.Lift

end
-- ==== Proof.PointDh.lean ====
/- The gated rows of the input's gradient after each grid point. -/
module

public import proofs.«01_k».proof.Proof.PointScale
public import proofs.«01_k».proof.Proof.Rows

@[expose] public section

set_option maxRecDepth 16384
set_option maxHeartbeats 1000000

noncomputable section

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c) (t : Fin cfg0.N)
include h

/-- The normalised half's gradient, as rows of the gated columns' gradient. -/
theorem dv_rows {d : FVec Ideal S512x256 .f32} (hd : Lifts2 d (fun k j => (inp m c).dvp (256 * t.val + j) k)) :
    Lifts2 (k0_pay176 (k0_pay42 (F := Ideal) (X0_3 m c t)) (k0_pay45 (F := Ideal) (X0_3 m c t))
      (k0_pay46 (k0_pay44 (F := Ideal) (X0_3 m c t)) (k0_pay45 (F := Ideal) (X0_3 m c t)))
      (k0_pay173 (k0_pay31 (F := Ideal) (iblk m c 13 t)) d)
      (k0_pay174 (k0_pay31 (F := Ideal) (iblk m c 13 t))
        (k0_pay46 (k0_pay44 (F := Ideal) (X0_3 m c t)) (k0_pay45 (F := Ideal) (X0_3 m c t))) d)
      k0_pay175) (fun i j => (inp m c).dhGate (256 * t.val + (0 + j)) (512 + i)) :=
  (pay176_lifts (inp m c) (256 * t.val) (v_block h t) hd (g_block h t)).congr fun i j _ _ => by
    unfold Inputs.dhGate; rw [if_neg (by omega), Nat.add_sub_cancel_left, Nat.zero_add]

/-- The first point's gated rows. -/
theorem dh_A (h0 : t.val % 16 = 0) (h2 : ¬t.val % 16 = 15)
    (y : S1536x256.Idx) (hy : (y 0).val < 1024) :
    (outsAt0 m c t.val t.isLt).1 y = (((inp m c).dhGate (256 * t.val + (y 1).val) (y 0).val : ℝ) : EReal) := by
  rw [outsAt0_A m c t h0 h0 h2]
  frame_open
  simp (disch := decide) only [↓ View.readCov_skip, ↓ View.readCov_cons_toLoadRect, ↓ View.readCov_fill]
  frame_out
  try simp only [read_unread_whole]
  have a := fun i => da h t i
  have b := vp h t
  have ug := pay37_lifts (u_block h t)
  have bs := bs_block h t
  have w := w_block h t
  refine gate_rows (fun k j => (inp m c).dhGate (256 * t.val + j) k) _
    ?_
    (du_rows _ _ 0 0 0 0 rfl rfl (by decide) ((a _).cast _) (b _ _ _ _) ug (masked_slab (w.ld 0 _) _ _ _ _ _) (bs.ldRow 0 _) _ _ _ _ _)
    (du_rows _ _ 0 128 0 1 rfl rfl (by decide) ((a _).cast _) (b _ _ _ _) ug (masked_slab (w.ld 0 _) _ _ _ _ _) (bs.ldRow 0 _) _ _ _ _ _)
    (du_rows _ _ 64 0 1 0 rfl rfl (by decide) ((a _).cast _) (b _ _ _ _) ug (masked_slab (w.ld 1 _) _ _ _ _ _) (bs.ldRow 1 _) _ _ _ _ _)
    (du_rows _ _ 64 128 1 1 rfl rfl (by decide) ((a _).cast _) (b _ _ _ _) ug (masked_slab (w.ld 1 _) _ _ _ _ _) (bs.ldRow 1 _) _ _ _ _ _)
    (du_rows _ _ 128 0 2 0 rfl rfl (by decide) ((a _).cast _) (b _ _ _ _) ug (masked_slab (w.ld 2 _) _ _ _ _ _) (bs.ldRow 2 _) _ _ _ _ _)
    (du_rows _ _ 128 128 2 1 rfl rfl (by decide) ((a _).cast _) (b _ _ _ _) ug (masked_slab (w.ld 2 _) _ _ _ _ _) (bs.ldRow 2 _) _ _ _ _ _)
    (du_rows _ _ 192 0 3 0 rfl rfl (by decide) ((a _).cast _) (b _ _ _ _) ug (masked_slab (w.ld 3 _) _ _ _ _ _) (bs.ldRow 3 _) _ _ _ _ _)
    (du_rows _ _ 192 128 3 1 rfl rfl (by decide) ((a _).cast _) (b _ _ _ _) ug (masked_slab (w.ld 3 _) _ _ _ _ _) (bs.ldRow 3 _) _ _ _ _ _)
    (du_rows _ _ 256 0 4 0 rfl rfl (by decide) ((a _).cast _) (b _ _ _ _) ug (masked_slab (w.ld 4 _) _ _ _ _ _) (bs.ldRow 4 _) _ _ _ _ _)
    (du_rows _ _ 256 128 4 1 rfl rfl (by decide) ((a _).cast _) (b _ _ _ _) ug (masked_slab (w.ld 4 _) _ _ _ _ _) (bs.ldRow 4 _) _ _ _ _ _)
    (du_rows _ _ 320 0 5 0 rfl rfl (by decide) ((a _).cast _) (b _ _ _ _) ug (masked_slab (w.ld 5 _) _ _ _ _ _) (bs.ldRow 5 _) _ _ _ _ _)
    (du_rows _ _ 320 128 5 1 rfl rfl (by decide) ((a _).cast _) (b _ _ _ _) ug (masked_slab (w.ld 5 _) _ _ _ _ _) (bs.ldRow 5 _) _ _ _ _ _)
    (du_rows _ _ 384 0 6 0 rfl rfl (by decide) ((a _).cast _) (b _ _ _ _) ug (masked_slab (w.ld 6 _) _ _ _ _ _) (bs.ldRow 6 _) _ _ _ _ _)
    (du_rows _ _ 384 128 6 1 rfl rfl (by decide) ((a _).cast _) (b _ _ _ _) ug (masked_slab (w.ld 6 _) _ _ _ _ _) (bs.ldRow 6 _) _ _ _ _ _)
    (du_rows _ _ 448 0 7 0 rfl rfl (by decide) ((a _).cast _) (b _ _ _ _) ug (masked_slab (w.ld 7 _) _ _ _ _ _) (bs.ldRow 7 _) _ _ _ _ _)
    (du_rows _ _ 448 128 7 1 rfl rfl (by decide) ((a _).cast _) (b _ _ _ _) ug (masked_slab (w.ld 7 _) _ _ _ _ _) (bs.ldRow 7 _) _ _ _ _ _) y hy
  generalize e : concatenate S512x256 _ _ _ = D
  refine dv_rows h t ?_
  rw [← e]
  refine dvp_stack (inp m c) t.val ?_ ?_ ?_ ?_ ?_ ?_ ?_ ?_ ?_ _ _ _ _ _ _ _ _ _ _ _ _ _ _ _ _ _ _ _ _ _
  · try simp only [read_unread_whole]
    try frame_out
    exact dm h t _ _
  · simp (disch := decide) only [↓ View.readCov_skip, ↓ View.readCov_cons_toLoadRect, ↓ View.readCov_fill]
    frame_out
    exact masked_slab (w.ld 0 _) _ _ _ _ _
  · simp (disch := decide) only [↓ View.readCov_skip, ↓ View.readCov_cons_toLoadRect, ↓ View.readCov_fill]
    frame_out
    exact masked_slab (w.ld 1 _) _ _ _ _ _
  · simp (disch := decide) only [↓ View.readCov_skip, ↓ View.readCov_cons_toLoadRect, ↓ View.readCov_fill]
    frame_out
    exact masked_slab (w.ld 2 _) _ _ _ _ _
  · simp (disch := decide) only [↓ View.readCov_skip, ↓ View.readCov_cons_toLoadRect, ↓ View.readCov_fill]
    frame_out
    exact masked_slab (w.ld 3 _) _ _ _ _ _
  · simp (disch := decide) only [↓ View.readCov_skip, ↓ View.readCov_cons_toLoadRect, ↓ View.readCov_fill]
    frame_out
    exact masked_slab (w.ld 4 _) _ _ _ _ _
  · simp (disch := decide) only [↓ View.readCov_skip, ↓ View.readCov_cons_toLoadRect, ↓ View.readCov_fill]
    frame_out
    exact masked_slab (w.ld 5 _) _ _ _ _ _
  · simp (disch := decide) only [↓ View.readCov_skip, ↓ View.readCov_cons_toLoadRect, ↓ View.readCov_fill]
    frame_out
    exact masked_slab (w.ld 6 _) _ _ _ _ _
  · simp (disch := decide) only [↓ View.readCov_skip, ↓ View.readCov_cons_toLoadRect, ↓ View.readCov_fill]
    frame_out
    exact masked_slab (w.ld 7 _) _ _ _ _ _

/-- A middle point's gated rows. -/
theorem dh_B (h0 : ¬t.val % 16 = 0) (h2 : ¬t.val % 16 = 15) (ht)
    (hw : Lifts3 (φ := .bf16) (outsAt0 m c (t.val - 1) ht).2.2.2.2.2.2.2.2.2.1 (inp m c).wm)
    (y : S1536x256.Idx) (hy : (y 0).val < 1024) :
    (outsAt0 m c t.val t.isLt).1 y = (((inp m c).dhGate (256 * t.val + (y 1).val) (y 0).val : ℝ) : EReal) := by
  rw [outsAt0_B m c t h0 h0 h2]
  frame_open
  simp (disch := decide) only [↓ View.readCov_skip, ↓ View.readCov_cons_toLoadRect, ↓ View.readCov_fill]
  frame_out
  try simp only [read_unread_whole]
  have a := fun i => da h t i
  have b := vp h t
  have ug := pay37_lifts (u_block h t)
  have bs := bs_block h t
  refine gate_rows (fun k j => (inp m c).dhGate (256 * t.val + j) k) _
    ?_
    (du_rows _ _ 0 0 0 0 rfl rfl (by decide) ((a _).cast _) (b _ _ _ _) ug (hw.ld 0 _) (bs.ldRow 0 _) _ _ _ _ _)
    (du_rows _ _ 0 128 0 1 rfl rfl (by decide) ((a _).cast _) (b _ _ _ _) ug (hw.ld 0 _) (bs.ldRow 0 _) _ _ _ _ _)
    (du_rows _ _ 64 0 1 0 rfl rfl (by decide) ((a _).cast _) (b _ _ _ _) ug (hw.ld 1 _) (bs.ldRow 1 _) _ _ _ _ _)
    (du_rows _ _ 64 128 1 1 rfl rfl (by decide) ((a _).cast _) (b _ _ _ _) ug (hw.ld 1 _) (bs.ldRow 1 _) _ _ _ _ _)
    (du_rows _ _ 128 0 2 0 rfl rfl (by decide) ((a _).cast _) (b _ _ _ _) ug (hw.ld 2 _) (bs.ldRow 2 _) _ _ _ _ _)
    (du_rows _ _ 128 128 2 1 rfl rfl (by decide) ((a _).cast _) (b _ _ _ _) ug (hw.ld 2 _) (bs.ldRow 2 _) _ _ _ _ _)
    (du_rows _ _ 192 0 3 0 rfl rfl (by decide) ((a _).cast _) (b _ _ _ _) ug (hw.ld 3 _) (bs.ldRow 3 _) _ _ _ _ _)
    (du_rows _ _ 192 128 3 1 rfl rfl (by decide) ((a _).cast _) (b _ _ _ _) ug (hw.ld 3 _) (bs.ldRow 3 _) _ _ _ _ _)
    (du_rows _ _ 256 0 4 0 rfl rfl (by decide) ((a _).cast _) (b _ _ _ _) ug (hw.ld 4 _) (bs.ldRow 4 _) _ _ _ _ _)
    (du_rows _ _ 256 128 4 1 rfl rfl (by decide) ((a _).cast _) (b _ _ _ _) ug (hw.ld 4 _) (bs.ldRow 4 _) _ _ _ _ _)
    (du_rows _ _ 320 0 5 0 rfl rfl (by decide) ((a _).cast _) (b _ _ _ _) ug (hw.ld 5 _) (bs.ldRow 5 _) _ _ _ _ _)
    (du_rows _ _ 320 128 5 1 rfl rfl (by decide) ((a _).cast _) (b _ _ _ _) ug (hw.ld 5 _) (bs.ldRow 5 _) _ _ _ _ _)
    (du_rows _ _ 384 0 6 0 rfl rfl (by decide) ((a _).cast _) (b _ _ _ _) ug (hw.ld 6 _) (bs.ldRow 6 _) _ _ _ _ _)
    (du_rows _ _ 384 128 6 1 rfl rfl (by decide) ((a _).cast _) (b _ _ _ _) ug (hw.ld 6 _) (bs.ldRow 6 _) _ _ _ _ _)
    (du_rows _ _ 448 0 7 0 rfl rfl (by decide) ((a _).cast _) (b _ _ _ _) ug (hw.ld 7 _) (bs.ldRow 7 _) _ _ _ _ _)
    (du_rows _ _ 448 128 7 1 rfl rfl (by decide) ((a _).cast _) (b _ _ _ _) ug (hw.ld 7 _) (bs.ldRow 7 _) _ _ _ _ _) y hy
  generalize e : concatenate S512x256 _ _ _ = D
  refine dv_rows h t ?_
  rw [← e]
  refine dvp_stack (inp m c) t.val ?_ ?_ ?_ ?_ ?_ ?_ ?_ ?_ ?_ _ _ _ _ _ _ _ _ _ _ _ _ _ _ _ _ _ _ _ _ _
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _

/-- The last point's gated rows. -/
theorem dh_C (h0 : ¬t.val % 16 = 0) (h2 : t.val % 16 = 15) (ht)
    (hw : Lifts3 (φ := .bf16) (outsAt0 m c (t.val - 1) ht).2.2.2.2.2.2.2.2.2.1 (inp m c).wm)
    (y : S1536x256.Idx) (hy : (y 0).val < 1024) :
    (outsAt0 m c t.val t.isLt).1 y = (((inp m c).dhGate (256 * t.val + (y 1).val) (y 0).val : ℝ) : EReal) := by
  rw [outsAt0_C m c t h0 h0 h2]
  frame_open
  simp (disch := decide) only [↓ View.readCov_skip, ↓ View.readCov_cons_toLoadRect, ↓ View.readCov_fill]
  frame_out
  try simp only [read_unread_whole]
  have a := fun i => da h t i
  have b := vp h t
  have ug := pay37_lifts (u_block h t)
  have bs := bs_block h t
  refine gate_rows (fun k j => (inp m c).dhGate (256 * t.val + j) k) _
    ?_
    (du_rows _ _ 0 0 0 0 rfl rfl (by decide) ((a _).cast _) (b _ _ _ _) ug (hw.ld 0 _) (bs.ldRow 0 _) _ _ _ _ _)
    (du_rows _ _ 0 128 0 1 rfl rfl (by decide) ((a _).cast _) (b _ _ _ _) ug (hw.ld 0 _) (bs.ldRow 0 _) _ _ _ _ _)
    (du_rows _ _ 64 0 1 0 rfl rfl (by decide) ((a _).cast _) (b _ _ _ _) ug (hw.ld 1 _) (bs.ldRow 1 _) _ _ _ _ _)
    (du_rows _ _ 64 128 1 1 rfl rfl (by decide) ((a _).cast _) (b _ _ _ _) ug (hw.ld 1 _) (bs.ldRow 1 _) _ _ _ _ _)
    (du_rows _ _ 128 0 2 0 rfl rfl (by decide) ((a _).cast _) (b _ _ _ _) ug (hw.ld 2 _) (bs.ldRow 2 _) _ _ _ _ _)
    (du_rows _ _ 128 128 2 1 rfl rfl (by decide) ((a _).cast _) (b _ _ _ _) ug (hw.ld 2 _) (bs.ldRow 2 _) _ _ _ _ _)
    (du_rows _ _ 192 0 3 0 rfl rfl (by decide) ((a _).cast _) (b _ _ _ _) ug (hw.ld 3 _) (bs.ldRow 3 _) _ _ _ _ _)
    (du_rows _ _ 192 128 3 1 rfl rfl (by decide) ((a _).cast _) (b _ _ _ _) ug (hw.ld 3 _) (bs.ldRow 3 _) _ _ _ _ _)
    (du_rows _ _ 256 0 4 0 rfl rfl (by decide) ((a _).cast _) (b _ _ _ _) ug (hw.ld 4 _) (bs.ldRow 4 _) _ _ _ _ _)
    (du_rows _ _ 256 128 4 1 rfl rfl (by decide) ((a _).cast _) (b _ _ _ _) ug (hw.ld 4 _) (bs.ldRow 4 _) _ _ _ _ _)
    (du_rows _ _ 320 0 5 0 rfl rfl (by decide) ((a _).cast _) (b _ _ _ _) ug (hw.ld 5 _) (bs.ldRow 5 _) _ _ _ _ _)
    (du_rows _ _ 320 128 5 1 rfl rfl (by decide) ((a _).cast _) (b _ _ _ _) ug (hw.ld 5 _) (bs.ldRow 5 _) _ _ _ _ _)
    (du_rows _ _ 384 0 6 0 rfl rfl (by decide) ((a _).cast _) (b _ _ _ _) ug (hw.ld 6 _) (bs.ldRow 6 _) _ _ _ _ _)
    (du_rows _ _ 384 128 6 1 rfl rfl (by decide) ((a _).cast _) (b _ _ _ _) ug (hw.ld 6 _) (bs.ldRow 6 _) _ _ _ _ _)
    (du_rows _ _ 448 0 7 0 rfl rfl (by decide) ((a _).cast _) (b _ _ _ _) ug (hw.ld 7 _) (bs.ldRow 7 _) _ _ _ _ _)
    (du_rows _ _ 448 128 7 1 rfl rfl (by decide) ((a _).cast _) (b _ _ _ _) ug (hw.ld 7 _) (bs.ldRow 7 _) _ _ _ _ _) y hy
  generalize e : concatenate S512x256 _ _ _ = D
  refine dv_rows h t ?_
  rw [← e]
  refine dvp_stack (inp m c) t.val ?_ ?_ ?_ ?_ ?_ ?_ ?_ ?_ ?_ _ _ _ _ _ _ _ _ _ _ _ _ _ _ _ _ _ _ _ _ _
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _

end Cert.Point

end
-- ==== Proof.PointLast.lean ====
/- What the last grid point stores of the accumulated gradients. -/
module

public import proofs.«01_k».proof.Proof.PointScale
public import proofs.«01_k».proof.Proof.PointGws
public import proofs.«01_k».proof.Proof.Rows

@[expose] public section

set_option maxRecDepth 16384
set_option maxHeartbeats 1000000

noncomputable section

namespace Cert.Point

open Idealize.ShloMosaic Idealize.ShloMosaic.TcCoe Idealize.SL.Sem
open Cert.KernelIdeal Cert.KernelIdeal.Gen Cert.Lift Cert.Model Cert.Entry Cert.Block

variable {m : (ℓ : Loc nD τ sig) → Buf (Elt Ideal) ℓ} {c : Dev nD} (h : Real m c) (t : Fin cfg0.N)
include h

/-- The last point stores the accumulated gradient of the spatial weights on and below the diagonals. -/
theorem gwsp_C (h0 : ¬t.val % 16 = 0) (h2 : t.val % 16 = 15) (ht) {f : ℕ → ℕ → ℕ → ℝ}
    (hp : Lifts3 (φ := .f32) (outsAt0 m c (t.val - 1) ht).2.2.2.2.2.2.2.2.2.2 f) :
    Lifts3 (φ := .bf16) (outsAt0 m c t.val t.isLt).2.2.2.1 (fun hd p q => if q ≤ p then
      f hd p q + (inp m c).gwsBlock (2 * t.val + 0) hd p q + (inp m c).gwsBlock (2 * t.val + 1) hd p q else 0) := by
  rw [outsAt0_C m c t h0 h0 h2]
  frame_open
  simp (disch := decide) only [↓ View.readCov_skip, ↓ View.readCov_cons_toLoadRect, ↓ View.readCov_fill]
  frame_out
  try simp only [read_unread_whole]
  have a := dm h t
  have b := vp h t
  exact slabs8h _ _
    (masked_slab (gws_pair _ _ 0 0 rfl (a _ _) (b _ _ _ _) (hp.ld 0 _) _ _ _ _ _) _ _ _ _ _)
    (masked_slab (gws_pair _ _ 64 1 rfl (a _ _) (b _ _ _ _) (hp.ld 1 _) _ _ _ _ _) _ _ _ _ _)
    (masked_slab (gws_pair _ _ 128 2 rfl (a _ _) (b _ _ _ _) (hp.ld 2 _) _ _ _ _ _) _ _ _ _ _)
    (masked_slab (gws_pair _ _ 192 3 rfl (a _ _) (b _ _ _ _) (hp.ld 3 _) _ _ _ _ _) _ _ _ _ _)
    (masked_slab (gws_pair _ _ 256 4 rfl (a _ _) (b _ _ _ _) (hp.ld 4 _) _ _ _ _ _) _ _ _ _ _)
    (masked_slab (gws_pair _ _ 320 5 rfl (a _ _) (b _ _ _ _) (hp.ld 5 _) _ _ _ _ _) _ _ _ _ _)
    (masked_slab (gws_pair _ _ 384 6 rfl (a _ _) (b _ _ _ _) (hp.ld 6 _) _ _ _ _ _) _ _ _ _ _)
    (masked_slab (gws_pair _ _ 448 7 rfl (a _ _) (b _ _ _ _) (hp.ld 7 _) _ _ _ _ _) _ _ _ _ _)

/-- The last point stores the totals of the two accumulators of the normalisation. -/
theorem gvln_C (h0 : ¬t.val % 16 = 0) (h2 : t.val % 16 = 15) (ht) {f0 f1 : ℕ → ℕ → ℝ}
    (hg : Lifts2 (φ := .f32) (outsAt0 m c (t.val - 1) ht).2.2.2.2.2.2.2.1 f0)
    (hb : Lifts2 (φ := .f32) (outsAt0 m c (t.val - 1) ht).2.2.2.2.2.2.2.2.1 f1)
    (hw : Lifts3 (φ := .bf16) (outsAt0 m c (t.val - 1) ht).2.2.2.2.2.2.2.2.2.1 (inp m c).wm) :
    Lifts2 (φ := .f32) (outsAt0 m c t.val t.isLt).2.2.2.2.2.1 (fun i k =>
      if i = 0 then ∑ p ∈ Finset.range 128, (f0 k p
        + (inp m c).dvp (128 * (2 * t.val + 0) + p) k * (inp m c).vhat (128 * (2 * t.val + 0) + p) k
        + (inp m c).dvp (128 * (2 * t.val + 1) + p) k * (inp m c).vhat (128 * (2 * t.val + 1) + p) k)
      else if i = 1 then ∑ p ∈ Finset.range 128, (f1 k p
        + (inp m c).dvp (128 * (2 * t.val + 0) + p) k + (inp m c).dvp (128 * (2 * t.val + 1) + p) k)
      else 0) := by
  rw [outsAt0_C m c t h0 h0 h2]
  frame_open
  simp (disch := decide) only [↓ View.readCov_skip, ↓ View.readCov_cons_toLoadRect, ↓ View.readCov_fill]
  frame_out
  try simp only [read_unread_whole]
  refine two_rows _
    (acc_total (acc_step (fun s k => (inp m c).dvp s k * (inp m c).vhat s k) t.val ?_
      ((dvp_stack (inp m c) t.val ?_ ?_ ?_ ?_ ?_ ?_ ?_ ?_ ?_ _ _ _ _ _ _ _ _ _ _ _ _ _ _ _ _ _ _ _ _ _).mul (pay46_lifts (inp m c) (256 * t.val) ?_)) _ _ _ _))
    (acc_total (acc_step (inp m c).dvp t.val ?_ (dvp_stack (inp m c) t.val ?_ ?_ ?_ ?_ ?_ ?_ ?_ ?_ ?_ _ _ _ _ _ _ _ _ _ _ _ _ _ _ _ _ _ _ _ _ _) _ _ _ _))
    (Lifts2.splat (by show Ideal.ofBits .f32 0x00000000#32 = _; simp))
    (fun i j hi => by rw [if_neg (by omega), if_neg (by omega)])
  · try simp only [read_unread_whole]
    exact hg
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _
  · try simp only [read_unread_whole]
    try frame_out
    exact v_block h t
  · try simp only [read_unread_whole]
    exact hb
  · try simp only [read_unread_whole]
    try frame_out
    exact dm h t _ _
  · try simp only [read_unread_whole]
    exact hw.ld 0 _
  · try simp only [read_unread_whole]
    exact hw.ld 1 _
  · try simp only [read_unread_whole]
    exact hw.ld 2 _
  · try simp only [read_unread_whole]
    exact hw.ld 3 _
  · try simp only [read_unread_whole]
    exact hw.ld 4 _
  · try simp only [read_unread_whole]
    exact hw.ld 5 _
  · try simp only [read_unread_whole]
    exact hw.ld 6 _
  · try simp only [read_unread_whole]
    exact hw.ld 7 _

end Cert.Point

end
-- ==== Proof.Arrays.lean ====
/- What the call's results hold, from what each grid point leaves. -/
module

public import proofs.«01_k».proof.Proof.Accum
public import proofs.«01_k».proof.Proof.PointDh
public import proofs.«01_k».proof.Proof.PointLast

@[expose] public section

set_option maxRecDepth 16384

noncomputable section

open scoped BigOperators

namespace Cert.Point

open Idealize.ShloMosaic Idealize.ShloMosaic.TcCoe Idealize.SL.Sem
open Cert.KernelIdeal Cert.KernelIdeal.Gen Cert.Lift Cert.Model Cert.Entry Cert.Block

variable (m : (ℓ : Loc nD τ sig) → Buf (Elt Ideal) ℓ) (c : Dev nD)

/-- Which block of the input's gradient a grid point writes. -/
theorem dh_index : ∀ t : Fin cfg0.N, win0_17.index t 0 = 0 ∧ win0_17.index t 1 = t.val :=
  (by decide +kernel : ∀ t : Fin grid0.N, win0_17.index t 0 = 0 ∧ win0_17.index t 1 = t.val)

/-- The block that a point leaves does not depend on how the point is written. -/
theorem dh_point {n n' : ℕ} (hn : n < cfg0.N) (hn' : n' < cfg0.N) (e : n = n') {y y' : S1536x256.Idx}
    (h0 : (y 0).val = (y' 0).val) (h1 : (y 1).val = (y' 1).val) :
    (outsAt0 m c n hn).1 y = (outsAt0 m c n' hn').1 y' := by
  subst e
  rw [show y = y' from funext fun q => Fin.ext (match q with | ⟨0, _⟩ => h0 | ⟨1, _⟩ => h1)]

/-- The input's gradient is, block of columns by block, what the grid points leave. -/
theorem dh_array : (dats m 0 c).arrAt 17 cfg0.N = fun i : S1536x4096.Idx =>
    (outsAt0 m c ((i 1).val / 256) (by have : (i 1).val < 4096 := (i 1).isLt; show _ < 16; omega)).1
      (ValueIdx.ix2 (i 0) ⟨(i 1).val % 256, Nat.mod_lt _ (by decide)⟩) := by
  refine (dats m 0 c).arrAt_eq_of_covers 17 _ (by decide +kernel) fun t hf y => ?_
  blk_simp
  rw [after0_17]
  have e := dh_index t
  have hy : (y 1).val < 256 := (y 1).isLt
  refine dh_point m c _ _ ?_ ?_ ?_
  · rw [e.2]; omega
  · show (y 0).val = ((win0_17.blk t).view.emb y 0).val
    blk_simp
    rw [e.1]; omega
  · show (y 1).val = (win0_17.index t 1 * 256 + (y 1).val) % 256
    rw [e.2]; omega

/-- The spatial weights' gradient is what the last point stores. -/
theorem gwsp_array : (dats m 0 c).arrAt 20 cfg0.N = (outsAt0 m c 15 (by decide)).2.2.2.1 := by
  refine (dats m 0 c).arrAt_eq_of_after_last 20 t0_15 (by decide +kernel) _ fun j => ?_
  blk_simp
  rw [after0_20]
  rfl

/-- The spatial biases' gradient is what the last point leaves. -/
theorem gbsp_array : (dats m 0 c).arrAt 21 cfg0.N = (outsAt0 m c 15 (by decide)).2.2.2.2.1 := by
  refine (dats m 0 c).arrAt_eq_of_after_last 21 t0_15 (by decide +kernel) _ fun j => ?_
  blk_simp
  rw [after0_21]
  rfl

/-- The normalisation's gradients are what the last point stores. -/
theorem gvln_array : (dats m 0 c).arrAt 22 cfg0.N = (outsAt0 m c 15 (by decide)).2.2.2.2.2.1 := by
  refine (dats m 0 c).arrAt_eq_of_after_last 22 t0_15 (by decide +kernel) _ fun j => ?_
  blk_simp
  rw [after0_22]
  rfl

/-- Blocks of 128 tokens make up all tokens. -/
theorem sum_tokens (f : ℕ → ℝ) : ∑ p ∈ Finset.range 128, ∑ b ∈ Finset.range 32, f (128 * b + p)
    = ∑ t ∈ Finset.range 4096, f t := by
  rw [Finset.sum_comm]
  rw [show (4096 : ℕ) = 32 * 128 from rfl, Finset.sum_range_mul_split]
  refine Finset.sum_congr rfl fun b _ => Finset.sum_congr rfl fun p _ => ?_
  rw [Nat.mul_comm]

variable {m} {c} (h : Real m c)
include h

/-- The masked spatial weights are there for every point. -/
theorem dh_at (n : ℕ) (hn : n < cfg0.N) (y : S1536x256.Idx) (hy : (y 0).val < 1024) :
    (outsAt0 m c n hn).1 y = (((inp m c).dhGate (256 * n + (y 1).val) (y 0).val : ℝ) : EReal) := by
  have hN : n < 16 := hn
  have ht : n - 1 < cfg0.N := by show n - 1 < 16; omega
  by_cases h0 : n % 16 = 0
  · exact dh_A h ⟨n, hn⟩ h0 (by show ¬n % 16 = 15; omega) y hy
  by_cases h2 : n % 16 = 15
  · exact dh_C h ⟨n, hn⟩ h0 h2 ht (held h (n - 1) ht).wm y hy
  · exact dh_B h ⟨n, hn⟩ h0 h2 ht (held h (n - 1) ht).wm y hy

/-- The gated rows of the input's gradient. -/
theorem dh_holds (i : S1536x4096.Idx) (hi : (i 0).val < 1024) :
    (dats m 0 c).arrAt 17 cfg0.N i = (((inp m c).dhGate (i 1).val (i 0).val : ℝ) : EReal) := by
  rw [dh_array]
  refine (dh_at h _ _ _ hi).trans ?_
  show (((inp m c).dhGate (256 * ((i 1).val / 256) + (i 1).val % 256) (i 0).val : ℝ) : EReal) = _
  rw [Nat.div_add_mod]

/-- The spatial weights' gradient. -/
theorem gwsp_holds (i : S8x128x128.Idx) :
    (dats m 0 c).arrAt 20 cfg0.N i = (((inp m c).gws (i 0).val (i 1).val (i 2).val : ℝ) : EReal) := by
  rw [gwsp_array]
  refine (gwsp_C h ⟨15, by decide⟩ (by decide) (by decide) (by decide) (held h 14 (by decide)).gws i).trans ?_
  unfold Inputs.gws
  rw [show (32 : ℕ) = 2 * (15 + 1) from rfl, sum_two]

/-- The spatial biases' gradient. -/
theorem gbsp_holds (i : S8x128.Idx) :
    (dats m 0 c).arrAt 21 cfg0.N i = (((inp m c).gbs (i 0).val (i 1).val : ℝ) : EReal) := by
  rw [gbsp_array]
  exact (held h 15 (by decide)).gbs i

/-- The gradients of the normalisation's scale and shift. -/
theorem gvln_holds (i : S8x512.Idx) :
    (dats m 0 c).arrAt 22 cfg0.N i = (((if (i 0).val = 0 then (inp m c).dg (i 1).val else
      if (i 0).val = 1 then (inp m c).db (i 1).val else 0 : ℝ)) : EReal) := by
  rw [gvln_array]
  have p := held h 14 (by decide)
  refine (gvln_C h ⟨15, by decide⟩ (by decide) (by decide) (by decide) p.dg p.db p.wm i).trans ?_
  unfold Inputs.dg Inputs.db
  rw [← sum_tokens (fun t => (inp m c).dvp t (i 1).val * (inp m c).vhat t (i 1).val),
    ← sum_tokens (fun t => (inp m c).dvp t (i 1).val)]
  simp only [show (32 : ℕ) = 2 * (15 + 1) from rfl, sum_two _ 15]

end Cert.Point

end
-- ==== Proof.RefOps.lean ====
/- What the reference's host operations do to arrays of real numbers.

   `Holds x f` says that the array `x` holds the real number `f i` at every index `i`. -/
module

public import Idealize.ShloMosaic.Lib.Pipeline.Value
public import Idealize.ShloMosaic.Lib.ValueIdx
public import Idealize.ShloMosaic.Lib.IdealHost
public import Idealize.ShloMosaic.Lib.TwoAxisContraction
public import proofs.«01_k».proof.Proof.Lift
public import proofs.«01_k».proof.Proof.Model

@[expose] public section

set_option maxRecDepth 16384

noncomputable section

open scoped BigOperators

namespace Cert.RefOps

open Idealize.ShloMosaic Idealize.ShloMosaic.ValueIdx Cert.Lift Cert.Model

variable {s t : Shape}

/-- The array holds the real `f i` at every index. -/
def Holds (x : s.Idx → EReal) (f : s.Idx → ℝ) : Prop := ∀ i, x i = ((f i : ℝ) : EReal)

theorem Holds.congr {x : s.Idx → EReal} {f g : s.Idx → ℝ} (h : Holds x f) (e : ∀ i, f i = g i) : Holds x g :=
  fun i => (h i).trans (congrArg _ (e i))

/-- An array that reads another at a place fixed by its own index. -/
theorem Holds.at {x : s.Idx → EReal} {y : t.Idx → EReal} {f : t.Idx → ℝ} (h : Holds y f) {k : s.Idx → t.Idx}
    (e : ∀ i, x i = y (k i)) : Holds x (fun i => f (k i)) := fun i => (e i).trans (h _)

theorem Holds.mul {x y : s.Idx → EReal} {f g : s.Idx → ℝ} (hx : Holds x f) (hy : Holds y g) :
    Holds (fun i => x i * y i) (fun i => f i * g i) := fun i => by
  beta_reduce; rw [hx i, hy i]; exact (EReal.coe_mul _ _).symm

theorem Holds.add {x y : s.Idx → EReal} {f g : s.Idx → ℝ} (hx : Holds x f) (hy : Holds y g) :
    Holds (fun i => x i + y i) (fun i => f i + g i) := fun i => by
  beta_reduce; rw [hx i, hy i]; exact (EReal.coe_add _ _).symm

theorem Holds.sub {x y : s.Idx → EReal} {f g : s.Idx → ℝ} (hx : Holds x f) (hy : Holds y g) :
    Holds (fun i => x i - y i) (fun i => f i - g i) := fun i => by
  beta_reduce; rw [hx i, hy i]; exact (EReal.coe_sub _ _).symm

theorem Holds.neg {x : s.Idx → EReal} {f : s.Idx → ℝ} (hx : Holds x f) :
    Holds (fun i => -x i) (fun i => -f i) := fun i => by
  beta_reduce; rw [hx i]; exact (EReal.coe_neg _).symm

theorem Holds.div {x y : s.Idx → EReal} {f g : s.Idx → ℝ} (hx : Holds x f) (hy : Holds y g) (h0 : ∀ i, g i ≠ 0) :
    Holds (fun i => Ideal.div (x i) (y i)) (fun i => f i / g i) := fun i => by
  beta_reduce; rw [hx i, hy i, Ideal.div_coe (h0 i), ← EReal.coe_mul]; congr 1; ring

theorem Holds.rsqrt {x : s.Idx → EReal} {f : s.Idx → ℝ} (hx : Holds x f) (hp : ∀ i, 0 < f i) :
    Holds (fun i => Ideal.rsqrt (x i)) (fun i => (Real.sqrt (f i))⁻¹) := fun i => by
  beta_reduce; rw [hx i, Ideal.rsqrt_coe, if_neg (not_lt.mpr (hp _).le), if_neg (hp _).ne']

/-- A sum along one axis, from the initial value zero. -/
theorem Holds.sum {n : ℕ} {x : s.Idx → EReal} {y : t.Idx → EReal} {f : t.Idx → ℝ} (h : Holds y f) {z : EReal}
    (hz : z = 0) {k : s.Idx → Fin n → t.Idx} (e : ∀ i, x i = z + ∑ q : Fin n, y (k i q)) :
    Holds x (fun i => ∑ q : Fin n, f (k i q)) := fun i => by
  rw [e i, hz, zero_add, Finset.sum_congr rfl fun q _ => h (k i q), ← coe_sum]

/-- A sum of products along one contracted axis. -/
theorem Holds.dot {n : ℕ} {r : Shape} {x : s.Idx → EReal} {y : t.Idx → EReal} {z : r.Idx → EReal} {f : t.Idx → ℝ}
    {g : r.Idx → ℝ} (hy : Holds y f) (hz : Holds z g) {k : s.Idx → Fin n → t.Idx} {l : s.Idx → Fin n → r.Idx}
    (e : ∀ i, x i = ∑ q : Fin n, y (k i q) * z (l i q)) :
    Holds x (fun i => ∑ q : Fin n, f (k i q) * g (l i q)) := fun i => by
  rw [e i, coe_sum]
  exact Finset.sum_congr rfl fun q _ => by rw [hy, hz, EReal.coe_mul]

/-- The host's sum of a four-axis array along its first and last axes. -/
theorem sum_first_last {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (j : (⟨2, ![n1, n2]⟩ : Shape).Idx) :
    Ideal.hostReduceAdd h v init j = init + ∑ a : Fin n0, ∑ d : Fin n3, v (ix4 a (j 0) (j 1) d) := by
  unfold Ideal.hostReduceAdd
  congr 1
  rw [← Fintype.sum_prod_type' (f := fun a d => v (ix4 a (j 0) (j 1) d))]
  symm
  refine Finset.sum_nbij' (fun k => ix4 k.1 (j 0) (j 1) k.2) (fun i => (i 0, i 3)) ?_ ?_ ?_ ?_ ?_
  · intro k _
    rw [Finset.mem_filter]
    refine ⟨Finset.mem_univ _, ?_⟩
    funext a
    match a with
    | ⟨0, _⟩ => rfl
    | ⟨1, _⟩ => rfl
  · intro i _; exact Finset.mem_univ _
  · intro k _; rfl
  · intro i hi
    have e := (Finset.mem_filter.mp hi).2
    subst e
    funext a
    match a with
    | ⟨0, _⟩ => rfl
    | ⟨1, _⟩ => rfl
    | ⟨2, _⟩ => rfl
    | ⟨3, _⟩ => rfl
  · intro k _; rfl

section words

theorem word_zero : (Ideal.ofBits .f32 0x00000000#32 : EReal) = 0 := Ideal.ofBits_zero_f32

theorem word_half : (Ideal.ofBits .f32 0x3F000000#32 : EReal) = ((1 / 2 : ℝ) : EReal) := by
  simp [Ideal.ofBits, Ideal.ieee, -EReal.coe_mul]; norm_num

theorem word_neg_half : (Ideal.ofBits .f32 0xBF000000#32 : EReal) = ((-(1 / 2) : ℝ) : EReal) := by
  simp [Ideal.ofBits, Ideal.ieee, -EReal.coe_mul, -EReal.coe_neg]; norm_num

theorem word_one : (Ideal.ofBits .f32 0x3F800000#32 : EReal) = ((1 : ℝ) : EReal) := by
  simp [Ideal.ofBits, Ideal.ieee, -EReal.coe_mul]; norm_num

theorem word_two : (Ideal.ofBits .f32 0x40000000#32 : EReal) = ((2 : ℝ) : EReal) := by
  simp [Ideal.ofBits, Ideal.ieee, -EReal.coe_mul]; norm_num

theorem word_512 : (Ideal.ofBits .f32 0x44000000#32 : EReal) = ((512 : ℝ) : EReal) := by
  simp [Ideal.ofBits, Ideal.ieee, -EReal.coe_mul]; norm_num

theorem word_eps : (Ideal.ofBits .f32 0x3727C5AC#32 : EReal) = ((eps : ℝ) : EReal) := by
  simp [Ideal.ofBits, Ideal.ieee, -EReal.coe_mul, eps]; norm_num

theorem word_geluC : (Ideal.ofBits .f32 0x3F4C422A#32 : EReal) = ((geluC : ℝ) : EReal) := by
  simp [Ideal.ofBits, Ideal.ieee, -EReal.coe_mul, geluC]; norm_num

theorem word_44715 : (Ideal.ofBits .f32 0x472EAB00#32 : EReal) = ((44715 : ℝ) : EReal) := by
  simp [Ideal.ofBits, Ideal.ieee, -EReal.coe_mul]; norm_num

theorem word_million : (Ideal.ofBits .f32 0x49742400#32 : EReal) = ((1000000 : ℝ) : EReal) := by
  simp [Ideal.ofBits, Ideal.ieee, -EReal.coe_mul]; norm_num

end words

section gate

/-- The reference's cubic coefficient, a quotient of two whole numbers. -/
def hostA : EReal := Ideal.div (Ideal.ofBits .f32 0x472EAB00#32) (Ideal.ofBits .f32 0x49742400#32)

theorem hostA_eq : hostA = ((geluA : ℝ) : EReal) := by
  unfold hostA
  rw [word_44715, word_million, Ideal.div_coe (by norm_num), ← EReal.coe_mul]
  congr 1
  norm_num [geluA]

/-- The hyperbolic tangent of the reference's gate at one number. -/
def hostTanh (x : EReal) : EReal := Ideal.tanh (Ideal.ofBits .f32 0x3F4C422A#32 * (x + hostA * (x * x * x)))

/-- The reference's gate at one number. -/
def hostGelu (x : EReal) : EReal :=
  x * (Ideal.ofBits .f32 0x3F000000#32 * (Ideal.ofBits .f32 0x3F800000#32 + hostTanh x))

theorem hostTanh_coe (x : ℝ) : hostTanh (x : EReal) = ((gTanh x : ℝ) : EReal) := by
  unfold hostTanh
  rw [word_geluC, hostA_eq]
  simp only [← EReal.coe_mul, ← EReal.coe_add]
  rfl

theorem hostGelu_coe (x : ℝ) : hostGelu (x : EReal) = ((gelu x : ℝ) : EReal) := by
  unfold hostGelu
  rw [word_half, word_one, hostTanh_coe]
  simp only [← EReal.coe_mul, ← EReal.coe_add]
  rfl

/-- What the reference's backward pass of the gate passes through the hyperbolic tangent. -/
def hostThrough (x c : EReal) : EReal :=
  Ideal.ofBits .f32 0x3F4C422A#32 * (Ideal.ofBits .f32 0x3F000000#32 * (x * c)
    * ((Ideal.ofBits .f32 0x3F800000#32 + hostTanh x) * (Ideal.ofBits .f32 0x3F800000#32 - hostTanh x)))

/-- The reference's backward pass of the gate at the number `x` for the cotangent `c`. -/
def hostGeluBack (x c : EReal) : EReal :=
  c * (Ideal.ofBits .f32 0x3F000000#32 * (Ideal.ofBits .f32 0x3F800000#32 + hostTanh x)) + hostThrough x c
    + x * x * (hostA * hostThrough x c) + x * (hostA * hostThrough x c * x) + hostA * hostThrough x c * x * x

theorem hostGeluBack_coe (x c : ℝ) : hostGeluBack (x : EReal) (c : EReal) = ((c * dgelu x : ℝ) : EReal) := by
  unfold hostGeluBack hostThrough
  rw [word_half, word_one, word_geluC, hostTanh_coe, hostA_eq]
  simp only [← EReal.coe_mul, ← EReal.coe_add, ← EReal.coe_sub]
  congr 1
  unfold dgelu
  ring

end gate

end Cert.RefOps

end
-- ==== Proof.RefGate.lean ====
/- What the reference computes before the mixing: the gate of the two halves and the normalisation, entry by entry. -/
module

public import proofs.«01_k».proof.Proof.Gen.ReferenceIdeal.Read
public import proofs.«01_k».proof.Proof.RefOps

@[expose] public section

set_option maxRecDepth 16384

noncomputable section

open scoped BigOperators

namespace Cert.RefGate

open Idealize.ShloMosaic Cert.ReferenceIdeal Cert.ReferenceIdeal.Read Cert.Lift Cert.Model Cert.RefOps

/-- The reference's float arguments hold the real inputs. -/
structure Args (I : Inputs) (x0 : S1x4096x1024.Idx → EReal) (x1 : S1x4096x1792.Idx → EReal)
    (x3 x4 : S1x512.Idx → EReal) (x5 : S1x8x128x128.Idx → EReal) (x6 : S1x8x128.Idx → EReal) : Prop where
  dcat : Holds x0 (fun i => I.dcat (i 1).val (i 2).val)
  h : Holds x1 (fun i => I.h (i 1).val (i 2).val)
  g : Holds x3 (fun i => I.g (i 1).val)
  b : Holds x4 (fun i => I.b (i 1).val)
  w : Holds x5 (fun i => I.w (i 1).val (i 2).val (i 3).val)
  bs : Holds x6 (fun i => I.bs (i 1).val (i 2).val)

variable {I : Inputs} {x0 : S1x4096x1024.Idx → EReal} {x1 : S1x4096x1792.Idx → EReal}
  {x3 x4 : S1x512.Idx → EReal} {x5 : S1x8x128x128.Idx → EReal} {x6 : S1x8x128.Idx → EReal}

section
variable (A : Args I x0 x1 x3 x4 x5 x6)
include A

theorem r4 : Holds (val_main_v4 (F := Ideal) x1) (fun i => I.h (i 0).val (i 1).val) :=
  (A.h.at (val_main_v4_apply (F := Ideal) x1)).congr fun i => by
    have h0 : (i 0).val < 4096 := (i 0).isLt
    have h1 : (i 1).val < 1792 := (i 1).isLt
    exact congrArg₂ I.h (by show (_ : ℕ) / 1792 % 4096 = _; omega) (by show (_ : ℕ) % 1792 = _; omega)

/-- The multiplying half. -/
theorem r5 : Holds (val_main_v5 (F := Ideal) x1) (fun i => I.u (i 0).val (i 1).val) :=
  (r4 A).at (val_main_v5_apply (F := Ideal) x1)

/-- The normalised half. -/
theorem r6 : Holds (val_main_v6 (F := Ideal) x1) (fun i => I.v (i 0).val (i 1).val) :=
  ((r4 A).at (val_main_v6_apply (F := Ideal) x1)).congr fun i =>
    congrArg (I.h _) (by show (_ : ℕ) = 512 + _; first | rfl | exact Nat.add_comm _ _)

/-- The gate of the multiplying half. -/
theorem r34 : Holds (val_main_v34 (F := Ideal) x1) (fun i => gelu (I.u (i 0).val (i 1).val)) := fun i => by
  have e : val_main_v34 (F := Ideal) x1 i = hostGelu (val_main_v5 (F := Ideal) x1 i) := rfl
  rw [e, r5 A i, hostGelu_coe]

/-- The gate of the normalised half. -/
theorem r53 : Holds (val_main_v53 (F := Ideal) x1) (fun i => gelu (I.v (i 0).val (i 1).val)) := fun i => by
  have e : val_main_v53 (F := Ideal) x1 i = hostGelu (val_main_v6 (F := Ideal) x1 i) := rfl
  rw [e, r6 A i, hostGelu_coe]

theorem r54 : Holds (val_main_v54 (F := Ideal) x1) (fun i => ∑ c ∈ Finset.range 512, gelu (I.v (i 0).val c)) :=
  ((r53 A).sum word_zero (val_main_v54_apply x1)).congr fun i => sum_fin 512 (fun c => gelu (I.v (i 0).val c))

/-- The mean. -/
theorem r57 : Holds (val_main_v57 (F := Ideal) x1) (fun i => I.mean (i 0).val) :=
  ((r54 A).at (val_main_v55_apply (F := Ideal) x1)).div (g := fun _ => 512) (fun _ => word_512) (fun _ => by norm_num)

/-- A gated value minus the mean. -/
theorem r59 : Holds (val_main_v59 (F := Ideal) x1) (fun i => I.cen (i 0).val (i 1).val) :=
  (r53 A).sub ((r57 A).at (val_main_v58_apply (F := Ideal) x1))

theorem r68 : Holds (val_main_v68 (F := Ideal) x1) (fun i => I.cen (i 0).val (i 1).val) :=
  (r53 A).sub ((r57 A).at (val_main_v67_apply (F := Ideal) x1))

theorem r63 : Holds (val_main_v63 (F := Ideal) x1)
    (fun i => ∑ c ∈ Finset.range 512, I.cen (i 0).val c * I.cen (i 0).val c) :=
  (((r59 A).mul (r59 A)).sum word_zero (val_main_v63_apply x1)).congr fun i =>
    sum_fin 512 (fun c => I.cen (i 0).val c * I.cen (i 0).val c)

/-- The variance and the small constant. -/
theorem r70 : Holds (val_main_v70 (F := Ideal) x1) (fun i => I.vareps (i 0).val) :=
  (((r63 A).at (val_main_v64_apply (F := Ideal) x1)).div (g := fun _ => 512) (fun _ => word_512)
    (fun _ => by norm_num)).add (g := fun _ => eps) (fun _ => word_eps)

theorem r71 : Holds (val_main_v71 (F := Ideal) x1) (fun i => I.rstd (i 0).val) :=
  (r70 A).rsqrt fun i => I.vareps_pos _

/-- The derivative of one over the square root. -/
theorem r74 : Holds (val_main_v74 (F := Ideal) x1) (fun i => -(1 / 2) * (I.rstd (i 0).val / I.vareps (i 0).val)) :=
  Holds.mul (f := fun _ => -(1 / 2)) (fun _ => word_neg_half) ((r71 A).div (r70 A) fun i => (I.vareps_pos _).ne')

/-- The normalised value. -/
theorem r76 : Holds (val_main_v76 (F := Ideal) x1) (fun i => I.vhat (i 0).val (i 1).val) :=
  (r68 A).mul ((r71 A).at (val_main_v75_apply (F := Ideal) x1)) |>.congr fun _ => rfl

theorem r12 : Holds (val_main_v12 (F := Ideal) x3) (fun i => I.g (i 0).val) :=
  (A.g.at (val_main_v12_apply (F := Ideal) x3)).congr fun i => congrArg I.g (by
    have h0 : (i 0).val < 512 := (i 0).isLt
    show (_ : ℕ) % 512 = _; omega)

theorem r13 : Holds (val_main_v13 (F := Ideal) x4) (fun i => I.b (i 0).val) :=
  (A.b.at (val_main_v13_apply (F := Ideal) x4)).congr fun i => congrArg I.b (by
    have h0 : (i 0).val < 512 := (i 0).isLt
    show (_ : ℕ) % 512 = _; omega)

/-- The normalised value, scaled and shifted. -/
theorem r82 : Holds (val_main_v82 (F := Ideal) x1 x3 x4) (fun i => I.vp (i 0).val (i 1).val) :=
  have g := ((r12 A).at (val_main_v77_apply (F := Ideal) x3)).at (val_main_v78_apply (F := Ideal) x3)
  have b := ((r13 A).at (val_main_v80_apply (F := Ideal) x4)).at (val_main_v81_apply (F := Ideal) x4)
  (((r76 A).mul g).add b).congr fun _ => rfl

/-- The same by block, token, head and channel. -/
theorem r83 : Holds (val_main_v83 (F := Ideal) x1 x3 x4)
    (fun i => I.vp (128 * (i 0).val + (i 1).val) (64 * (i 2).val + (i 3).val)) :=
  ((r82 A).at (val_main_v83_apply (F := Ideal) x1 x3 x4)).congr fun i => by
    have h1 : (i 1).val < 128 := (i 1).isLt
    have h2 : (i 2).val < 8 := (i 2).isLt
    have h3 : (i 3).val < 64 := (i 3).isLt
    exact congrArg₂ I.vp (by show (_ : ℕ) / 512 = _; omega) (by show (_ : ℕ) % 512 = _; omega)

theorem r95 : Holds (val_main_v95 (F := Ideal) x1)
    (fun i => gelu (I.u (128 * (i 0).val + (i 1).val) (64 * (i 2).val + (i 3).val))) :=
  ((r34 A).at (val_main_v95_apply (F := Ideal) x1)).congr fun i => by
    have h1 : (i 1).val < 128 := (i 1).isLt
    have h2 : (i 2).val < 8 := (i 2).isLt
    have h3 : (i 3).val < 64 := (i 3).isLt
    exact congrArg₂ (fun a b => gelu (I.u a b)) (by show (_ : ℕ) / 512 = _; omega) (by show (_ : ℕ) % 512 = _; omega)

end

end Cert.RefGate

end
-- ==== Proof.RefMix.lean ====
/- What the reference computes from the mixing on: the mixed values, the gradients of the two gated halves, of the
   spatial weights and biases, and of the normalisation's scale and shift, entry by entry. -/
module

public import Idealize.ShloMosaic.Lib.WordCmp
public import proofs.«01_k».proof.Proof.RefGate

@[expose] public section

set_option maxRecDepth 16384

noncomputable section

open scoped BigOperators

namespace Cert.RefGate

open Idealize.ShloMosaic Idealize.ShloMosaic.ValueIdx Cert.ReferenceIdeal Cert.ReferenceIdeal.Read Cert.Lift Cert.Model
open Cert.RefOps

variable {I : Inputs} {x0 : S1x4096x1024.Idx → EReal} {x1 : S1x4096x1792.Idx → EReal}
  {x3 x4 : S1x512.Idx → EReal} {x5 : S1x8x128x128.Idx → EReal} {x6 : S1x8x128.Idx → EReal}

/-- One on and below the diagonal, nothing above it. -/
theorem r85 : Holds (val_main_v85 (F := Ideal)) (fun i => if (i 1).val ≤ (i 0).val then 1 else 0) := fun i => by
  have h0 : (i 0).val < 128 := (i 0).isLt
  have h1 : (i 1).val < 128 := (i 1).isLt
  have e : val_main_v85 (F := Ideal) i = Scalar.select
      (IntOp.cmpi .sge (BitVec.ofNat 32 (i 0).val + 0#32) (BitVec.ofNat 32 (i 1).val))
      (Ideal.ofBits .f32 0x3F800000#32) (Ideal.ofBits .f32 0x00000000#32) := rfl
  rw [e, BitVec.add_zero, WordCmp.cmpi_sge_ofNat (by omega) (by omega), word_one, word_zero]
  show _ = ((if (i 1).val ≤ (i 0).val then (1 : ℝ) else 0 : ℝ) : EReal)
  by_cases h : (i 1).val ≤ (i 0).val <;> simp [h, Scalar.select]

section
variable (A : Args I x0 x1 x3 x4 x5 x6)
include A

theorem r14 : Holds (val_main_v14 (F := Ideal) x5) (fun i => I.w (i 0).val (i 1).val (i 2).val) :=
  (A.w.at (val_main_v14_apply (F := Ideal) x5)).congr fun i => by
    have h0 : (i 0).val < 8 := (i 0).isLt
    have h1 : (i 1).val < 128 := (i 1).isLt
    have h2 : (i 2).val < 128 := (i 2).isLt
    have e0 : (((i 0).val * 128 + (i 1).val) * 128 + (i 2).val) / 16384 % 8 = (i 0).val := by omega
    have e1 : (((i 0).val * 128 + (i 1).val) * 128 + (i 2).val) / 128 % 128 = (i 1).val := by omega
    have e2 : (((i 0).val * 128 + (i 1).val) * 128 + (i 2).val) % 128 = (i 2).val := by omega
    exact (congrArg₂ (fun a b => I.w a b _) e0 e1).trans (congrArg (I.w _ _) e2)

/-- The spatial weights under their mask. -/
theorem r88 : Holds (val_main_v88 (F := Ideal) x5) (fun i => I.wm (i 0).val (i 1).val (i 2).val) :=
  ((r14 A).mul ((r85.at (val_main_v86_apply (F := Ideal))).at (val_main_v87_apply (F := Ideal)))).congr fun i => by
    show I.w _ _ _ * (if (i 2).val ≤ (i 1).val then (1 : ℝ) else 0) = _
    unfold Inputs.wm
    split <;> simp

theorem r15 : Holds (val_main_v15 (F := Ideal) x6) (fun i => I.bs (i 0).val (i 1).val) :=
  (A.bs.at (val_main_v15_apply (F := Ideal) x6)).congr fun i => by
    have h0 : (i 0).val < 8 := (i 0).isLt
    have h1 : (i 1).val < 128 := (i 1).isLt
    exact congrArg₂ I.bs (by show (_ : ℕ) / 128 % 8 = _; omega) (by show (_ : ℕ) % 128 = _; omega)

theorem r89 : Holds (val_main_v89 (F := Ideal) x1 x3 x4 x5) (fun i => ∑ k ∈ Finset.range 128,
      I.vp (128 * (i 1).val + k) (64 * (i 0).val + (i 2).val) * I.wm (i 0).val (i 3).val k) :=
  ((r83 A).dot (r88 A) (val_main_v89_apply x1 x3 x4 x5)).congr fun i =>
    sum_fin 128 (fun k => I.vp (128 * (i 1).val + k) (64 * (i 0).val + (i 2).val) * I.wm (i 0).val (i 3).val k)

/-- The mixed values, by block, token, head and channel. -/
theorem r94 : Holds (val_main_v94 (F := Ideal) x1 x3 x4 x5 x6)
    (fun i => I.mixed (128 * (i 0).val + (i 1).val) (64 * (i 2).val + (i 3).val)) :=
  (((r89 A).at (val_main_v90_apply (F := Ideal) x1 x3 x4 x5)).add
    ((((r15 A).at (val_main_v91_apply (F := Ideal) x6)).at (val_main_v92_apply (F := Ideal) x6)).at
      (val_main_v93_apply (F := Ideal) x6))).congr fun i => by
    have h1 : (i 1).val < 128 := (i 1).isLt
    have h3 : (i 3).val < 64 := (i 3).isLt
    have e1 : (128 * (i 0).val + (i 1).val) / 128 = (i 0).val := by omega
    have e2 : (128 * (i 0).val + (i 1).val) % 128 = (i 1).val := by omega
    have e3 : (64 * (i 2).val + (i 3).val) / 64 = (i 2).val := by omega
    unfold Inputs.mixed
    rw [e1, e2, e3]

theorem r317 : Holds (val_main_v317 (F := Ideal) x0) (fun i => I.dcat (i 0).val (i 1).val) :=
  ((A.dcat.sum word_zero (val_main_v316_apply x0)).at (val_main_v317_apply (F := Ideal) x0)).congr fun i => by
    show ∑ k : Fin 1, I.dcat (i 0).val (i 1).val = _
    simp

theorem r429 : Holds (val_main_v429 (F := Ideal) x0)
    (fun i => I.dcat (128 * (i 0).val + (i 1).val) (64 * (i 2).val + (i 3).val)) :=
  ((r317 A).at (val_main_v429_apply (F := Ideal) x0)).congr fun i => by
    have h1 : (i 1).val < 128 := (i 1).isLt
    have h2 : (i 2).val < 8 := (i 2).isLt
    have h3 : (i 3).val < 64 := (i 3).isLt
    exact congrArg₂ I.dcat (by show (_ : ℕ) / 512 = _; omega) (by show (_ : ℕ) % 512 = _; omega)

/-- The cotangent of the mixed values. -/
theorem r430 : Holds (val_main_v430 (F := Ideal) x0 x1)
    (fun i => I.dmix (128 * (i 0).val + (i 1).val) (64 * (i 2).val + (i 3).val)) :=
  ((r95 A).mul (r429 A)).congr fun i => mul_comm _ _

theorem r432 : Holds (val_main_v432 (F := Ideal) x0 x1 x3 x4 x5 x6)
    (fun i => I.dcat (i 0).val (i 1).val * I.mixed (i 0).val (i 1).val) :=
  (((r429 A).mul (r94 A)).at (val_main_v432_apply (F := Ideal) x0 x1 x3 x4 x5 x6)).congr fun i => by
    have h1 : (i 1).val < 512 := (i 1).isLt
    have e1 : 128 * (((i 0).val * 512 + (i 1).val) / 65536) + ((i 0).val * 512 + (i 1).val) / 512 % 128 = (i 0).val := by
      omega
    have e2 : 64 * (((i 0).val * 512 + (i 1).val) / 64 % 8) + ((i 0).val * 512 + (i 1).val) % 64 = (i 1).val := by omega
    exact congrArg₂ (fun a b => I.dcat a b * I.mixed a b) e1 e2

/-- The gradient of the multiplying half. -/
theorem r510 : Holds (val_main_v510 (F := Ideal) x0 x1 x3 x4 x5 x6) (fun i => I.du (i 0).val (i 1).val) := fun i => by
  have e : val_main_v510 (F := Ideal) x0 x1 x3 x4 x5 x6 i
      = hostGeluBack (val_main_v5 (F := Ideal) x1 i) (val_main_v432 (F := Ideal) x0 x1 x3 x4 x5 x6 i) := rfl
  rw [e, r5 A i, r432 A i, hostGeluBack_coe]
  rfl

theorem r433 : Holds (val_main_v433 (F := Ideal) x0 x1) (fun i => I.gbs (i 1).val (i 0).val) := fun i => by
  have e : val_main_v433 (F := Ideal) x0 x1 i = Ideal.ofBits .f32 0x00000000#32
      + ∑ a : Fin 32, ∑ d : Fin 64, val_main_v430 (F := Ideal) x0 x1 (ix4 a (i 0) (i 1) d) :=
    sum_first_last _ _ _ _
  rw [e, word_zero, zero_add]
  unfold Inputs.gbs Inputs.gbsBlock
  beta_reduce
  rw [← sum_fin 32 (fun n => ∑ d ∈ Finset.range 64, I.dmix (128 * n + (i 0).val) (64 * (i 1).val + d)), coe_sum]
  refine Finset.sum_congr rfl fun a _ => ?_
  rw [← sum_fin 64 (fun d => I.dmix (128 * a.val + (i 0).val) (64 * (i 1).val + d)), coe_sum]
  exact Finset.sum_congr rfl fun d _ => r430 A _

theorem r434 : Holds (val_main_v434 (F := Ideal) x0 x1) (fun i => I.gbs (i 2).val (i 1).val) :=
  ((r433 A).at (val_main_v434_apply (F := Ideal) x0 x1)).congr fun i => by
    have h0 : (i 0).val < 1 := (i 0).isLt
    have h1 : (i 1).val < 128 := (i 1).isLt
    have h2 : (i 2).val < 8 := (i 2).isLt
    have h3 : (i 3).val < 1 := (i 3).isLt
    exact congrArg₂ I.gbs (by show (_ : ℕ) % 8 = _; omega) (by show (_ : ℕ) / 8 = _; omega)

/-- The gradient of the spatial biases. -/
theorem r436 : Holds (val_main_v436 (F := Ideal) x0 x1) (fun i => I.gbs (i 0).val (i 1).val) := by
  have e : Holds (val_main_v435 (F := Ideal) x0 x1) (fun i => I.gbs (i 1).val (i 0).val) := fun i => by
    have e : val_main_v435 (F := Ideal) x0 x1 i = Ideal.ofBits .f32 0x00000000#32
        + ∑ a : Fin 1, ∑ d : Fin 1, val_main_v434 (F := Ideal) x0 x1 (ix4 a (i 0) (i 1) d) :=
      sum_first_last _ _ _ _
    rw [e, word_zero, zero_add, Fin.sum_univ_one, Fin.sum_univ_one]
    exact r434 A _
  exact (e.at (val_main_v436_apply (F := Ideal) x0 x1)).congr fun _ => rfl

theorem r437 : Holds (val_main_v437 (F := Ideal) x0 x1)
    (fun i => I.dmix (128 * (i 1).val + (i 3).val) (64 * (i 0).val + (i 2).val)) :=
  ((r430 A).at (val_main_v437_apply (F := Ideal) x0 x1)).congr fun _ => rfl

/-- The product of the mixed values' cotangent and the normalised values, added over the blocks and the channels. -/
theorem r438 : Holds (val_main_v438 (F := Ideal) x0 x1 x3 x4)
    (fun i => ∑ n ∈ Finset.range 32, I.gwsBlock n (i 0).val (i 1).val (i 2).val) := fun i => by
  unfold val_main_v438 Host.dotGeneral
  beta_reduce
  rw [Ideal.dotGeneral_apply,
    sum_contr2 dot_S8x32x64x128_S32x128x8x64_S8x128x128_12_03_3_1_0_2 32 64 rfl rfl rfl,
    ← sum_fin 32 (fun n => I.gwsBlock n (i 0).val (i 1).val (i 2).val), coe_sum]
  refine Finset.sum_congr rfl fun a _ => ?_
  unfold Inputs.gwsBlock
  rw [← sum_fin 64 (fun d => I.dmix (128 * a.val + (i 1).val) (64 * (i 0).val + d)
    * I.vp (128 * a.val + (i 2).val) (64 * (i 0).val + d)), coe_sum]
  refine Finset.sum_congr rfl fun d _ => ?_
  rw [r437 A, r83 A, EReal.coe_mul]
  rfl

/-- The gradient of the spatial weights. -/
theorem r442 : Holds (val_main_v442 (F := Ideal) x0 x1 x3 x4)
    (fun i => I.gws (i 0).val (i 1).val (i 2).val) :=
  ((r438 A).mul ((r85.at (val_main_v86_apply (F := Ideal))).at (val_main_v441_apply (F := Ideal)))).congr fun i => by
    show (∑ n ∈ Finset.range 32, I.gwsBlock n _ _ _) * (if (i 2).val ≤ (i 1).val then (1 : ℝ) else 0) = _
    unfold Inputs.gws
    split <;> simp

theorem r439 : Holds (val_main_v439 (F := Ideal) x0 x1 x5) (fun i => ∑ k ∈ Finset.range 128,
      I.dmix (128 * (i 1).val + k) (64 * (i 0).val + (i 2).val) * I.wm (i 0).val k (i 3).val) :=
  ((r437 A).dot (r88 A) (val_main_v439_apply x0 x1 x5)).congr fun i =>
    sum_fin 128 (fun k => I.dmix (128 * (i 1).val + k) (64 * (i 0).val + (i 2).val) * I.wm (i 0).val k (i 3).val)

/-- The cotangent of the scaled and shifted values. -/
theorem r443 : Holds (val_main_v443 (F := Ideal) x0 x1 x5) (fun i => I.dvp (i 0).val (i 1).val) :=
  (((r439 A).at (val_main_v440_apply (F := Ideal) x0 x1 x5)).at (val_main_v443_apply (F := Ideal) x0 x1 x5)).congr
    fun i => by
    have h1 : (i 1).val < 512 := (i 1).isLt
    have e1 : ((i 0).val * 512 + (i 1).val) / 65536 = (i 0).val / 128 := by omega
    have e2 : ((i 0).val * 512 + (i 1).val) / 512 % 128 = (i 0).val % 128 := by omega
    have e3 : ((i 0).val * 512 + (i 1).val) / 64 % 8 = (i 1).val / 64 := by omega
    have e4 : ((i 0).val * 512 + (i 1).val) % 64 = (i 1).val % 64 := by omega
    have e5 : 64 * ((i 1).val / 64) + (i 1).val % 64 = (i 1).val := by omega
    show (∑ k ∈ Finset.range 128, I.dmix (128 * (((i 0).val * 512 + (i 1).val) / 65536) + k)
      (64 * (((i 0).val * 512 + (i 1).val) / 64 % 8) + ((i 0).val * 512 + (i 1).val) % 64)
      * I.wm (((i 0).val * 512 + (i 1).val) / 64 % 8) k (((i 0).val * 512 + (i 1).val) / 512 % 128)) = _
    rw [e1, e2, e3, e4, e5]
    rfl

theorem r446 : Holds (val_main_v446 (F := Ideal) x0 x1 x5) (fun i => I.db (i 0).val) := by
  have a := ((r443 A).sum word_zero (val_main_v444_apply x0 x1 x5)).at (val_main_v445_apply (F := Ideal) x0 x1 x5)
  refine (a.sum word_zero (val_main_v446_apply x0 x1 x5)).congr fun i => ?_
  have h1 : (i 0).val < 512 := (i 0).isLt
  rw [Fin.sum_univ_one, Inputs.db, ← sum_fin 4096 (fun t => I.dvp t (i 0).val)]
  refine Finset.sum_congr rfl fun t _ => ?_
  exact congrArg (I.dvp t.val) (by show (_ : ℕ) = (i 0).val; simp only [Fin.val_zero]; omega)

theorem r452 : Holds (val_main_v452 (F := Ideal) x0 x1 x5) (fun i => I.dg (i 0).val) := by
  have a := (((r76 A).mul (r443 A)).sum word_zero (val_main_v448_apply x0 x1 x5)).at
    (val_main_v449_apply (F := Ideal) x0 x1 x5)
  refine (a.sum word_zero (val_main_v452_apply x0 x1 x5)).congr fun i => ?_
  have h1 : (i 0).val < 512 := (i 0).isLt
  rw [Fin.sum_univ_one, Inputs.dg, ← sum_fin 4096 (fun t => I.dvp t (i 0).val * I.vhat t (i 0).val)]
  refine Finset.sum_congr rfl fun t _ => ?_
  rw [mul_comm (I.dvp _ _)]
  exact congrArg (fun c => I.vhat t.val c * I.dvp t.val c) (by show (_ : ℕ) = (i 0).val; simp only [Fin.val_zero]; omega)

end

end Cert.RefGate

end
-- ==== Proof.RefNorm.lean ====
/- The reference's backward pass through the normalisation: the gradient of the normalised half. -/
module

public import proofs.«01_k».proof.Proof.RefMix

@[expose] public section

set_option maxRecDepth 16384

noncomputable section

open scoped BigOperators

namespace Cert.RefGate

open Idealize.ShloMosaic Idealize.ShloMosaic.ValueIdx Cert.ReferenceIdeal Cert.ReferenceIdeal.Read Cert.Lift Cert.Model
open Cert.RefOps

/-- The reference's four terms of the normalisation's backward pass, gathered: `C` adds up the centred values times the
    cotangents, and the centred values themselves add up to nothing. -/
theorem norm_back (I : Inputs) (t c : ℕ) :
    I.dxh t c * I.rstd t
      + (∑ k ∈ Finset.range 512, I.cen t k * I.dxh t k) * (-(1 / 2) * (I.rstd t / I.vareps t)) / 512 * (2 * I.cen t c)
      + ((∑ k ∈ Finset.range 512, -(I.dxh t k * I.rstd t))
        + ∑ k ∈ Finset.range 512, -((∑ k ∈ Finset.range 512, I.cen t k * I.dxh t k)
          * (-(1 / 2) * (I.rstd t / I.vareps t)) / 512 * (2 * I.cen t k))) / 512
      = I.rstd t * (I.dxh t c - (∑ k ∈ Finset.range 512, I.dxh t k) / 512
        - I.vhat t c * ((∑ k ∈ Finset.range 512, I.dxh t k * I.vhat t k) / 512)) := by
  have e0 : ∀ x : ℝ, ∑ k ∈ Finset.range 512, -(x * (2 * I.cen t k)) = 0 := fun x => by
    rw [Finset.sum_neg_distrib, ← Finset.mul_sum, ← Finset.mul_sum, I.sum_cen]
    ring
  have e1 : ∑ k ∈ Finset.range 512, -(I.dxh t k * I.rstd t) = -((∑ k ∈ Finset.range 512, I.dxh t k) * I.rstd t) := by
    rw [Finset.sum_neg_distrib, Finset.sum_mul]
  have e2 : ∑ k ∈ Finset.range 512, I.dxh t k * I.vhat t k
      = (∑ k ∈ Finset.range 512, I.cen t k * I.dxh t k) * I.rstd t := by
    rw [Finset.sum_mul]
    refine Finset.sum_congr rfl fun k _ => ?_
    unfold Inputs.vhat
    ring
  have e3 : I.rstd t / I.vareps t = I.rstd t * (I.rstd t * I.rstd t) := by rw [I.rstd_sq]; ring
  rw [e0, e1, e2, e3]
  unfold Inputs.vhat
  ring

/-- A column's entry is the row's. -/
theorem column_index (i : S4096x1.Idx) : (i 0).val * 1 + (i 1).val = (i 0).val := by
  have h1 : (i 1).val < 1 := (i 1).isLt
  omega

variable {I : Inputs} {x0 : S1x4096x1024.Idx → EReal} {x1 : S1x4096x1792.Idx → EReal}
  {x3 x4 : S1x512.Idx → EReal} {x5 : S1x8x128x128.Idx → EReal} {x6 : S1x8x128.Idx → EReal}

section
variable (A : Args I x0 x1 x3 x4 x5 x6)
include A

/-- The cotangent of the normalised value. -/
theorem r451 : Holds (val_main_v451 (F := Ideal) x0 x1 x3 x5) (fun i => I.dxh (i 0).val (i 1).val) :=
  have g := ((r12 A).at (val_main_v77_apply (F := Ideal) x3)).at (val_main_v450_apply (F := Ideal) x3)
  ((r443 A).mul g).congr fun _ => rfl

theorem r454 : Holds (val_main_v454 (F := Ideal) x0 x1 x3 x5)
    (fun i => ∑ c ∈ Finset.range 512, I.cen (i 0).val c * I.dxh (i 0).val c) :=
  (((r68 A).mul (r451 A)).sum word_zero (val_main_v454_apply x0 x1 x3 x5)).congr fun i =>
    sum_fin 512 (fun c => I.cen (i 0).val c * I.dxh (i 0).val c)

theorem r457 : Holds (val_main_v457 (F := Ideal) x0 x1 x3 x5) (fun i => I.dxh (i 0).val (i 1).val * I.rstd (i 0).val) :=
  have e := (r71 A).at (val_main_v456_apply (F := Ideal) x1)
  ((r451 A).mul e).congr fun _ => rfl

theorem r460 : Holds (val_main_v460 (F := Ideal) x0 x1 x3 x5)
    (fun i => ∑ c ∈ Finset.range 512, -(I.dxh (i 0).val c * I.rstd (i 0).val)) :=
  ((r457 A).neg.sum word_zero (val_main_v460_apply x0 x1 x3 x5)).congr fun i =>
    sum_fin 512 (fun c => -(I.dxh (i 0).val c * I.rstd (i 0).val))

/-- What passes through the variance, before the factor of the centred value. -/
theorem r463 : Holds (val_main_v463 (F := Ideal) x0 x1 x3 x5)
    (fun i => (∑ c ∈ Finset.range 512, I.cen (i 0).val c * I.dxh (i 0).val c)
      * (-(1 / 2) * (I.rstd (i 0).val / I.vareps (i 0).val)) / 512) :=
  have e := (r454 A).at (val_main_v455_apply (F := Ideal) x0 x1 x3 x5)
  ((e.mul (r74 A)).div (y := val_main_v462 (F := Ideal)) (g := fun _ => 512) (fun _ => word_512)
    (fun _ => by norm_num)).congr fun i => by simp only [column_index i]

theorem r464 : Holds (val_main_v464 (F := Ideal) x0 x1 x3 x5)
    (fun i => (∑ c ∈ Finset.range 512, I.cen (i 0).val c * I.dxh (i 0).val c)
      * (-(1 / 2) * (I.rstd (i 0).val / I.vareps (i 0).val)) / 512) :=
  ((r463 A).sum word_zero (val_main_v464_apply x0 x1 x3 x5)).congr fun i => Fin.sum_univ_one _

theorem r466 : Holds (val_main_v466 (F := Ideal) x0 x1 x3 x5)
    (fun i => (∑ c ∈ Finset.range 512, I.cen (i 0).val c * I.dxh (i 0).val c)
      * (-(1 / 2) * (I.rstd (i 0).val / I.vareps (i 0).val)) / 512 * (2 * I.cen (i 0).val (i 1).val)) :=
  have e : Holds (val_main_v62 (F := Ideal) x1) (fun i => 2 * I.cen (i 0).val (i 1).val) :=
    Holds.mul (f := fun _ => 2) (fun _ => word_two) (r59 A)
  ((r464 A).at (val_main_v465_apply (F := Ideal) x0 x1 x3 x5)).mul e

theorem r468 : Holds (val_main_v468 (F := Ideal) x0 x1 x3 x5)
    (fun i => ∑ k ∈ Finset.range 512, -((∑ c ∈ Finset.range 512, I.cen (i 0).val c * I.dxh (i 0).val c)
      * (-(1 / 2) * (I.rstd (i 0).val / I.vareps (i 0).val)) / 512 * (2 * I.cen (i 0).val k))) :=
  ((r466 A).neg.sum word_zero (val_main_v468_apply x0 x1 x3 x5)).congr fun i =>
    sum_fin 512 (fun k => -((∑ c ∈ Finset.range 512, I.cen (i 0).val c * I.dxh (i 0).val c)
      * (-(1 / 2) * (I.rstd (i 0).val / I.vareps (i 0).val)) / 512 * (2 * I.cen (i 0).val k)))

/-- What passes through the mean. -/
theorem r473 : Holds (val_main_v473 (F := Ideal) x0 x1 x3 x5)
    (fun i => ((∑ c ∈ Finset.range 512, -(I.dxh (i 0).val c * I.rstd (i 0).val))
      + ∑ k ∈ Finset.range 512, -((∑ c ∈ Finset.range 512, I.cen (i 0).val c * I.dxh (i 0).val c)
        * (-(1 / 2) * (I.rstd (i 0).val / I.vareps (i 0).val)) / 512 * (2 * I.cen (i 0).val k))) / 512) :=
  have e := (r460 A).at (val_main_v461_apply (F := Ideal) x0 x1 x3 x5)
  have e' := (r468 A).at (val_main_v469_apply (F := Ideal) x0 x1 x3 x5)
  ((e.add e').div (y := val_main_v472 (F := Ideal)) (g := fun _ => 512) (fun _ => word_512)
    (fun _ => by norm_num)).congr fun i => by simp only [column_index i]

theorem r474 : Holds (val_main_v474 (F := Ideal) x0 x1 x3 x5)
    (fun i => ((∑ c ∈ Finset.range 512, -(I.dxh (i 0).val c * I.rstd (i 0).val))
      + ∑ k ∈ Finset.range 512, -((∑ c ∈ Finset.range 512, I.cen (i 0).val c * I.dxh (i 0).val c)
        * (-(1 / 2) * (I.rstd (i 0).val / I.vareps (i 0).val)) / 512 * (2 * I.cen (i 0).val k))) / 512) :=
  ((r473 A).sum word_zero (val_main_v474_apply x0 x1 x3 x5)).congr fun i => Fin.sum_univ_one _

/-- The cotangent of the gated value. -/
theorem r476 : Holds (val_main_v476 (F := Ideal) x0 x1 x3 x5) (fun i => I.rstd (i 0).val * (I.dxh (i 0).val (i 1).val
      - (∑ k ∈ Finset.range 512, I.dxh (i 0).val k) / 512
      - I.vhat (i 0).val (i 1).val * ((∑ k ∈ Finset.range 512, I.dxh (i 0).val k * I.vhat (i 0).val k) / 512))) :=
  (((r457 A).add (r466 A)).add ((r474 A).at (val_main_v475_apply (F := Ideal) x0 x1 x3 x5))).congr fun i =>
    norm_back I (i 0).val (i 1).val

/-- The gradient of the normalised half. -/
theorem r493 : Holds (val_main_v493 (F := Ideal) x0 x1 x3 x5) (fun i => I.dv (i 0).val (i 1).val) := fun i => by
  have e : val_main_v493 (F := Ideal) x0 x1 x3 x5 i
      = hostGeluBack (val_main_v6 (F := Ideal) x1 i) (val_main_v476 (F := Ideal) x0 x1 x3 x5 i) := rfl
  rw [e, r6 A i, r476 A i, hostGeluBack_coe]
  rfl

end

end Cert.RefGate

end
-- ==== Proof.RefOut.lean ====
/- The reference's results of the gated branch, entry by entry: the gated rows of the input's gradient, the gradients of
   the spatial weights and biases, and those of the normalisation's scale and shift. -/
module

public import proofs.«01_k».proof.Proof.RefNorm

@[expose] public section

set_option maxRecDepth 16384

noncomputable section

open scoped BigOperators

namespace Cert.RefGate

open Idealize.ShloMosaic Idealize.ShloMosaic.ValueIdx Cert.ReferenceIdeal Cert.ReferenceIdeal.Read Cert.Lift Cert.Model
open Cert.RefOps

variable {I : Inputs} {x0 : S1x4096x1024.Idx → EReal} {x1 : S1x4096x1792.Idx → EReal}
  {x3 x4 : S1x512.Idx → EReal} {x5 : S1x8x128x128.Idx → EReal} {x6 : S1x8x128.Idx → EReal}

/-- The gradient of the mixer's input before it is turned: token by column. -/
theorem turned (x2 : (⟨S1x4096, .i32⟩ : BufTy).Contents (Elt Ideal)) (x7 : S1x8.Idx → EReal) (i : S1792x4096.Idx) :
    val_main_v519 (F := Ideal) x0 x1 x2 x3 x4 x5 x6 x7 i
      = val_main_v516 (F := Ideal) x0 x1 x2 x3 x4 x5 x6 x7 (ix2 (i 1) (i 0)) := by
  rw [val_main_v519_apply, val_main_v518_apply, val_main_v517_apply]
  congr 1
  have h0 : (i 0).val < 1792 := (i 0).isLt
  have h1 : (i 1).val < 4096 := (i 1).isLt
  funext a
  match a with
  | ⟨0, _⟩ => exact Fin.ext (by show ((i 1).val * 1792 + (i 0).val) / 1792 % 4096 = (i 1).val; omega)
  | ⟨1, _⟩ => exact Fin.ext (by show ((i 1).val * 1792 + (i 0).val) % 1792 = (i 0).val; omega)

section
variable (A : Args I x0 x1 x3 x4 x5 x6)
include A

/-- The gated columns of the input's gradient. -/
theorem r516 (x2 : (⟨S1x4096, .i32⟩ : BufTy).Contents (Elt Ideal)) (x7 : S1x8.Idx → EReal) (i : S4096x1792.Idx)
    (hi : (i 1).val < 1024) : val_main_v516 (F := Ideal) x0 x1 x2 x3 x4 x5 x6 x7 i
      = ((I.dhGate (i 0).val (i 1).val : ℝ) : EReal) := by
  unfold val_main_v516 Inputs.dhGate
  by_cases h : (i 1).val < 512
  · rw [if_pos h, concatenate_apply_piece 1 _ _ i 0 (by simp) S4096x512 (val_main_v510 (F := Ideal) x0 x1 x3 x4 x5 x6)
      rfl rfl 0 rfl (ix2 (i 0) ⟨(i 1).val, h⟩) (fun q hq => by
        match q with
        | ⟨0, _⟩ => rfl
        | ⟨1, _⟩ => exact absurd rfl hq) (Nat.zero_add _)]
    exact r510 A _
  · rw [if_neg h, concatenate_apply_piece 1 _ _ i 1 (by simp) S4096x512 (val_main_v493 (F := Ideal) x0 x1 x3 x5)
      rfl rfl 512 rfl (ix2 (i 0) ⟨(i 1).val - 512, by omega⟩) (fun q hq => by
        match q with
        | ⟨0, _⟩ => rfl
        | ⟨1, _⟩ => exact absurd rfl hq) (by show 512 + ((i 1).val - 512) = (i 1).val; omega)]
    exact r493 A _

/-- The gated rows of the first result. -/
theorem r526 (x2 : (⟨S1x4096, .i32⟩ : BufTy).Contents (Elt Ideal)) (x7 : S1x8.Idx → EReal) (i : S1536x4096.Idx)
    (hi : (i 0).val < 1024) : val_main_v526 (F := Ideal) x0 x1 x2 x3 x4 x5 x6 x7 i
      = ((I.dhGate (i 1).val (i 0).val : ℝ) : EReal) := by
  have e : val_main_v526 (F := Ideal) x0 x1 x2 x3 x4 x5 x6 x7 i
      = val_main_v525 (F := Ideal) x0 x1 x2 x3 x4 x5 x6 x7 i := rfl
  rw [e, val_main_v525_apply, turned]
  exact r516 A x2 x7 _ hi

/-- The spatial weights' gradient. -/
theorem r529 : Holds (val_main_v529 (F := Ideal) x0 x1 x3 x4) (fun i => I.gws (i 0).val (i 1).val (i 2).val) :=
  have e : Holds (val_main_v528 (F := Ideal) x0 x1 x3 x4) _ :=
    ((r442 A).at (val_main_v512_apply (F := Ideal) x0 x1 x3 x4)).at (val_main_v528_apply (F := Ideal) x0 x1 x3 x4)
  fun i => (e i).trans (congrArg _ (by
    have h0 : (i 0).val < 8 := (i 0).isLt
    have h1 : (i 1).val < 128 := (i 1).isLt
    have h2 : (i 2).val < 128 := (i 2).isLt
    have e0 : (((i 0).val * 128 + (i 1).val) * 128 + (i 2).val) / 16384 % 8 = (i 0).val := by omega
    have e1 : (((i 0).val * 128 + (i 1).val) * 128 + (i 2).val) / 128 % 128 = (i 1).val := by omega
    have e2 : (((i 0).val * 128 + (i 1).val) * 128 + (i 2).val) % 128 = (i 2).val := by omega
    exact (congrArg₂ (fun a b => I.gws a b _) e0 e1).trans (congrArg (I.gws _ _) e2)))

/-- The spatial biases' gradient. -/
theorem r530 : Holds (val_main_v530 (F := Ideal) x0 x1) (fun i => I.gbs (i 0).val (i 1).val) :=
  (((r436 A).at (val_main_v511_apply (F := Ideal) x0 x1)).at (val_main_v530_apply (F := Ideal) x0 x1)).congr fun i => by
    have h0 : (i 0).val < 8 := (i 0).isLt
    have h1 : (i 1).val < 128 := (i 1).isLt
    exact congrArg₂ I.gbs (by show (_ : ℕ) / 128 % 8 = _; omega) (by show (_ : ℕ) % 128 = _; omega)

/-- The gradients of the normalisation's scale and shift, the first two of eight rows. -/
theorem r532 (i : S8x512.Idx) : val_main_v532 (F := Ideal) x0 x1 x5 i
    = (((if (i 0).val = 0 then I.dg (i 1).val else if (i 0).val = 1 then I.db (i 1).val else 0 : ℝ)) : EReal) := by
  have hi : (i 0).val < 8 := (i 0).isLt
  unfold val_main_v532
  by_cases h : (i 0).val = 0
  · rw [if_pos h, concatenate_apply_piece 0 _ _ i 0 (by simp) S1x512 (val_main_v514 (F := Ideal) x0 x1 x5)
      rfl rfl 0 rfl (ix2 0 (i 1)) (fun q hq => by
        match q with
        | ⟨0, _⟩ => exact absurd rfl hq
        | ⟨1, _⟩ => rfl) (by show 0 + 0 = (i 0).val; omega), val_main_v514_apply]
    exact r452 A _
  by_cases h' : (i 0).val = 1
  · rw [if_neg h, if_pos h', concatenate_apply_piece 0 _ _ i 1 (by simp) S1x512
      (val_main_v513 (F := Ideal) x0 x1 x5) rfl rfl 1 rfl (ix2 0 (i 1)) (fun q hq => by
        match q with
        | ⟨0, _⟩ => exact absurd rfl hq
        | ⟨1, _⟩ => rfl) (by show 1 + 0 = (i 0).val; omega), val_main_v513_apply]
    exact r446 A _
  · rw [if_neg h, if_neg h', concatenate_apply_piece 0 _ _ i 2 (by simp) S6x512
      (val_main_v531 (F := Ideal)) rfl rfl 2 rfl (ix2 ⟨(i 0).val - 2, by omega⟩ (i 1)) (fun q hq => by
        match q with
        | ⟨0, _⟩ => exact absurd rfl hq
        | ⟨1, _⟩ => rfl) (by show 2 + ((i 0).val - 2) = (i 0).val; omega)]
    exact word_zero.trans EReal.coe_zero.symm

end

end Cert.RefGate

end
-- ==== Proof.Equation.lean ====
/- Both programs' results of the gated branch are the same real numbers. -/
module

public import proofs.«01_k».proof.Defs
public import proofs.«01_k».proof.Proof.Gen.KernelIdeal.Value
public import proofs.«01_k».proof.Proof.Gen.ReferenceIdeal.Run
public import proofs.«01_k».proof.Proof.Arrays
public import proofs.«01_k».proof.Proof.RefOut

@[expose] public section

set_option maxRecDepth 16384

noncomputable section

namespace Cert.Equation

open Idealize.ShloMosaic Idealize.ShloMosaic.TcCoe Idealize.SL.Sem Idealize.ShloMosaic.Pipeline
open Cert.Lift Cert.Model Cert.Finite Cert.RefOps Cert.RefGate Cert.Entry

/-- Finite arguments hold the real inputs. -/
theorem args {a0 : FVec Ideal Cert.Pre_finite.S1x4096x1024 .f32} {a1 : FVec Ideal Cert.Pre_finite.S1x4096x1792 .f32}
    (a2 : IVec Cert.Pre_finite.S1x4096 32) {a3 a4 : FVec Ideal Cert.Pre_finite.S1x512 .f32}
    {a5 : FVec Ideal Cert.Pre_finite.S1x8x128x128 .f32} {a6 : FVec Ideal Cert.Pre_finite.S1x8x128 .f32}
    (a7 : FVec Ideal Cert.Pre_finite.S1x8 .f32) (h0 : AllReal a0) (h1 : AllReal a1) (h3 : AllReal a3)
    (h4 : AllReal a4) (h5 : AllReal a5) (h6 : AllReal a6) :
    Args (inputs a0 a1 a2 a3 a4 a5 a6 a7) a0 a1 a3 a4 a5 a6 where
  dcat i := by
    have e : (i 0).val = 0 := by have : (i 0).val < 1 := (i 0).isLt; omega
    exact (h0.lifts3 i).trans (by rw [e]; rfl)
  h i := by
    have e : (i 0).val = 0 := by have : (i 0).val < 1 := (i 0).isLt; omega
    exact (h1.lifts3 i).trans (by rw [e]; rfl)
  g i := by
    have e : (i 0).val = 0 := by have : (i 0).val < 1 := (i 0).isLt; omega
    exact (h3.lifts2 i).trans (by rw [e]; rfl)
  b i := by
    have e : (i 0).val = 0 := by have : (i 0).val < 1 := (i 0).isLt; omega
    exact (h4.lifts2 i).trans (by rw [e]; rfl)
  w i := by
    have e : (i 0).val = 0 := by have : (i 0).val < 1 := (i 0).isLt; omega
    have q : ValueIdx.ix4 (i 0) (i 1) (i 2) (i 3) = i :=
      funext fun q => by match q with | ⟨0, _⟩ => rfl | ⟨1, _⟩ => rfl | ⟨2, _⟩ => rfl | ⟨3, _⟩ => rfl
    exact (congrArg a5 q.symm).trans ((h5.at_four (i 0) (i 1) (i 2) (i 3)).trans (by rw [e]; rfl))
  bs i := by
    have e : (i 0).val = 0 := by have : (i 0).val < 1 := (i 0).isLt; omega
    exact (h6.lifts3 i).trans (by rw [e]; rfl)

section
variable [Cert.Pre_finite.Facts]

/-- The precondition makes every float argument real. -/
theorem real_of_pre {m : (ℓ : Loc Cert.KernelIdeal.nD Cert.KernelIdeal.τ Cert.KernelIdeal.sig) → Buf (Elt Ideal) ℓ}
    (h : Pre_KernelIdeal_finite m) (c : Dev Cert.KernelIdeal.nD) : Real m c :=
  have ⟨h0, h1, h3, h4, h5, h6, h7⟩ := allReal_of_pre (h c)
  ⟨h0, h1, h3, h4, h5, h6, h7⟩

end

section
variable [Cert.On_gmlp_results.Facts]

/-- Where the claim's mask selects an entry of the first result, its row is one of the gated ones. -/
theorem mask_row {a0 : FVec Ideal Cert.On_gmlp_results.S1x4096x1024 .f32}
    {a1 : FVec Ideal Cert.On_gmlp_results.S1x4096x1792 .f32} {a2 : IVec Cert.On_gmlp_results.S1x4096 32}
    {a3 a4 : FVec Ideal Cert.On_gmlp_results.S1x512 .f32} {a5 : FVec Ideal Cert.On_gmlp_results.S1x8x128x128 .f32}
    {a6 : FVec Ideal Cert.On_gmlp_results.S1x8x128 .f32} {a7 : FVec Ideal Cert.On_gmlp_results.S1x8 .f32}
    (i : (⟨2, ![1536, 4096]⟩ : Shape).Idx)
    (h : (Cert.On_gmlp_results.fn (F := Ideal) a0 a1 a2 a3 a4 a5 a6 a7).1 i = 1#1) : (i 0).val < 1024 := by
  have h0 : (i 0).val < 1536 := (i 0).isLt
  have h' : IntOp.cmpi .slt (BitVec.ofNat 32 (i 0).val) (BitVec.ofNat 32 1024) = 1#1 := h
  exact (WordCmp.cmpi_slt_ofNat_eq_one_iff (by omega) (by omega)).mp h'

end

/-- The arguments of a core with real entries hold its real inputs. -/
theorem args_of_real {m : (ℓ : Loc Cert.KernelIdeal.nD Cert.KernelIdeal.τ Cert.KernelIdeal.sig) → Buf (Elt Ideal) ℓ}
    {c : Dev Cert.KernelIdeal.nD} (h : Real m c) :
    Args (inp m c) (m (c.tc.loc Cert.KernelIdeal.main_arg0)) (m (c.tc.loc Cert.KernelIdeal.main_arg1))
      (m (c.tc.loc Cert.KernelIdeal.main_arg3)) (m (c.tc.loc Cert.KernelIdeal.main_arg4))
      (m (c.tc.loc Cert.KernelIdeal.main_arg5)) (m (c.tc.loc Cert.KernelIdeal.main_arg6)) :=
  args _ _ h.a0 h.a1 h.a3 h.a4 h.a5 h.a6

section
variable {I : Inputs} {x0 y0 : Cert.ReferenceIdeal.S1x4096x1024.Idx → EReal}
  {x1 y1 : Cert.ReferenceIdeal.S1x4096x1792.Idx → EReal} {y2 : Cert.ReferenceIdeal.S1x4096.Idx → BitVec 32}
  {x3 x4 y3 y4 : Cert.ReferenceIdeal.S1x512.Idx → EReal}
  {x5 y5 : Cert.ReferenceIdeal.S1x8x128x128.Idx → EReal} {x6 y6 : Cert.ReferenceIdeal.S1x8x128.Idx → EReal}
  {y7 : Cert.ReferenceIdeal.S1x8.Idx → EReal}
variable (A : Args I x0 x1 x3 x4 x5 x6)
include A

/-- The arguments of the reference hold the real inputs, being the kernel's. -/
theorem agree (e0 : y0 = x0) (e1 : y1 = x1) (e3 : y3 = x3) (e4 : y4 = x4) (e5 : y5 = x5) (e6 : y6 = x6) :
    Args I y0 y1 y3 y4 y5 y6 := by
  subst e0 e1 e3 e4 e5 e6
  exact A

end

variable [Cert.Pre_finite.Facts] [Cert.On_gmlp_results.Facts]

set_option maxHeartbeats 4000000 in
open Cert.KernelIdeal Cert.KernelIdeal.Gen in
/-- Both programs run, keep their arguments, and agree on the results of the gated branch. -/
theorem equal : algebraic_KernelIdeal_ReferenceIdeal_on_gmlp_results_pre_finite := by
  intro m g m' g' hpre hargs
  have real := fun c => real_of_pre hpre c
  refine ⟨fun c => (dats m 0 c).arrAt 17 cfg0.N, fun c => (dats m 0 c).arrAt 18 cfg0.N,
    fun c => (dats m 0 c).arrAt 19 cfg0.N, fun c => (dats m 0 c).arrAt 20 cfg0.N,
    fun c => (dats m 0 c).arrAt 21 cfg0.N, fun c => (dats m 0 c).arrAt 22 cfg0.N,
    fun c => (dats m 0 c).arrAt 23 cfg0.N, ?_, ?_⟩
  · refine (θ_run _ _ _).mono (fun r h c => ?_) (Cert.KernelIdeal.Value.run_blocks m g)
    obtain ⟨q0, q1, q2, q3, q4, q5, q6, q⟩ := h c
    exact ⟨fun i _ => congrFun q0 i, fun i _ => congrFun q1 i, fun i _ => congrFun q2 i, fun i _ => congrFun q3 i,
      fun i _ => congrFun q4 i, fun i _ => congrFun q5 i, fun i _ => congrFun q6 i, q⟩
  · refine (θ_run _ _ _).mono (fun r h c => ?_) (Cert.ReferenceIdeal.Value.run m' g')
    obtain ⟨q0, q1, q2, q3, q4, q5, q6, q⟩ := h c
    obtain ⟨e0, e1, e2, e3, e4, e5, e6, e7⟩ := hargs c
    have A := agree (args_of_real (real c)) e0 e1 e3 e4 e5 e6
    refine ⟨fun i hi => ?_, fun i hi => absurd (show 0#1 = 1#1 from hi) (by decide),
      fun i hi => absurd (show 0#1 = 1#1 from hi) (by decide), fun i _ => ?_, fun i _ => ?_, fun i _ => ?_,
      fun i hi => absurd (show 0#1 = 1#1 from hi) (by decide), q⟩
    · have row := mask_row i hi
      exact (congrFun (q0.trans (Cert.ReferenceIdeal.Read.val_main_v526_eq _)) i).trans
        ((r526 A _ _ i row).trans (Cert.Point.dh_holds (real c) i row).symm)
    · exact (congrFun (q3.trans (Cert.ReferenceIdeal.Read.val_main_v529_eq _)) i).trans
        ((r529 A i).trans (Cert.Point.gwsp_holds (real c) i).symm)
    · exact (congrFun (q4.trans (Cert.ReferenceIdeal.Read.val_main_v530_eq _)) i).trans
        ((r530 A i).trans (Cert.Point.gbsp_holds (real c) i).symm)
    · exact (congrFun (q5.trans (Cert.ReferenceIdeal.Read.val_main_v532_eq _)) i).trans
        ((r532 A i).trans (Cert.Point.gvln_holds (real c) i).symm)

end Cert.Equation

end
-- ==== Proof.FfnRunA.lean ====
/- One run of the feed-forward kernel's body at the first grid point: it clears the sums, copies the weights into its
   scratch buffers, every copy started before the first is waited for, and computes. What each buffer ends with is the
   list of the pieces stored into it, which the run finds. -/
module

public import proofs.«01_k».proof.Proof.Gen.Kernel2Ideal.Frame.Runs

@[expose] public section

-- the extents of the buffers are large numbers
set_option maxRecDepth 16384

noncomputable section

namespace Cert.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the proof covers every step of the body
set_option maxHeartbeats 2036000 in
/-- The pieces that the body stores at the first point into each output and into the two scratch buffers that hold the
    weights, the last one first, with the proof that the body runs: it starts with the inputs' blocks in their buffers, the
    outputs and the scratch at anything, the weights in their arrays and the copies' counters at zero, and ends with the
    inputs and the arrays as they were and the pieces written. -/
noncomputable def kernelRun0_A (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) :
    Σ' (L8 : List (View.Piece (Elt F) S256x4096 .bf16)), Σ' (L9 : List (View.Piece (Elt F) S256x4096 .bf16)), Σ' (L10 : List (View.Piece (Elt F) S256x1024 .bf16)), Σ' (L11 : List (View.Piece (Elt F) S256x1024 .f32)), Σ' (L12 : List (View.Piece (Elt F) S8x1024 .f32)), Σ' (LS1 : List (View.Piece (Elt F) S1024x4096 .bf16)), Σ' (LS2 : List (View.Piece (Elt F) S4096x1024 .bf16)), { LT0 : List (View.Piece (Elt F) S256x4096 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (∃ f, arg17.view.loc (c : Thread nD τ) ↦[arg17.view.set]{fullShare} arg17.view.writes (Elt F) f L12) ∗ (∃ f, arg18.view.loc (c : Thread nD τ) ↦[arg18.view.set]{fullShare} arg18.view.writes (Elt F) f LT0) ∗ (∃ f, arg19.view.loc (c : Thread nD τ) ↦[arg19.view.set]{fullShare} arg19.view.writes (Elt F) f LS1) ∗ (∃ f, arg20.view.loc (c : Thread nD τ) ↦[arg20.view.set]{fullShare} arg20.view.writes (Elt F) f LS2) ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_fwd_bwd i arg1 harg1 arg2 harg2 arg3 harg3 arg4 harg4 (Memref.whole main_v33) (Memref.isWhole_whole _) (Memref.whole main_v36) (Memref.isWhole_whole _) (Memref.whole main_v38) (Memref.isWhole_whole _) (Memref.whole main_v40) (Memref.isWhole_whole _) arg9 harg9 arg10 harg10 arg11 harg11 arg12 harg12 arg13 harg13 arg14 harg14 arg15 harg15 arg16 harg16 arg17 harg17 arg18 harg18 arg19 harg19 arg20 harg20 cc0_scratch3) K } := by
  refine ⟨?_, ?_, ?_, ?_, ?_, ?_, ?_, ?_, fun W K => ?run⟩
  case run =>
    simp only [cc0_ffn_fwd_bwd_eq_skeleton]; unfold cc0_ffn_fwd_bwd_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, HW, Hk⟩
    obtain rfl := harg1.eq_unread hf0; obtain rfl := harg2.eq_unread hf1; obtain rfl := harg3.eq_unread hf2; obtain rfl := harg4.eq_unread hf3; obtain rfl := harg9.eq_unread hf4; obtain rfl := harg10.eq_unread hf5; obtain rfl := harg11.eq_unread hf6; obtain rfl := harg12.eq_unread hf7
    -- all copies are under way before the first wait: each is lent its own window of the scratch buffer
    set_option sl_exec.dmaWindow true in
    set_option sl_exec.dmaWindowSet true in
    set_option sl_exec.rejoinFuel 64 in
    set_option sl_exec.rejoinHeartbeats 400000 in
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    iexists _; iexact HW

end Cert.FfnRun

end
-- ==== Proof.FfnRunB.lean ====
/- One run of the feed-forward kernel's body at a later grid point: the weights are in the scratch buffers already. What
   each buffer ends with is the list of the pieces stored into it, which the run finds. -/
module

public import proofs.«01_k».proof.Proof.FfnRunA

@[expose] public section

-- the extents of the buffers are large numbers
set_option maxRecDepth 16384

noncomputable section

namespace Cert.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- the proof covers every step of the body
set_option maxHeartbeats 1000000 in
/-- The pieces that the body stores at a later point into each output, the last one first, with the proof that the body
    runs: it starts with the inputs' blocks in their buffers, the sums as the point before left them, the weights in the
    scratch buffers and the other outputs at anything, and ends with the inputs and the weights as they were and the pieces
    written. -/
noncomputable def kernelRun0_B (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) :
    Σ' (L8 : List (View.Piece (Elt F) S256x4096 .bf16)), Σ' (L9 : List (View.Piece (Elt F) S256x4096 .bf16)), Σ' (L10 : List (View.Piece (Elt F) S256x1024 .bf16)), Σ' (L11 : List (View.Piece (Elt F) S256x1024 .f32)), Σ' (L12 : List (View.Piece (Elt F) S8x1024 .f32)), Σ' (LS1 : List (View.Piece (Elt F) S1024x4096 .bf16)), Σ' (LS2 : List (View.Piece (Elt F) S4096x1024 .bf16)), { LT0 : List (View.Piece (Elt F) S256x4096 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xo12 ∗ (∃ d, owns (c : Thread nD τ) arg18 fullShare d) ∗ owns (c : Thread nD τ) arg19 fullShare xs1 ∗ owns (c : Thread nD τ) arg20 fullShare xs2 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ hbPt0 c hbM0_0 fh0 ∗ hbPt0 c hbM0_1 fh1 ∗ hbPt0 c hbM0_2 fh2 ∗ hbPt0 c hbM0_3 fh3 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f L9) ∗ (∃ f, arg15.view.loc (c : Thread nD τ) ↦[arg15.view.set]{fullShare} arg15.view.writes (Elt F) f L10) ∗ (∃ f, arg16.view.loc (c : Thread nD τ) ↦[arg16.view.set]{fullShare} arg16.view.writes (Elt F) f L11) ∗ (arg17.view.loc (c : Thread nD τ) ↦[arg17.view.set]{fullShare} arg17.view.writes (Elt F) (harg17.unread xo12) L12) ∗ (∃ f, arg18.view.loc (c : Thread nD τ) ↦[arg18.view.set]{fullShare} arg18.view.writes (Elt F) f LT0) ∗ owns (c : Thread nD τ) arg19 fullShare xs1 ∗ owns (c : Thread nD τ) arg20 fullShare xs2 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0 ∗ hbPt0 c hbM0_0 fh0 ∗ hbPt0 c hbM0_1 fh1 ∗ hbPt0 c hbM0_2 fh2 ∗ hbPt0 c hbM0_3 fh3 ∗ (∃ W', owes (c : Thread nD τ) 0 W')) -∗ K ⟨⟩))
          ⊢ wp frame (wpE (defs₀ (F := F)) Variants.none c none) Set.univ (cc0_ffn_fwd_bwd i arg1 harg1 arg2 harg2 arg3 harg3 arg4 harg4 (Memref.whole main_v33) (Memref.isWhole_whole _) (Memref.whole main_v36) (Memref.isWhole_whole _) (Memref.whole main_v38) (Memref.isWhole_whole _) (Memref.whole main_v40) (Memref.isWhole_whole _) arg9 harg9 arg10 harg10 arg11 harg11 arg12 harg12 arg13 harg13 arg14 harg14 arg15 harg15 arg16 harg16 arg17 harg17 arg18 harg18 arg19 harg19 arg20 harg20 cc0_scratch3) K } := by
  refine ⟨?_, ?_, ?_, ?_, ?_, [], [], ?_, fun W K => ?run⟩
  case run =>
    simp only [cc0_ffn_fwd_bwd_eq_skeleton]; unfold cc0_ffn_fwd_bwd_skel
    simp only [k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%f12, %hf12, H12⟩, ⟨%ds0, %fs0, -, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, HW, Hk⟩
    obtain rfl := harg1.eq_unread hf0; obtain rfl := harg2.eq_unread hf1; obtain rfl := harg3.eq_unread hf2; obtain rfl := harg4.eq_unread hf3; obtain rfl := harg9.eq_unread hf4; obtain rfl := harg10.eq_unread hf5; obtain rfl := harg11.eq_unread hf6; obtain rfl := harg12.eq_unread hf7; obtain rfl := harg17.eq_unread hf12; obtain rfl := harg19.eq_unread hfs1; obtain rfl := harg20.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]; · iexists _; iexact H8
    isplitl [H9]; · iexists _; iexact H9
    isplitl [H10]; · iexists _; iexact H10
    isplitl [H11]; · iexists _; iexact H11
    isplitl [H12]; · iexact H12
    isplitl [HS0]; · iexists _; iexact HS0
    isplitl [HS1]
    · iexists _; isplitr; · ipureintro; exact harg19.read_unread _
      iexact HS1
    isplitl [HS2]
    · iexists _; isplitr; · ipureintro; exact harg20.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    isplitl [Hq31]; · iexact Hq31
    isplitl [Hh0]; · iexact Hh0
    isplitl [Hh1]; · iexact Hh1
    isplitl [Hh2]; · iexact Hh2
    isplitl [Hh3]; · iexact Hh3
    iexists _; iexact HW

end Cert.FfnRun

end
-- ==== Proof.FfnOut.lean ====
/- What the results' blocks and the two scratch buffers of the feed-forward kernel hold after each grid point. -/
module

public import proofs.«01_k».proof.Proof.FfnRunB
public import Idealize.ShloMosaic.Lib.Claim

@[expose] public section

-- the extents of the buffers are large numbers
set_option maxRecDepth 16384

noncomputable section

namespace Cert.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The first point's pieces for the activations cover the block. -/
theorem cover0_A_8 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).1 S256x4096.size (by sl_kernel_rfl) y

/-- What the first point leaves in the buffer of the activations. -/
def out0_A_8 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_8.read (Elt F) (VO0_8.writes (Elt F) VO0_8.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).1)

/-- The first point's pieces for the gradients before the positive part cover the block. -/
theorem cover0_A_9 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.1 S256x4096.size (by sl_kernel_rfl) y

/-- What the first point leaves in the buffer of the gradients before the positive part. -/
def out0_A_9 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_9.read (Elt F) (VO0_9.writes (Elt F) VO0_9.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.1)

/-- The first point's pieces for the gradients of the net's output cover the block. -/
theorem cover0_A_10 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.1 S256x1024.size (by sl_kernel_rfl) y

/-- What the first point leaves in the buffer of the gradients of the net's output. -/
def out0_A_10 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_10.read (Elt F) (VO0_10.writes (Elt F) VO0_10.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.1)

/-- The first point's pieces for the gradients of the call's input cover the block. -/
theorem cover0_A_11 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.1 S256x1024.size (by sl_kernel_rfl) y

/-- What the first point leaves in the buffer of the gradients of the call's input. -/
def out0_A_11 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_11.read (Elt F) (VO0_11.writes (Elt F) VO0_11.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.1)

/-- The first point's pieces for the sums cover the block. -/
theorem cover0_A_12 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S8x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.1, y ∈ pc.1.set :=
  View.cover_of_tiledBy (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.1 ![1, 1024] (by sl_kernel_rfl) y

/-- What the first point leaves in the buffer of the sums. -/
def out0_A_12 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S8x1024 .f32 :=
  VO0_12.read (Elt F) (VO0_12.writes (Elt F) VO0_12.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.1)

/-- The sixteen chunks of the first weights cover their scratch buffer. -/
theorem scover0_A_1 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S1024x4096.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.2.1 S1024x256.size (by sl_kernel_rfl) y

/-- What the first point leaves in the scratch buffer of the first weights. -/
def sout0_A_1 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S1024x4096 .bf16 :=
  VS0_1.read (Elt F) (VS0_1.writes (Elt F) VS0_1.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.2.1)

/-- The sixteen chunks of the second weights cover their scratch buffer. -/
theorem scover0_A_2 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) (y : S4096x1024.Idx) :
    ∃ pc ∈ (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.2.2.1, y ∈ pc.1.set :=
  View.cover_of_tiledL (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.2.2.1 S256x1024.size (by sl_kernel_rfl) y

/-- What the first point leaves in the scratch buffer of the second weights. -/
def sout0_A_2 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (fh0 : HbBuf0 (F := F) c hbM0_0) (fh1 : HbBuf0 (F := F) c hbM0_1) (fh2 : HbBuf0 (F := F) c hbM0_2) (fh3 : HbBuf0 (F := F) c hbM0_3) : Vec F S4096x1024 .bf16 :=
  VS0_2.read (Elt F) (VS0_2.writes (Elt F) VS0_2.junk (kernelRun0_A c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 fh0 fh1 fh2 fh3).2.2.2.2.2.2.1)

/-- The later point's pieces for the activations cover the block. -/
theorem cover0_B_8 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).1 S256x4096.size (by sl_kernel_rfl) y

/-- What a later point leaves in the buffer of the activations. -/
def out0_B_8 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_8.read (Elt F) (VO0_8.writes (Elt F) VO0_8.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).1)

/-- The later point's pieces for the gradients before the positive part cover the block. -/
theorem cover0_B_9 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x4096.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.1 S256x4096.size (by sl_kernel_rfl) y

/-- What a later point leaves in the buffer of the gradients before the positive part. -/
def out0_B_9 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x4096 .bf16 :=
  VO0_9.read (Elt F) (VO0_9.writes (Elt F) VO0_9.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.1)

/-- The later point's pieces for the gradients of the net's output cover the block. -/
theorem cover0_B_10 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.1 S256x1024.size (by sl_kernel_rfl) y

/-- What a later point leaves in the buffer of the gradients of the net's output. -/
def out0_B_10 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x1024 .bf16 :=
  VO0_10.read (Elt F) (VO0_10.writes (Elt F) VO0_10.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.1)

/-- The later point's pieces for the gradients of the call's input cover the block. -/
theorem cover0_B_11 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) (y : S256x1024.Idx) :
    ∃ pc ∈ (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.2.1, y ∈ pc.1.set :=
  View.cover_of_tiledL (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.2.1 S256x1024.size (by sl_kernel_rfl) y

/-- What a later point leaves in the buffer of the gradients of the call's input. -/
def out0_B_11 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S256x1024 .f32 :=
  VO0_11.read (Elt F) (VO0_11.writes (Elt F) VO0_11.junk (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.2.1)

/-- What a later point leaves in the buffer of the sums. -/
def out0_B_12 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S8x1024 .f32 :=
  arg17.view.read (Elt F) (arg17.view.writes (Elt F) (harg17.unread xo12) (kernelRun0_B c i arg1 harg1 arg2 harg2 arg3 harg3 arg4 harg4 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 xo12 xs1 xs2 fh0 fh1 fh2 fh3).2.2.2.2.1)

/-- A later point leaves the first weights as they were. -/
def sout0_B_1 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S1024x4096 .bf16 := xs1

/-- A later point leaves the second weights as they were. -/
def sout0_B_2 (c : Dev nD) (i : grid0.Coords) (arg1 : Memref sig .tc .vmem S256x1024 .f32) (harg1 : arg1.IsWhole) (arg2 : Memref sig .tc .vmem S256x1 .f32) (harg2 : arg2.IsWhole) (arg3 : Memref sig .tc .vmem S256x1024 .bf16) (harg3 : arg3.IsWhole) (arg4 : Memref sig .tc .vmem S256x1024 .f32) (harg4 : arg4.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x4096 .bf16) (harg13 : arg13.IsWhole) (arg14 : Memref sig .tc .vmem S256x4096 .bf16) (harg14 : arg14.IsWhole) (arg15 : Memref sig .tc .vmem S256x1024 .bf16) (harg15 : arg15.IsWhole) (arg16 : Memref sig .tc .vmem S256x1024 .f32) (harg16 : arg16.IsWhole) (arg17 : Memref sig .tc .vmem S8x1024 .f32) (harg17 : arg17.IsWhole) (arg18 : Memref sig .tc .vmem S256x4096 .f32) (harg18 : arg18.IsWhole) (arg19 : Memref sig .tc .vmem S1024x4096 .bf16) (harg19 : arg19.IsWhole) (arg20 : Memref sig .tc .vmem S4096x1024 .bf16) (harg20 : arg20.IsWhole) (hc0 : ¬cond0_0 i)
    (x0 : Vec F S256x1024 .f32) (x1 : Vec F S256x1 .f32) (x2 : Vec F S256x1024 .bf16) (x3 : Vec F S256x1024 .f32) (x4 : Vec F S1x1024 .f32) (x5 : Vec F S1x1024 .f32) (x6 : Vec F S1x1024 .f32) (x7 : Vec F S1x1024 .f32) (xo12 : Vec F S8x1024 .f32) (xs1 : Vec F S1024x4096 .bf16) (xs2 : Vec F S4096x1024 .bf16) (fh0 : HbBuf0 (F := F) c hbM0_0) (fh1 : HbBuf0 (F := F) c hbM0_1) (fh2 : HbBuf0 (F := F) c hbM0_2) (fh3 : HbBuf0 (F := F) c hbM0_3) : Vec F S4096x1024 .bf16 := xs2

/-! ## What the outputs hold after each point -/

/-- What the buffers hold after a point: the five outputs, then the two scratch buffers with the weights. -/
abbrev Held (F : FTy → Type) : Type :=
  Vec F S256x4096 .bf16 × Vec F S256x4096 .bf16 × Vec F S256x1024 .bf16 × Vec F S256x1024 .f32 × Vec F S8x1024 .f32
    × Vec F S1024x4096 .bf16 × Vec F S4096x1024 .bf16

/-- What the first point leaves. -/
def heldA (c : Dev nD) (t : Fin cfg0.N) (h0 : t.val % 16 = 0) : Held F :=
  (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40))

/-- What a later point leaves, when the point before left `p`. -/
def heldB (c : Dev nD) (t : Fin cfg0.N) (h0 : ¬t.val % 16 = 0) (p : Held F) : Held F :=
  (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40), out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40), out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.2.2.2.1 p.2.2.2.2.2.1 p.2.2.2.2.2.2 (V m c main_v33) (V m c main_v36) (V m c main_v38) (V m c main_v40))

/-- What the buffers hold after the point `n`. -/
def outsAt0 (c : Dev nD) : (n : ℕ) → n < cfg0.N → Held F
  | 0, hn => heldA m c ⟨0, hn⟩ rfl
  | n + 1, hn =>
    if h0 : (n + 1) % 16 = 0 then heldA m c ⟨n + 1, hn⟩ h0
    else heldB m c ⟨n + 1, hn⟩ h0 (outsAt0 c n (Nat.lt_of_succ_lt hn))

/-- `outsAt0` at the first point. -/
theorem outsAt0_eq_heldA (c : Dev nD) (t : Fin cfg0.N) (h0 : t.val % 16 = 0) :
    outsAt0 m c t.val t.isLt = heldA m c t h0 := by
  obtain ⟨n, hn⟩ := t
  cases n with
  | zero => exact rfl
  | succ n => exact dif_pos h0

/-- `outsAt0` at a later point. -/
theorem outsAt0_eq_heldB (c : Dev nD) (t : Fin cfg0.N) (h0 : ¬t.val % 16 = 0) :
    outsAt0 m c t.val t.isLt = heldB m c t h0 (outsAt0 m c (t.val - 1) (Nat.lt_of_le_of_lt (Nat.sub_le _ _) t.isLt)) := by
  obtain ⟨n, hn⟩ := t
  cases n with
  | zero => exact absurd (Nat.zero_mod _) h0
  | succ n => exact dif_neg h0

/-- The same, written out. -/
theorem outsAt0_A (c : Dev nD) (t : Fin cfg0.N) (h0 : t.val % 16 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40)) :=
  outsAt0_eq_heldA m c t h0

/-- The same, written out. -/
theorem outsAt0_B (c : Dev nD) (t : Fin cfg0.N) (h0 : ¬t.val % 16 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40), out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40), out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (V m c main_v33) (V m c main_v36) (V m c main_v38) (V m c main_v40)) :=
  outsAt0_eq_heldB m c t h0

end Cert.FfnRun

end
-- ==== Proof.FfnRun.lean ====
/- The run of the feed-forward kernel over its grid: what the results and the carried scratch buffers hold after each
   grid point, and the frame, over any float values. -/
module

public import proofs.«01_k».proof.Proof.FfnOut
public import Idealize.ShloMosaic.Lib.Claim

@[expose] public section

-- the extents of the buffers are large numbers
set_option maxRecDepth 16384

noncomputable section

namespace Cert.FfnRun

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- What holds between points: before the first one the scratch buffers are at anything, afterwards the two with the
    weights are at what the point before left in them; the copies' counters are at zero. -/
def PhiS (c : Dev nD) : (n : ℕ) → n ≤ cfg0.N → sProp 𝕄
  | 0, _ => Pipeline.ΦD osem0 spec0 H0 (V m) c
  | n + 1, hn => iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0) ∗ iprop(hbPt0 c hbM0_0 (V m c main_v33) ∗ hbPt0 c hbM0_1 (V m c main_v36) ∗ hbPt0 c hbM0_2 (V m c main_v38) ∗ hbPt0 c hbM0_3 (V m c main_v40)))

theorem PhiS_zero (c : Dev nD) (n : ℕ) (h : n ≤ cfg0.N) (hz : n = 0) : PhiS m c n h = Pipeline.ΦD osem0 spec0 H0 (V m) c := by
  subst hz; rfl

/-- After a point: the weights' buffers are at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.1) ∗ owns (c : Thread nD τ) scM0_2 fullShare ((outsAt0 m c n hn).2.2.2.2.2.2)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0) ∗ iprop(hbPt0 c hbM0_0 (V m c main_v33) ∗ hbPt0 c hbM0_1 (V m c main_v36) ∗ hbPt0 c hbM0_2 (V m c main_v38) ∗ hbPt0 c hbM0_3 (V m c main_v40))) := rfl

/-- Before a point that is not the first: they are at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.1) ∗ owns (c : Thread nD τ) scM0_2 fullShare ((outsAt0 m c (n - 1) (by omega)).2.2.2.2.2.2)) ∗ (∃ r, prngReg c r) ∗ iprop(semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ semVal ((c : Thread nD τ), SemLoc.dma 52) 0) ∗ iprop(hbPt0 c hbM0_0 (V m c main_v33) ∗ hbPt0 c hbM0_1 (V m c main_v36) ∗ hbPt0 c hbM0_2 (V m c main_v38) ∗ hbPt0 c hbM0_3 (V m c main_v40))) := by
  cases n with
  | zero => exact absurd rfl hz
  | succ n => rfl

/-! ## What the run keeps track of -/

/-- The data of the run on core `c`: the arrays as the region finds them; after each point the inputs' buffers at their
    blocks and the outputs' at `outsAt0`; what holds between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
  Φ t := PhiS m c t.val (Nat.le_of_lt_succ t.isLt)
  q _ := fullShare
  owed _ := 0

/-- The arrays are those that the region finds. -/
theorem A_eq (c : Dev nD) (w : Fin cfg0.W) : (dats m 0 c).A w = V m c (Pipeline.arrRef spec0 w) := by
  dsimp only [dats]

/-- What holds at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, buffer by buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]
theorem after0_11 (c : Dev nD) (t : Fin cfg0.N) : (dats m 0 c).after 11 t = (outsAt0 m c t.val t.isLt).2.2.2.1 := by dsimp only [dats]
theorem after0_12 (c : Dev nD) (t : Fin cfg0.N) : (dats m 0 c).after 12 t = (outsAt0 m c t.val t.isLt).2.2.2.2.1 := by dsimp only [dats]

/-- Each input's buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- At a later point the buffer of the sums holds what the point before left. -/
theorem before0_12_B (c : Dev nD) (t : Fin cfg0.N) (h0 : ¬t.val % 16 = 0) (d) :
    (dats m 0 c).before 12 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 12 rfl t (by omega) (Bool.eq_false_iff.mpr fun h => by have := (flush0_12 _).mp h; dsimp only at this; omega)
    (fun _ => rfl) (fun _ _ => rfl)]
  dsimp only [dats]

/-! ## The body at any point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

set_option maxHeartbeats 12800000 in
/-- The body at any point: it is the first point or a later one, the run of that case applies, and what it leaves is what
    the next point finds. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = PhiS m c (t.val + 1) t.isLt from rfl, PhiS_succ,
    after0_0, after0_1, after0_2, after0_3, after0_4, after0_5, after0_6, after0_7, after0_8, after0_9, after0_10, after0_11, after0_12]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases hz : t.val = 0
    · rw [PhiS_castSucc m c t, PhiS_zero m c _ _ hz, PhiD0_eq]
      rw [outsAt0_A m c t h0]
      unfold out0_A_8 out0_A_9 out0_A_10 out0_A_11 out0_A_12 sout0_A_1 sout0_A_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (V m c main_v33) (V m c main_v36) (V m c main_v38) (V m c main_v40)).2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, ⟨%e8, H8⟩, ⟨%e9, H9⟩, ⟨%e10, H10⟩, ⟨%e11, H11⟩, ⟨%e12, H12⟩, ⟨%fT0, HS0⟩, ⟨%es1, HS1⟩, ⟨%es2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hh0 Hh1 Hh2 Hh3]
      · isplitl [HS0 HS1 HS2]
        · isplitl [HS0]
          · iexists _; unfold owns; iexists _; isplitr
            swap; · iexact HS0
            ipureintro; rfl
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _)
          unfold owns; iexists _; isplitr
          swap; · iexact HS2
          ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _)
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hq24]; · iexact Hq24
          isplitl [Hq25]; · iexact Hq25
          isplitl [Hq26]; · iexact Hq26
          isplitl [Hq27]; · iexact Hq27
          isplitl [Hq28]; · iexact Hq28
          isplitl [Hq29]; · iexact Hq29
          isplitl [Hq30]; · iexact Hq30
          iexact Hq31
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      simp only [before0_12_B m c t h0]
      unfold out0_B_8 out0_B_9 out0_B_10 out0_B_11 out0_B_12 sout0_B_1 sout0_B_2; (try dsimp only)
      iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _ _ _ (V m c main_v33) (V m c main_v36) (V m c main_v38) (V m c main_v40)).2.2.2.2.2.2.2.2 W _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexact H12
      isplitl [HS0]; · iexact HS0
      isplitl [HS1]; · iexact HS1
      isplitl [HS2]; · iexact HS2
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      isplitl [Hq26]; · iexact Hq26
      isplitl [Hq27]; · iexact Hq27
      isplitl [Hq28]; · iexact Hq28
      isplitl [Hq29]; · iexact Hq29
      isplitl [Hq30]; · iexact Hq30
      isplitl [Hq31]; · iexact Hq31
      isplitl [Hh0]; · iexact Hh0
      isplitl [Hh1]; · iexact Hh1
      isplitl [Hh2]; · iexact Hh2
      isplitl [Hh3]; · iexact Hh3
      isplitl [HW]; · iexact HW
      iintro ⟨H0, H1, H2, H3, H4, H5, H6, H7, ⟨%e8, H8⟩, ⟨%e9, H9⟩, ⟨%e10, H10⟩, ⟨%e11, H11⟩, H12, ⟨%fT0, HS0⟩, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31, Hh0, Hh1, Hh2, Hh3, ⟨%W', HW'⟩⟩
      isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31 Hh0 Hh1 Hh2 Hh3]
      · isplitl [HS0 HS1 HS2]
        · isplitl [HS0]
          · iexists _; unfold owns; iexists _; isplitr
            swap; · iexact HS0
            ipureintro; rfl
          isplitl [HS1]; · iexact HS1
          iexact HS2
        isplitl [Hg]
        · iexact Hg
        isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
        · isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hq24]; · iexact Hq24
          isplitl [Hq25]; · iexact Hq25
          isplitl [Hq26]; · iexact Hq26
          isplitl [Hq27]; · iexact Hq27
          isplitl [Hq28]; · iexact Hq28
          isplitl [Hq29]; · iexact Hq29
          isplitl [Hq30]; · iexact Hq30
          iexact Hq31
        isplitl [Hh0]; · iexact Hh0
        isplitl [Hh1]; · iexact Hh1
        isplitl [Hh2]; · iexact Hh2
        iexact Hh3
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H12
      ipureintro; rfl

/-- The body at a point's buffers. -/
theorem defs₀_row (t : Fin cfg0.N) :
    defs₀ (F := F) .tc cfg0.body (cfg0.bodyArgs t (cfg0.slots t)) = bodyAt0 t := by
  unfold defs₀; rw [Defs.onTc_tc]

/-- The body at every point, as the run over the grid wants it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is what holds before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point the named contents can be forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hq27, Hq28, Hq29, Hq30, Hq31⟩, ⟨Hh0, Hh1, Hh2, Hh3⟩⟩
  isplitl [HS0 HS1 HS2]
  · isplitl [HS0]
    · iexact HS0
    isplitl [HS1]
    · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hq27 Hq28 Hq29 Hq30 Hq31]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hq27]; · iexact Hq27
    isplitl [Hq28]; · iexact Hq28
    isplitl [Hq29]; · iexact Hq29
    isplitl [Hq30]; · iexact Hq30
    iexact Hq31
  isplitl [Hh0]; · iexact Hh0
  isplitl [Hh1]; · iexact Hh1
  isplitl [Hh2]; · iexact Hh2
  iexact Hh3

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- the two statements are matched through their definitions
set_option backward.isDefEq.respectTransparency.types false in
/-- The launch: the run, and every semaphore at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- From any memory with the counters at zero, for any values, the program terminates, every array of the call ends at what
    its blocks leave, and every other array as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program runs, its arguments end unchanged and every semaphore at zero, for any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.FfnRun

end
-- ==== Proof.FfnSame.lean ====
module

public import proofs.«01_k».proof.Defs
public import proofs.«01_k».proof.Proof.Gen.Kernel2
public import proofs.«01_k».proof.Proof.FfnRun

@[expose] public section

set_option maxRecDepth 16384

/-! The feed-forward call in floats and the one over the extended reals are one text: at the values of the floats
    their bodies, their tables and their programs agree, so the run proved for the second is a run of the first. -/

noncomputable section

namespace Cert.FfnSame

open Idealize.ShloMosaic Idealize.SL.Sem

attribute [local instance] Cert.Kernel2.Gen.facts

/-- The two bodies agree. -/
theorem body_same : @Cert.Kernel2.cc0_ffn_fwd_bwd Bits _ _ = @Cert.Kernel2Ideal.cc0_ffn_fwd_bwd Bits _ _ := rfl

set_option maxHeartbeats 2000000 in
/-- The one label's bodies agree: the number of labels is one, so there is one case. -/
theorem label_same : ∀ (ℓ : Cert.Kernel2.Λ₀.Label) (a : Cert.Kernel2.Λ₀.Args ℓ),
    Cert.Kernel2.defs₀ (F := Bits) .tc ℓ a = Cert.Kernel2Ideal.defs₀ (F := Bits) .tc ℓ a := by
  intro ℓ
  match ℓ with
  | ⟨0, _⟩ => intro a; exact rfl
  | ⟨n + 1, h⟩ => exact absurd h (Nat.not_lt.2 (Nat.le_add_left _ _))

set_option maxHeartbeats 2000000 in
/-- The tables of the bodies agree, on every processor. -/
theorem table_same : Cert.Kernel2.defs₀ (F := Bits) = Cert.Kernel2Ideal.defs₀ (F := Bits) := by
  funext p
  cases p with
  | tc => exact funext fun ℓ => funext fun a => label_same ℓ a
  | scScalar _ => rfl
  | scVector _ _ => rfl

set_option maxHeartbeats 2000000 in
/-- The tables with the pipeline's own labels agree. -/
theorem defs_same : Cert.Kernel2.defs (F := Bits) = Cert.Kernel2Ideal.defs (F := Bits) :=
  congrArg (Pipeline.defs (Cert.Kernel2.pcfgs (F := Bits))) table_same

set_option maxHeartbeats 4000000 in
/-- The two programs agree. -/
theorem main_same : Cert.Kernel2.main (F := Bits) = Cert.Kernel2Ideal.main (F := Bits) := rfl

set_option maxHeartbeats 2000000 in
/-- The call in floats runs, keeps its arguments and leaves every semaphore at zero: the one run, at the floats. -/
theorem frame : @quiescent_Kernel2 Cert.Kernel2.Gen.facts := fun m ρ _ => by
  rw [defs_same, main_same]
  exact (θ_run Cert.Kernel2Ideal.defs _ _).mono (fun _ h => h) (Cert.FfnRun.frame (F := Bits) m ρ)

end Cert.FfnSame

end
-- ==== Proof.FfnHost.lean ====
/- The host's operations on arrays of real numbers: sums along rows, repeated rows and columns, and the cutting of a
   weight array into chunks. -/
module

public import proofs.«01_k».proof.Proof.Lift
public import Idealize.ShloMosaic.Lib.IdealHost

@[expose] public section

set_option maxRecDepth 16384

noncomputable section

open scoped BigOperators

namespace Cert.Lift

open Idealize.ShloMosaic Idealize.ShloMosaic.ValueIdx

variable {φ : FTy} {a b : ℕ}

/-- The sum along each row. -/
theorem Lifts2.hostSum {x : FVec Ideal ⟨2, ![a, b]⟩ φ} {f : ℕ → ℕ → ℝ} (hx : Lifts2 x f)
    {z : FVec Ideal ⟨0, ![]⟩ φ} (hz : ∀ i, z i = ((0 : ℝ) : EReal))
    (h : (⟨2, ![a, b]⟩ : Shape).ReducesTo [1] ⟨1, ![a]⟩) (hr : (⟨2, ![a, b]⟩ : Shape).Reduces [1] ⟨1, ![a]⟩) (hu) :
    Lifts1 (Host.reduceAdd x z h hu) (fun i => ∑ k ∈ Finset.range b, f i k) := fun i => by
  simp only [Host.reduceAdd, Ideal.hostReduceAdd_def]
  rw [Ideal.hostReduceAdd_single h hr, hz, EReal.coe_zero, zero_add, ← sum_fin b (fun k => f _ k), coe_sum]
  exact Finset.sum_congr rfl fun k _ => hx _

/-- A list as a column. -/
theorem Lifts1.asColumn {x : FVec Ideal ⟨1, ![a]⟩ φ} {f : ℕ → ℝ} (hx : Lifts1 x f) (ha : a ≠ 1)
    (h : (⟨1, ![a]⟩ : Shape).BroadcastsInDim ⟨2, ![a, 1]⟩ ![0]) :
    Lifts2 (broadcastInDim ⟨2, ![a, 1]⟩ ![0] h x) (fun i _ => f i) := fun i => by
  rw [broadcastInDim_apply _ h x i (ix1 (i 0)) (fun q => by
    match q with
    | ⟨0, _⟩ => exact (if_neg ha).symm)]
  exact hx _

/-- A column repeated along the columns. -/
theorem Lifts2.hostCols {x : FVec Ideal ⟨2, ![a, 1]⟩ φ} {f : ℕ → ℕ → ℝ} (hx : Lifts2 x f) (ha : a ≠ 1)
    (h : (⟨2, ![a, 1]⟩ : Shape).BroadcastsInDim ⟨2, ![a, b]⟩ ![0, 1]) :
    Lifts2 (broadcastInDim ⟨2, ![a, b]⟩ ![0, 1] h x) (fun i _ => f i 0) := fun i => by
  rw [broadcastInDim_apply _ h x i (ix2 (i 0) 0) (fun q => by
    match q with
    | ⟨0, _⟩ => exact (if_neg ha).symm
    | ⟨1, _⟩ => rfl)]
  exact hx _

/-- A row repeated down the rows. -/
theorem Lifts2.hostRows {x : FVec Ideal ⟨2, ![1, b]⟩ φ} {f : ℕ → ℕ → ℝ} (hx : Lifts2 x f) (hb : b ≠ 1)
    (h : (⟨2, ![1, b]⟩ : Shape).BroadcastsInDim ⟨2, ![a, b]⟩ ![0, 1]) :
    Lifts2 (broadcastInDim ⟨2, ![a, b]⟩ ![0, 1] h x) (fun _ j => f 0 j) := fun i => by
  rw [broadcastInDim_apply _ h x i (ix2 0 (i 1)) (fun q => by
    match q with
    | ⟨0, _⟩ => rfl
    | ⟨1, _⟩ => exact (if_neg hb).symm)]
  exact hx _

/-- One number repeated over an array. -/
theorem hostAll {z : FVec Ideal ⟨0, ![]⟩ φ} {r : ℝ} (hz : ∀ i, z i = ((r : ℝ) : EReal))
    (h : (⟨0, ![]⟩ : Shape).BroadcastsInDim ⟨2, ![a, b]⟩ ![]) :
    Lifts2 (broadcastInDim ⟨2, ![a, b]⟩ ![] h z) (fun _ _ => r) := fun i => by
  rw [broadcastInDim_apply _ h z i (fun q => q.elim0) (fun q => q.elim0)]
  exact hz _

theorem Lifts2.hostDiv {x y : FVec Ideal ⟨2, ![a, b]⟩ φ} {f : ℕ → ℕ → ℝ} (hx : Lifts2 x f) {r : ℝ}
    (hy : Lifts2 y (fun _ _ => r)) (hr : r ≠ 0) : Lifts2 (Host.divf x y) (fun i j => f i j / r) := fun i => by
  show Ideal.div (x i) (y i) = _
  rw [hx i, hy i, Ideal.div_coe hr, ← EReal.coe_mul]; congr 1; ring

theorem Lifts2.hostRsqrt {x : FVec Ideal ⟨2, ![a, b]⟩ φ} {f : ℕ → ℕ → ℝ} (hx : Lifts2 x f) (hp : ∀ i j, 0 < f i j) :
    Lifts2 (Host.rsqrt x) (fun i j => (Real.sqrt (f i j))⁻¹) := fun i => by
  show Ideal.rsqrt (x i) = _
  rw [hx i, Ideal.rsqrt_coe, if_neg (not_lt.mpr (hp _ _).le), if_neg (hp _ _).ne']

/-- Every second chunk of 256 columns, one chunk per slab: slab `j` holds the columns from `512 j + 256 p`. -/
theorem Lifts2.columnChunks {x : FVec Ideal ⟨2, ![1024, 4096]⟩ φ} {f : ℕ → ℕ → ℝ} (hx : Lifts2 x f) (p : ℕ) (hp : p < 2)
    (e1 : (⟨2, ![1024, 4096]⟩ : Shape).ShapeCasts ⟨4, ![1024, 8, 2, 256]⟩)
    (e2 : (⟨4, ![1024, 8, 2, 256]⟩ : Shape).Slices ![0, 0, p, 0] ⟨4, ![1024, 8, 1, 256]⟩)
    (e3 : (⟨4, ![1024, 8, 1, 256]⟩ : Shape).ShapeCasts ⟨3, ![1024, 8, 256]⟩)
    (e4 : (⟨3, ![1024, 8, 256]⟩ : Shape).Transposes [1, 0, 2] ⟨3, ![8, 1024, 256]⟩) :
    Lifts3 (Idealize.ShloMosaic.transpose ⟨3, ![8, 1024, 256]⟩ [1, 0, 2] (shapeCast ⟨3, ![1024, 8, 256]⟩
      (extractStridedSlice ⟨4, ![1024, 8, 1, 256]⟩ ![0, 0, p, 0] (shapeCast ⟨4, ![1024, 8, 2, 256]⟩ x e1) e2) e3) e4)
      (fun j i k => f i (512 * j + 256 * p + k)) := fun i => by
  have h0 : (i 0).val < 8 := (i 0).isLt
  have h1 : (i 1).val < 1024 := (i 1).isLt
  have h2 : (i 2).val < 256 := (i 2).isLt
  rw [transpose_apply [1, 0, 2] _ e4 i (ix3 (i 1) (i 0) (i 2)) (fun q => by
    match q with
    | ⟨0, _⟩ => rfl
    | ⟨1, _⟩ => rfl
    | ⟨2, _⟩ => rfl)]
  rw [shapeCast_apply _ e3 (ix3 (i 1) (i 0) (i 2)) (ix4 (i 1) (i 0) 0 (i 2)) (by
    rw [Shape.rowMajor_val_three, Shape.rowMajor_val_four]
    show (((i 1).val * 8 + (i 0).val) * 1 + 0) * 256 + (i 2).val = ((i 1).val * 8 + (i 0).val) * 256 + (i 2).val
    omega)]
  unfold extractStridedSlice
  refine (shapeCast_apply x e1 _ (ix2 ⟨(i 1).val, h1⟩ ⟨512 * (i 0).val + 256 * p + (i 2).val, by omega⟩) (by
    rw [Shape.rowMajor_val_two, Shape.rowMajor_val_four]
    show (i 1).val * 4096 + (512 * (i 0).val + 256 * p + (i 2).val)
      = (((0 + (i 1).val) * 8 + (0 + (i 0).val)) * 2 + (p + 0)) * 256 + (0 + (i 2).val)
    omega)).trans ?_
  exact hx _

/-- Every second chunk of 256 rows, one chunk per slab: slab `j` holds the rows from `512 j + 256 p`. -/
theorem Lifts2.rowChunks {x : FVec Ideal ⟨2, ![4096, 1024]⟩ φ} {f : ℕ → ℕ → ℝ} (hx : Lifts2 x f) (p : ℕ) (hp : p < 2)
    (e1 : (⟨2, ![4096, 1024]⟩ : Shape).ShapeCasts ⟨4, ![8, 2, 256, 1024]⟩)
    (e2 : (⟨4, ![8, 2, 256, 1024]⟩ : Shape).Slices ![0, p, 0, 0] ⟨4, ![8, 1, 256, 1024]⟩)
    (e3 : (⟨4, ![8, 1, 256, 1024]⟩ : Shape).ShapeCasts ⟨3, ![8, 256, 1024]⟩) :
    Lifts3 (shapeCast ⟨3, ![8, 256, 1024]⟩
      (extractStridedSlice ⟨4, ![8, 1, 256, 1024]⟩ ![0, p, 0, 0] (shapeCast ⟨4, ![8, 2, 256, 1024]⟩ x e1) e2) e3)
      (fun j i k => f (512 * j + 256 * p + i) k) := fun i => by
  have h0 : (i 0).val < 8 := (i 0).isLt
  have h1 : (i 1).val < 256 := (i 1).isLt
  have h2 : (i 2).val < 1024 := (i 2).isLt
  rw [shapeCast_apply _ e3 i (ix4 (i 0) 0 (i 1) (i 2)) (by
    rw [Shape.rowMajor_val_three, Shape.rowMajor_val_four]
    show (((i 0).val * 1 + 0) * 256 + (i 1).val) * 1024 + (i 2).val = ((i 0).val * 256 + (i 1).val) * 1024 + (i 2).val
    omega)]
  unfold extractStridedSlice
  refine (shapeCast_apply x e1 _ (ix2 ⟨512 * (i 0).val + 256 * p + (i 1).val, by omega⟩ ⟨(i 2).val, h2⟩) (by
    rw [Shape.rowMajor_val_two, Shape.rowMajor_val_four]
    show (512 * (i 0).val + 256 * p + (i 1).val) * 1024 + (i 2).val
      = (((0 + (i 0).val) * 2 + (p + 0)) * 256 + (0 + (i 1).val)) * 1024 + (0 + (i 2).val)
    omega)).trans ?_
  exact hx _

end Cert.Lift

end
-- ==== Proof.FfnLift.lean ====
/- Three more operations on arrays of real numbers: the sum along a row, the larger of two values, and one number
   repeated over a row. -/
module

public import proofs.«01_k».proof.Proof.Lift

@[expose] public section

set_option maxRecDepth 16384

noncomputable section

open scoped BigOperators

namespace Cert.Lift

open Idealize.ShloMosaic Idealize.ShloMosaic.ValueIdx

variable {φ : FTy} {a b : ℕ}

/-- The sum along each row, kept as one column. -/
theorem Lifts2.sumCols {x : FVec Ideal ⟨2, ![a, b]⟩ .f32} {f : ℕ → ℕ → ℝ} (hx : Lifts2 x f)
    (h : (⟨2, ![a, b]⟩ : Shape).Reduces [1] ⟨1, ![a]⟩) (hφ hacc)
    (hc : (⟨1, ![a]⟩ : Shape).ShapeCasts ⟨2, ![a, 1]⟩) :
    Lifts2 (shapeCast ⟨2, ![a, 1]⟩ (multiReduction .add [1] ⟨1, ![a]⟩ x 0x00000000#32 h hφ hacc) hc)
      (fun i _ => ∑ k ∈ Finset.range b, f i k) := fun i => by
  rw [shapeCast_apply _ hc i (ix1 (i 0)) (by
    rw [Shape.rowMajor_val_one, Shape.rowMajor_val_two]
    have : (i 1).val = 0 := by have := idx2_lt1 i; omega
    show (i 0).val = (i 0).val * 1 + (i 1).val
    rw [this]; omega)]
  rw [Ideal.multiReduction_add_single x _ h hφ hacc]
  beta_reduce
  rw [← sum_fin b (fun k => f _ k), coe_sum]
  refine Finset.sum_congr rfl fun k _ => ?_
  rw [hx]
  have e0 : (h.lift (ix1 (i 0)) k 0).val = (i 0).val := rfl
  have e1 : (h.lift (ix1 (i 0)) k 1).val = k.val := rfl
  rw [e0, e1]

/-- The larger of two values, entry by entry. -/
theorem Lifts2.max {x y : FVec Ideal ⟨2, ![a, b]⟩ φ} {f g : ℕ → ℕ → ℝ} (hx : Lifts2 x f) (hy : Lifts2 y g) :
    Lifts2 (maximumf x y) (fun i j => Max.max (f i j) (g i j)) := fun i => by
  show Max.max (x i) (y i) = _
  rw [hx i, hy i]
  exact (Monotone.map_max EReal.coe_strictMono.monotone).symm

/-- One number repeated over the array. -/
theorem Lifts2.all {x : FVec Ideal ⟨2, ![1, 1]⟩ φ} {f : ℕ → ℕ → ℝ} (hx : Lifts2 x f)
    (h : (⟨2, ![1, 1]⟩ : Shape).Broadcasts ⟨2, ![a, b]⟩) :
    Lifts2 (broadcastTo ⟨2, ![a, b]⟩ x h) (fun _ _ => f 0 0) := fun i => by
  rw [broadcastTo_apply x h i (ix2 0 0) (fun q => by
    match q with
    | ⟨0, _⟩ => rfl
    | ⟨1, _⟩ => rfl)]
  exact hx _

end Cert.Lift

end
-- ==== Proof.FfnModel.lean ====
/- The feed-forward net, the loss and the way back through both, as real functions of the call's inputs: what both
   programs are shown to compute.

   A token is `t`, a column of the model's width is `c`, a unit of the net is `f`. Nothing here mentions a program. -/
module

public import proofs.«01_k».proof.Proof.Model

@[expose] public section

noncomputable section

open scoped BigOperators

namespace Cert.Ffn

open Cert.Model

/-- The number that single precision keeps for the weight `2^(1/4)` of the residual. -/
def alpha : ℝ := 9975792 / 8388608

/-- The mean of a row of 1024 numbers. -/
def mean (z : ℕ → ℝ) : ℝ := (∑ c ∈ Finset.range 1024, z c) / 1024
/-- An entry minus the row's mean. -/
def cen (z : ℕ → ℝ) (c : ℕ) : ℝ := z c - mean z
/-- The variance of a row, with the small constant added. -/
def vareps (z : ℕ → ℝ) : ℝ := mean (fun c => cen z c * cen z c) + eps
/-- One over the standard deviation of a row. -/
def rstd (z : ℕ → ℝ) : ℝ := (Real.sqrt (vareps z))⁻¹
/-- The normalised entry. -/
def hat (z : ℕ → ℝ) (c : ℕ) : ℝ := cen z c * rstd z
/-- The way back through the normalisation of the row `z`, for the cotangent `d` of the normalised row. -/
def back (z d : ℕ → ℝ) (c : ℕ) : ℝ := rstd z * (d c - mean d - hat z c * mean (fun k => d k * hat z k))

theorem vareps_pos (z : ℕ → ℝ) : 0 < vareps z := by
  unfold vareps mean
  have : 0 ≤ ∑ c ∈ Finset.range 1024, cen z c * cen z c := Finset.sum_nonneg fun c _ => mul_self_nonneg _
  have := eps_pos
  positivity

theorem rstd_sq (z : ℕ → ℝ) : rstd z * rstd z = 1 / vareps z := by
  unfold rstd
  rw [← mul_inv, Real.mul_self_sqrt (vareps_pos z).le, one_div]

/-- The entries minus their mean add up to nothing. -/
theorem sum_cen (z : ℕ → ℝ) : ∑ c ∈ Finset.range 1024, cen z c = 0 := by
  simp only [cen, Finset.sum_sub_distrib, Finset.sum_const, Finset.card_range, nsmul_eq_mul]
  unfold mean
  push_cast
  ring

/-- The derivative of the normalisation, term by term, is the way back: the centred entries add up to nothing. -/
theorem back_terms (z d : ℕ → ℝ) (c : ℕ) :
    d c * rstd z
      + (∑ k ∈ Finset.range 1024, cen z k * d k) * (-(1 / 2) * (rstd z / vareps z)) / 1024 * (2 * cen z c)
      + ((∑ k ∈ Finset.range 1024, -(d k * rstd z))
        + ∑ k ∈ Finset.range 1024, -((∑ k ∈ Finset.range 1024, cen z k * d k)
          * (-(1 / 2) * (rstd z / vareps z)) / 1024 * (2 * cen z k))) / 1024
      = back z d c := by
  have e0 : ∀ x : ℝ, ∑ k ∈ Finset.range 1024, -(x * (2 * cen z k)) = 0 := fun x => by
    rw [Finset.sum_neg_distrib, ← Finset.mul_sum, ← Finset.mul_sum, sum_cen]
    ring
  have e1 : ∑ k ∈ Finset.range 1024, -(d k * rstd z) = -((∑ k ∈ Finset.range 1024, d k) * rstd z) := by
    rw [Finset.sum_neg_distrib, Finset.sum_mul]
  have e2 : ∑ k ∈ Finset.range 1024, d k * hat z k = (∑ k ∈ Finset.range 1024, cen z k * d k) * rstd z := by
    rw [Finset.sum_mul]
    refine Finset.sum_congr rfl fun k _ => ?_
    unfold hat
    ring
  have e3 : rstd z / vareps z = rstd z * (rstd z * rstd z) := by rw [rstd_sq]; ring
  rw [e0, e1, e3]
  unfold back mean
  rw [e2]
  unfold hat
  ring

/-- The arguments of the call as real numbers: the input of the first normalisation, the target, the two weight
    arrays, and the scales and shifts of the two normalisations. -/
structure Inputs where
  z : ℕ → ℕ → ℝ
  tgt : ℕ → ℕ → ℝ
  w1 : ℕ → ℕ → ℝ
  w2 : ℕ → ℕ → ℝ
  g1 : ℕ → ℝ
  b1 : ℕ → ℝ
  g2 : ℕ → ℝ
  b2 : ℕ → ℝ

namespace Inputs
variable (I : Inputs)

/-- The net's input. -/
def x1 (t c : ℕ) : ℝ := hat (I.z t) c * I.g1 c + I.b1 c
/-- A unit before its activation. -/
def pre (t f : ℕ) : ℝ := ∑ c ∈ Finset.range 1024, I.x1 t c * I.w1 c f
/-- The positive part. -/
def relu (t f : ℕ) : ℝ := max (I.pre t f) 0
/-- The activation: the positive part squared. -/
def act (t f : ℕ) : ℝ := I.relu t f * I.relu t f
/-- The net's output and the weighted residual. -/
def z2 (t c : ℕ) : ℝ := alpha * I.x1 t c + ∑ f ∈ Finset.range 4096, I.act t f * I.w2 f c
/-- The last normalisation's output minus the target. -/
def diff (t c : ℕ) : ℝ := hat (I.z2 t) c * I.g2 c + I.b2 c - I.tgt t c
/-- The cotangent of the last normalisation's output. -/
def dy (t c : ℕ) : ℝ := I.diff t c / 1024
/-- The cotangent of the net's output. -/
def dz2 (t c : ℕ) : ℝ := back (I.z2 t) (fun k => I.dy t k * I.g2 k) c
/-- The cotangent of a unit before its activation. -/
def dpre (t f : ℕ) : ℝ := (∑ c ∈ Finset.range 1024, I.dz2 t c * I.w2 f c) * (2 * I.relu t f)
/-- The cotangent of the net's input. -/
def dx1 (t c : ℕ) : ℝ := alpha * I.dz2 t c + ∑ f ∈ Finset.range 4096, I.dpre t f * I.w1 c f
/-- The cotangent of the first normalisation's input. -/
def dz1 (t c : ℕ) : ℝ := back (I.z t) (fun k => I.dx1 t k * I.g1 k) c
/-- A token's part of the loss. -/
def tokLoss (t : ℕ) : ℝ := (∑ c ∈ Finset.range 1024, I.diff t c * I.diff t c) / 1024
/-- One token's part of row `k` of the sums: the gradients of the scale and shift of the first normalisation, those of
    the second, and the loss. -/
def statTok (k t c : ℕ) : ℝ :=
  if k = 0 then I.dx1 t c * hat (I.z t) c else if k = 1 then I.dx1 t c else if k = 2 then I.dy t c * hat (I.z2 t) c
  else if k = 3 then I.dy t c else if k = 4 then I.tokLoss t / 2 else 0
/-- The part of the sums that comes from the first `n` tokens. -/
def stats (n k c : ℕ) : ℝ := ∑ t ∈ Finset.range n, I.statTok k t c

end Inputs

end Cert.Ffn

end
-- ==== Proof.FfnBlock.lean ====
/- What one grid point of the feed-forward call computes, from real inputs.

   A grid point holds 256 tokens along the rows; row `i` of the point is token `T + i`. The lemmas follow the body: the
   squared-relu net, the second normalisation, the loss, and the way back to the first normalisation's input. -/
module

public import proofs.«01_k».proof.Proof.Gen.Kernel2Ideal.Skeleton
public import proofs.«01_k».proof.Proof.FfnLift
public import proofs.«01_k».proof.Proof.FfnModel

@[expose] public section

set_option maxRecDepth 16384

noncomputable section

open scoped BigOperators

namespace Cert.FfnBlock

open Idealize.ShloMosaic Cert.Kernel2Ideal Cert.Kernel2Ideal.Gen Cert.Lift Cert.Ffn
open Cert.Model (eps)

section words

theorem zero_word : (Scalar.ofBits .f32 0x00000000#32 : Ideal .f32) = ((0 : ℝ) : EReal) := by
  show Ideal.ofBits _ _ = _
  simp [Ideal.ofBits, Ideal.ieee]

theorem half_word : (Scalar.ofBits .f32 0x3F000000#32 : Ideal .f32) = ((1 / 2 : ℝ) : EReal) := by
  show Ideal.ofBits _ _ = _
  simp [Ideal.ofBits, Ideal.ieee, -EReal.coe_mul]; norm_num

theorem two_word : (Scalar.ofBits .f32 0x40000000#32 : Ideal .f32) = ((2 : ℝ) : EReal) := by
  show Ideal.ofBits _ _ = _
  simp [Ideal.ofBits, Ideal.ieee, -EReal.coe_mul]; norm_num

theorem width_word : (Scalar.ofBits .f32 0x44800000#32 : Ideal .f32) = ((1024 : ℝ) : EReal) := by
  show Ideal.ofBits _ _ = _
  simp [Ideal.ofBits, Ideal.ieee, -EReal.coe_mul]; norm_num

theorem alpha_word : (Scalar.ofBits .f32 0x3F9837F0#32 : Ideal .f32) = ((alpha : ℝ) : EReal) := by
  show Ideal.ofBits _ _ = _
  simp [Ideal.ofBits, Ideal.ieee, -EReal.coe_mul, alpha]; norm_num

theorem eps_word : (Scalar.ofBits .f32 0x3727C5AC#32 : Ideal .f32) = ((eps : ℝ) : EReal) := by
  show Ideal.ofBits _ _ = _
  simp [Ideal.ofBits, Ideal.ieee, -EReal.coe_mul, eps]; norm_num

end words

variable (I : Inputs) (T : ℕ)

section net
variable {xh : FVec Ideal S256x1024 .f32} {xb : FVec Ideal S256x1024 .bf16} {w1 : FVec Ideal S1024x4096 .bf16}
  {w2 : FVec Ideal S4096x1024 .bf16} {r : FVec Ideal S256x4096 .f32} {g b : FVec Ideal S1x1024 .f32}

/-- The activation's root: the units' positive parts. -/
theorem relu_lifts (hx : Lifts2 xb (fun i j => I.x1 (T + i) j)) (hw : Lifts2 w1 I.w1) :
    Lifts2 (k0_pay4 (F := Ideal) xb w1) (fun i j => I.relu (T + i) j) :=
  (((hx.cast _).mulNN hw _).max (Lifts2.splat zero_word)).cast _

/-- The activation. -/
theorem act_lifts (hr : Lifts2 r (fun i j => I.relu (T + i) j)) :
    Lifts2 (k0_pay5 (F := Ideal) r) (fun i j => I.act (T + i) j) :=
  (hr.mul hr).trunc _

/-- The net's output joined to its scaled input. -/
theorem z2_lifts (hg : Lifts2 g (fun _ j => I.g1 j)) (hx : Lifts2 xh (fun i j => hat (I.z (T + i)) j))
    (hr : Lifts2 r (fun i j => I.relu (T + i) j)) (hw : Lifts2 w2 I.w2) (hb : Lifts2 b (fun _ j => I.b1 j)) :
    Lifts2 (k0_pay6 (F := Ideal) g xh r w2 b) (fun i j => I.z2 (T + i) j) :=
  ((Lifts2.splat alpha_word).mul (((hx.cast _).mul (hg.rows (by norm_num) _)).add (hb.rows (by norm_num) _))).add
    ((act_lifts I T hr).mulNN hw _)

end net

section norm
variable {z : FVec Ideal S256x1024 .f32} {f : ℕ → ℕ → ℝ}

/-- A row minus its mean. -/
theorem cen_lifts (hz : Lifts2 z f) : Lifts2 (k0_pay7 (F := Ideal) z) (fun i j => cen (f i) j) :=
  hz.sub (((Lifts2.sumCols hz _ _ _ _).divSplat width_word (by norm_num)).cols (by norm_num) _)

/-- One over the standard deviation of a row. -/
theorem rstd_lifts (hz : Lifts2 z f) : Lifts2 (k0_pay8 (F := Ideal) z) (fun i _ => rstd (f i)) :=
  Lifts2.rsqrt (f := fun i _ => vareps (f i))
    (((Lifts2.sumCols ((cen_lifts hz).mul (cen_lifts hz)) _ _ _ _).divSplat width_word (by norm_num)).add
      (Lifts2.splat eps_word)) (fun i _ => vareps_pos (f i))

/-- The normalised row. -/
theorem hat_lifts (hz : Lifts2 z f) : Lifts2 (k0_pay9 (F := Ideal) z) (fun i j => hat (f i) j) :=
  (cen_lifts hz).mul ((rstd_lifts hz).cols (by norm_num) _)

end norm

section loss
variable {z tg : FVec Ideal S256x1024 .f32} {g b : FVec Ideal S1x1024 .f32}
  (hg : Lifts2 g (fun _ j => I.g2 j)) (hz : Lifts2 z (fun i j => I.z2 (T + i) j))
  (hb : Lifts2 b (fun _ j => I.b2 j)) (ht : Lifts2 tg (fun i j => I.tgt (T + i) j))
include hg hz hb ht

/-- The difference of the output from its target. -/
theorem diff_lifts : Lifts2 (k0_pay10 (F := Ideal) g z b tg) (fun i j => I.diff (T + i) j) :=
  (((hat_lifts hz).mul (hg.rows (by norm_num) _)).add (hb.rows (by norm_num) _)).sub (ht.cast _)

/-- The tokens' share of the loss. -/
theorem loss_lifts : Lifts2 (k0_pay11 (F := Ideal) g z b tg)
    (fun _ _ => 1 / 2 * ∑ i ∈ Finset.range 256, I.tokLoss (T + i)) :=
  have d := diff_lifts I T hg hz hb ht
  (Lifts2.splat half_word).mul
    (Lifts2.sumRows ((Lifts2.sumCols (d.mul d) _ _ _ _).divSplat width_word (by norm_num)) _ _ _ _)

/-- The cotangent of the output. -/
theorem dy_lifts : Lifts2 (k0_pay12 (F := Ideal) g z b tg) (fun i j => I.dy (T + i) j) :=
  (diff_lifts I T hg hz hb ht).divSplat width_word (by norm_num)

/-- The cotangent of the second normalised value. -/
theorem dhat2_lifts : Lifts2 (k0_pay13 (F := Ideal) g z b tg) (fun i j => I.dy (T + i) j * I.g2 j) :=
  (dy_lifts I T hg hz hb ht).mul (hg.rows (by norm_num) _)

theorem dhat2_cen_lifts : Lifts2 (k0_pay14 (F := Ideal) g z b tg)
    (fun i j => I.dy (T + i) j * I.g2 j - mean (fun k => I.dy (T + i) k * I.g2 k)) :=
  have d := dhat2_lifts I T hg hz hb ht
  d.sub (((Lifts2.sumCols d _ _ _ _).divSplat width_word (by norm_num)).cols (by norm_num) _)

theorem dhat2_hat_lifts : Lifts2 (k0_pay15 (F := Ideal) g z b tg)
    (fun i j => I.dy (T + i) j * I.g2 j * hat (I.z2 (T + i)) j) :=
  (dhat2_lifts I T hg hz hb ht).mul (hat_lifts hz)

/-- The cotangent of the net's output. -/
theorem dz2_lifts : Lifts2 (k0_pay16 (k0_pay8 (F := Ideal) z) (k0_pay9 (F := Ideal) z) (k0_pay14 (F := Ideal) g z b tg)
    (k0_pay15 (F := Ideal) g z b tg)) (fun i j => I.dz2 (T + i) j) :=
  ((rstd_lifts hz).cols (by norm_num) _).mul ((dhat2_cen_lifts I T hg hz hb ht).sub ((hat_lifts hz).mul
    (((Lifts2.sumCols (dhat2_hat_lifts I T hg hz hb ht) _ _ _ _).divSplat width_word (by norm_num)).cols
      (by norm_num) _)))

end loss

section way_back
variable {v44 : FVec Ideal S256x1 .f32} {v46 v72 v73 xh : FVec Ideal S256x1024 .f32} {rs : FVec Ideal S256x1 .f32}
  {w2 : FVec Ideal S4096x1024 .bf16} {w1 : FVec Ideal S1024x4096 .bf16} {r : FVec Ideal S256x4096 .f32}
  {g : FVec Ideal S1x1024 .f32}
  (hd : Lifts2 (k0_pay16 v44 v46 v72 v73) (fun i j => I.dz2 (T + i) j)) (hw2 : Lifts2 w2 I.w2)
  (hr : Lifts2 r (fun i j => I.relu (T + i) j))
include hd

/-- The cotangent of the net's output, in the format it is stored in. -/
theorem dz2b_lifts : Lifts2 (k0_pay17 v44 v46 v72 v73) (fun i j => I.dz2 (T + i) j) := hd.trunc _

include hw2 hr

/-- The cotangent of the units. -/
theorem dpre_lifts : Lifts2 (k0_pay18 v44 v46 v72 v73 w2 r) (fun i j => I.dpre (T + i) j) :=
  (((dz2b_lifts I T hd).mulNT hw2 _).mul ((Lifts2.splat two_word).mul hr)).trunc _

variable (hw1 : Lifts2 w1 I.w1)
include hw1

/-- The cotangent of the net's input. -/
theorem dx1_lifts : Lifts2 (k0_pay19 v44 v46 v72 v73 w2 r w1) (fun i j => I.dx1 (T + i) j) :=
  ((Lifts2.splat alpha_word).mul hd).add ((dpre_lifts I T hd hw2 hr).mulNT hw1 _)

variable (hg : Lifts2 g (fun _ j => I.g1 j))
include hg

/-- The cotangent of the first normalised value. -/
theorem dhat1_lifts : Lifts2 (k0_pay21 g v44 v46 v72 v73 w2 r w1) (fun i j => I.dx1 (T + i) j * I.g1 j) :=
  (dx1_lifts I T hd hw2 hr hw1).mul (hg.rows (by norm_num) _)

theorem dhat1_cen_lifts : Lifts2 (k0_pay22 g v44 v46 v72 v73 w2 r w1)
    (fun i j => I.dx1 (T + i) j * I.g1 j - mean (fun k => I.dx1 (T + i) k * I.g1 k)) :=
  have d := dhat1_lifts I T hd hw2 hr hw1 hg
  d.sub (((Lifts2.sumCols d _ _ _ _).divSplat width_word (by norm_num)).cols (by norm_num) _)

variable (hx : Lifts2 xh (fun i j => hat (I.z (T + i)) j))
include hx

theorem dhat1_hat_lifts : Lifts2 (k0_pay23 g xh v44 v46 v72 v73 w2 r w1)
    (fun i _ => ∑ k ∈ Finset.range 1024, I.dx1 (T + i) k * I.g1 k * hat (I.z (T + i)) k) :=
  Lifts2.sumCols ((dhat1_lifts I T hd hw2 hr hw1 hg).mul hx) _ _ _ _

variable (hs : Lifts2 rs (fun i _ => rstd (I.z (T + i))))
include hs

/-- The gradient of the first normalisation's input. -/
theorem dz1_lifts : Lifts2 (k0_pay24 xh (k0_pay20 (F := Ideal) rs) (k0_pay22 g v44 v46 v72 v73 w2 r w1)
    (k0_pay23 g xh v44 v46 v72 v73 w2 r w1)) (fun i j => I.dz1 (T + i) j) :=
  ((hs.cast _).cols (by norm_num) _).mul ((dhat1_cen_lifts I T hd hw2 hr hw1 hg).sub (hx.mul
    (((dhat1_hat_lifts I T hd hw2 hr hw1 hg hx).divSplat width_word (by norm_num)).cols (by norm_num) _)))

end way_back

section totals
variable {d x : FVec Ideal S256x1024 .f32} {p : FVec Ideal S1x1024 .f32} {q : FVec Ideal S1x1 .f32}
  {f : ℕ → ℕ → ℝ} {u v : ℕ → ℕ → ℝ}

/-- A total of products goes up by the point's tokens: the first scale's. -/
theorem total_g1 (hp : Lifts2 p f) (hd : Lifts2 d u) (hx : Lifts2 x v) :
    Lifts2 (k0_pay25 x d p) (fun i j => f i j + ∑ k ∈ Finset.range 256, u k j * v k j) :=
  (hp.cast _).add (Lifts2.sumRows (hd.mul hx) _ _ _ _)

/-- A total goes up by the point's tokens: the first shift's. -/
theorem total_b1 (hp : Lifts2 p f) (hd : Lifts2 d u) :
    Lifts2 (k0_pay26 d p) (fun i j => f i j + ∑ k ∈ Finset.range 256, u k j) :=
  (hp.cast _).add (Lifts2.sumRows hd _ _ _ _)

/-- The second scale's. -/
theorem total_g2 (hp : Lifts2 p f) (hd : Lifts2 d u) (hx : Lifts2 x v) :
    Lifts2 (k0_pay27 x d p) (fun i j => f i j + ∑ k ∈ Finset.range 256, u k j * v k j) :=
  total_g1 hp hd hx

/-- The second shift's. -/
theorem total_b2 (hp : Lifts2 p f) (hd : Lifts2 d u) :
    Lifts2 (k0_pay28 d p) (fun i j => f i j + ∑ k ∈ Finset.range 256, u k j) :=
  total_b1 hp hd

/-- The loss goes up in every column. -/
theorem total_loss (hp : Lifts2 p f) (hq : Lifts2 q v) :
    Lifts2 (k0_pay1 q p) (fun i j => f i j + v 0 0) :=
  (hp.cast _).add ((hq.cast _).all _)

/-- The totals start at nothing. -/
theorem zero_lifts : Lifts2 (k0_pay2 (F := Ideal)) (fun _ _ => 0) := Lifts2.splat zero_word

end totals

end Cert.FfnBlock

end
-- ==== Proof.FfnRef.lean ====
/- The reference's forward pass through the feed-forward net and the two normalisations, entry by entry. -/
module

public import proofs.«01_k».proof.Proof.Gen.Reference2Ideal.Read
public import proofs.«01_k».proof.Proof.RefOps
public import proofs.«01_k».proof.Proof.FfnModel

@[expose] public section

set_option maxRecDepth 16384

noncomputable section

open scoped BigOperators

namespace Cert.FfnRef

open Idealize.ShloMosaic Cert.Reference2Ideal Cert.Reference2Ideal.Read Cert.Lift Cert.RefOps Cert.Ffn
open Cert.Model (eps)

theorem word_1024 : (Ideal.ofBits .f32 0x44800000#32 : EReal) = ((1024 : ℝ) : EReal) := by
  simp [Ideal.ofBits, Ideal.ieee, -EReal.coe_mul]; norm_num

theorem word_alpha : (Ideal.ofBits .f32 0x3F9837F0#32 : EReal) = ((alpha : ℝ) : EReal) := by
  simp [Ideal.ofBits, Ideal.ieee, -EReal.coe_mul, alpha]; norm_num

/-- The reference's arguments hold the real inputs. -/
structure Args (I : Inputs) (x0 x1 : S1x4096x1024.Idx → EReal) (x2 : S1x1024x4096.Idx → EReal)
    (x3 : S1x4096x1024.Idx → EReal) (x4 x5 x6 x7 : S1x1024.Idx → EReal) : Prop where
  z : Holds x0 (fun i => I.z (i 1).val (i 2).val)
  tgt : Holds x1 (fun i => I.tgt (i 1).val (i 2).val)
  w1 : Holds x2 (fun i => I.w1 (i 1).val (i 2).val)
  w2 : Holds x3 (fun i => I.w2 (i 1).val (i 2).val)
  g1 : Holds x4 (fun i => I.g1 (i 1).val)
  b1 : Holds x5 (fun i => I.b1 (i 1).val)
  g2 : Holds x6 (fun i => I.g2 (i 1).val)
  b2 : Holds x7 (fun i => I.b2 (i 1).val)

/-- The one slab of an array of 4096 rows of 1024 numbers, as the reference flattens it. -/
theorem slab_index (i : S4096x1024.Idx) (f : ℕ → ℕ → ℝ) :
    f (((i 0).val * 1024 + (i 1).val) / 1024 % 4096) (((i 0).val * 1024 + (i 1).val) % 1024) = f (i 0).val (i 1).val := by
  have h0 : (i 0).val < 4096 := (i 0).isLt
  have h1 : (i 1).val < 1024 := (i 1).isLt
  exact congrArg₂ f (by omega) (by omega)

/-- An entry minus the mean, as a name. -/
theorem cen_eq (z : ℕ → ℝ) (c : ℕ) : z c - mean z = cen z c := rfl

theorem slab_index' (i : S1024x4096.Idx) (f : ℕ → ℕ → ℝ) :
    f (((i 0).val * 4096 + (i 1).val) / 4096 % 1024) (((i 0).val * 4096 + (i 1).val) % 4096) = f (i 0).val (i 1).val := by
  have h0 : (i 0).val < 1024 := (i 0).isLt
  have h1 : (i 1).val < 4096 := (i 1).isLt
  exact congrArg₂ f (by omega) (by omega)

theorem vector_index (i : S1024.Idx) (f : ℕ → ℝ) : f ((i 0).val % 1024) = f (i 0).val :=
  congrArg f (Nat.mod_eq_of_lt (i 0).isLt)

variable {I : Inputs} {x0 x1 : S1x4096x1024.Idx → EReal} {x2 : S1x1024x4096.Idx → EReal}
  {x3 : S1x4096x1024.Idx → EReal} {x4 x5 x6 x7 : S1x1024.Idx → EReal}

section
variable (A : Args I x0 x1 x2 x3 x4 x5 x6 x7)
include A

theorem r0 : Holds (val_main_v0 (F := Ideal) x0) (fun i => I.z (i 0).val (i 1).val) :=
  (A.z.at (val_main_v0_apply (F := Ideal) x0)).congr fun i => slab_index i I.z

theorem r32 : Holds (val_main_v32 (F := Ideal) x2) (fun i => I.w1 (i 0).val (i 1).val) :=
  (A.w1.at (val_main_v32_apply (F := Ideal) x2)).congr fun i => slab_index' i I.w1

theorem r43 : Holds (val_main_v43 (F := Ideal) x3) (fun i => I.w2 (i 0).val (i 1).val) :=
  (A.w2.at (val_main_v43_apply (F := Ideal) x3)).congr fun i => slab_index i I.w2

theorem r48 : Holds (val_main_v48 (F := Ideal) x1) (fun i => I.tgt (i 0).val (i 1).val) :=
  (A.tgt.at (val_main_v48_apply (F := Ideal) x1)).congr fun i => slab_index i I.tgt

theorem r26 : Holds (val_main_v26 (F := Ideal) x4) (fun i => I.g1 (i 1).val) :=
  ((A.g1.at (val_main_v1_apply (F := Ideal) x4)).congr fun i => vector_index i I.g1).at (val_main_v26_apply (F := Ideal) x4)

theorem r29 : Holds (val_main_v29 (F := Ideal) x5) (fun i => I.b1 (i 1).val) :=
  ((A.b1.at (val_main_v2_apply (F := Ideal) x5)).congr fun i => vector_index i I.b1).at (val_main_v29_apply (F := Ideal) x5)

theorem r72 : Holds (val_main_v72 (F := Ideal) x6) (fun i => I.g2 (i 1).val) :=
  ((A.g2.at (val_main_v46_apply (F := Ideal) x6)).congr fun i => vector_index i I.g2).at (val_main_v72_apply (F := Ideal) x6)

theorem r75 : Holds (val_main_v75 (F := Ideal) x7) (fun i => I.b2 (i 1).val) :=
  ((A.b2.at (val_main_v47_apply (F := Ideal) x7)).congr fun i => vector_index i I.b2).at (val_main_v75_apply (F := Ideal) x7)

/-- The mean of the first normalisation's row. -/
theorem r6 : Holds (val_main_v6 (F := Ideal) x0) (fun i => mean (I.z (i 0).val)) :=
  ((((r0 A).sum word_zero (val_main_v3_apply x0)).congr fun i => sum_fin 1024 (fun c => I.z (i 0).val c)).at
    (val_main_v4_apply (F := Ideal) x0)).div (y := val_main_v5 (F := Ideal)) (g := fun _ => 1024) (fun _ => word_1024) (fun _ => by norm_num)

theorem r8 : Holds (val_main_v8 (F := Ideal) x0) (fun i => cen (I.z (i 0).val) (i 1).val) :=
  (r0 A).sub ((r6 A).at (val_main_v7_apply (F := Ideal) x0))

theorem r17 : Holds (val_main_v17 (F := Ideal) x0) (fun i => cen (I.z (i 0).val) (i 1).val) :=
  (r0 A).sub ((r6 A).at (val_main_v16_apply (F := Ideal) x0))

theorem r11 : Holds (val_main_v11 (F := Ideal) x0) (fun i => 2 * cen (I.z (i 0).val) (i 1).val) :=
  Holds.mul (f := fun _ => 2) (fun _ => word_two) (r8 A)

/-- The variance and the small constant. -/
theorem r19 : Holds (val_main_v19 (F := Ideal) x0) (fun i => vareps (I.z (i 0).val)) :=
  have s := (((r8 A).mul (r8 A)).sum word_zero (val_main_v12_apply x0)).congr fun i =>
    sum_fin 1024 (fun c => cen (I.z (i 0).val) c * cen (I.z (i 0).val) c)
  (((s.at (val_main_v13_apply (F := Ideal) x0)).div (y := val_main_v14 (F := Ideal)) (g := fun _ => 1024) (fun _ => word_1024) (fun _ => by norm_num)).add
    (y := val_main_v18 (F := Ideal)) (g := fun _ => eps) (fun _ => word_eps)).congr fun _ => rfl

theorem r20 : Holds (val_main_v20 (F := Ideal) x0) (fun i => rstd (I.z (i 0).val)) := (r19 A).rsqrt fun _ => vareps_pos _

theorem r23 : Holds (val_main_v23 (F := Ideal) x0) (fun i => -(1 / 2) * (rstd (I.z (i 0).val) / vareps (I.z (i 0).val))) :=
  Holds.mul (f := fun _ => -(1 / 2)) (fun _ => word_neg_half) ((r20 A).div (r19 A) fun _ => (vareps_pos _).ne')

/-- The first normalised value. -/
theorem r25 : Holds (val_main_v25 (F := Ideal) x0) (fun i => hat (I.z (i 0).val) (i 1).val) :=
  (r17 A).mul ((r20 A).at (val_main_v24_apply (F := Ideal) x0)) |>.congr fun _ => rfl

/-- The net's input. -/
theorem r31 : Holds (val_main_v31 (F := Ideal) x0 x4 x5) (fun i => I.x1 (i 0).val (i 1).val) :=
  have g := (r26 A).at (val_main_v27_apply (F := Ideal) x4)
  have b := (r29 A).at (val_main_v30_apply (F := Ideal) x5)
  (((r25 A).mul g).add b).congr fun _ => rfl

/-- A unit before its activation. -/
theorem r33 : Holds (val_main_v33 (F := Ideal) x0 x2 x4 x5) (fun i => I.pre (i 0).val (i 1).val) :=
  ((r31 A).dot (r32 A) (val_main_v33_apply x0 x2 x4 x5)).congr fun i => sum_fin 1024 (fun c => I.x1 (i 0).val c * I.w1 c (i 1).val)

/-- The positive part. -/
theorem r34 : Holds (val_main_v34 (F := Ideal) x0 x2 x4 x5) (fun i => I.relu (i 0).val (i 1).val) := fun i => by
  have e : val_main_v34 (F := Ideal) x0 x2 x4 x5 i = max (val_main_v33 (F := Ideal) x0 x2 x4 x5 i) (Ideal.ofBits .f32 0x00000000#32) := rfl
  rw [e, r33 A i, word_zero]
  exact (Monotone.map_max EReal.coe_strictMono.monotone).symm

theorem r38 : Holds (val_main_v38 (F := Ideal) x0 x2 x4 x5) (fun i => I.act (i 0).val (i 1).val) := (r34 A).mul (r34 A)

theorem r40 : Holds (val_main_v40 (F := Ideal) x0 x2 x4 x5) (fun i => 2 * I.relu (i 0).val (i 1).val) :=
  Holds.mul (f := fun _ => 2) (fun _ => word_two) (r34 A)

/-- The net's output and the weighted residual. -/
theorem r45 : Holds (val_main_v45 (F := Ideal) x0 x2 x3 x4 x5) (fun i => I.z2 (i 0).val (i 1).val) :=
  have e : Holds (val_main_v42 (F := Ideal) x0 x4 x5) (fun i => alpha * I.x1 (i 0).val (i 1).val) :=
    Holds.mul (f := fun _ => alpha) (fun _ => word_alpha) (r31 A)
  e.add (((r38 A).dot (r43 A) (val_main_v44_apply x0 x2 x3 x4 x5)).congr fun i => sum_fin 4096 (fun f => I.act (i 0).val f * I.w2 f (i 1).val))

/-- The mean of the second normalisation's row. -/
theorem r52 : Holds (val_main_v52 (F := Ideal) x0 x2 x3 x4 x5) (fun i => mean (I.z2 (i 0).val)) :=
  ((((r45 A).sum word_zero (val_main_v49_apply x0 x2 x3 x4 x5)).congr fun i => sum_fin 1024 (fun c => I.z2 (i 0).val c)).at
    (val_main_v50_apply (F := Ideal) x0 x2 x3 x4 x5)).div (y := val_main_v51 (F := Ideal)) (g := fun _ => 1024) (fun _ => word_1024) (fun _ => by norm_num)

theorem r54 : Holds (val_main_v54 (F := Ideal) x0 x2 x3 x4 x5) (fun i => cen (I.z2 (i 0).val) (i 1).val) :=
  ((r45 A).sub ((r52 A).at (val_main_v53_apply (F := Ideal) x0 x2 x3 x4 x5))).congr fun i => cen_eq (I.z2 (i 0).val) (i 1).val

theorem r63 : Holds (val_main_v63 (F := Ideal) x0 x2 x3 x4 x5) (fun i => cen (I.z2 (i 0).val) (i 1).val) :=
  ((r45 A).sub ((r52 A).at (val_main_v62_apply (F := Ideal) x0 x2 x3 x4 x5))).congr fun i => cen_eq (I.z2 (i 0).val) (i 1).val

theorem r57 : Holds (val_main_v57 (F := Ideal) x0 x2 x3 x4 x5) (fun i => 2 * cen (I.z2 (i 0).val) (i 1).val) :=
  Holds.mul (f := fun _ => 2) (fun _ => word_two) (r54 A)

theorem r65 : Holds (val_main_v65 (F := Ideal) x0 x2 x3 x4 x5) (fun i => vareps (I.z2 (i 0).val)) :=
  have s := (((r54 A).mul (r54 A)).sum word_zero (val_main_v58_apply x0 x2 x3 x4 x5)).congr fun i =>
    sum_fin 1024 (fun c => cen (I.z2 (i 0).val) c * cen (I.z2 (i 0).val) c)
  (((s.at (val_main_v59_apply (F := Ideal) x0 x2 x3 x4 x5)).div (y := val_main_v60 (F := Ideal)) (g := fun _ => 1024) (fun _ => word_1024) (fun _ => by norm_num)).add
    (y := val_main_v64 (F := Ideal)) (g := fun _ => eps) (fun _ => word_eps)).congr fun _ => rfl

theorem r66 : Holds (val_main_v66 (F := Ideal) x0 x2 x3 x4 x5) (fun i => rstd (I.z2 (i 0).val)) := (r65 A).rsqrt fun _ => vareps_pos _

theorem r69 : Holds (val_main_v69 (F := Ideal) x0 x2 x3 x4 x5) (fun i => -(1 / 2) * (rstd (I.z2 (i 0).val) / vareps (I.z2 (i 0).val))) :=
  Holds.mul (f := fun _ => -(1 / 2)) (fun _ => word_neg_half) ((r66 A).div (r65 A) fun _ => (vareps_pos _).ne')

/-- The second normalised value. -/
theorem r71 : Holds (val_main_v71 (F := Ideal) x0 x2 x3 x4 x5) (fun i => hat (I.z2 (i 0).val) (i 1).val) :=
  (r63 A).mul ((r66 A).at (val_main_v70_apply (F := Ideal) x0 x2 x3 x4 x5)) |>.congr fun _ => rfl

/-- The second normalisation's output minus the target. -/
theorem r78 : Holds (val_main_v78 (F := Ideal) x0 x1 x2 x3 x4 x5 x6 x7) (fun i => I.diff (i 0).val (i 1).val) :=
  have g := (r72 A).at (val_main_v73_apply (F := Ideal) x6)
  have b := (r75 A).at (val_main_v76_apply (F := Ideal) x7)
  ((((r71 A).mul g).add b).sub (r48 A)).congr fun _ => rfl

/-- The loss. -/
theorem r86 : Holds (val_main_v86 (F := Ideal) x0 x1 x2 x3 x4 x5 x6 x7) (fun _ => (1 / 2) * ∑ t ∈ Finset.range 4096, I.tokLoss t) :=
  have s := (((r78 A).mul (r78 A)).sum word_zero (val_main_v82_apply x0 x1 x2 x3 x4 x5 x6 x7)).congr fun i =>
    sum_fin 1024 (fun c => I.diff (i 0).val c * I.diff (i 0).val c)
  have d : Holds (val_main_v84 (F := Ideal) x0 x1 x2 x3 x4 x5 x6 x7) (fun i => I.tokLoss (i 0).val) :=
    (s.div (y := val_main_v83 (F := Ideal)) (g := fun _ => 1024) (fun _ => word_1024) (fun _ => by norm_num)).congr fun _ => rfl
  have e : Holds (val_main_v85 (F := Ideal) x0 x1 x2 x3 x4 x5 x6 x7) (fun _ => ∑ t ∈ Finset.range 4096, I.tokLoss t) := fun i => by
    refine (val_main_v85_apply x0 x1 x2 x3 x4 x5 x6 x7 i).trans ?_
    beta_reduce
    rw [← sum_fin 4096 I.tokLoss, coe_sum]
    have z : (val_main_cst_20 (F := Ideal)) (Shape.Idx.first Gen.h_S_) = (0 : EReal) := word_zero
    rw [z, zero_add]
    refine Fintype.sum_bijective (fun j : S4096.Idx => (j 0 : Fin 4096)) ⟨fun a b h => ?_, fun k => ?_⟩ _ _ fun j => d j
    · funext q
      match q with
      | ⟨0, _⟩ => exact h
    · exact ⟨ValueIdx.ix1 k, rfl⟩
  Holds.mul (f := fun _ => 1 / 2) (fun _ => word_half) e

/-- The cotangent of the second normalisation's output. -/
theorem r92 : Holds (val_main_v92 (F := Ideal) x0 x1 x2 x3 x4 x5 x6 x7) (fun i => I.dy (i 0).val (i 1).val) :=
  have d : Holds (val_main_v90 (F := Ideal)) (fun _ => 1 / 2 * 1 / 1024) :=
    Holds.div (x := val_main_v88 (F := Ideal)) (y := val_main_v89 (F := Ideal)) (f := fun _ => 1 / 2 * 1) (g := fun _ => 1024)
      (Holds.mul (f := fun _ => 1 / 2) (g := fun _ => 1) (fun _ => word_half) (fun _ => word_one))
      (fun _ => word_1024) (fun _ => by norm_num)
  have e : Holds (val_main_v81 (F := Ideal) x0 x1 x2 x3 x4 x5 x6 x7) (fun i => 2 * I.diff (i 0).val (i 1).val) :=
    Holds.mul (f := fun _ => 2) (fun _ => word_two) (r78 A)
  ((d.at (val_main_v91_apply (F := Ideal))).mul e).congr fun i => by
    unfold Inputs.dy
    ring

end

end Cert.FfnRef

end
-- ==== Proof.FfnFinite.lean ====
/- The real numbers that the feed-forward call's finite arguments hold. -/
module

public import proofs.«01_k».proof.Pre_finite2
public import proofs.«01_k».proof.Proof.Finite
public import proofs.«01_k».proof.Proof.FfnModel
public import proofs.«01_k».proof.Proof.FfnRef

@[expose] public section

set_option maxRecDepth 16384

noncomputable section

namespace Cert.FfnFinite

open Idealize.ShloMosaic Idealize.ShloMosaic.ValueIdx Cert.Lift Cert.Finite
open Cert.Pre_finite2 (S1x4096x1024 S1x1024x4096 S1x1024)

/-- The real inputs that the arguments hold. -/
def inputs (a0 a1 : FVec Ideal S1x4096x1024 .f32) (a2 : FVec Ideal S1x1024x4096 .f32)
    (a3 : FVec Ideal S1x4096x1024 .f32) (a4 a5 a6 a7 : FVec Ideal S1x1024 .f32) : Cert.Ffn.Inputs where
  z := at3 a0 0
  tgt := at3 a1 0
  w1 := at3 a2 0
  w2 := at3 a3 0
  g1 := at2 a4 0
  b1 := at2 a5 0
  g2 := at2 a6 0
  b2 := at2 a7 0

/-- An index of an array with one slab. -/
theorem first_zero {a b : ℕ} (i : (⟨3, ![1, a, b]⟩ : Shape).Idx) : (i 0).val = 0 := by
  have : (i 0).val < 1 := (i 0).isLt
  omega

theorem first_zero' {a : ℕ} (i : (⟨2, ![1, a]⟩ : Shape).Idx) : (i 0).val = 0 := by
  have : (i 0).val < 1 := (i 0).isLt
  omega

/-- Arguments with real entries hold these real inputs. -/
theorem args {a0 a1 : FVec Ideal S1x4096x1024 .f32} {a2 : FVec Ideal S1x1024x4096 .f32}
    {a3 : FVec Ideal S1x4096x1024 .f32} {a4 a5 a6 a7 : FVec Ideal S1x1024 .f32}
    (h0 : AllReal a0) (h1 : AllReal a1) (h2 : AllReal a2) (h3 : AllReal a3) (h4 : AllReal a4) (h5 : AllReal a5)
    (h6 : AllReal a6) (h7 : AllReal a7) :
    Cert.FfnRef.Args (inputs a0 a1 a2 a3 a4 a5 a6 a7) a0 a1 a2 a3 a4 a5 a6 a7 where
  z i := (h0.lifts3 i).trans (by rw [first_zero i]; rfl)
  tgt i := (h1.lifts3 i).trans (by rw [first_zero i]; rfl)
  w1 i := (h2.lifts3 i).trans (by rw [first_zero i]; rfl)
  w2 i := (h3.lifts3 i).trans (by rw [first_zero i]; rfl)
  g1 i := (h4.lifts2 i).trans (by rw [first_zero' i]; rfl)
  b1 i := (h5.lifts2 i).trans (by rw [first_zero' i]; rfl)
  g2 i := (h6.lifts2 i).trans (by rw [first_zero' i]; rfl)
  b2 i := (h7.lifts2 i).trans (by rw [first_zero' i]; rfl)

variable [Cert.Pre_finite2.Facts]

/-- The precondition: the entries of every argument are real numbers. -/
theorem allReal_of_pre {a0 a1 : FVec Ideal S1x4096x1024 .f32} {a2 : FVec Ideal S1x1024x4096 .f32}
    {a3 : FVec Ideal S1x4096x1024 .f32} {a4 a5 a6 a7 : FVec Ideal S1x1024 .f32}
    (h : Cert.Pre_finite2.fn a0 a1 a2 a3 a4 a5 a6 a7 = fun _ => 1#1) :
    AllReal a0 ∧ AllReal a1 ∧ AllReal a2 ∧ AllReal a3 ∧ AllReal a4 ∧ AllReal a5 ∧ AllReal a6 ∧ AllReal a7 := by
  have h0 := congrFun h (fun q => q.elim0)
  dsimp only [Cert.Pre_finite2.fn, Cert.Pre_finite2.fn_part1] at h0
  obtain ⟨h0, h7⟩ := and_eq_one h0
  obtain ⟨h0, h6⟩ := and_eq_one h0
  obtain ⟨h0, h5⟩ := and_eq_one h0
  obtain ⟨h0, h4⟩ := and_eq_one h0
  obtain ⟨h0, h3⟩ := and_eq_one h0
  obtain ⟨h0, h2⟩ := and_eq_one h0
  obtain ⟨h0, h1⟩ := and_eq_one h0
  clear h
  refine ⟨?_, ?_, ?_, ?_, ?_, ?_, ?_, ?_⟩
  · exact allReal_of_reduce (x := a0) _ _ _ _ h0
  · exact allReal_of_reduce (x := a1) _ _ _ _ h1
  · exact allReal_of_reduce (x := a2) _ _ _ _ h2
  · exact allReal_of_reduce (x := a3) _ _ _ _ h3
  · exact allReal_of_reduce (x := a4) _ _ _ _ h4
  · exact allReal_of_reduce (x := a5) _ _ _ _ h5
  · exact allReal_of_reduce (x := a6) _ _ _ _ h6
  · exact allReal_of_reduce (x := a7) _ _ _ _ h7

end Cert.FfnFinite

end
-- ==== Proof.FfnEntry.lean ====
/- What the feed-forward call finds when it starts: the arrays its arguments are prepared into, and the blocks of one
   grid point.

   The host runs the first normalisation and cuts the weights into chunks. Grid point `t` reads the rows `256 t` to
   `256 t + 255`. -/
module

public import proofs.«01_k».proof.Proof.Gen.Kernel2Ideal.Frame.Runs
public import Idealize.ShloMosaic.Lib.Pipeline.ValueKit
public import Idealize.ShloMosaic.Lib.Claim
public import proofs.«01_k».proof.Proof.FfnHost
public import proofs.«01_k».proof.Proof.FfnBlock
public import proofs.«01_k».proof.Proof.FfnFinite

@[expose] public section

set_option maxRecDepth 16384

noncomputable section

namespace Cert.FfnEntry

open Idealize.ShloMosaic Idealize.ShloMosaic.TcCoe Idealize.SL.Sem Idealize.ShloMosaic.Pipeline
open Cert.Kernel2Ideal Cert.Kernel2Ideal.Gen Cert.Lift Cert.Ffn Cert.Finite
open Cert.Model (eps)

section host

/-- The mean of each row, as a column. -/
def hostMean (x : FVec Ideal S4096x1024 .f32) : FVec Ideal S4096x1 .f32 :=
  Host.divf (broadcastInDim S4096x1 ![0] bcast_S4096_S4096x1_0
    (Host.reduceAdd x (constant S_ .f32 0x00000000#32) reducesTo_S4096x1024_S4096_d1 h_S_))
    (broadcastInDim S4096x1 ![] bcast_S_S4096x1 (constant S_ .f32 0x44800000#32))

/-- Each row minus its mean. -/
def hostCen (x : FVec Ideal S4096x1024 .f32) : FVec Ideal S4096x1024 .f32 :=
  subf x (broadcastInDim S4096x1024 ![0, 1] bcast_S4096x1_S4096x1024_0_1 (hostMean x))

/-- One over the standard deviation of each row. -/
def hostRstd (x : FVec Ideal S4096x1024 .f32) : FVec Ideal S4096x1 .f32 :=
  Host.rsqrt (addf (hostMean (mulf (hostCen x) (hostCen x)))
    (broadcastInDim S4096x1 ![] bcast_S_S4096x1 (constant S_ .f32 0x3727C5AC#32)))

/-- The normalised rows. -/
def hostHat (x : FVec Ideal S4096x1024 .f32) : FVec Ideal S4096x1024 .f32 :=
  mulf (hostCen x) (broadcastInDim S4096x1024 ![0, 1] bcast_S4096x1_S4096x1024_0_1 (hostRstd x))

/-- The normalised rows, scaled and shifted. -/
def hostX1 (x : FVec Ideal S4096x1024 .f32) (g b : FVec Ideal S1x1024 .f32) : FVec Ideal S4096x1024 .bf16 :=
  truncf .bf16 (addf (mulf (hostHat x) (broadcastInDim S4096x1024 ![0, 1] bcast_S1x1024_S4096x1024_0_1 g))
    (broadcastInDim S4096x1024 ![0, 1] bcast_S1x1024_S4096x1024_0_1 b)) bitsLt_bf16_f32

variable {x : FVec Ideal S4096x1024 .f32} {f : ℕ → ℕ → ℝ} (hx : Lifts2 x f)
include hx

theorem hostMean_lifts : Lifts2 (hostMean x) (fun i _ => mean (f i)) :=
  ((hx.hostSum (fun _ => Cert.FfnBlock.zero_word) _ (by decide) _).asColumn (by norm_num) _).hostDiv
    (hostAll (fun _ => Cert.FfnBlock.width_word) _) (by norm_num)

theorem hostCen_lifts : Lifts2 (hostCen x) (fun i j => cen (f i) j) :=
  hx.sub ((hostMean_lifts hx).hostCols (by norm_num) _)

theorem hostRstd_lifts : Lifts2 (hostRstd x) (fun i _ => rstd (f i)) :=
  Lifts2.hostRsqrt (f := fun i _ => vareps (f i))
    ((hostMean_lifts ((hostCen_lifts hx).mul (hostCen_lifts hx))).add (hostAll (fun _ => Cert.FfnBlock.eps_word) _))
    (fun i _ => vareps_pos (f i))

theorem hostHat_lifts : Lifts2 (hostHat x) (fun i j => hat (f i) j) :=
  (hostCen_lifts hx).mul ((hostRstd_lifts hx).hostCols (by norm_num) _)

theorem hostX1_lifts {g b : FVec Ideal S1x1024 .f32} {u v : ℕ → ℕ → ℝ} (hg : Lifts2 g u) (hb : Lifts2 b v) :
    Lifts2 (hostX1 x g b) (fun i j => hat (f i) j * u 0 j + v 0 j) :=
  (((hostHat_lifts hx).mul (hg.hostRows (by norm_num) _)).add (hb.hostRows (by norm_num) _)).trunc _

end host

variable (m : (ℓ : Loc nD τ sig) → Buf (Elt Ideal) ℓ)

section arrays
variable (c : Dev nD)

/-- The first normalisation's input, one token per row. -/
abbrev zArr : FVec Ideal S4096x1024 .f32 :=
  shapeCast S4096x1024 (m (c.tc.loc main_arg0)) shapeCasts_S1x4096x1024_S4096x1024

/-- The first weights, in the format of the products. -/
abbrev w1Arr : FVec Ideal S1024x4096 .bf16 :=
  truncf .bf16 (shapeCast S1024x4096 (m (c.tc.loc main_arg2)) shapeCasts_S1x1024x4096_S1024x4096 :
    FVec Ideal S1024x4096 .f32) bitsLt_bf16_f32

/-- The second weights. -/
abbrev w2Arr : FVec Ideal S4096x1024 .bf16 :=
  truncf .bf16 (shapeCast S4096x1024 (m (c.tc.loc main_arg3)) shapeCasts_S1x4096x1024_S4096x1024 :
    FVec Ideal S4096x1024 .f32) bitsLt_bf16_f32

theorem V_hat : V m c main_v18 = hostHat (zArr m c) := by
  unfold V
  simp only [hostOps0]
  entry_read
  rfl

theorem V_rstd : V m c main_v14 = hostRstd (zArr m c) := by
  unfold V
  simp only [hostOps0]
  entry_read
  rfl

theorem V_x1 : V m c main_v23 = hostX1 (zArr m c) (m (c.tc.loc main_arg4)) (m (c.tc.loc main_arg5)) := by
  unfold V
  simp only [hostOps0]
  entry_read
  rfl

theorem V_tgt : V m c main_v30 = shapeCast S4096x1024 (m (c.tc.loc main_arg1)) shapeCasts_S1x4096x1024_S4096x1024 := by
  unfold V
  simp only [hostOps0]
  entry_read
  rfl

theorem V_w1_0 : V m c main_v33 = transpose S8x1024x256 [1, 0, 2] (shapeCast S1024x8x256
    (extractStridedSlice S1024x8x1x256 ![0, 0, 0, 0] (shapeCast S1024x8x2x256 (w1Arr m c)
      shapeCasts_S1024x4096_S1024x8x2x256) slices_S1024x8x2x256_S1024x8x1x256_0_0_0_0)
      shapeCasts_S1024x8x1x256_S1024x8x256) transposes_S1024x8x256_S8x1024x256_1_0_2 := by
  unfold V
  simp only [hostOps0]
  entry_read
  rfl

theorem V_w1_1 : V m c main_v36 = transpose S8x1024x256 [1, 0, 2] (shapeCast S1024x8x256
    (extractStridedSlice S1024x8x1x256 ![0, 0, 1, 0] (shapeCast S1024x8x2x256 (w1Arr m c)
      shapeCasts_S1024x4096_S1024x8x2x256) slices_S1024x8x2x256_S1024x8x1x256_0_0_1_0)
      shapeCasts_S1024x8x1x256_S1024x8x256) transposes_S1024x8x256_S8x1024x256_1_0_2 := by
  unfold V
  simp only [hostOps0]
  entry_read
  rfl

theorem V_w2_0 : V m c main_v38 = shapeCast S8x256x1024
    (extractStridedSlice S8x1x256x1024 ![0, 0, 0, 0] (shapeCast S8x2x256x1024 (w2Arr m c)
      shapeCasts_S4096x1024_S8x2x256x1024) slices_S8x2x256x1024_S8x1x256x1024_0_0_0_0)
      shapeCasts_S8x1x256x1024_S8x256x1024 := by
  unfold V
  simp only [hostOps0]
  entry_read
  rfl

theorem V_w2_1 : V m c main_v40 = shapeCast S8x256x1024
    (extractStridedSlice S8x1x256x1024 ![0, 1, 0, 0] (shapeCast S8x2x256x1024 (w2Arr m c)
      shapeCasts_S4096x1024_S8x2x256x1024) slices_S8x2x256x1024_S8x1x256x1024_0_1_0_0)
      shapeCasts_S8x1x256x1024_S8x256x1024 := by
  unfold V
  simp only [hostOps0]
  entry_read
  rfl

end arrays

/-- The real inputs that the arguments of core `c` hold. -/
def inp (c : Dev nD) : Inputs :=
  Cert.FfnFinite.inputs (m (c.tc.loc main_arg0)) (m (c.tc.loc main_arg1)) (m (c.tc.loc main_arg2))
    (m (c.tc.loc main_arg3)) (m (c.tc.loc main_arg4)) (m (c.tc.loc main_arg5)) (m (c.tc.loc main_arg6))
    (m (c.tc.loc main_arg7))

/-- Every argument of core `c` is an array of real numbers. -/
structure Real (c : Dev nD) : Prop where
  a0 : AllReal (φ := .f32) (s := S1x4096x1024) (m (c.tc.loc main_arg0))
  a1 : AllReal (φ := .f32) (s := S1x4096x1024) (m (c.tc.loc main_arg1))
  a2 : AllReal (φ := .f32) (s := S1x1024x4096) (m (c.tc.loc main_arg2))
  a3 : AllReal (φ := .f32) (s := S1x4096x1024) (m (c.tc.loc main_arg3))
  a4 : AllReal (φ := .f32) (s := S1x1024) (m (c.tc.loc main_arg4))
  a5 : AllReal (φ := .f32) (s := S1x1024) (m (c.tc.loc main_arg5))
  a6 : AllReal (φ := .f32) (s := S1x1024) (m (c.tc.loc main_arg6))
  a7 : AllReal (φ := .f32) (s := S1x1024) (m (c.tc.loc main_arg7))

section values
variable {m} {c : Dev nD} (h : Real m c)
include h

theorem z_lifts : Lifts2 (zArr m c) (inp m c).z := (h.a0.lifts3).slab _

theorem hat_array : Lifts2 (φ := .f32) (V m c main_v18 : FVec Ideal S4096x1024 .f32)
    (fun i j => hat ((inp m c).z i) j) := by
  rw [V_hat]
  exact hostHat_lifts (z_lifts h)

theorem rstd_array : Lifts2 (φ := .f32) (V m c main_v14 : FVec Ideal S4096x1 .f32)
    (fun i _ => rstd ((inp m c).z i)) := by
  rw [V_rstd]
  exact hostRstd_lifts (z_lifts h)

theorem x1_array : Lifts2 (φ := .bf16) (V m c main_v23 : FVec Ideal S4096x1024 .bf16) (inp m c).x1 := by
  rw [V_x1]
  exact hostX1_lifts (z_lifts h) h.a4.lifts2 h.a5.lifts2

theorem tgt_array : Lifts2 (φ := .f32) (V m c main_v30 : FVec Ideal S4096x1024 .f32) (inp m c).tgt := by
  rw [V_tgt]
  exact (h.a1.lifts3).slab _

theorem w1_lifts : Lifts2 (w1Arr m c) (inp m c).w1 := ((h.a2.lifts3).slab _).trunc _

theorem w2_lifts : Lifts2 (w2Arr m c) (inp m c).w2 := ((h.a3.lifts3).slab _).trunc _

/-- The even chunks of the first weights. -/
theorem w1_even : Lifts3 (φ := .bf16) (V m c main_v33 : FVec Ideal S8x1024x256 .bf16)
    (fun j i k => (inp m c).w1 i (512 * j + 256 * 0 + k)) := by
  rw [V_w1_0]
  exact (w1_lifts h).columnChunks 0 (by decide) _ _ _ _

/-- The odd chunks of the first weights. -/
theorem w1_odd : Lifts3 (φ := .bf16) (V m c main_v36 : FVec Ideal S8x1024x256 .bf16)
    (fun j i k => (inp m c).w1 i (512 * j + 256 * 1 + k)) := by
  rw [V_w1_1]
  exact (w1_lifts h).columnChunks 1 (by decide) _ _ _ _

/-- The even chunks of the second weights. -/
theorem w2_even : Lifts3 (φ := .bf16) (V m c main_v38 : FVec Ideal S8x256x1024 .bf16)
    (fun j i k => (inp m c).w2 (512 * j + 256 * 0 + i) k) := by
  rw [V_w2_0]
  exact (w2_lifts h).rowChunks 0 (by decide) _ _ _

/-- The odd chunks of the second weights. -/
theorem w2_odd : Lifts3 (φ := .bf16) (V m c main_v40 : FVec Ideal S8x256x1024 .bf16)
    (fun j i k => (inp m c).w2 (512 * j + 256 * 1 + i) k) := by
  rw [V_w2_1]
  exact (w2_lifts h).rowChunks 1 (by decide) _ _ _

end values

section blocks
variable {m} {c : Dev nD} (h : Real m c) (t : Fin cfg0.N)
include h

/-- The normalised tokens of a grid point. -/
theorem hat_block : Lifts2 (φ := .f32) (iblk m c 0 t : FVec Ideal S256x1024 .f32)
    (fun i j => hat ((inp m c).z (256 * t.val + i)) j) := fun i => by
  show V m c main_v18 ((win0_0.rect t).emb i) = _
  refine (hat_array h _).trans ?_
  beta_reduce
  rw [Window.rect_emb_val win0_0 t i 0, Window.rect_emb_val win0_0 t i 1,
    (by decide +kernel : ∀ t : Fin grid0.N, win0_0.index t = ![t.val, 0]) t]
  show ((hat ((inp m c).z (t.val * 256 + (i 0).val)) (0 * 1024 + (i 1).val) : ℝ) : EReal) = _
  rw [Nat.zero_mul, Nat.zero_add, Nat.mul_comm]

theorem rstd_block : Lifts2 (φ := .f32) (iblk m c 1 t : FVec Ideal S256x1 .f32)
    (fun i _ => rstd ((inp m c).z (256 * t.val + i))) := fun i => by
  show V m c main_v14 ((win0_1.rect t).emb i) = _
  refine (rstd_array h _).trans ?_
  beta_reduce
  rw [Window.rect_emb_val win0_1 t i 0,
    (by decide +kernel : ∀ t : Fin grid0.N, win0_1.index t = ![t.val, 0]) t]
  show ((rstd ((inp m c).z (t.val * 256 + (i 0).val)) : ℝ) : EReal) = _
  rw [Nat.mul_comm]

theorem x1_block : Lifts2 (φ := .bf16) (iblk m c 2 t : FVec Ideal S256x1024 .bf16)
    (fun i j => (inp m c).x1 (256 * t.val + i) j) := fun i => by
  show V m c main_v23 ((win0_2.rect t).emb i) = _
  refine (x1_array h _).trans ?_
  beta_reduce
  rw [Window.rect_emb_val win0_2 t i 0, Window.rect_emb_val win0_2 t i 1,
    (by decide +kernel : ∀ t : Fin grid0.N, win0_2.index t = ![t.val, 0]) t]
  show (((inp m c).x1 (t.val * 256 + (i 0).val) (0 * 1024 + (i 1).val) : ℝ) : EReal) = _
  rw [Nat.zero_mul, Nat.zero_add, Nat.mul_comm]

theorem tgt_block : Lifts2 (φ := .f32) (iblk m c 3 t : FVec Ideal S256x1024 .f32)
    (fun i j => (inp m c).tgt (256 * t.val + i) j) := fun i => by
  show V m c main_v30 ((win0_3.rect t).emb i) = _
  refine (tgt_array h _).trans ?_
  beta_reduce
  rw [Window.rect_emb_val win0_3 t i 0, Window.rect_emb_val win0_3 t i 1,
    (by decide +kernel : ∀ t : Fin grid0.N, win0_3.index t = ![t.val, 0]) t]
  show (((inp m c).tgt (t.val * 256 + (i 0).val) (0 * 1024 + (i 1).val) : ℝ) : EReal) = _
  rw [Nat.zero_mul, Nat.zero_add, Nat.mul_comm]

theorem g1_block : Lifts2 (φ := .f32) (iblk m c 4 t : FVec Ideal S1x1024 .f32) (fun _ j => (inp m c).g1 j) := fun i => by
  show V m c main_arg4 ((win0_4.rect t).emb i) = _
  rw [V_main_arg4]
  refine (h.a4.lifts2 _).trans ?_
  rw [Cert.FfnFinite.first_zero', Window.rect_emb_val win0_4 t i 1,
    (by decide +kernel : ∀ t : Fin grid0.N, win0_4.index t = ![0, 0]) t]
  show (((inp m c).g1 (0 * 1024 + (i 1).val) : ℝ) : EReal) = _
  rw [Nat.zero_mul, Nat.zero_add]

theorem b1_block : Lifts2 (φ := .f32) (iblk m c 5 t : FVec Ideal S1x1024 .f32) (fun _ j => (inp m c).b1 j) := fun i => by
  show V m c main_arg5 ((win0_5.rect t).emb i) = _
  rw [V_main_arg5]
  refine (h.a5.lifts2 _).trans ?_
  rw [Cert.FfnFinite.first_zero', Window.rect_emb_val win0_5 t i 1,
    (by decide +kernel : ∀ t : Fin grid0.N, win0_5.index t = ![0, 0]) t]
  show (((inp m c).b1 (0 * 1024 + (i 1).val) : ℝ) : EReal) = _
  rw [Nat.zero_mul, Nat.zero_add]

theorem g2_block : Lifts2 (φ := .f32) (iblk m c 6 t : FVec Ideal S1x1024 .f32) (fun _ j => (inp m c).g2 j) := fun i => by
  show V m c main_arg6 ((win0_6.rect t).emb i) = _
  rw [V_main_arg6]
  refine (h.a6.lifts2 _).trans ?_
  rw [Cert.FfnFinite.first_zero', Window.rect_emb_val win0_6 t i 1,
    (by decide +kernel : ∀ t : Fin grid0.N, win0_6.index t = ![0, 0]) t]
  show (((inp m c).g2 (0 * 1024 + (i 1).val) : ℝ) : EReal) = _
  rw [Nat.zero_mul, Nat.zero_add]

theorem b2_block : Lifts2 (φ := .f32) (iblk m c 7 t : FVec Ideal S1x1024 .f32) (fun _ j => (inp m c).b2 j) := fun i => by
  show V m c main_arg7 ((win0_7.rect t).emb i) = _
  rw [V_main_arg7]
  refine (h.a7.lifts2 _).trans ?_
  rw [Cert.FfnFinite.first_zero', Window.rect_emb_val win0_7 t i 1,
    (by decide +kernel : ∀ t : Fin grid0.N, win0_7.index t = ![0, 0]) t]
  show (((inp m c).b2 (0 * 1024 + (i 1).val) : ℝ) : EReal) = _
  rw [Nat.zero_mul, Nat.zero_add]

end blocks

end Cert.FfnEntry

end
-- ==== Proof.FfnPoint.lean ====
/- One grid point of the feed-forward call, from the weights that the scratch buffers hold. -/
module

public import proofs.«01_k».proof.Proof.FfnEntry

@[expose] public section

set_option maxRecDepth 16384

noncomputable section

namespace Cert.FfnPoint

open Idealize.ShloMosaic Idealize.ShloMosaic.TcCoe Idealize.SL.Sem
open Cert.Kernel2Ideal Cert.Kernel2Ideal.Gen Cert.Lift Cert.Ffn Cert.FfnEntry Cert.FfnBlock

variable {m : (ℓ : Loc nD τ sig) → Buf (Elt Ideal) ℓ} {c : Dev nD} (h : Real m c) (t : Fin cfg0.N)

section values
variable (m c)

/-- The units' positive parts. -/
abbrev reluV (w1 : FVec Ideal S1024x4096 .bf16) : FVec Ideal S256x4096 .f32 := k0_pay4 (iblk m c 2 t) w1

/-- The net's output and the weighted residual. -/
abbrev z2V (w1 : FVec Ideal S1024x4096 .bf16) (w2 : FVec Ideal S4096x1024 .bf16) : FVec Ideal S256x1024 .f32 :=
  k0_pay6 (iblk m c 4 t) (iblk m c 0 t) (reluV m c t w1) w2 (iblk m c 5 t)

/-- A value of the last normalisation that needs its scale, its shift and the target. -/
abbrev withTarget {α : Type} (p : FVec Ideal S1x1024 .f32 → FVec Ideal S256x1024 .f32 → FVec Ideal S1x1024 .f32 →
    FVec Ideal S256x1024 .f32 → α) (w1 : FVec Ideal S1024x4096 .bf16) (w2 : FVec Ideal S4096x1024 .bf16) : α :=
  p (iblk m c 6 t) (z2V m c t w1 w2) (iblk m c 7 t) (iblk m c 3 t)

/-- A value of the way back through the net. -/
abbrev wayBack {α : Type} (p : FVec Ideal S256x1 .f32 → FVec Ideal S256x1024 .f32 → FVec Ideal S256x1024 .f32 →
    FVec Ideal S256x1024 .f32 → α) (w1 : FVec Ideal S1024x4096 .bf16) (w2 : FVec Ideal S4096x1024 .bf16) : α :=
  p (k0_pay8 (z2V m c t w1 w2)) (k0_pay9 (z2V m c t w1 w2)) (withTarget m c t (k0_pay14 (F := Ideal)) w1 w2)
    (withTarget m c t (k0_pay15 (F := Ideal)) w1 w2)

end values

variable {w1 : FVec Ideal S1024x4096 .bf16} {w2 : FVec Ideal S4096x1024 .bf16}
  (hw1 : Lifts2 w1 (inp m c).w1) (hw2 : Lifts2 w2 (inp m c).w2)

include h hw1

theorem relu_point : Lifts2 (reluV m c t w1) (fun i j => (inp m c).relu (256 * t.val + i) j) :=
  relu_lifts (inp m c) (256 * t.val) (x1_block h t) hw1

theorem act_point : Lifts2 (k0_pay5 (reluV m c t w1)) (fun i j => (inp m c).act (256 * t.val + i) j) :=
  act_lifts (inp m c) (256 * t.val) (relu_point h t hw1)

include hw2

theorem z2_point : Lifts2 (z2V m c t w1 w2) (fun i j => (inp m c).z2 (256 * t.val + i) j) :=
  z2_lifts (inp m c) (256 * t.val) (g1_block h t) (hat_block h t) (relu_point h t hw1) hw2 (b1_block h t)

theorem hat_point : Lifts2 (k0_pay9 (z2V m c t w1 w2)) (fun i j => hat ((inp m c).z2 (256 * t.val + i)) j) :=
  hat_lifts (z2_point h t hw1 hw2)

theorem loss_point : Lifts2 (withTarget m c t (k0_pay11 (F := Ideal)) w1 w2)
    (fun _ _ => 1 / 2 * ∑ i ∈ Finset.range 256, (inp m c).tokLoss (256 * t.val + i)) :=
  loss_lifts (inp m c) (256 * t.val) (g2_block h t) (z2_point h t hw1 hw2) (b2_block h t) (tgt_block h t)

theorem dy_point : Lifts2 (withTarget m c t (k0_pay12 (F := Ideal)) w1 w2) (fun i j => (inp m c).dy (256 * t.val + i) j) :=
  dy_lifts (inp m c) (256 * t.val) (g2_block h t) (z2_point h t hw1 hw2) (b2_block h t) (tgt_block h t)

theorem dz2_point : Lifts2 (wayBack m c t (k0_pay16 (F := Ideal)) w1 w2) (fun i j => (inp m c).dz2 (256 * t.val + i) j) :=
  dz2_lifts (inp m c) (256 * t.val) (g2_block h t) (z2_point h t hw1 hw2) (b2_block h t) (tgt_block h t)

theorem dz2b_point : Lifts2 (wayBack m c t (k0_pay17 (F := Ideal)) w1 w2) (fun i j => (inp m c).dz2 (256 * t.val + i) j) :=
  dz2b_lifts (inp m c) (256 * t.val) (dz2_point h t hw1 hw2)

theorem dpre_point : Lifts2 (wayBack m c t (k0_pay18 (F := Ideal)) w1 w2 w2 (reluV m c t w1))
    (fun i j => (inp m c).dpre (256 * t.val + i) j) :=
  dpre_lifts (inp m c) (256 * t.val) (dz2_point h t hw1 hw2) hw2 (relu_point h t hw1)

theorem dx1_point : Lifts2 (wayBack m c t (k0_pay19 (F := Ideal)) w1 w2 w2 (reluV m c t w1) w1)
    (fun i j => (inp m c).dx1 (256 * t.val + i) j) :=
  dx1_lifts (inp m c) (256 * t.val) (dz2_point h t hw1 hw2) hw2 (relu_point h t hw1) hw1

theorem dz1_point : Lifts2 (k0_pay24 (k0_pay3 (iblk m c 0 t)) (k0_pay20 (iblk m c 1 t))
    (wayBack m c t (k0_pay22 (F := Ideal) (iblk m c 4 t)) w1 w2 w2 (reluV m c t w1) w1)
    (wayBack m c t (k0_pay23 (F := Ideal) (iblk m c 4 t) (k0_pay3 (iblk m c 0 t))) w1 w2 w2 (reluV m c t w1) w1))
    (fun i j => (inp m c).dz1 (256 * t.val + i) j) :=
  dz1_lifts (inp m c) (256 * t.val) (dz2_point h t hw1 hw2) hw2 (relu_point h t hw1) hw1 (g1_block h t)
    ((hat_block h t).cast _) (rstd_block h t)

end Cert.FfnPoint

end
-- ==== Proof.FfnStats.lean ====
/- The sums over the tokens: one grid point adds its 256 tokens to each of the five rows. -/
module

public import proofs.«01_k».proof.Proof.FfnPoint

@[expose] public section

set_option maxRecDepth 16384

noncomputable section

namespace Cert.FfnPoint

open scoped BigOperators

open Idealize.ShloMosaic Idealize.ShloMosaic.TcCoe Idealize.SL.Sem
open Cert.Kernel2Ideal Cert.Kernel2Ideal.Gen Cert.Lift Cert.Ffn Cert.FfnEntry Cert.FfnBlock

/-- The sums over the tokens of one more grid point. -/
theorem stats_next (I : Inputs) (t k j : ℕ) :
    I.stats (256 * t) k j + ∑ i ∈ Finset.range 256, I.statTok k (256 * t + i) j = I.stats (256 * (t + 1)) k j := by
  unfold Inputs.stats
  rw [Nat.mul_add, Nat.mul_one, Finset.sum_range_add]

/-- The last three rows stay empty. -/
theorem stats_empty (I : Inputs) (n k j : ℕ) (hk : 5 ≤ k) : I.stats n k j = 0 := by
  unfold Inputs.stats
  refine Finset.sum_eq_zero fun t _ => ?_
  unfold Inputs.statTok
  rw [if_neg (by omega), if_neg (by omega), if_neg (by omega), if_neg (by omega), if_neg (by omega)]

variable {m : (ℓ : Loc nD τ sig) → Buf (Elt Ideal) ℓ} {c : Dev nD} (h : Real m c) (t : Fin cfg0.N)
  {w1 : FVec Ideal S1024x4096 .bf16} {w2 : FVec Ideal S4096x1024 .bf16}
  (hw1 : Lifts2 w1 (inp m c).w1) (hw2 : Lifts2 w2 (inp m c).w2) {p : FVec Ideal S1x1024 .f32}
include h hw1 hw2

theorem row_g1 (hp : Lifts2 p (fun _ j => (inp m c).stats (256 * t.val) 0 j)) :
    Lifts2 (k0_pay25 (k0_pay3 (iblk m c 0 t)) (wayBack m c t (k0_pay19 (F := Ideal)) w1 w2 w2 (reluV m c t w1) w1) p)
      (fun _ j => (inp m c).stats (256 * (t.val + 1)) 0 j) :=
  (total_g1 hp (dx1_point h t hw1 hw2) ((hat_block h t).cast _)).congr fun _ j _ _ => stats_next (inp m c) t.val 0 j

theorem row_b1 (hp : Lifts2 p (fun _ j => (inp m c).stats (256 * t.val) 1 j)) :
    Lifts2 (k0_pay26 (wayBack m c t (k0_pay19 (F := Ideal)) w1 w2 w2 (reluV m c t w1) w1) p)
      (fun _ j => (inp m c).stats (256 * (t.val + 1)) 1 j) :=
  (total_b1 hp (dx1_point h t hw1 hw2)).congr fun _ j _ _ => stats_next (inp m c) t.val 1 j

theorem row_g2 (hp : Lifts2 p (fun _ j => (inp m c).stats (256 * t.val) 2 j)) :
    Lifts2 (k0_pay27 (k0_pay9 (z2V m c t w1 w2)) (withTarget m c t (k0_pay12 (F := Ideal)) w1 w2) p)
      (fun _ j => (inp m c).stats (256 * (t.val + 1)) 2 j) :=
  (total_g2 hp (dy_point h t hw1 hw2) (hat_point h t hw1 hw2)).congr fun _ j _ _ => stats_next (inp m c) t.val 2 j

theorem row_b2 (hp : Lifts2 p (fun _ j => (inp m c).stats (256 * t.val) 3 j)) :
    Lifts2 (k0_pay28 (withTarget m c t (k0_pay12 (F := Ideal)) w1 w2) p)
      (fun _ j => (inp m c).stats (256 * (t.val + 1)) 3 j) :=
  (total_b2 hp (dy_point h t hw1 hw2)).congr fun _ j _ _ => stats_next (inp m c) t.val 3 j

theorem row_loss (hp : Lifts2 p (fun _ j => (inp m c).stats (256 * t.val) 4 j)) :
    Lifts2 (k0_pay1 (withTarget m c t (k0_pay11 (F := Ideal)) w1 w2) p)
      (fun _ j => (inp m c).stats (256 * (t.val + 1)) 4 j) :=
  (total_loss hp (loss_point h t hw1 hw2)).congr fun _ j _ _ => by
    rw [← stats_next (inp m c) t.val 4 j]
    congr 1
    rw [Finset.mul_sum]
    refine Finset.sum_congr rfl fun i _ => ?_
    show _ = (inp m c).tokLoss (256 * t.val + i) / 2
    ring

end Cert.FfnPoint

end
-- ==== Proof.FfnChunks.lean ====
/- Buffers filled by blocks of columns, by blocks of rows, or by single rows over what they held. -/
module

public import proofs.«01_k».proof.Proof.Pieces

@[expose] public section

set_option maxRecDepth 16384

noncomputable section

namespace Cert.Lift

open Idealize.ShloMosaic Idealize.ShloMosaic.ValueIdx

/-- A buffer whose first `n` columns are filled gets the next `b` columns. -/
theorem columns_step {A B b n : ℕ} {w : FVec Ideal ⟨2, ![A, b]⟩ .bf16} {f : ℕ → ℕ → ℝ}
    {L : List (View.Piece (Elt Ideal) ⟨2, ![A, B]⟩ .bf16)} (hw : Lifts2 w (fun i j => f i (n + j)))
    (inb : ∀ q : Fin 2, (![0, n] : Fin 2 → ℕ) q + (![A, b] : Fin 2 → ℕ) q ≤ (⟨2, ![A, B]⟩ : Shape).size q)
    (h : ∀ y, (y 1).val < n → View.canon (Val := Elt Ideal) L y = ((f (y 0).val (y 1).val : ℝ) : EReal)) :
    ∀ y, (y 1).val < n + b → View.canon (Val := Elt Ideal) (e := .bf16)
      (⟨Rect.unit (s := ⟨2, ![A, B]⟩) ![0, n] ![A, b] inb, w⟩ :: L) y
        = ((f (y 0).val (y 1).val : ℝ) : EReal) := fun y hy => by
  by_cases hm : y ∈ (Rect.unit (s := ⟨2, ![A, B]⟩) ![0, n] ![A, b] inb).set
  · obtain ⟨z, rfl⟩ := (Rect.unit (s := ⟨2, ![A, B]⟩) ![0, n] ![A, b] inb).exists_idx_of_mem hm
    exact (View.canon_cons_emb (Val := Elt Ideal) (e := .bf16) (Rect.unit (s := ⟨2, ![A, B]⟩) ![0, n] ![A, b] inb) w L z).trans
      (Lifts2.piece (A := A) (B := B) (f := f) 0 n (hw.congr fun i j _ _ => by rw [Nat.zero_add]) inb z)
  · have hc : (y 1).val < n := by
      by_contra hc
      refine hm (Rect.mem_set_unit.mpr fun q => ?_)
      have h0 : (y 0).val < A := (y 0).isLt
      match q with
      | ⟨0, _⟩ => exact ⟨Nat.zero_le _, by show (y 0).val < 0 + A; omega⟩
      | ⟨1, _⟩ => exact ⟨by show n ≤ (y 1).val; omega, by show (y 1).val < n + b; omega⟩
    exact (View.canon_cons_of_not_mem ⟨_, w⟩ L hm).trans (h y hc)

/-- A buffer whose first `n` rows are filled gets the next `a` rows. -/
theorem rows_step {A B a n : ℕ} {w : FVec Ideal ⟨2, ![a, B]⟩ .bf16} {f : ℕ → ℕ → ℝ}
    {L : List (View.Piece (Elt Ideal) ⟨2, ![A, B]⟩ .bf16)} (hw : Lifts2 w (fun i j => f (n + i) j))
    (inb : ∀ q : Fin 2, (![n, 0] : Fin 2 → ℕ) q + (![a, B] : Fin 2 → ℕ) q ≤ (⟨2, ![A, B]⟩ : Shape).size q)
    (h : ∀ y, (y 0).val < n → View.canon (Val := Elt Ideal) L y = ((f (y 0).val (y 1).val : ℝ) : EReal)) :
    ∀ y, (y 0).val < n + a → View.canon (Val := Elt Ideal) (e := .bf16)
      (⟨Rect.unit (s := ⟨2, ![A, B]⟩) ![n, 0] ![a, B] inb, w⟩ :: L) y
        = ((f (y 0).val (y 1).val : ℝ) : EReal) := fun y hy => by
  by_cases hm : y ∈ (Rect.unit (s := ⟨2, ![A, B]⟩) ![n, 0] ![a, B] inb).set
  · obtain ⟨z, rfl⟩ := (Rect.unit (s := ⟨2, ![A, B]⟩) ![n, 0] ![a, B] inb).exists_idx_of_mem hm
    exact (View.canon_cons_emb (Val := Elt Ideal) (e := .bf16) (Rect.unit (s := ⟨2, ![A, B]⟩) ![n, 0] ![a, B] inb) w L z).trans
      (Lifts2.piece (A := A) (B := B) (f := f) n 0 (hw.congr fun i j _ _ => by rw [Nat.zero_add]) inb z)
  · have hc : (y 0).val < n := by
      by_contra hc
      refine hm (Rect.mem_set_unit.mpr fun q => ?_)
      have h1 : (y 1).val < B := (y 1).isLt
      match q with
      | ⟨0, _⟩ => exact ⟨by show n ≤ (y 0).val; omega, by show (y 0).val < n + a; omega⟩
      | ⟨1, _⟩ => exact ⟨Nat.zero_le _, by show (y 1).val < 0 + B; omega⟩
    exact (View.canon_cons_of_not_mem ⟨_, w⟩ L hm).trans (h y hc)

/-- A load of a whole two-axis buffer after the stores `L` reads what they leave. -/
theorem readCov_whole {sig : RefSig} {κ : Kind} {sp : Space} {A B : ℕ} (v : View sig κ sp ⟨2, ![A, B]⟩ .bf16)
    (L : List (View.Piece (Elt Ideal) ⟨2, ![A, B]⟩ .bf16)) {f : ℕ → ℕ → ℝ}
    (h : Lifts2 (φ := .bf16) (View.canon (Val := Elt Ideal) L) f)
    (inb : ∀ q : Fin 2, (![0, 0] : Fin 2 → ℕ) q + (![A, B] : Fin 2 → ℕ) q ≤ (⟨2, ![A, B]⟩ : Shape).size q) :
    Lifts2 (φ := .bf16) (a := A) (b := B)
      (v.readCov (Val := Elt Ideal) L (Rect.unit (s := ⟨2, ![A, B]⟩) ![0, 0] ![A, B] inb).toLoadRect) f := by
  rw [View.readCov_eq_canon']
  exact (h.ld 0 0 inb).congr fun i j _ _ => by rw [Nat.zero_add, Nat.zero_add]

/-- The eight rows of sums while row `n` is being stored: the rows below it are the new ones. -/
def mixed (n : ℕ) (f g : ℕ → ℕ → ℝ) (i j : ℕ) : ℝ := if i < n then f i j else g i j

/-- Storing row `n`: `x'` has the stored row there and is `x` elsewhere. -/
theorem mixed_step {n : ℕ} {f g : ℕ → ℕ → ℝ} {x x' : FVec Ideal ⟨2, ![8, 1024]⟩ .f32} {w : FVec Ideal ⟨2, ![1, 1024]⟩ .f32}
    (inb : ∀ q : Fin 2, (![n, 0] : Fin 2 → ℕ) q + (![1, 1024] : Fin 2 → ℕ) q ≤ (⟨2, ![8, 1024]⟩ : Shape).size q)
    (hw : Lifts2 w (fun _ j => f n j)) (hx : Lifts2 x (mixed n f g))
    (hit : ∀ z, x' ((Rect.unit (s := ⟨2, ![8, 1024]⟩) ![n, 0] ![1, 1024] inb).emb z) = w z)
    (miss : ∀ y, y ∉ (Rect.unit (s := ⟨2, ![8, 1024]⟩) ![n, 0] ![1, 1024] inb).set → x' y = x y) :
    Lifts2 x' (mixed (n + 1) f g) := fun y => by
  by_cases hy : y ∈ (Rect.unit (s := ⟨2, ![8, 1024]⟩) ![n, 0] ![1, 1024] inb).set
  · have hn : n ≤ (y 0).val ∧ (y 0).val < n + 1 := (Rect.mem_set_unit.mp hy) 0
    have e : (y 0).val = n := by omega
    obtain ⟨z, rfl⟩ := (Rect.unit (s := ⟨2, ![8, 1024]⟩) ![n, 0] ![1, 1024] inb).exists_idx_of_mem hy
    rw [show x' ((Rect.unit (s := ⟨2, ![8, 1024]⟩) ![n, 0] ![1, 1024] inb).idx z) = w z from hit z, Lifts2.piece (A := 8) (f := fun i j => f i j) n 0
      (hw.congr fun i j hi _ => by rw [Nat.zero_add, show i = 0 by omega, Nat.add_zero]) inb z]
    unfold mixed
    rw [if_pos (by omega)]
    rfl
  · have e : (y 0).val ≠ n := fun e => hy (Rect.mem_set_unit.mpr fun q => by
      have h1 : (y 1).val < 1024 := (y 1).isLt
      match q with
      | ⟨0, _⟩ => exact ⟨e.ge, by show (y 0).val < n + 1; omega⟩
      | ⟨1, _⟩ => exact ⟨Nat.zero_le _, by show (y 1).val < 0 + 1024; omega⟩)
    rw [miss y hy, hx y]
    unfold mixed
    congr 1
    by_cases h : (y 0).val < n
    · rw [if_pos h, if_pos (by omega)]
    · rw [if_neg h, if_neg (by omega)]

/-- Storing row `n` into a buffer of which everything was stored before. -/
theorem canon_row {n : ℕ} {f g : ℕ → ℕ → ℝ} {L : List (View.Piece (Elt Ideal) ⟨2, ![8, 1024]⟩ .f32)}
    {w : FVec Ideal ⟨2, ![1, 1024]⟩ .f32}
    (inb : ∀ q : Fin 2, (![n, 0] : Fin 2 → ℕ) q + (![1, 1024] : Fin 2 → ℕ) q ≤ (⟨2, ![8, 1024]⟩ : Shape).size q)
    (hw : Lifts2 w (fun _ j => f n j)) (hx : Lifts2 (φ := .f32) (View.canon (Val := Elt Ideal) L) (mixed n f g)) :
    Lifts2 (φ := .f32) (View.canon (Val := Elt Ideal) (e := .f32)
      (⟨Rect.unit (s := ⟨2, ![8, 1024]⟩) ![n, 0] ![1, 1024] inb, w⟩ :: L)) (mixed (n + 1) f g) :=
  mixed_step inb hw hx
    (fun z => View.canon_cons_emb (Val := Elt Ideal) (e := .f32) (Rect.unit (s := ⟨2, ![8, 1024]⟩) ![n, 0] ![1, 1024] inb) w L z)
    (fun _ hy => View.canon_cons_of_not_mem _ L hy)

/-- Storing row `n` into a buffer that the point before left filled. -/
theorem write_row {sig : RefSig} {κ : Kind} {sp : Space} {v : View sig κ sp ⟨2, ![8, 1024]⟩ .f32}
    {b : v.ty.Contents (Elt Ideal)} {n : ℕ} {f g : ℕ → ℕ → ℝ} {L : List (View.Piece (Elt Ideal) ⟨2, ![8, 1024]⟩ .f32)}
    {w : FVec Ideal ⟨2, ![1, 1024]⟩ .f32}
    (inb : ∀ q : Fin 2, (![n, 0] : Fin 2 → ℕ) q + (![1, 1024] : Fin 2 → ℕ) q ≤ (⟨2, ![8, 1024]⟩ : Shape).size q)
    (hw : Lifts2 w (fun _ j => f n j))
    (hx : Lifts2 (φ := .f32) (v.read (Elt Ideal) (v.writes (Elt Ideal) b L)) (mixed n f g)) :
    Lifts2 (φ := .f32) (v.read (Elt Ideal) (v.writes (Elt Ideal) b
      (⟨Rect.unit (s := ⟨2, ![8, 1024]⟩) ![n, 0] ![1, 1024] inb, w⟩ :: L))) (mixed (n + 1) f g) :=
  mixed_step inb hw hx
    (fun z => View.read_writes_cons_emb v b (Rect.unit (s := ⟨2, ![8, 1024]⟩) ![n, 0] ![1, 1024] inb) w L z)
    (fun y hy => View.read_writes_cons_miss v b _ L y hy)

end Cert.Lift

end
-- ==== Proof.FfnWeights.lean ====
/- The weights that the first grid point copies into the two scratch buffers, chunk by chunk. -/
module

public import proofs.«01_k».proof.Proof.FfnChunks
public import proofs.«01_k».proof.Proof.FfnEntry

@[expose] public section

set_option maxRecDepth 16384

noncomputable section

namespace Cert.FfnWeights

open Idealize.ShloMosaic Idealize.ShloMosaic.TcCoe Idealize.SL.Sem
open Cert.Kernel2Ideal Cert.Kernel2Ideal.Gen Cert.Lift Cert.Ffn Cert.FfnEntry

/-- A slab of columns has as many entries as the chunk. -/
theorem cols_numel : S1024x256.numel = (⟨3, ![1, 1024, 256]⟩ : Shape).numel := by decide

/-- A slab of rows has as many entries as the chunk. -/
theorem rows_numel : S256x1024.numel = (⟨3, ![1, 256, 1024]⟩ : Shape).numel := by decide

variable (m : (ℓ : Loc nD τ sig) → Buf (Elt Ideal) ℓ) (c : Dev nD)

/-- The copy of an even chunk of the first weights to the columns from `n`. -/
abbrev cols0 (n j : ℕ) (hn : ∀ a, (![0, n] : Fin 2 → ℕ) a + (![1024, 256] : Fin 2 → ℕ) a ≤ S1024x4096.size a)
    (hj : ∀ a, (![j, 0, 0] : Fin 3 → ℕ) a + (![1, 1024, 256] : Fin 3 → ℕ) a ≤ S8x1024x256.size a) :
    View.Piece (Elt Ideal) S1024x4096 .bf16 :=
  ⟨Rect.unit ![0, n] ![1024, 256] hn, ReadAs.same.apply (View.read (Elt Ideal)
    (((View.whole main_v33).slice (Rect.unit ![j, 0, 0] ![1, 1024, 256] hj)).reshape S1024x256 cols_numel) (V m c main_v33))⟩

/-- The copy of an odd chunk of the first weights. -/
abbrev cols1 (n j : ℕ) (hn : ∀ a, (![0, n] : Fin 2 → ℕ) a + (![1024, 256] : Fin 2 → ℕ) a ≤ S1024x4096.size a)
    (hj : ∀ a, (![j, 0, 0] : Fin 3 → ℕ) a + (![1, 1024, 256] : Fin 3 → ℕ) a ≤ S8x1024x256.size a) :
    View.Piece (Elt Ideal) S1024x4096 .bf16 :=
  ⟨Rect.unit ![0, n] ![1024, 256] hn, ReadAs.same.apply (View.read (Elt Ideal)
    (((View.whole main_v36).slice (Rect.unit ![j, 0, 0] ![1, 1024, 256] hj)).reshape S1024x256 cols_numel) (V m c main_v36))⟩

/-- The copy of an even chunk of the second weights to the rows from `n`. -/
abbrev rows0 (n j : ℕ) (hn : ∀ a, (![n, 0] : Fin 2 → ℕ) a + (![256, 1024] : Fin 2 → ℕ) a ≤ S4096x1024.size a)
    (hj : ∀ a, (![j, 0, 0] : Fin 3 → ℕ) a + (![1, 256, 1024] : Fin 3 → ℕ) a ≤ S8x256x1024.size a) :
    View.Piece (Elt Ideal) S4096x1024 .bf16 :=
  ⟨Rect.unit ![n, 0] ![256, 1024] hn, ReadAs.same.apply (View.read (Elt Ideal)
    (((View.whole main_v38).slice (Rect.unit ![j, 0, 0] ![1, 256, 1024] hj)).reshape S256x1024 rows_numel) (V m c main_v38))⟩

/-- The copy of an odd chunk of the second weights. -/
abbrev rows1 (n j : ℕ) (hn : ∀ a, (![n, 0] : Fin 2 → ℕ) a + (![256, 1024] : Fin 2 → ℕ) a ≤ S4096x1024.size a)
    (hj : ∀ a, (![j, 0, 0] : Fin 3 → ℕ) a + (![1, 256, 1024] : Fin 3 → ℕ) a ≤ S8x256x1024.size a) :
    View.Piece (Elt Ideal) S4096x1024 .bf16 :=
  ⟨Rect.unit ![n, 0] ![256, 1024] hn, ReadAs.same.apply (View.read (Elt Ideal)
    (((View.whole main_v40).slice (Rect.unit ![j, 0, 0] ![1, 256, 1024] hj)).reshape S256x1024 rows_numel) (V m c main_v40))⟩

/-- The sixteen copies of the first weights, the last one first. -/
abbrev copies1 : List (View.Piece (Elt Ideal) S1024x4096 .bf16) :=
  [cols1 m c 3840 7 (by decide) (by decide), cols0 m c 3584 7 (by decide) (by decide),
   cols1 m c 3328 6 (by decide) (by decide), cols0 m c 3072 6 (by decide) (by decide),
   cols1 m c 2816 5 (by decide) (by decide), cols0 m c 2560 5 (by decide) (by decide),
   cols1 m c 2304 4 (by decide) (by decide), cols0 m c 2048 4 (by decide) (by decide),
   cols1 m c 1792 3 (by decide) (by decide), cols0 m c 1536 3 (by decide) (by decide),
   cols1 m c 1280 2 (by decide) (by decide), cols0 m c 1024 2 (by decide) (by decide),
   cols1 m c 768 1 (by decide) (by decide), cols0 m c 512 1 (by decide) (by decide),
   cols1 m c 256 0 (by decide) (by decide), cols0 m c 0 0 (by decide) (by decide)]

/-- The sixteen copies of the second weights. -/
abbrev copies2 : List (View.Piece (Elt Ideal) S4096x1024 .bf16) :=
  [rows1 m c 3840 7 (by decide) (by decide), rows0 m c 3584 7 (by decide) (by decide),
   rows1 m c 3328 6 (by decide) (by decide), rows0 m c 3072 6 (by decide) (by decide),
   rows1 m c 2816 5 (by decide) (by decide), rows0 m c 2560 5 (by decide) (by decide),
   rows1 m c 2304 4 (by decide) (by decide), rows0 m c 2048 4 (by decide) (by decide),
   rows1 m c 1792 3 (by decide) (by decide), rows0 m c 1536 3 (by decide) (by decide),
   rows1 m c 1280 2 (by decide) (by decide), rows0 m c 1024 2 (by decide) (by decide),
   rows1 m c 768 1 (by decide) (by decide), rows0 m c 512 1 (by decide) (by decide),
   rows1 m c 256 0 (by decide) (by decide), rows0 m c 0 0 (by decide) (by decide)]

variable {m c} (h : Real m c)
include h

theorem cols0_lifts (n j : ℕ) (e : n = 512 * j + 256 * 0) (hn) (hj) :
    Lifts2 (a := 1024) (b := 256) (φ := .bf16) (cols0 m c n j hn hj).2 (fun i k => (inp m c).w1 i (n + k)) := by
  subst e
  exact ((w1_even h).ld j hj).slab _

theorem cols1_lifts (n j : ℕ) (e : n = 512 * j + 256 * 1) (hn) (hj) :
    Lifts2 (a := 1024) (b := 256) (φ := .bf16) (cols1 m c n j hn hj).2 (fun i k => (inp m c).w1 i (n + k)) := by
  subst e
  exact ((w1_odd h).ld j hj).slab _

theorem rows0_lifts (n j : ℕ) (e : n = 512 * j + 256 * 0) (hn) (hj) :
    Lifts2 (a := 256) (b := 1024) (φ := .bf16) (rows0 m c n j hn hj).2 (fun i k => (inp m c).w2 (n + i) k) := by
  subst e
  exact ((w2_even h).ld j hj).slab _

theorem rows1_lifts (n j : ℕ) (e : n = 512 * j + 256 * 1) (hn) (hj) :
    Lifts2 (a := 256) (b := 1024) (φ := .bf16) (rows1 m c n j hn hj).2 (fun i k => (inp m c).w2 (n + i) k) := by
  subst e
  exact ((w2_odd h).ld j hj).slab _

/-- Two more chunks of columns. -/
theorem cols_pair (n n' j : ℕ) (e : n = 512 * j + 256 * 0) (e' : n' = n + 256) (hn) (hn') (hj)
    {L : List (View.Piece (Elt Ideal) S1024x4096 .bf16)}
    (hL : ∀ y, (y 1).val < n → View.canon (Val := Elt Ideal) L y = (((inp m c).w1 (y 0).val (y 1).val : ℝ) : EReal)) :
    ∀ y, (y 1).val < n' + 256 → View.canon (Val := Elt Ideal) (cols1 m c n' j hn' hj :: cols0 m c n j hn hj :: L) y
      = (((inp m c).w1 (y 0).val (y 1).val : ℝ) : EReal) := by
  subst e'
  exact columns_step (cols1_lifts h (n + 256) j (by omega) hn' hj) hn'
    (columns_step (cols0_lifts h n j e hn hj) hn hL)

/-- Two more chunks of rows. -/
theorem rows_pair (n n' j : ℕ) (e : n = 512 * j + 256 * 0) (e' : n' = n + 256) (hn) (hn') (hj)
    {L : List (View.Piece (Elt Ideal) S4096x1024 .bf16)}
    (hL : ∀ y, (y 0).val < n → View.canon (Val := Elt Ideal) L y = (((inp m c).w2 (y 0).val (y 1).val : ℝ) : EReal)) :
    ∀ y, (y 0).val < n' + 256 → View.canon (Val := Elt Ideal) (rows1 m c n' j hn' hj :: rows0 m c n j hn hj :: L) y
      = (((inp m c).w2 (y 0).val (y 1).val : ℝ) : EReal) := by
  subst e'
  exact rows_step (rows1_lifts h (n + 256) j (by omega) hn' hj) hn'
    (rows_step (rows0_lifts h n j e hn hj) hn hL)

/-- The first weights are in place. -/
theorem copied1 : Lifts2 (φ := .bf16) (View.canon (Val := Elt Ideal) (copies1 m c)) (inp m c).w1 := fun y =>
  cols_pair h 3584 3840 7 (by decide) (by decide) _ _ _
    (cols_pair h 3072 3328 6 (by decide) (by decide) _ _ _
      (cols_pair h 2560 2816 5 (by decide) (by decide) _ _ _
        (cols_pair h 2048 2304 4 (by decide) (by decide) _ _ _
          (cols_pair h 1536 1792 3 (by decide) (by decide) _ _ _
            (cols_pair h 1024 1280 2 (by decide) (by decide) _ _ _
              (cols_pair h 512 768 1 (by decide) (by decide) _ _ _
                (cols_pair h 0 256 0 (by decide) (by decide) _ _ _ (L := [])
                  (fun y hy => absurd hy (Nat.not_lt_zero _))))))))) y (y 1).isLt

/-- The second weights are in place. -/
theorem copied2 : Lifts2 (φ := .bf16) (View.canon (Val := Elt Ideal) (copies2 m c)) (inp m c).w2 := fun y =>
  rows_pair h 3584 3840 7 (by decide) (by decide) _ _ _
    (rows_pair h 3072 3328 6 (by decide) (by decide) _ _ _
      (rows_pair h 2560 2816 5 (by decide) (by decide) _ _ _
        (rows_pair h 2048 2304 4 (by decide) (by decide) _ _ _
          (rows_pair h 1536 1792 3 (by decide) (by decide) _ _ _
            (rows_pair h 1024 1280 2 (by decide) (by decide) _ _ _
              (rows_pair h 512 768 1 (by decide) (by decide) _ _ _
                (rows_pair h 0 256 0 (by decide) (by decide) _ _ _ (L := [])
                  (fun y hy => absurd hy (Nat.not_lt_zero _))))))))) y (y 0).isLt

end Cert.FfnWeights

end
-- ==== Proof.FfnCases.lean ====
/- What each grid point of the feed-forward call leaves in the results' blocks, in the sums and in the scratch buffers. -/
module

public import proofs.«01_k».proof.Proof.FfnOut
public import proofs.«01_k».proof.Proof.FfnStats
public import proofs.«01_k».proof.Proof.FfnWeights
public import Idealize.ShloMosaic.Lib.Pipeline.ValueKit
public import Idealize.ShloMosaic.Lib.Pipeline.ReadBack

@[expose] public section

set_option maxRecDepth 16384
set_option maxHeartbeats 4000000

noncomputable section

namespace Cert.FfnCases

open Idealize.ShloMosaic Idealize.ShloMosaic.TcCoe Idealize.SL.Sem
open Cert.Kernel2Ideal Cert.Kernel2Ideal.Gen Cert.Lift Cert.Ffn Cert.FfnEntry Cert.FfnPoint Cert.FfnWeights Cert.FfnRun

variable {m : (ℓ : Loc nD τ sig) → Buf (Elt Ideal) ℓ} {c : Dev nD} (h : Real m c) (t : Fin cfg0.N)
include h

/-- A load of the first weights after the copies reads the weights. -/
theorem loaded1 (inb) : Lifts2 (φ := .bf16) (a := 1024) (b := 4096) ((View.whole cc0_scratch1).readCov (Val := Elt Ideal) (copies1 m c)
    (Rect.unit (s := S1024x4096) ![0, 0] ![1024, 4096] inb).toLoadRect) (inp m c).w1 :=
  readCov_whole _ _ (copied1 h) inb

/-- A load of the second weights after the copies. -/
theorem loaded2 (inb) : Lifts2 (φ := .bf16) (a := 4096) (b := 1024) ((View.whole cc0_scratch2).readCov (Val := Elt Ideal) (copies2 m c)
    (Rect.unit (s := S4096x1024) ![0, 0] ![4096, 1024] inb).toLoadRect) (inp m c).w2 :=
  readCov_whole _ _ (copied2 h) inb

section first
variable (h0 : t.val % 16 = 0)
include h0

/-- The first point leaves the first weights in their scratch buffer. -/
theorem w1_A : Lifts2 (φ := .bf16) (outsAt0 m c t.val t.isLt).2.2.2.2.2.1 (inp m c).w1 := by
  rw [outsAt0_A m c t h0]
  frame_open
  try simp (disch := decide) only [↓ View.readCov_skip, ↓ View.readCov_cons_toLoadRect, ↓ View.readCov_fill]
  frame_out
  try simp only [read_unread_whole]
  exact copied1 h

/-- The first point leaves the second weights in their scratch buffer. -/
theorem w2_A : Lifts2 (φ := .bf16) (outsAt0 m c t.val t.isLt).2.2.2.2.2.2 (inp m c).w2 := by
  rw [outsAt0_A m c t h0]
  frame_open
  try simp (disch := decide) only [↓ View.readCov_skip, ↓ View.readCov_cons_toLoadRect, ↓ View.readCov_fill]
  frame_out
  try simp only [read_unread_whole]
  exact copied2 h

/-- The first point's activations. -/
theorem act_A : Lifts2 (φ := .bf16) (outsAt0 m c t.val t.isLt).1 (fun i j => (inp m c).act (256 * t.val + i) j) := by
  rw [outsAt0_A m c t h0]
  frame_open
  try simp (disch := decide) only [↓ View.readCov_skip, ↓ View.readCov_cons_toLoadRect, ↓ View.readCov_fill]
  frame_out
  try simp only [read_unread_whole]
  exact act_point h t (loaded1 h _)

/-- The first point's gradients before the positive part. -/
theorem dpre_A : Lifts2 (φ := .bf16) (outsAt0 m c t.val t.isLt).2.1 (fun i j => (inp m c).dpre (256 * t.val + i) j) := by
  rw [outsAt0_A m c t h0]
  frame_open
  try simp (disch := decide) only [↓ View.readCov_skip, ↓ View.readCov_cons_toLoadRect, ↓ View.readCov_fill]
  frame_out
  try simp only [read_unread_whole]
  exact dpre_point h t (loaded1 h _) (loaded2 h _)

/-- The first point's gradients of the net's output. -/
theorem dz2_A : Lifts2 (φ := .bf16) (outsAt0 m c t.val t.isLt).2.2.1 (fun i j => (inp m c).dz2 (256 * t.val + i) j) := by
  rw [outsAt0_A m c t h0]
  frame_open
  try simp (disch := decide) only [↓ View.readCov_skip, ↓ View.readCov_cons_toLoadRect, ↓ View.readCov_fill]
  frame_out
  try simp only [read_unread_whole]
  exact dz2b_point h t (loaded1 h _) (loaded2 h _)

/-- The first point's gradients of the call's input. -/
theorem dz1_A : Lifts2 (φ := .f32) (outsAt0 m c t.val t.isLt).2.2.2.1 (fun i j => (inp m c).dz1 (256 * t.val + i) j) := by
  rw [outsAt0_A m c t h0]
  frame_open
  try simp (disch := decide) only [↓ View.readCov_skip, ↓ View.readCov_cons_toLoadRect, ↓ View.readCov_fill]
  frame_out
  try simp only [read_unread_whole]
  exact dz1_point h t (loaded1 h _) (loaded2 h _)

omit h0 in
/-- The empty sums that the first point starts from. -/
theorem sums_start : Lifts2 (φ := .f32) (k0_pay2 (F := Ideal)) (fun i j => (inp m c).stats (256 * 0) i j) :=
  (Lifts2.splat (by show Ideal.ofBits .f32 0x00000000#32 = _; simp) : Lifts2 (φ := .f32) (k0_pay2 (F := Ideal)) (fun _ _ => 0)).congr
    fun i j _ _ => by unfold Inputs.stats; simp

/-- The first point's sums. -/
theorem sums_A : Lifts2 (φ := .f32) (outsAt0 m c t.val t.isLt).2.2.2.2.1 (mixed 5
    (fun i j => (inp m c).stats (256 * (t.val + 1)) i j) (fun i j => (inp m c).stats (256 * t.val) i j)) := by
  have z : Lifts2 (φ := .f32) (k0_pay2 (F := Ideal)) (fun i j => (inp m c).stats (256 * t.val) i j) := by
    have e : t.val = 0 := by have : t.val < 16 := t.isLt; omega
    rw [e]
    exact sums_start h
  rw [outsAt0_A m c t h0]
  frame_open
  try simp (disch := decide) only [↓ View.readCov_skip, ↓ View.readCov_cons_toLoadRect, ↓ View.readCov_fill]
  frame_out
  try simp only [read_unread_whole]
  refine canon_row _ (row_loss h t (loaded1 h _) (loaded2 h _) (z.ldRow 4 _))
    (canon_row _ (row_b2 h t (loaded1 h _) (loaded2 h _) (z.ldRow 3 _))
      (canon_row _ (row_g2 h t (loaded1 h _) (loaded2 h _) (z.ldRow 2 _))
        (canon_row _ (row_b1 h t (loaded1 h _) (loaded2 h _) (z.ldRow 1 _))
          (canon_row _ (row_g1 h t (loaded1 h _) (loaded2 h _) (z.ldRow 0 _)) ?_))))
  rw [View.canon_cons_unit_lit _ _ _ fun q => by
    match q with
    | ⟨0, _⟩ => rfl
    | ⟨1, _⟩ => rfl]
  exact z

end first

section later
variable (h0 : ¬t.val % 16 = 0) (ht)
  (p1 : Lifts2 (φ := .bf16) (outsAt0 m c (t.val - 1) ht).2.2.2.2.2.1 (inp m c).w1)
  (p2 : Lifts2 (φ := .bf16) (outsAt0 m c (t.val - 1) ht).2.2.2.2.2.2 (inp m c).w2)
include h0 p1

/-- A later point keeps the first weights. -/
theorem w1_B : Lifts2 (φ := .bf16) (outsAt0 m c t.val t.isLt).2.2.2.2.2.1 (inp m c).w1 := by
  rw [outsAt0_B m c t h0]
  frame_open
  exact p1

/-- A later point's activations. -/
theorem act_B : Lifts2 (φ := .bf16) (outsAt0 m c t.val t.isLt).1 (fun i j => (inp m c).act (256 * t.val + i) j) := by
  rw [outsAt0_B m c t h0]
  frame_open
  try simp (disch := decide) only [↓ View.readCov_skip, ↓ View.readCov_cons_toLoadRect, ↓ View.readCov_fill]
  frame_out
  try simp only [read_unread_whole]
  exact act_point h t p1

include p2

/-- A later point's gradients before the positive part. -/
theorem dpre_B : Lifts2 (φ := .bf16) (outsAt0 m c t.val t.isLt).2.1 (fun i j => (inp m c).dpre (256 * t.val + i) j) := by
  rw [outsAt0_B m c t h0]
  frame_open
  try simp (disch := decide) only [↓ View.readCov_skip, ↓ View.readCov_cons_toLoadRect, ↓ View.readCov_fill]
  frame_out
  try simp only [read_unread_whole]
  exact dpre_point h t p1 p2

/-- A later point's gradients of the net's output. -/
theorem dz2_B : Lifts2 (φ := .bf16) (outsAt0 m c t.val t.isLt).2.2.1 (fun i j => (inp m c).dz2 (256 * t.val + i) j) := by
  rw [outsAt0_B m c t h0]
  frame_open
  try simp (disch := decide) only [↓ View.readCov_skip, ↓ View.readCov_cons_toLoadRect, ↓ View.readCov_fill]
  frame_out
  try simp only [read_unread_whole]
  exact dz2b_point h t p1 p2

/-- A later point's gradients of the call's input. -/
theorem dz1_B : Lifts2 (φ := .f32) (outsAt0 m c t.val t.isLt).2.2.2.1 (fun i j => (inp m c).dz1 (256 * t.val + i) j) := by
  rw [outsAt0_B m c t h0]
  frame_open
  try simp (disch := decide) only [↓ View.readCov_skip, ↓ View.readCov_cons_toLoadRect, ↓ View.readCov_fill]
  frame_out
  try simp only [read_unread_whole]
  exact dz1_point h t p1 p2

/-- A later point's sums, from the sums that the point before left. -/
theorem sums_B (z : Lifts2 (φ := .f32) (outsAt0 m c (t.val - 1) ht).2.2.2.2.1
      (fun i j => (inp m c).stats (256 * t.val) i j)) :
    Lifts2 (φ := .f32) (outsAt0 m c t.val t.isLt).2.2.2.2.1 (mixed 5
      (fun i j => (inp m c).stats (256 * (t.val + 1)) i j) (fun i j => (inp m c).stats (256 * t.val) i j)) := by
  rw [outsAt0_B m c t h0]
  frame_open
  try simp (disch := decide) only [↓ View.readCov_skip, ↓ View.readCov_cons_toLoadRect, ↓ View.readCov_fill]
  frame_out
  try simp only [read_unread_whole]
  refine write_row _ (row_loss h t p1 p2 (z.ldRow 4 _)) (write_row _ (row_b2 h t p1 p2 (z.ldRow 3 _))
    (write_row _ (row_g2 h t p1 p2 (z.ldRow 2 _)) (write_row _ (row_b1 h t p1 p2 (z.ldRow 1 _))
      (write_row _ (row_g1 h t p1 p2 (z.ldRow 0 _)) ?_))))
  show Lifts2 (φ := .f32) (View.read (Elt Ideal) (ms0_12 t).view ((hs0_12 t).unread _)) _
  rw [(hs0_12 t).read_unread]
  exact z

omit p1 in
/-- A later point keeps the second weights. -/
theorem w2_B : Lifts2 (φ := .bf16) (outsAt0 m c t.val t.isLt).2.2.2.2.2.2 (inp m c).w2 := by
  rw [outsAt0_B m c t h0]
  frame_open
  exact p2

end later

end Cert.FfnCases

end
-- ==== Proof.FfnArrays.lean ====
/- What the feed-forward call's results hold, from what each grid point leaves. -/
module

public import proofs.«01_k».proof.Proof.FfnCases
public import proofs.«01_k».proof.Proof.FfnRun
public import proofs.«01_k».proof.Proof.RefOps

@[expose] public section

set_option maxRecDepth 16384

noncomputable section

namespace Cert.FfnArrays

open Idealize.ShloMosaic Idealize.ShloMosaic.TcCoe Idealize.SL.Sem
open Cert.Kernel2Ideal Cert.Kernel2Ideal.Gen Cert.Lift Cert.RefOps Cert.Ffn Cert.FfnEntry Cert.FfnCases Cert.FfnRun

variable {m : (ℓ : Loc nD τ sig) → Buf (Elt Ideal) ℓ} {c : Dev nD} (h : Real m c)

/-- Which block of the activations a grid point writes. -/
theorem index8 : ∀ t : Fin cfg0.N, win0_8.index t 0 = t.val ∧ win0_8.index t 1 = 0 :=
  (by decide +kernel : ∀ t : Fin grid0.N, win0_8.index t 0 = t.val ∧ win0_8.index t 1 = 0)

/-- Which block of the gradients before the positive part. -/
theorem index9 : ∀ t : Fin cfg0.N, win0_9.index t 0 = t.val ∧ win0_9.index t 1 = 0 :=
  (by decide +kernel : ∀ t : Fin grid0.N, win0_9.index t 0 = t.val ∧ win0_9.index t 1 = 0)

/-- Which block of the gradients of the net's output. -/
theorem index10 : ∀ t : Fin cfg0.N, win0_10.index t 0 = t.val ∧ win0_10.index t 1 = 0 :=
  (by decide +kernel : ∀ t : Fin grid0.N, win0_10.index t 0 = t.val ∧ win0_10.index t 1 = 0)

/-- Which block of the gradients of the call's input. -/
theorem index11 : ∀ t : Fin cfg0.N, win0_11.index t 0 = t.val ∧ win0_11.index t 1 = 0 :=
  (by decide +kernel : ∀ t : Fin grid0.N, win0_11.index t 0 = t.val ∧ win0_11.index t 1 = 0)

/-- An entry at the same place of a two-axis function. -/
theorem at_place (f : ℕ → ℕ → ℝ) {a a' b b' : ℕ} (ha : a = a') (hb : b = b') :
    ((f a b : ℝ) : EReal) = ((f a' b' : ℝ) : EReal) := by
  rw [ha, hb]

include h

/-- Every point finds the weights in the scratch buffers, and leaves them there. -/
theorem weights (n : ℕ) (hn : n < cfg0.N) : Lifts2 (φ := .bf16) (outsAt0 m c n hn).2.2.2.2.2.1 (inp m c).w1
    ∧ Lifts2 (φ := .bf16) (outsAt0 m c n hn).2.2.2.2.2.2 (inp m c).w2 := by
  have hN : n < 16 := hn
  induction n with
  | zero => exact ⟨w1_A h ⟨0, hn⟩ rfl, w2_A h ⟨0, hn⟩ rfl⟩
  | succ n ih =>
    have ht : n < cfg0.N := by show n < 16; omega
    have p := ih ht (by omega)
    have h0 : ¬(n + 1) % 16 = 0 := by omega
    exact ⟨w1_B h ⟨n + 1, hn⟩ h0 ht p.1, w2_B h ⟨n + 1, hn⟩ h0 ht p.2⟩

/-- The sums after the tokens of the points so far. -/
theorem sums (n : ℕ) (hn : n < cfg0.N) : Lifts2 (φ := .f32) (outsAt0 m c n hn).2.2.2.2.1
    (fun i j => (inp m c).stats (256 * (n + 1)) i j) := by
  have full : ∀ t, ∀ i j, i < 8 → j < 1024 → mixed 5 (fun i j => (inp m c).stats (256 * (t + 1)) i j)
      (fun i j => (inp m c).stats (256 * t) i j) i j = (inp m c).stats (256 * (t + 1)) i j := fun t i j _ _ => by
    unfold mixed
    by_cases hi : i < 5
    · rw [if_pos hi]
    · rw [if_neg hi]
      exact (FfnPoint.stats_empty (inp m c) _ i j (not_lt.mp hi)).trans (FfnPoint.stats_empty (inp m c) _ i j (not_lt.mp hi)).symm
  have hN : n < 16 := hn
  induction n with
  | zero => exact (sums_A h ⟨0, hn⟩ rfl).congr (full 0)
  | succ n ih =>
    have ht : n < cfg0.N := by show n < 16; omega
    have h0 : ¬(n + 1) % 16 = 0 := by omega
    have p := weights h n ht
    exact (sums_B h ⟨n + 1, hn⟩ h0 ht p.1 p.2 (ih ht (by omega))).congr (full (n + 1))

/-- Every point's activations. -/
theorem act_at (t : Fin cfg0.N) :
    Lifts2 (φ := .bf16) (outsAt0 m c t.val t.isLt).1 (fun i j => (inp m c).act (256 * t.val + i) j) := by
  by_cases h0 : t.val % 16 = 0
  · exact act_A h t h0
  · have ht : t.val - 1 < cfg0.N := Nat.lt_of_le_of_lt (Nat.sub_le _ _) t.isLt
    exact act_B h t h0 ht (weights h _ ht).1

/-- Every point's gradients before the positive part. -/
theorem dpre_at (t : Fin cfg0.N) :
    Lifts2 (φ := .bf16) (outsAt0 m c t.val t.isLt).2.1 (fun i j => (inp m c).dpre (256 * t.val + i) j) := by
  by_cases h0 : t.val % 16 = 0
  · exact dpre_A h t h0
  · have ht : t.val - 1 < cfg0.N := Nat.lt_of_le_of_lt (Nat.sub_le _ _) t.isLt
    exact dpre_B h t h0 ht (weights h _ ht).1 (weights h _ ht).2

/-- Every point's gradients of the net's output. -/
theorem dz2_at (t : Fin cfg0.N) :
    Lifts2 (φ := .bf16) (outsAt0 m c t.val t.isLt).2.2.1 (fun i j => (inp m c).dz2 (256 * t.val + i) j) := by
  by_cases h0 : t.val % 16 = 0
  · exact dz2_A h t h0
  · have ht : t.val - 1 < cfg0.N := Nat.lt_of_le_of_lt (Nat.sub_le _ _) t.isLt
    exact dz2_B h t h0 ht (weights h _ ht).1 (weights h _ ht).2

/-- Every point's gradients of the call's input. -/
theorem dz1_at (t : Fin cfg0.N) :
    Lifts2 (φ := .bf16) (outsAt0 m c t.val t.isLt).2.2.2.1 (fun i j => (inp m c).dz1 (256 * t.val + i) j) := by
  by_cases h0 : t.val % 16 = 0
  · exact dz1_A h t h0
  · have ht : t.val - 1 < cfg0.N := Nat.lt_of_le_of_lt (Nat.sub_le _ _) t.isLt
    exact dz1_B h t h0 ht (weights h _ ht).1 (weights h _ ht).2

/-- The activations. -/
theorem act_holds : Holds (s := S4096x4096) ((dats m 0 c).arrAt 8 cfg0.N) (fun i => (inp m c).act (i 0).val (i 1).val) := by
  refine congrFun ((dats m 0 c).arrAt_eq_of_covers 8 (fun i : S4096x4096.Idx => (((inp m c).act (i 0).val (i 1).val : ℝ) : EReal))
    (by decide +kernel) fun t hf y => ?_)
  blk_simp
  rw [after0_8]
  have e := index8 t
  refine (act_at h t y).trans (at_place (inp m c).act ?_ ?_)
  · show 256 * t.val + (y 0).val = win0_8.index t 0 * 256 + (y 0).val
    rw [e.1]; omega
  · show (y 1).val = win0_8.index t 1 * 4096 + (y 1).val
    rw [e.2]; omega

/-- The gradients before the positive part. -/
theorem dpre_holds : Holds (s := S4096x4096) ((dats m 0 c).arrAt 9 cfg0.N) (fun i => (inp m c).dpre (i 0).val (i 1).val) := by
  refine congrFun ((dats m 0 c).arrAt_eq_of_covers 9 (fun i : S4096x4096.Idx => (((inp m c).dpre (i 0).val (i 1).val : ℝ) : EReal))
    (by decide +kernel) fun t hf y => ?_)
  blk_simp
  rw [after0_9]
  have e := index9 t
  refine (dpre_at h t y).trans (at_place (inp m c).dpre ?_ ?_)
  · show 256 * t.val + (y 0).val = win0_9.index t 0 * 256 + (y 0).val
    rw [e.1]; omega
  · show (y 1).val = win0_9.index t 1 * 4096 + (y 1).val
    rw [e.2]; omega

/-- The gradients of the net's output. -/
theorem dz2_holds : Holds (s := S4096x1024) ((dats m 0 c).arrAt 10 cfg0.N) (fun i => (inp m c).dz2 (i 0).val (i 1).val) := by
  refine congrFun ((dats m 0 c).arrAt_eq_of_covers 10 (fun i : S4096x1024.Idx => (((inp m c).dz2 (i 0).val (i 1).val : ℝ) : EReal))
    (by decide +kernel) fun t hf y => ?_)
  blk_simp
  rw [after0_10]
  have e := index10 t
  refine (dz2_at h t y).trans (at_place (inp m c).dz2 ?_ ?_)
  · show 256 * t.val + (y 0).val = win0_10.index t 0 * 256 + (y 0).val
    rw [e.1]; omega
  · show (y 1).val = win0_10.index t 1 * 1024 + (y 1).val
    rw [e.2]; omega

/-- The gradients of the call's input. -/
theorem dz1_holds : Holds (s := S4096x1024) ((dats m 0 c).arrAt 11 cfg0.N) (fun i => (inp m c).dz1 (i 0).val (i 1).val) := by
  refine congrFun ((dats m 0 c).arrAt_eq_of_covers 11 (fun i : S4096x1024.Idx => (((inp m c).dz1 (i 0).val (i 1).val : ℝ) : EReal))
    (by decide +kernel) fun t hf y => ?_)
  blk_simp
  rw [after0_11]
  have e := index11 t
  refine (dz1_at h t y).trans (at_place (inp m c).dz1 ?_ ?_)
  · show 256 * t.val + (y 0).val = win0_11.index t 0 * 256 + (y 0).val
    rw [e.1]; omega
  · show (y 1).val = win0_11.index t 1 * 1024 + (y 1).val
    rw [e.2]; omega

omit h in
/-- The sums are what the last point leaves. -/
theorem sums_array : (dats m 0 c).arrAt 12 cfg0.N = (outsAt0 m c 15 (by decide)).2.2.2.2.1 := by
  refine (dats m 0 c).arrAt_eq_of_after_last 12 t0_15 (by decide +kernel) _ fun j => ?_
  blk_simp
  rw [after0_12]
  rfl

/-- The sums over all tokens. -/
theorem sums_holds : Holds (s := S8x1024) ((dats m 0 c).arrAt 12 cfg0.N) (fun i => (inp m c).stats 4096 (i 0).val (i 1).val) := by
  rw [sums_array]
  exact sums h 15 (by decide)

end Cert.FfnArrays

end
-- ==== Proof.FfnRefBack.lean ====
/- The reference's way back: through the second normalisation, the net and the first normalisation. -/
module

public import proofs.«01_k».proof.Proof.FfnRef

@[expose] public section

set_option maxRecDepth 16384

noncomputable section

open scoped BigOperators

namespace Cert.FfnRef

open Idealize.ShloMosaic Cert.Reference2Ideal Cert.Reference2Ideal.Read Cert.Lift Cert.RefOps Cert.Ffn
open Cert.Model (eps)

/-- A column's entry is the row's. -/
theorem column_index (i : S4096x1.Idx) : (i 0).val * 1 + (i 1).val = (i 0).val := by
  have h1 : (i 1).val < 1 := (i 1).isLt
  omega

/-- A row's entry is the column's. -/
theorem row_index (i : S1x1024.Idx) (f : ℕ → ℝ) : f ((i 0).val * 1024 + (i 1).val) = f (i 1).val := by
  have h0 : (i 0).val < 1 := (i 0).isLt
  exact congrArg f (by omega)

/-- The weight of the sum of centred entries times cotangents, before the factor of the centred entry. -/
def through (z d : ℕ → ℝ) : ℝ :=
  (∑ k ∈ Finset.range 1024, cen z k * d k) * (-(1 / 2) * (rstd z / vareps z)) / 1024

/-- The three terms of the reference are the way back. -/
theorem through_back (z d : ℕ → ℝ) (c : ℕ) :
    d c * rstd z + through z d * (2 * cen z c)
      + ((∑ k ∈ Finset.range 1024, -(d k * rstd z)) + ∑ k ∈ Finset.range 1024, -(through z d * (2 * cen z k))) / 1024
      = back z d c := back_terms z d c

variable {I : Inputs} {x0 x1 : S1x4096x1024.Idx → EReal} {x2 : S1x1024x4096.Idx → EReal}
  {x3 : S1x4096x1024.Idx → EReal} {x4 x5 x6 x7 : S1x1024.Idx → EReal}

section
variable (A : Args I x0 x1 x2 x3 x4 x5 x6 x7)
include A

/-- The gradient of the second shift. -/
theorem r95 : Holds (val_main_v95 (F := Ideal) x0 x1 x2 x3 x4 x5 x6 x7) (fun i => ∑ t ∈ Finset.range 4096, I.dy t (i 0).val) :=
  have s := ((r92 A).sum word_zero (val_main_v93_apply x0 x1 x2 x3 x4 x5 x6 x7)).congr fun i => sum_fin 4096 (fun t => I.dy t (i 0).val)
  have e := (s.at (val_main_v94_apply (F := Ideal) x0 x1 x2 x3 x4 x5 x6 x7)).congr fun i => row_index i (fun c => ∑ t ∈ Finset.range 4096, I.dy t c)
  (e.sum word_zero (val_main_v95_apply x0 x1 x2 x3 x4 x5 x6 x7)).congr fun i => Fin.sum_univ_one _

/-- The gradient of the second scale. -/
theorem r101 : Holds (val_main_v101 (F := Ideal) x0 x1 x2 x3 x4 x5 x6 x7) (fun i => ∑ t ∈ Finset.range 4096, I.dy t (i 0).val * hat (I.z2 t) (i 0).val) :=
  have s := (((r71 A).mul (r92 A)).sum word_zero (val_main_v97_apply x0 x1 x2 x3 x4 x5 x6 x7)).congr fun i =>
    (sum_fin 4096 (fun t => hat (I.z2 t) (i 0).val * I.dy t (i 0).val)).trans
      (Finset.sum_congr rfl fun t _ => mul_comm _ (I.dy t (i 0).val))
  have e := (s.at (val_main_v98_apply (F := Ideal) x0 x1 x2 x3 x4 x5 x6 x7)).congr fun i =>
    row_index i (fun c => ∑ t ∈ Finset.range 4096, I.dy t c * hat (I.z2 t) c)
  (e.sum word_zero (val_main_v101_apply x0 x1 x2 x3 x4 x5 x6 x7)).congr fun i => Fin.sum_univ_one _

/-- The cotangent of the second normalised value. -/
theorem r100 : Holds (val_main_v100 (F := Ideal) x0 x1 x2 x3 x4 x5 x6 x7) (fun i => I.dy (i 0).val (i 1).val * I.g2 (i 1).val) :=
  (r92 A).mul ((r72 A).at (val_main_v99_apply (F := Ideal) x6))

theorem r106 : Holds (val_main_v106 (F := Ideal) x0 x1 x2 x3 x4 x5 x6 x7) (fun i => I.dy (i 0).val (i 1).val * I.g2 (i 1).val * rstd (I.z2 (i 0).val)) :=
  have e := (r66 A).at (val_main_v105_apply (F := Ideal) x0 x2 x3 x4 x5)
  ((r100 A).mul e).congr fun _ => rfl

theorem r113 : Holds (val_main_v113 (F := Ideal) x0 x1 x2 x3 x4 x5 x6 x7) (fun i => through (I.z2 (i 0).val) (fun k => I.dy (i 0).val k * I.g2 k)) :=
  have s := (((r63 A).mul (r100 A)).sum word_zero (val_main_v103_apply x0 x1 x2 x3 x4 x5 x6 x7)).congr fun i =>
    sum_fin 1024 (fun k => cen (I.z2 (i 0).val) k * (I.dy (i 0).val k * I.g2 k))
  have e : Holds (val_main_v112 (F := Ideal) x0 x1 x2 x3 x4 x5 x6 x7) (fun i => through (I.z2 (i 0).val) (fun k => I.dy (i 0).val k * I.g2 k)) :=
    (((s.at (val_main_v104_apply (F := Ideal) x0 x1 x2 x3 x4 x5 x6 x7)).mul (r69 A)).div (y := val_main_v111 (F := Ideal)) (g := fun _ => 1024) (fun _ => word_1024)
      (fun _ => by norm_num)).congr fun i => by
        show (∑ k ∈ Finset.range 1024, cen (I.z2 ((i 0).val * 1 + (i 1).val)) k
          * (I.dy ((i 0).val * 1 + (i 1).val) k * I.g2 k)) * _ / 1024 = _
        rw [column_index i]
        rfl
  (e.sum word_zero (val_main_v113_apply x0 x1 x2 x3 x4 x5 x6 x7)).congr fun i => Fin.sum_univ_one _

theorem r115 : Holds (val_main_v115 (F := Ideal) x0 x1 x2 x3 x4 x5 x6 x7) (fun i => through (I.z2 (i 0).val) (fun k => I.dy (i 0).val k * I.g2 k)
    * (2 * cen (I.z2 (i 0).val) (i 1).val)) :=
  ((r113 A).at (val_main_v114_apply (F := Ideal) x0 x1 x2 x3 x4 x5 x6 x7)).mul (r57 A)

theorem r123 : Holds (val_main_v123 (F := Ideal) x0 x1 x2 x3 x4 x5 x6 x7) (fun i =>
    ((∑ k ∈ Finset.range 1024, -(I.dy (i 0).val k * I.g2 k * rstd (I.z2 (i 0).val)))
      + ∑ k ∈ Finset.range 1024, -(through (I.z2 (i 0).val) (fun k => I.dy (i 0).val k * I.g2 k)
        * (2 * cen (I.z2 (i 0).val) k))) / 1024) :=
  have s := ((r106 A).neg.sum word_zero (val_main_v109_apply x0 x1 x2 x3 x4 x5 x6 x7)).congr fun i =>
    sum_fin 1024 (fun k => -(I.dy (i 0).val k * I.g2 k * rstd (I.z2 (i 0).val)))
  have s' := ((r115 A).neg.sum word_zero (val_main_v117_apply x0 x1 x2 x3 x4 x5 x6 x7)).congr fun i =>
    sum_fin 1024 (fun k => -(through (I.z2 (i 0).val) (fun k => I.dy (i 0).val k * I.g2 k)
      * (2 * cen (I.z2 (i 0).val) k)))
  have c := (s.at (val_main_v110_apply (F := Ideal) x0 x1 x2 x3 x4 x5 x6 x7)).congr fun i => congrArg (fun t => ∑ k ∈ Finset.range 1024, -(I.dy t k * I.g2 k * rstd (I.z2 t))) (column_index i)
  have c' := (s'.at (val_main_v118_apply (F := Ideal) x0 x1 x2 x3 x4 x5 x6 x7)).congr fun i => congrArg (fun t => ∑ k ∈ Finset.range 1024,
    -(through (I.z2 t) (fun k => I.dy t k * I.g2 k) * (2 * cen (I.z2 t) k))) (column_index i)
  have e := (c.add c').div (y := val_main_v121 (F := Ideal)) (g := fun _ => 1024) (fun _ => word_1024)
    (fun _ => by norm_num)
  (e.sum word_zero (val_main_v123_apply x0 x1 x2 x3 x4 x5 x6 x7)).congr fun i => Fin.sum_univ_one _

/-- The cotangent of the net's output. -/
theorem r125 : Holds (val_main_v125 (F := Ideal) x0 x1 x2 x3 x4 x5 x6 x7) (fun i => I.dz2 (i 0).val (i 1).val) :=
  (((r106 A).add (r115 A)).add ((r123 A).at (val_main_v124_apply (F := Ideal) x0 x1 x2 x3 x4 x5 x6 x7))).congr fun i =>
    through_back (I.z2 (i 0).val) (fun k => I.dy (i 0).val k * I.g2 k) (i 1).val

/-- The cotangent of a unit before its activation: where the unit is not positive both sides are nothing. -/
theorem r131 : Holds (val_main_v131 (F := Ideal) x0 x1 x2 x3 x4 x5 x6 x7) (fun i => I.dpre (i 0).val (i 1).val) := fun i => by
  have d : Holds (val_main_v129 (F := Ideal) x0 x1 x2 x3 x4 x5 x6 x7) (fun i => I.dpre (i 0).val (i 1).val) :=
    (((r125 A).dot (r43 A) (val_main_v126_apply x0 x1 x2 x3 x4 x5 x6 x7)).congr fun i =>
      sum_fin 1024 (fun c => I.dz2 (i 0).val c * I.w2 (i 1).val c)).mul (r40 A)
  have e : val_main_v131 (F := Ideal) x0 x1 x2 x3 x4 x5 x6 x7 i = Scalar.select (Ideal.cmp .ogt (val_main_v33 (F := Ideal) x0 x2 x4 x5 i) (Ideal.ofBits .f32 0x00000000#32))
      (val_main_v129 (F := Ideal) x0 x1 x2 x3 x4 x5 x6 x7 i) (Ideal.ofBits .f32 0x00000000#32) := rfl
  rw [e, r33 A i, word_zero, d i]
  by_cases h : 0 < I.pre (i 0).val (i 1).val
  · have : Ideal.cmp .ogt ((I.pre (i 0).val (i 1).val : ℝ) : EReal) 0 = 1#1 := by
      simp [Ideal.cmp, h]
    rw [this]
    rfl
  · have : Ideal.cmp .ogt ((I.pre (i 0).val (i 1).val : ℝ) : EReal) 0 = 0#1 := by
      simp [Ideal.cmp, h]
    rw [this]
    have z : I.dpre (i 0).val (i 1).val = 0 := by
      unfold Inputs.dpre Inputs.relu
      rw [max_eq_right (not_lt.mp h), mul_zero, mul_zero]
    show _ = ((I.dpre (i 0).val (i 1).val : ℝ) : EReal)
    rw [z]
    rfl

/-- The cotangent of the net's input. -/
theorem r133 : Holds (val_main_v133 (F := Ideal) x0 x1 x2 x3 x4 x5 x6 x7) (fun i => I.dx1 (i 0).val (i 1).val) :=
  have e : Holds (val_main_v128 (F := Ideal) x0 x1 x2 x3 x4 x5 x6 x7) (fun i => alpha * I.dz2 (i 0).val (i 1).val) :=
    Holds.mul (f := fun _ => alpha) (fun _ => word_alpha) (r125 A)
  e.add (((r131 A).dot (r32 A) (val_main_v132_apply x0 x1 x2 x3 x4 x5 x6 x7)).congr fun i => sum_fin 4096 (fun f => I.dpre (i 0).val f * I.w1 (i 1).val f))

/-- The gradient of the first shift. -/
theorem r136 : Holds (val_main_v136 (F := Ideal) x0 x1 x2 x3 x4 x5 x6 x7) (fun i => ∑ t ∈ Finset.range 4096, I.dx1 t (i 0).val) :=
  have s := ((r133 A).sum word_zero (val_main_v134_apply x0 x1 x2 x3 x4 x5 x6 x7)).congr fun i => sum_fin 4096 (fun t => I.dx1 t (i 0).val)
  have e := (s.at (val_main_v135_apply (F := Ideal) x0 x1 x2 x3 x4 x5 x6 x7)).congr fun i => row_index i (fun c => ∑ t ∈ Finset.range 4096, I.dx1 t c)
  (e.sum word_zero (val_main_v136_apply x0 x1 x2 x3 x4 x5 x6 x7)).congr fun i => Fin.sum_univ_one _

/-- The gradient of the first scale. -/
theorem r142 : Holds (val_main_v142 (F := Ideal) x0 x1 x2 x3 x4 x5 x6 x7) (fun i => ∑ t ∈ Finset.range 4096, I.dx1 t (i 0).val * hat (I.z t) (i 0).val) :=
  have s := (((r25 A).mul (r133 A)).sum word_zero (val_main_v138_apply x0 x1 x2 x3 x4 x5 x6 x7)).congr fun i =>
    (sum_fin 4096 (fun t => hat (I.z t) (i 0).val * I.dx1 t (i 0).val)).trans
      (Finset.sum_congr rfl fun t _ => mul_comm _ (I.dx1 t (i 0).val))
  have e := (s.at (val_main_v139_apply (F := Ideal) x0 x1 x2 x3 x4 x5 x6 x7)).congr fun i =>
    row_index i (fun c => ∑ t ∈ Finset.range 4096, I.dx1 t c * hat (I.z t) c)
  (e.sum word_zero (val_main_v142_apply x0 x1 x2 x3 x4 x5 x6 x7)).congr fun i => Fin.sum_univ_one _

/-- The cotangent of the first normalised value. -/
theorem r141 : Holds (val_main_v141 (F := Ideal) x0 x1 x2 x3 x4 x5 x6 x7) (fun i => I.dx1 (i 0).val (i 1).val * I.g1 (i 1).val) :=
  (r133 A).mul ((r26 A).at (val_main_v140_apply (F := Ideal) x4))

theorem r147 : Holds (val_main_v147 (F := Ideal) x0 x1 x2 x3 x4 x5 x6 x7) (fun i => I.dx1 (i 0).val (i 1).val * I.g1 (i 1).val * rstd (I.z (i 0).val)) :=
  have e := (r20 A).at (val_main_v146_apply (F := Ideal) x0)
  ((r141 A).mul e).congr fun _ => rfl

theorem r154 : Holds (val_main_v154 (F := Ideal) x0 x1 x2 x3 x4 x5 x6 x7) (fun i => through (I.z (i 0).val) (fun k => I.dx1 (i 0).val k * I.g1 k)) :=
  have s := (((r17 A).mul (r141 A)).sum word_zero (val_main_v144_apply x0 x1 x2 x3 x4 x5 x6 x7)).congr fun i =>
    sum_fin 1024 (fun k => cen (I.z (i 0).val) k * (I.dx1 (i 0).val k * I.g1 k))
  have e : Holds (val_main_v153 (F := Ideal) x0 x1 x2 x3 x4 x5 x6 x7) (fun i => through (I.z (i 0).val) (fun k => I.dx1 (i 0).val k * I.g1 k)) :=
    (((s.at (val_main_v145_apply (F := Ideal) x0 x1 x2 x3 x4 x5 x6 x7)).mul (r23 A)).div (y := val_main_v152 (F := Ideal)) (g := fun _ => 1024) (fun _ => word_1024)
      (fun _ => by norm_num)).congr fun i => by
        show (∑ k ∈ Finset.range 1024, cen (I.z ((i 0).val * 1 + (i 1).val)) k
          * (I.dx1 ((i 0).val * 1 + (i 1).val) k * I.g1 k)) * _ / 1024 = _
        rw [column_index i]
        rfl
  (e.sum word_zero (val_main_v154_apply x0 x1 x2 x3 x4 x5 x6 x7)).congr fun i => Fin.sum_univ_one _

theorem r156 : Holds (val_main_v156 (F := Ideal) x0 x1 x2 x3 x4 x5 x6 x7) (fun i => through (I.z (i 0).val) (fun k => I.dx1 (i 0).val k * I.g1 k)
    * (2 * cen (I.z (i 0).val) (i 1).val)) :=
  ((r154 A).at (val_main_v155_apply (F := Ideal) x0 x1 x2 x3 x4 x5 x6 x7)).mul (r11 A)

theorem r164 : Holds (val_main_v164 (F := Ideal) x0 x1 x2 x3 x4 x5 x6 x7) (fun i =>
    ((∑ k ∈ Finset.range 1024, -(I.dx1 (i 0).val k * I.g1 k * rstd (I.z (i 0).val)))
      + ∑ k ∈ Finset.range 1024, -(through (I.z (i 0).val) (fun k => I.dx1 (i 0).val k * I.g1 k)
        * (2 * cen (I.z (i 0).val) k))) / 1024) :=
  have s := ((r147 A).neg.sum word_zero (val_main_v150_apply x0 x1 x2 x3 x4 x5 x6 x7)).congr fun i =>
    sum_fin 1024 (fun k => -(I.dx1 (i 0).val k * I.g1 k * rstd (I.z (i 0).val)))
  have s' := ((r156 A).neg.sum word_zero (val_main_v158_apply x0 x1 x2 x3 x4 x5 x6 x7)).congr fun i =>
    sum_fin 1024 (fun k => -(through (I.z (i 0).val) (fun k => I.dx1 (i 0).val k * I.g1 k)
      * (2 * cen (I.z (i 0).val) k)))
  have c := (s.at (val_main_v151_apply (F := Ideal) x0 x1 x2 x3 x4 x5 x6 x7)).congr fun i => congrArg (fun t => ∑ k ∈ Finset.range 1024, -(I.dx1 t k * I.g1 k * rstd (I.z t))) (column_index i)
  have c' := (s'.at (val_main_v159_apply (F := Ideal) x0 x1 x2 x3 x4 x5 x6 x7)).congr fun i => congrArg (fun t => ∑ k ∈ Finset.range 1024,
    -(through (I.z t) (fun k => I.dx1 t k * I.g1 k) * (2 * cen (I.z t) k))) (column_index i)
  have e := (c.add c').div (y := val_main_v162 (F := Ideal)) (g := fun _ => 1024) (fun _ => word_1024)
    (fun _ => by norm_num)
  (e.sum word_zero (val_main_v164_apply x0 x1 x2 x3 x4 x5 x6 x7)).congr fun i => Fin.sum_univ_one _

/-- The gradient of the first normalisation's input. -/
theorem r166 : Holds (val_main_v166 (F := Ideal) x0 x1 x2 x3 x4 x5 x6 x7) (fun i => I.dz1 (i 0).val (i 1).val) :=
  (((r147 A).add (r156 A)).add ((r164 A).at (val_main_v165_apply (F := Ideal) x0 x1 x2 x3 x4 x5 x6 x7))).congr fun i =>
    through_back (I.z (i 0).val) (fun k => I.dx1 (i 0).val k * I.g1 k) (i 1).val

/-- The reference's first result, the activation. -/
theorem r174 : Holds (val_main_v174 (F := Ideal) x0 x2 x4 x5) (fun i => I.act (i 0).val (i 1).val) := r38 A

/-- The second, the cotangent of the units. -/
theorem r175 : Holds (val_main_v175 (F := Ideal) x0 x1 x2 x3 x4 x5 x6 x7) (fun i => I.dpre (i 0).val (i 1).val) := r131 A

/-- The third, the cotangent of the net's output. -/
theorem r176 : Holds (val_main_v176 (F := Ideal) x0 x1 x2 x3 x4 x5 x6 x7) (fun i => I.dz2 (i 0).val (i 1).val) := r125 A

end

end Cert.FfnRef

end
-- ==== Proof.FfnRefSums.lean ====
/- The sums over the tokens, as the reference of the feed-forward call computes them. -/
module

public import proofs.«01_k».proof.Proof.FfnRefBack
public import proofs.«01_k».proof.Proof.Pieces

@[expose] public section

set_option maxRecDepth 16384

noncomputable section

open scoped BigOperators

namespace Cert.FfnRef

open Idealize.ShloMosaic Cert.Reference2Ideal Cert.Reference2Ideal.Read Cert.Lift Cert.RefOps Cert.Ffn ValueIdx

/-- Five rows and a block of three, one below the other. -/
theorem stack_rows {b : ℕ} (f : ℕ → ℕ → ℝ) {w0 w1 w2 w3 w4 : (⟨2, ![1, b]⟩ : Shape).Idx → EReal}
    {w5 : (⟨2, ![3, b]⟩ : Shape).Idx → EReal} (h0 : Holds w0 (fun i => f 0 (i 1).val))
    (h1 : Holds w1 (fun i => f 1 (i 1).val)) (h2 : Holds w2 (fun i => f 2 (i 1).val))
    (h3 : Holds w3 (fun i => f 3 (i 1).val)) (h4 : Holds w4 (fun i => f 4 (i 1).val))
    (h5 : Holds w5 (fun i => f (5 + (i 0).val) (i 1).val))
    (hc : Shape.Concatenates [⟨2, ![1, b]⟩, ⟨2, ![1, b]⟩, ⟨2, ![1, b]⟩, ⟨2, ![1, b]⟩, ⟨2, ![1, b]⟩, ⟨2, ![3, b]⟩]
      ⟨2, ![8, b]⟩ 0) :
    Holds (concatenate ⟨2, ![8, b]⟩ 0 [⟨⟨2, ![1, b]⟩, w0⟩, ⟨⟨2, ![1, b]⟩, w1⟩, ⟨⟨2, ![1, b]⟩, w2⟩,
      ⟨⟨2, ![1, b]⟩, w3⟩, ⟨⟨2, ![1, b]⟩, w4⟩, ⟨⟨2, ![3, b]⟩, w5⟩] hc) (fun i => f (i 0).val (i 1).val) := by
  intro y
  have hy : (y 0).val < 8 := idx2_lt0 y
  have key : ∀ (k a : ℕ) (hk : k < 6) (w : (⟨2, ![a, b]⟩ : Shape).Idx → EReal)
      (h : Holds w (fun i => f (k + (i 0).val) (i 1).val))
      (hw : ([⟨⟨2, ![1, b]⟩, w0⟩, ⟨⟨2, ![1, b]⟩, w1⟩, ⟨⟨2, ![1, b]⟩, w2⟩, ⟨⟨2, ![1, b]⟩, w3⟩, ⟨⟨2, ![1, b]⟩, w4⟩,
        ⟨⟨2, ![3, b]⟩, w5⟩] : List ((s : Shape) × (s.Idx → EReal)))[k]'hk = ⟨⟨2, ![a, b]⟩, w⟩)
      (hlo : k ≤ (y 0).val) (hhi : (y 0).val < k + a),
      concatenate ⟨2, ![8, b]⟩ 0 [⟨⟨2, ![1, b]⟩, w0⟩, ⟨⟨2, ![1, b]⟩, w1⟩, ⟨⟨2, ![1, b]⟩, w2⟩, ⟨⟨2, ![1, b]⟩, w3⟩,
        ⟨⟨2, ![1, b]⟩, w4⟩, ⟨⟨2, ![3, b]⟩, w5⟩] hc y = ((f (y 0).val (y 1).val : ℝ) : EReal) := by
    intro k a hk w h hw hlo hhi
    have hs : (y 0).val - k < a := by omega
    rw [concatenate_apply_piece 0 [⟨⟨2, ![1, b]⟩, w0⟩, ⟨⟨2, ![1, b]⟩, w1⟩, ⟨⟨2, ![1, b]⟩, w2⟩, ⟨⟨2, ![1, b]⟩, w3⟩,
      ⟨⟨2, ![1, b]⟩, w4⟩, ⟨⟨2, ![3, b]⟩, w5⟩] hc y k hk ⟨2, ![a, b]⟩ w hw rfl k (by
        match k, hk with
        | 0, _ => rfl
        | 1, _ => rfl
        | 2, _ => rfl
        | 3, _ => rfl
        | 4, _ => rfl
        | 5, _ => rfl)
      (ValueIdx.ix2 ⟨(y 0).val - k, hs⟩ (y 1)) (fun q hq => by
        match q with
        | ⟨0, _⟩ => exact absurd rfl hq
        | ⟨1, _⟩ => rfl) (by show k + ((y 0).val - k) = (y 0).val; omega)]
    refine (h _).trans ?_
    show ((f (k + ((y 0).val - k)) (y 1).val : ℝ) : EReal) = _
    rw [Nat.add_sub_cancel' hlo]
  have one : ∀ (k : ℕ) {w : (⟨2, ![1, b]⟩ : Shape).Idx → EReal} (h : Holds w (fun i => f k (i 1).val)),
      Holds w (fun i => f (k + (i 0).val) (i 1).val) := fun k w h => h.congr fun i => by
    have : (i 0).val < 1 := idx2_lt0 i
    rw [show (i 0).val = 0 by omega, Nat.add_zero]
  have : (y 0).val = 0 ∨ (y 0).val = 1 ∨ (y 0).val = 2 ∨ (y 0).val = 3 ∨ (y 0).val = 4 ∨ 5 ≤ (y 0).val := by omega
  rcases this with e | e | e | e | e | e
  · exact key 0 1 (by omega) w0 (one 0 h0) rfl (by omega) (by omega)
  · exact key 1 1 (by omega) w1 (one 1 h1) rfl (by omega) (by omega)
  · exact key 2 1 (by omega) w2 (one 2 h2) rfl (by omega) (by omega)
  · exact key 3 1 (by omega) w3 (one 3 h3) rfl (by omega) (by omega)
  · exact key 4 1 (by omega) w4 (one 4 h4) rfl (by omega) (by omega)
  · exact key 5 3 (by omega) w5 h5 rfl (by omega) (by omega)

variable {I : Inputs} {x0 x1 : S1x4096x1024.Idx → EReal} {x2 : S1x1024x4096.Idx → EReal}
  {x3 : S1x4096x1024.Idx → EReal} {x4 x5 x6 x7 : S1x1024.Idx → EReal}

section
variable (A : Args I x0 x1 x2 x3 x4 x5 x6 x7)
include A

/-- The sums over the tokens, row by row. -/
theorem r173 : Holds (val_main_v173 (F := Ideal) x0 x1 x2 x3 x4 x5 x6 x7) (fun i => I.stats 4096 (i 0).val (i 1).val) :=
  stack_rows (I.stats 4096) (fun i => ((r142 A).at (val_main_v168_apply (F := Ideal) x0 x1 x2 x3 x4 x5 x6 x7) i).trans rfl) (fun i => ((r136 A).at (val_main_v169_apply (F := Ideal) x0 x1 x2 x3 x4 x5 x6 x7) i).trans rfl)
    (fun i => ((r101 A).at (val_main_v170_apply (F := Ideal) x0 x1 x2 x3 x4 x5 x6 x7) i).trans rfl) (fun i => ((r95 A).at (val_main_v171_apply (F := Ideal) x0 x1 x2 x3 x4 x5 x6 x7) i).trans rfl)
    (((r86 A).at (val_main_v167_apply (F := Ideal) x0 x1 x2 x3 x4 x5 x6 x7)).congr fun i => by
      rw [Finset.mul_sum]
      refine Finset.sum_congr rfl fun t _ => ?_
      show _ = I.tokLoss t / 2
      ring)
    (fun i => ((val_main_v172_apply (F := Ideal)) i).trans (word_zero.trans (by
      beta_reduce
      rw [show I.stats 4096 (5 + (i 0).val) (i 1).val = 0 from by
        unfold Inputs.stats
        refine Finset.sum_eq_zero fun t _ => ?_
        unfold Inputs.statTok
        rw [if_neg (by omega), if_neg (by omega), if_neg (by omega), if_neg (by omega), if_neg (by omega)]]
      rfl))) _

end

end Cert.FfnRef

end
-- ==== Proof.FfnValue.lean ====
/- What the feed-forward call's arrays hold when the program ends. -/
module

public import proofs.«01_k».proof.Proof.FfnRun
public import Idealize.ShloMosaic.Lib.Pipeline.Value

@[expose] public section

noncomputable section

namespace Cert.FfnValue

open Cert.Kernel2Ideal Cert.Kernel2Ideal.Gen Cert.FfnRun Idealize.ShloMosaic Idealize.ShloMosaic.TcCoe Idealize.SL.Sem

variable {F : FTy → Type} [FloatOps F]
variable (m : (ℓ : Loc nD τ sig) → Buf (Elt F) ℓ) (ρ : Dev nD → PrngReg)

/-- The array of result 0 is what its blocks leave. -/
theorem post8 (r : PUnit × MemSt nD τ sig (Elt F)) (h : Pipeline.FramePost cfgs (dats m) 0 (V m) r) (c : Dev nD) :
    r.2.mem ((c : Thread nD τ).loc main_v41_0) = (dats m 0 c).arrAt 8 cfg0.N :=
  (h c).1 8

/-- The array of result 1 is what its blocks leave. -/
theorem post9 (r : PUnit × MemSt nD τ sig (Elt F)) (h : Pipeline.FramePost cfgs (dats m) 0 (V m) r) (c : Dev nD) :
    r.2.mem ((c : Thread nD τ).loc main_v41_1) = (dats m 0 c).arrAt 9 cfg0.N :=
  (h c).1 9

/-- The array of result 2 is what its blocks leave. -/
theorem post10 (r : PUnit × MemSt nD τ sig (Elt F)) (h : Pipeline.FramePost cfgs (dats m) 0 (V m) r) (c : Dev nD) :
    r.2.mem ((c : Thread nD τ).loc main_v41_2) = (dats m 0 c).arrAt 10 cfg0.N :=
  (h c).1 10

/-- The array of result 3 is what its blocks leave. -/
theorem post11 (r : PUnit × MemSt nD τ sig (Elt F)) (h : Pipeline.FramePost cfgs (dats m) 0 (V m) r) (c : Dev nD) :
    r.2.mem ((c : Thread nD τ).loc main_v41_3) = (dats m 0 c).arrAt 11 cfg0.N :=
  (h c).1 11

/-- The array of result 4 is what its blocks leave. -/
theorem post12 (r : PUnit × MemSt nD τ sig (Elt F)) (h : Pipeline.FramePost cfgs (dats m) 0 (V m) r) (c : Dev nD) :
    r.2.mem ((c : Thread nD τ).loc main_v41_4) = (dats m 0 c).arrAt 12 cfg0.N :=
  (h c).1 12

/-- Argument 0 is as at the start. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- Argument 1 is as at the start. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- Argument 2 is as at the start. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- Argument 3 is as at the start. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- Argument 4 is as at the start. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- Argument 5 is as at the start. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- Argument 6 is as at the start. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- Argument 7 is as at the start. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- The program runs, leaves each result as its blocks leave it, and keeps the arguments. -/
theorem run_blocks : θ_run defs (onTc (τ := τ) (main (F := F))) ⟨m, fun _ => 0, ρ⟩ fun r => ∀ c : Dev nD,
      r.2.mem ((c : Thread nD τ).loc main_v41_0) = (dats m 0 c).arrAt 8 cfg0.N
      ∧ r.2.mem ((c : Thread nD τ).loc main_v41_1) = (dats m 0 c).arrAt 9 cfg0.N
      ∧ r.2.mem ((c : Thread nD τ).loc main_v41_2) = (dats m 0 c).arrAt 10 cfg0.N
      ∧ r.2.mem ((c : Thread nD τ).loc main_v41_3) = (dats m 0 c).arrAt 11 cfg0.N
      ∧ r.2.mem ((c : Thread nD τ).loc main_v41_4) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨post8 m r h c,
      post9 m r h c,
      post10 m r h c,
      post11 m r h c,
      post12 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.FfnValue

end
-- ==== Proof.FfnEquation.lean ====
/- The feed-forward call and its reference leave the same real numbers. -/
module

public import proofs.«01_k».proof.Defs
public import proofs.«01_k».proof.Proof.Gen.Reference2Ideal.Run
public import proofs.«01_k».proof.Proof.FfnArrays
public import proofs.«01_k».proof.Proof.FfnRefSums
public import proofs.«01_k».proof.Proof.FfnValue

@[expose] public section

set_option maxRecDepth 16384

noncomputable section

namespace Cert.FfnEquation

open Idealize.ShloMosaic Idealize.ShloMosaic.TcCoe Idealize.SL.Sem Idealize.ShloMosaic.Pipeline
open Cert.Lift Cert.Finite Cert.RefOps Cert.FfnRef Cert.FfnEntry

section
variable [Cert.Pre_finite2.Facts]

/-- The precondition makes every argument real. -/
theorem real_of_pre {m : (ℓ : Loc Cert.Kernel2Ideal.nD Cert.Kernel2Ideal.τ Cert.Kernel2Ideal.sig) → Buf (Elt Ideal) ℓ}
    (h : Pre_Kernel2Ideal_finite2 m) (c : Dev Cert.Kernel2Ideal.nD) : Real m c :=
  have ⟨h0, h1, h2, h3, h4, h5, h6, h7⟩ := FfnFinite.allReal_of_pre (h c)
  ⟨h0, h1, h2, h3, h4, h5, h6, h7⟩

end

/-- The arguments of a core with real entries hold its real inputs. -/
theorem args_of_real {m : (ℓ : Loc Cert.Kernel2Ideal.nD Cert.Kernel2Ideal.τ Cert.Kernel2Ideal.sig) → Buf (Elt Ideal) ℓ}
    {c : Dev Cert.Kernel2Ideal.nD} (h : Real m c) :
    Args (inp m c) (m (c.tc.loc Cert.Kernel2Ideal.main_arg0)) (m (c.tc.loc Cert.Kernel2Ideal.main_arg1))
      (m (c.tc.loc Cert.Kernel2Ideal.main_arg2)) (m (c.tc.loc Cert.Kernel2Ideal.main_arg3))
      (m (c.tc.loc Cert.Kernel2Ideal.main_arg4)) (m (c.tc.loc Cert.Kernel2Ideal.main_arg5))
      (m (c.tc.loc Cert.Kernel2Ideal.main_arg6)) (m (c.tc.loc Cert.Kernel2Ideal.main_arg7)) :=
  FfnFinite.args h.a0 h.a1 h.a2 h.a3 h.a4 h.a5 h.a6 h.a7

/-- The reference's arguments, being the kernel's, hold the same real inputs. -/
theorem agree {I : Cert.Ffn.Inputs} {x0 y0 x1 y1 : Cert.Reference2Ideal.S1x4096x1024.Idx → EReal}
    {x2 y2 : Cert.Reference2Ideal.S1x1024x4096.Idx → EReal} {x3 y3 : Cert.Reference2Ideal.S1x4096x1024.Idx → EReal}
    {x4 y4 x5 y5 x6 y6 x7 y7 : Cert.Reference2Ideal.S1x1024.Idx → EReal} (A : Args I x0 x1 x2 x3 x4 x5 x6 x7)
    (e0 : y0 = x0) (e1 : y1 = x1) (e2 : y2 = x2) (e3 : y3 = x3) (e4 : y4 = x4) (e5 : y5 = x5) (e6 : y6 = x6)
    (e7 : y7 = x7) : Args I y0 y1 y2 y3 y4 y5 y6 y7 := by
  subst e0 e1 e2 e3 e4 e5 e6 e7
  exact A

variable [Cert.Pre_finite2.Facts]

set_option maxHeartbeats 4000000 in
open Cert.Kernel2Ideal Cert.Kernel2Ideal.Gen in
/-- Both programs run, keep their arguments, and agree on every result. -/
theorem equal : algebraic_Kernel2Ideal_Reference2Ideal_pre_finite2 := by
  intro m g m' g' hpre hargs
  have real := fun c => real_of_pre hpre c
  refine ⟨fun c => (FfnRun.dats m 0 c).arrAt 8 cfg0.N, fun c => (FfnRun.dats m 0 c).arrAt 9 cfg0.N,
    fun c => (FfnRun.dats m 0 c).arrAt 10 cfg0.N, fun c => (FfnRun.dats m 0 c).arrAt 11 cfg0.N,
    fun c => (FfnRun.dats m 0 c).arrAt 12 cfg0.N, FfnValue.run_blocks m g, ?_⟩
  refine (θ_run _ _ _).mono (fun r h c => ?_) (Cert.Reference2Ideal.Value.run m' g')
  obtain ⟨q0, q1, q2, q3, q4, q⟩ := h c
  obtain ⟨e0, e1, e2, e3, e4, e5, e6, e7⟩ := hargs c
  have A := agree (args_of_real (real c)) e0 e1 e2 e3 e4 e5 e6 e7
  refine ⟨funext fun i => ?_, funext fun i => ?_, funext fun i => ?_, funext fun i => ?_, funext fun i => ?_, q⟩
  · exact (congrFun (q0.trans (Cert.Reference2Ideal.Read.val_main_v174_eq _)) i).trans
      ((r174 A i).trans (FfnArrays.act_holds (real c) i).symm)
  · exact (congrFun (q1.trans (Cert.Reference2Ideal.Read.val_main_v175_eq _)) i).trans
      ((r175 A i).trans (FfnArrays.dpre_holds (real c) i).symm)
  · exact (congrFun (q2.trans (Cert.Reference2Ideal.Read.val_main_v176_eq _)) i).trans
      ((r176 A i).trans (FfnArrays.dz2_holds (real c) i).symm)
  · exact (congrFun (q3.trans (Cert.Reference2Ideal.Read.val_main_v166_eq _)) i).trans
      ((r166 A i).trans (FfnArrays.dz1_holds (real c) i).symm)
  · exact (congrFun (q4.trans (Cert.Reference2Ideal.Read.val_main_v173_eq _)) i).trans
      ((r173 A i).trans (FfnArrays.sums_holds (real c) i).symm)

end Cert.FfnEquation

end
-- ==== Proof.ProjEntries.lean ====
/- Arrays of extended reals read at natural coordinates, and the few operations of the output projection's backward
   call on them.

   `Entries2 x f` says that the two-axis array `x` holds `f i j` at row `i` and column `j`. The entries are any extended
   reals, finite or not: nothing below subtracts, divides or distributes, so no finiteness is needed. -/
module

public import Idealize.ShloMosaic.Lib.Pipeline.Value
public import Idealize.ShloMosaic.Lib.ValueIdx
public import Idealize.ShloMosaic.Lib.IdealHost
public import Idealize.ShloMosaic.Init

@[expose] public section

set_option maxRecDepth 16384

noncomputable section

open scoped BigOperators

namespace Cert.Proj

open Idealize.ShloMosaic Idealize.ShloMosaic.ValueIdx

variable {φ ψ : FTy} {a b k m n : ℕ}

/-- The two-axis array holds `f i j` at `(i, j)`. -/
def Entries2 (x : FVec Ideal ⟨2, ![a, b]⟩ φ) (f : ℕ → ℕ → EReal) : Prop :=
  ∀ i, x i = f (i 0).val (i 1).val

/-- Row `i`, column `j` of the one slab of a `1 × a × b` array; zero outside the array. -/
def entry (x : FVec Ideal ⟨3, ![1, a, b]⟩ φ) (i j : ℕ) : EReal :=
  if h : i < a ∧ j < b then x (ix3 0 ⟨i, h.1⟩ ⟨j, h.2⟩) else 0

/-- The one slab as a two-axis array. -/
theorem entries_slab (x : FVec Ideal ⟨3, ![1, a, b]⟩ φ) (h : (⟨3, ![1, a, b]⟩ : Shape).ShapeCasts ⟨2, ![a, b]⟩) :
    Entries2 (shapeCast ⟨2, ![a, b]⟩ x h) (entry x) := fun i => by
  rw [shapeCast_apply x h i (ix3 0 (i 0) (i 1)) (by
    rw [Shape.rowMajor_val_three, Shape.rowMajor_val_two]
    show (0 * a + (i 0).val) * b + (i 1).val = (i 0).val * b + (i 1).val
    rw [Nat.zero_mul, Nat.zero_add])]
  unfold entry
  rw [dif_pos ⟨idx2_lt0 i, idx2_lt1 i⟩]
  rfl

/-- Only the values inside the array matter. -/
theorem Entries2.congr {x : FVec Ideal ⟨2, ![a, b]⟩ φ} {f g : ℕ → ℕ → EReal} (h : Entries2 x f)
    (e : ∀ i j, i < a → j < b → f i j = g i j) : Entries2 x g := fun i => by
  rw [h i, e _ _ (idx2_lt0 i) (idx2_lt1 i)]

/-- A change of format keeps every value. -/
theorem Entries2.trunc {x : FVec Ideal ⟨2, ![a, b]⟩ φ} {f : ℕ → ℕ → EReal} (hx : Entries2 x f)
    (h : ψ.bits < φ.bits) : Entries2 (truncf ψ x h) f := hx

/-- A cast to the same shape keeps every value. -/
theorem Entries2.cast {x : FVec Ideal ⟨2, ![a, b]⟩ φ} {f : ℕ → ℕ → EReal} (hx : Entries2 x f)
    (h : (⟨2, ![a, b]⟩ : Shape).ShapeCasts ⟨2, ![a, b]⟩) : Entries2 (shapeCast ⟨2, ![a, b]⟩ x h) f := fun i => by
  rw [shapeCast_apply x h i i rfl]; exact hx i

/-- A transposition swaps the coordinates. -/
theorem Entries2.transpose {x : FVec Ideal ⟨2, ![a, b]⟩ φ} {f : ℕ → ℕ → EReal} (hx : Entries2 x f)
    (h : (⟨2, ![a, b]⟩ : Shape).Transposes [1, 0] ⟨2, ![b, a]⟩) :
    Entries2 (Idealize.ShloMosaic.transpose ⟨2, ![b, a]⟩ [1, 0] x h) (fun i j => f j i) := fun i => by
  rw [transpose_apply [1, 0] x h i (ix2 (i 1) (i 0)) (fun q => by match q with | ⟨0, _⟩ => rfl | ⟨1, _⟩ => rfl)]
  exact hx _

/-- The sum of two arrays. -/
theorem Entries2.add {x y : FVec Ideal ⟨2, ![a, b]⟩ φ} {f g : ℕ → ℕ → EReal} (hx : Entries2 x f) (hy : Entries2 y g) :
    Entries2 (addf x y) (fun i j => f i j + g i j) := fun i => by
  show x i + y i = _
  rw [hx i, hy i]

/-- The product `x yᵀ`. -/
theorem Entries2.mulNT {x : FVec Ideal ⟨2, ![m, k]⟩ φ} {y : FVec Ideal ⟨2, ![n, k]⟩ ψ} {f g : ℕ → ℕ → EReal}
    (hx : Entries2 x f) (hy : Entries2 y g) (wf) :
    Entries2 (matmul (⟨[1], [1], [0], [0], [], [], wf⟩ : DotDims ⟨2, ![m, k]⟩ ⟨2, ![n, k]⟩ ⟨2, ![m, n]⟩) none x y
      (constant ⟨2, ![m, n]⟩ .f32 0x00000000#32)) (fun i j => ∑ q ∈ Finset.range k, f i q * g j q) := fun i => by
  refine (Ideal.matmul_constant_zero_apply _ none x y i).trans ?_
  beta_reduce
  rw [← Fin.sum_univ_eq_sum_range (fun q => f _ q * g _ q), ← Equiv.sum_comp (contrEquiv1 _ k rfl rfl).symm]
  refine Finset.sum_congr rfl fun q _ => ?_
  rw [hx, hy]
  rfl

/-- The product `x y`. -/
theorem Entries2.mulNN {x : FVec Ideal ⟨2, ![m, k]⟩ φ} {y : FVec Ideal ⟨2, ![k, n]⟩ ψ} {f g : ℕ → ℕ → EReal}
    (hx : Entries2 x f) (hy : Entries2 y g) (wf) :
    Entries2 (matmul (⟨[1], [0], [0], [1], [], [], wf⟩ : DotDims ⟨2, ![m, k]⟩ ⟨2, ![k, n]⟩ ⟨2, ![m, n]⟩) none x y
      (constant ⟨2, ![m, n]⟩ .f32 0x00000000#32)) (fun i j => ∑ q ∈ Finset.range k, f i q * g q j) := fun i => by
  refine (Ideal.matmul_constant_zero_apply _ none x y i).trans ?_
  beta_reduce
  rw [← Fin.sum_univ_eq_sum_range (fun q => f _ q * g q _), ← Equiv.sum_comp (contrEquiv1 _ k rfl rfl).symm]
  refine Finset.sum_congr rfl fun q _ => ?_
  rw [hx, hy]
  rfl

/-- Row `i`, column `t` of the gradient of the mixer's output, transposed: row `i` of the weights times row `t` of the
    incoming gradient. -/
def dcat (dz w : ℕ → ℕ → EReal) (i t : ℕ) : EReal := ∑ q ∈ Finset.range 1024, w i q * dz t q

/-- The weights' gradient from the first `n` tokens. -/
def gw (dz cat : ℕ → ℕ → EReal) (n i j : ℕ) : EReal := ∑ t ∈ Finset.range n, cat t i * dz t j

/-- One more block of 1024 tokens. -/
theorem gw_block (dz cat : ℕ → ℕ → EReal) (n i j : ℕ) : gw dz cat (1024 * (n + 1)) i j
    = gw dz cat (1024 * n) i j + ∑ q ∈ Finset.range 1024, cat (1024 * n + q) i * dz (1024 * n + q) j := by
  unfold gw
  rw [Nat.mul_add, Nat.mul_one, Finset.sum_range_add]

end Cert.Proj

end
-- ==== Proof.ProjPoint.lean ====
/- What the output projection's backward call finds at each grid point and what it leaves there.

   Grid point `t` reads the tokens `1024 t` to `1024 t + 1023`: their rows of the incoming gradient and their columns of
   the mixer's output, transposed. It writes their columns of one result and adds their share to the other. -/
module

public import proofs.«01_k».proof.Proof.Gen.Kernel3Ideal.Frame
public import Idealize.ShloMosaic.Lib.Pipeline.ValueKit
public import Idealize.ShloMosaic.Lib.Pipeline.ReadBack
public import Idealize.ShloMosaic.Lib.Claim
public import proofs.«01_k».proof.Proof.ProjEntries

@[expose] public section

set_option maxRecDepth 16384

noncomputable section

open scoped BigOperators

namespace Cert.Proj

open Idealize.ShloMosaic Idealize.ShloMosaic.TcCoe Idealize.SL.Sem Idealize.ShloMosaic.Pipeline
open Cert.Kernel3Ideal Cert.Kernel3Ideal.Gen

variable (m : (ℓ : Loc nD τ sig) → Buf (Elt Ideal) ℓ) (c : Dev nD)

/-- The incoming gradient. -/
def dzIn : ℕ → ℕ → EReal := entry (φ := .f32) (a := 4096) (b := 1024) (m (c.tc.loc main_arg0))

/-- The mixer's output. -/
def catIn : ℕ → ℕ → EReal := entry (φ := .f32) (a := 4096) (b := 1024) (m (c.tc.loc main_arg1))

/-- The weights. -/
def wIn : ℕ → ℕ → EReal := entry (φ := .f32) (a := 1024) (b := 1024) (m (c.tc.loc main_arg2))

section arrays

/-- The incoming gradient without its leading axis. -/
theorem V_dz : V m c main_v0 = shapeCast S4096x1024 (m (c.tc.loc main_arg0)) shapeCasts_S1x4096x1024_S4096x1024 := by
  unfold V
  simp only [hostOps0]
  entry_read
  rfl

/-- The mixer's output, transposed so that a token is a column. -/
theorem V_cat : V m c main_v3 = truncf .bf16 (transpose S1024x4096 [1, 0]
    (shapeCast S4096x1024 (m (c.tc.loc main_arg1)) shapeCasts_S1x4096x1024_S4096x1024)
    transposes_S4096x1024_S1024x4096_1_0 : FVec Ideal S1024x4096 .f32) bitsLt_bf16_f32 := by
  unfold V
  simp only [hostOps0]
  entry_read
  rfl

/-- The weights without their leading axis. -/
theorem V_w : V m c main_v5 = truncf .bf16
    (shapeCast S1024x1024 (m (c.tc.loc main_arg2)) shapeCasts_S1x1024x1024_S1024x1024 : FVec Ideal S1024x1024 .f32)
    bitsLt_bf16_f32 := by
  unfold V
  simp only [hostOps0]
  entry_read
  rfl

/-- The incoming gradient, as the call finds it. -/
theorem dz_array : Entries2 (φ := .f32) (V m c main_v0 : FVec Ideal S4096x1024 .f32) (dzIn m c) := by
  rw [V_dz]
  exact entries_slab _ _

/-- The mixer's output, as the call finds it. -/
theorem cat_array : Entries2 (φ := .bf16) (V m c main_v3 : FVec Ideal S1024x4096 .bf16) (fun i t => catIn m c t i) := by
  rw [V_cat]
  exact ((entries_slab _ _).transpose _).trunc _

/-- The weights, as the call finds them. -/
theorem w_array : Entries2 (φ := .bf16) (V m c main_v5 : FVec Ideal S1024x1024 .bf16) (wIn m c) := by
  rw [V_w]
  exact (entries_slab _ _).trunc _

end arrays

section blocks
variable (t : Fin cfg0.N)

/-- A grid point's rows of the incoming gradient. -/
theorem dz_block : Entries2 (φ := .f32) (iblk m c 0 t : FVec Ideal S1024x1024 .f32)
    (fun i j => dzIn m c (1024 * t.val + i) j) := fun i => by
  show V m c main_v0 ((win0_0.rect t).emb i) = _
  refine (dz_array m c _).trans ?_
  beta_reduce
  rw [Window.rect_emb_val win0_0 t i 0, Window.rect_emb_val win0_0 t i 1,
    (by decide +kernel : ∀ t : Fin grid0.N, win0_0.index t = ![t.val, 0]) t]
  show dzIn m c (t.val * 1024 + (i 0).val) (0 * 1024 + (i 1).val) = _
  rw [Nat.zero_mul, Nat.zero_add, Nat.mul_comm]

/-- A grid point's columns of the mixer's output. -/
theorem cat_block : Entries2 (φ := .bf16) (iblk m c 1 t : FVec Ideal S1024x1024 .bf16)
    (fun i j => catIn m c (1024 * t.val + j) i) := fun i => by
  show V m c main_v3 ((win0_1.rect t).emb i) = _
  refine (cat_array m c _).trans ?_
  beta_reduce
  rw [Window.rect_emb_val win0_1 t i 0, Window.rect_emb_val win0_1 t i 1,
    (by decide +kernel : ∀ t : Fin grid0.N, win0_1.index t = ![0, t.val]) t]
  show catIn m c (t.val * 1024 + (i 1).val) (0 * 1024 + (i 0).val) = _
  rw [Nat.zero_mul, Nat.zero_add, Nat.mul_comm]

/-- The weights, whole at every point. -/
theorem w_block : Entries2 (φ := .bf16) (iblk m c 2 t : FVec Ideal S1024x1024 .bf16) (wIn m c) := fun i => by
  show V m c main_v5 ((win0_2.rect t).emb i) = _
  refine (w_array m c _).trans ?_
  rw [Window.rect_emb_val win0_2 t i 0, Window.rect_emb_val win0_2 t i 1,
    (by decide +kernel : ∀ t : Fin grid0.N, win0_2.index t = ![0, 0]) t]
  show wIn m c (0 * 1024 + (i 0).val) (0 * 1024 + (i 1).val) = _
  rw [Nat.zero_mul, Nat.zero_add, Nat.zero_add]

end blocks

section payloads
variable {dz cat w : ℕ → ℕ → EReal} {x : Vec Ideal S1024x1024 .f32} {y z : Vec Ideal S1024x1024 .bf16}

/-- The block of the first result: the weights times the transposed gradient. -/
theorem product_entries (hx : Entries2 (φ := .f32) x dz) (hz : Entries2 (φ := .bf16) z w) :
    Entries2 (φ := .f32) (k0_pay3 (F := Ideal) x z) (fun i j => ∑ q ∈ Finset.range 1024, w i q * dz j q) :=
  (hz.cast _).mulNT ((hx.cast _).trunc _) _

/-- The second result: what was there, plus the transposed output times the gradient. -/
theorem summed_entries {p : Vec Ideal S1024x1024 .f32} {s : ℕ → ℕ → EReal} (hx : Entries2 (φ := .f32) x dz)
    (hp : Entries2 (φ := .f32) p s) (hy : Entries2 (φ := .bf16) y cat) :
    Entries2 (φ := .f32) (k0_pay4 (F := Ideal) x p y)
      (fun i j => s i j + ∑ q ∈ Finset.range 1024, cat i q * dz q j) :=
  (hp.cast _).add ((hy.cast _).mulNN ((hx.cast _).trunc _) _)

/-- The zeros that the sum starts from. -/
theorem zero_entries : Entries2 (φ := .f32) (k0_pay1 (F := Ideal)) (fun _ _ => 0) := fun _ => by
  show Ideal.ofBits .f32 0x00000000#32 = _
  simp

end payloads

section cases
variable (t : Fin cfg0.N)

/-- The first point's block of the first result. -/
theorem dcat_A (h0 : t.val % 4 = 0) : Entries2 (φ := .f32) (outsAt0 m c t.val t.isLt).1
    (fun i j => dcat (dzIn m c) (wIn m c) i (1024 * t.val + j)) := by
  rw [outsAt0_A m c t h0]
  frame_open
  try simp (disch := decide) only [↓ View.readCov_skip, ↓ View.readCov_cons_toLoadRect, ↓ View.readCov_fill]
  frame_out
  try simp only [read_unread_whole]
  exact product_entries (dz_block m c t) (w_block m c t)

/-- Every later point's block of the first result. -/
theorem dcat_B (h0 : ¬t.val % 4 = 0) : Entries2 (φ := .f32) (outsAt0 m c t.val t.isLt).1
    (fun i j => dcat (dzIn m c) (wIn m c) i (1024 * t.val + j)) := by
  rw [outsAt0_B m c t h0]
  frame_open
  try simp (disch := decide) only [↓ View.readCov_skip, ↓ View.readCov_cons_toLoadRect, ↓ View.readCov_fill]
  frame_out
  try simp only [read_unread_whole]
  exact product_entries (dz_block m c t) (w_block m c t)

/-- The first point's second result: its own tokens' share. -/
theorem gw_A (h0 : t.val % 4 = 0) : Entries2 (φ := .f32) (outsAt0 m c t.val t.isLt).2
    (gw (dzIn m c) (catIn m c) (1024 * (t.val + 1))) := by
  have e : t.val = 0 := by have : t.val < 4 := t.isLt; omega
  rw [outsAt0_A m c t h0]
  frame_open
  try simp (disch := decide) only [↓ View.readCov_skip, ↓ View.readCov_cons_toLoadRect, ↓ View.readCov_fill]
  frame_out
  try simp only [read_unread_whole]
  refine (summed_entries (dz_block m c t) zero_entries (cat_block m c t)).congr fun i j _ _ => ?_
  rw [gw_block, e]
  congr 1

/-- Every later point's second result: what the point before left, and its own tokens' share. -/
theorem gw_B (h0 : ¬t.val % 4 = 0) (ht : t.val - 1 < cfg0.N)
    (hp : Entries2 (φ := .f32) (outsAt0 m c (t.val - 1) ht).2 (gw (dzIn m c) (catIn m c) (1024 * t.val))) :
    Entries2 (φ := .f32) (outsAt0 m c t.val t.isLt).2 (gw (dzIn m c) (catIn m c) (1024 * (t.val + 1))) := by
  rw [outsAt0_B m c t h0]
  frame_open
  try simp (disch := decide) only [↓ View.readCov_skip, ↓ View.readCov_cons_toLoadRect, ↓ View.readCov_fill]
  frame_out
  try simp only [read_unread_whole]
  refine (summed_entries (dz_block m c t) hp (cat_block m c t)).congr fun i j _ _ => ?_
  rw [gw_block]

end cases

/-- The weights' gradient after grid point `n`: the tokens seen so far. -/
theorem gw_after (n : ℕ) (hn : n < cfg0.N) :
    Entries2 (φ := .f32) (outsAt0 m c n hn).2 (gw (dzIn m c) (catIn m c) (1024 * (n + 1))) := by
  induction n with
  | zero => exact gw_A m c ⟨0, hn⟩ rfl
  | succ n ih =>
    have hN : n + 1 < 4 := hn
    have ht : n < cfg0.N := by omega
    exact gw_B m c ⟨n + 1, hn⟩ (by show ¬(n + 1) % 4 = 0; omega) ht (ih ht)

/-- The block of the first result that a grid point leaves. -/
theorem dcat_after (n : ℕ) (hn : n < cfg0.N) : Entries2 (φ := .f32) (outsAt0 m c n hn).1
    (fun i j => dcat (dzIn m c) (wIn m c) i (1024 * n + j)) := by
  by_cases h0 : n % 4 = 0
  · exact dcat_A m c ⟨n, hn⟩ h0
  · exact dcat_B m c ⟨n, hn⟩ h0

/-- The first result is, block of columns by block, what the grid points leave. -/
theorem dcat_array : (dats m 0 c).arrAt 3 cfg0.N = fun i : S1024x4096.Idx =>
    dcat (dzIn m c) (wIn m c) (i 0).val (i 1).val := by
  refine (dats m 0 c).arrAt_eq_of_covers 3 _ (by decide +kernel) fun t hf y => ?_
  have e := (by decide +kernel : ∀ t : Fin grid0.N, win0_3.index t 0 = 0 ∧ win0_3.index t 1 = t.val) t
  rw [after0_3]
  refine (dcat_after m c t.val t.isLt y).trans ?_
  have e0 : ((win0_3.blk t).view.emb y 0).val = (y 0).val := by blk_simp; rw [e.1]; omega
  have e1 : ((win0_3.blk t).view.emb y 1).val = 1024 * t.val + (y 1).val := by blk_simp; rw [e.2]; omega
  show dcat _ _ (y 0).val (1024 * t.val + (y 1).val)
    = dcat _ _ ((win0_3.blk t).view.emb y 0).val ((win0_3.blk t).view.emb y 1).val
  rw [e0, e1]

/-- The second result is what the last point leaves. -/
theorem gw_array : (dats m 0 c).arrAt 4 cfg0.N = (outsAt0 m c 3 (by decide)).2 := by
  refine (dats m 0 c).arrAt_eq_of_after_last 4 t0_3 (by decide +kernel) _ fun j => ?_
  blk_simp
  rw [after0_4]
  rfl

/-- The second result: the weights' gradient from all tokens. -/
theorem gw_holds (i : S1024x1024.Idx) :
    (dats m 0 c).arrAt 4 cfg0.N i = gw (dzIn m c) (catIn m c) 4096 (i 0).val (i 1).val := by
  rw [gw_array]
  exact gw_after m c 3 (by decide) i

end Cert.Proj

end
-- ==== Proof.ProjEquation.lean ====
/- The output projection's backward call and its reference leave the same extended reals, finite or not. -/
module

public import proofs.«01_k».proof.Defs
public import proofs.«01_k».proof.Proof.Gen.Reference3Ideal.Run
public import proofs.«01_k».proof.Proof.Gen.Reference3Ideal.Read
public import proofs.«01_k».proof.Proof.ProjPoint

@[expose] public section

set_option maxRecDepth 16384

noncomputable section

open scoped BigOperators

namespace Cert.Proj

open Idealize.ShloMosaic Idealize.ShloMosaic.TcCoe Idealize.SL.Sem

section run
open Cert.Kernel3Ideal Cert.Kernel3Ideal.Gen

variable (m : (ℓ : Loc nD τ sig) → Buf (Elt Ideal) ℓ) (ρ : Dev nD → PrngReg)

/-- The arguments are as at the start. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The program runs, leaves each result as its blocks leave it, and keeps the arguments. -/
theorem run_blocks : θ_run defs (onTc (τ := τ) (main (F := Ideal))) ⟨m, fun _ => 0, ρ⟩ fun r => ∀ c : Dev nD,
      r.2.mem ((c : Thread nD τ).loc main_v6_0) = (dats m 0 c).arrAt 3 cfg0.N
      ∧ r.2.mem ((c : Thread nD τ).loc main_v6_1) = (dats m 0 c).arrAt 4 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1 3, (h c).1 4, kept m r h c⟩) (run_main m ρ)

end run

section reference
open Cert.Reference3Ideal Cert.Reference3Ideal.Read Cert.Reference3Ideal.Gen

variable (x0 x1 : FVec Ideal S1x4096x1024 .f32) (x2 : FVec Ideal S1x1024x1024 .f32)

/-- The reference's incoming gradient. -/
theorem r3 : Entries2 (φ := .f32) (val_main_v3 (F := Ideal) x0 : FVec Ideal S4096x1024 .f32) (entry x0) := by
  unfold val_main_v3
  exact entries_slab _ _

/-- The reference's mixer output. -/
theorem r0 : Entries2 (φ := .f32) (val_main_v0 (F := Ideal) x1 : FVec Ideal S4096x1024 .f32) (entry x1) := by
  unfold val_main_v0
  exact entries_slab _ _

/-- The reference's weights. -/
theorem r1 : Entries2 (φ := .f32) (val_main_v1 (F := Ideal) x2 : FVec Ideal S1024x1024 .f32) (entry x2) := by
  unfold val_main_v1
  exact entries_slab _ _

/-- The reference's gradient of the mixer's output, transposed. -/
theorem r7 (i : S1024x4096.Idx) : val_main_v7 (F := Ideal) x0 x2 i = dcat (entry x0) (entry x2) (i 0).val (i 1).val := by
  rw [val_main_v7_apply, val_main_v6_apply]
  unfold dcat
  rw [← Fin.sum_univ_eq_sum_range (fun q => entry x2 _ q * entry x0 _ q)]
  refine Finset.sum_congr rfl fun q _ => ?_
  rw [r3 x0, r1 x2, mul_comm]

/-- The reference's gradient of the weights. -/
theorem r5 (i : S1024x1024.Idx) : val_main_v5 (F := Ideal) x0 x1 i
    = gw (entry x0) (entry x1) 4096 (i 0).val (i 1).val := by
  rw [val_main_v5_apply, val_main_v4_apply]
  unfold gw
  rw [← Fin.sum_univ_eq_sum_range (fun q => entry x1 q _ * entry x0 q _)]
  refine Finset.sum_congr rfl fun q _ => ?_
  rw [r3 x0, r0 x1, mul_comm]

end reference

open Cert.Kernel3Ideal Cert.Kernel3Ideal.Gen in
/-- Both programs run, keep their arguments, and agree on both results. -/
theorem equal : algebraic_Kernel3Ideal_Reference3Ideal := by
  intro m g m' g' _ hargs
  refine ⟨fun c => (dats m 0 c).arrAt 3 cfg0.N, fun c => (dats m 0 c).arrAt 4 cfg0.N, run_blocks m g, ?_⟩
  refine (θ_run _ _ _).mono (fun r h c => ?_) (Cert.Reference3Ideal.Value.run m' g')
  obtain ⟨q0, q1, q⟩ := h c
  obtain ⟨e0, e1, e2⟩ := hargs c
  refine ⟨funext fun i => ?_, funext fun i => ?_, q⟩
  · refine (congrFun (q0.trans (Cert.Reference3Ideal.Read.val_main_v7_eq _ _)) i).trans ((r7 _ _ i).trans ?_)
    show _ = (dats m 0 c).arrAt 3 cfg0.N i
    rw [e0, e2, dcat_array]
    rfl
  · refine (congrFun (q1.trans (Cert.Reference3Ideal.Read.val_main_v5_eq _ _)) i).trans ((r5 _ _ i).trans ?_)
    rw [e0, e1]
    exact (gw_holds m c i).symm

end Cert.Proj

end
-- ==== Proof.Dgrad.lean ====
/- What the input projection's backward call finds at each grid point and what it leaves there.

   Grid point `t` reads the tokens `512 t` to `512 t + 511`, and writes their rows of the input's gradient. -/
module

public import proofs.«01_k».proof.Proof.Gen.Kernel4Ideal.Frame
public import Idealize.ShloMosaic.Lib.Pipeline.ValueKit
public import Idealize.ShloMosaic.Lib.Pipeline.ReadBack
public import Idealize.ShloMosaic.Lib.Claim
public import proofs.«01_k».proof.Proof.ProjEntries

@[expose] public section

set_option maxRecDepth 16384

noncomputable section

open scoped BigOperators

namespace Cert.Dgrad

open Idealize.ShloMosaic Idealize.ShloMosaic.TcCoe Idealize.ShloMosaic.ValueIdx Idealize.SL.Sem Idealize.ShloMosaic.Pipeline
open Cert.Proj

section pieces
variable {φ ψ : FTy} {m k n : ℕ}

/-- The product `xᵀ y`. -/
theorem mulTN {x : FVec Ideal ⟨2, ![k, m]⟩ φ} {y : FVec Ideal ⟨2, ![k, n]⟩ ψ} {f g : ℕ → ℕ → EReal}
    (hx : Entries2 x f) (hy : Entries2 y g) (wf) :
    Entries2 (matmul (⟨[0], [0], [1], [1], [], [], wf⟩ : DotDims ⟨2, ![k, m]⟩ ⟨2, ![k, n]⟩ ⟨2, ![m, n]⟩) none x y
      (constant ⟨2, ![m, n]⟩ .f32 0x00000000#32)) (fun i j => ∑ q ∈ Finset.range k, f q i * g q j) := fun i => by
  refine (Ideal.matmul_constant_zero_apply _ none x y i).trans ?_
  beta_reduce
  rw [← Fin.sum_univ_eq_sum_range (fun q => f q _ * g q _), ← Equiv.sum_comp (contrEquiv1 _ k rfl rfl).symm]
  refine Finset.sum_congr rfl fun q _ => ?_
  rw [hx, hy]
  rfl

/-- A rectangle of an array. -/
theorem ld {A B a b : ℕ} {x : FVec Ideal ⟨2, ![A, B]⟩ φ} {f : ℕ → ℕ → EReal} (hx : Entries2 x f) (r s : ℕ)
    (inb : ∀ q : Fin 2, (![r, s] : Fin 2 → ℕ) q + (![a, b] : Fin 2 → ℕ) q ≤ (⟨2, ![A, B]⟩ : Shape).size q) :
    Entries2 (a := a) (b := b) (φ := φ) (fun i => x ((Rect.unit (s := ⟨2, ![A, B]⟩) ![r, s] ![a, b] inb).idx i))
      (fun i j => f (r + i) (s + j)) := fun i => by
  refine (hx _).trans ?_
  show f (r + 1 * (i 0).val) (s + 1 * (i 1).val) = _
  rw [Nat.one_mul, Nat.one_mul]

/-- A buffer whose first `n` columns are filled gets the next `b` columns. -/
theorem columns_step {A B b n : ℕ} {w : FVec Ideal ⟨2, ![A, b]⟩ .bf16} {f : ℕ → ℕ → EReal}
    {L : List (View.Piece (Elt Ideal) ⟨2, ![A, B]⟩ .bf16)} (hw : Entries2 w (fun i j => f i (n + j)))
    (inb : ∀ q : Fin 2, (![0, n] : Fin 2 → ℕ) q + (![A, b] : Fin 2 → ℕ) q ≤ (⟨2, ![A, B]⟩ : Shape).size q)
    (h : ∀ y, (y 1).val < n → View.canon (Val := Elt Ideal) L y = f (y 0).val (y 1).val) :
    ∀ y, (y 1).val < n + b → View.canon (Val := Elt Ideal) (e := .bf16)
      (⟨Rect.unit (s := ⟨2, ![A, B]⟩) ![0, n] ![A, b] inb, w⟩ :: L) y = f (y 0).val (y 1).val := fun y hy => by
  by_cases hm : y ∈ (Rect.unit (s := ⟨2, ![A, B]⟩) ![0, n] ![A, b] inb).set
  · obtain ⟨z, rfl⟩ := (Rect.unit (s := ⟨2, ![A, B]⟩) ![0, n] ![A, b] inb).exists_idx_of_mem hm
    refine (View.canon_cons_emb (Val := Elt Ideal) (e := .bf16) (Rect.unit (s := ⟨2, ![A, B]⟩) ![0, n] ![A, b] inb) w L z).trans
      ((hw z).trans ?_)
    show _ = f (0 + 1 * (z 0).val) (n + 1 * (z 1).val)
    rw [Nat.one_mul, Nat.one_mul, Nat.zero_add]
  · have hc : (y 1).val < n := by
      by_contra hc
      refine hm (Rect.mem_set_unit.mpr fun q => ?_)
      have h0 : (y 0).val < A := (y 0).isLt
      match q with
      | ⟨0, _⟩ => exact ⟨Nat.zero_le _, by show (y 0).val < 0 + A; omega⟩
      | ⟨1, _⟩ => exact ⟨by show n ≤ (y 1).val; omega, by show (y 1).val < n + b; omega⟩
    exact (View.canon_cons_of_not_mem ⟨_, w⟩ L hm).trans (h y hc)

/-- A load of a whole two-axis buffer after the stores `L` reads what they leave. -/
theorem readCov_whole {sig : RefSig} {κ : Kind} {sp : Space} {A B : ℕ} (v : View sig κ sp ⟨2, ![A, B]⟩ .bf16)
    (L : List (View.Piece (Elt Ideal) ⟨2, ![A, B]⟩ .bf16)) {f : ℕ → ℕ → EReal}
    (h : Entries2 (φ := .bf16) (View.canon (Val := Elt Ideal) L) f)
    (inb : ∀ q : Fin 2, (![0, 0] : Fin 2 → ℕ) q + (![A, B] : Fin 2 → ℕ) q ≤ (⟨2, ![A, B]⟩ : Shape).size q) :
    Entries2 (φ := .bf16) (a := A) (b := B)
      (v.readCov (Val := Elt Ideal) L (Rect.unit (s := ⟨2, ![A, B]⟩) ![0, 0] ![A, B] inb).toLoadRect) f := by
  rw [View.readCov_eq_canon']
  exact (ld h 0 0 inb).congr fun i j _ _ => by rw [Nat.zero_add, Nat.zero_add]

end pieces

/-- The factor of the residual stream. -/
def alpha : EReal := Ideal.ofBits .f32 0x3F9837F0#32

/-- The gradient of the keys and values of token `t`, column `j`: its own block's share, and for the later half of each
    256 tokens the share of the block after, which reads these tokens too. -/
def dkv (own next : ℕ → ℕ → EReal) (t j : ℕ) : EReal :=
  if t % 256 < 128 then own t j else own t j + next (128 * (t / 256) + (t % 256 - 128)) j

/-- Row `t`, column `j` of the input's gradient. -/
def dx (dz dh own next w : ℕ → ℕ → EReal) (t j : ℕ) : EReal :=
  alpha * dz t j + ∑ q ∈ Finset.range 1536, dh t q * w j q + ∑ q ∈ Finset.range 256, dkv own next t q * w j (1536 + q)

open Cert.Kernel4Ideal Cert.Kernel4Ideal.Gen

variable (m : (ℓ : Loc nD τ sig) → Buf (Elt Ideal) ℓ) (c : Dev nD)

/-- The gradient behind the first norm. -/
def dzIn : ℕ → ℕ → EReal := entry (φ := .f32) (a := 4096) (b := 1024) (m (c.tc.loc main_arg0))

/-- The gradient of the first 1536 columns of the projection. -/
def dhIn : ℕ → ℕ → EReal := entry (φ := .f32) (a := 4096) (b := 1536) (m (c.tc.loc main_arg1))

/-- The share of a token's own block in the gradient of its keys and values. -/
def ownIn : ℕ → ℕ → EReal := entry (φ := .f32) (a := 4096) (b := 256) (m (c.tc.loc main_arg2))

/-- The share of the block after. -/
def nextIn : ℕ → ℕ → EReal := entry (φ := .f32) (a := 2048) (b := 256) (m (c.tc.loc main_arg3))

/-- The weights. -/
def wIn : ℕ → ℕ → EReal := entry (φ := .f32) (a := 1024) (b := 1792) (m (c.tc.loc main_arg4))

section arrays

/-- The gradient behind the norm, without its leading axis. -/
theorem V_dz : V m c main_v7 = shapeCast S4096x1024 (m (c.tc.loc main_arg0)) shapeCasts_S1x4096x1024_S4096x1024 := by
  unfold V
  simp only [hostOps0]
  entry_read
  rfl

/-- The gradient of the first columns, transposed. -/
theorem V_dh : V m c main_v2 = truncf .bf16 (transpose S1536x4096 [1, 0]
    (shapeCast S4096x1536 (m (c.tc.loc main_arg1)) shapeCasts_S1x4096x1536_S4096x1536)
    transposes_S4096x1536_S1536x4096_1_0 : FVec Ideal S1536x4096 .f32) bitsLt_bf16_f32 := by
  unfold V
  simp only [hostOps0]
  entry_read
  rfl

/-- The own share, transposed. -/
theorem V_own : V m c main_v4 = transpose S256x4096 [1, 0]
    (shapeCast S4096x256 (m (c.tc.loc main_arg2)) shapeCasts_S1x4096x256_S4096x256)
    transposes_S4096x256_S256x4096_1_0 := by
  unfold V
  simp only [hostOps0]
  entry_read
  rfl

/-- The share of the block after, transposed. -/
theorem V_next : V m c main_v6 = transpose S256x2048 [1, 0]
    (shapeCast S2048x256 (m (c.tc.loc main_arg3)) shapeCasts_S1x2048x256_S2048x256)
    transposes_S2048x256_S256x2048_1_0 := by
  unfold V
  simp only [hostOps0]
  entry_read
  rfl

/-- The weights, transposed. -/
theorem V_w : V m c main_v10 = truncf .bf16 (transpose S1792x1024 [1, 0]
    (shapeCast S1024x1792 (m (c.tc.loc main_arg4)) shapeCasts_S1x1024x1792_S1024x1792)
    transposes_S1024x1792_S1792x1024_1_0 : FVec Ideal S1792x1024 .f32) bitsLt_bf16_f32 := by
  unfold V
  simp only [hostOps0]
  entry_read
  rfl

/-- The gradient behind the norm, as the call finds it. -/
theorem dz_array : Entries2 (φ := .f32) (V m c main_v7 : FVec Ideal S4096x1024 .f32) (dzIn m c) := by
  rw [V_dz]
  exact entries_slab _ _

/-- The gradient of the first columns, as the call finds it. -/
theorem dh_array : Entries2 (φ := .bf16) (V m c main_v2 : FVec Ideal S1536x4096 .bf16) (fun i t => dhIn m c t i) := by
  rw [V_dh]
  exact ((entries_slab _ _).transpose _).trunc _

/-- The own share, as the call finds it. -/
theorem own_array : Entries2 (φ := .f32) (V m c main_v4 : FVec Ideal S256x4096 .f32) (fun i t => ownIn m c t i) := by
  rw [V_own]
  exact (entries_slab _ _).transpose _

/-- The share of the block after, as the call finds it. -/
theorem next_array : Entries2 (φ := .f32) (V m c main_v6 : FVec Ideal S256x2048 .f32) (fun i t => nextIn m c t i) := by
  rw [V_next]
  exact (entries_slab _ _).transpose _

/-- The weights, as the call finds them. -/
theorem w_array : Entries2 (φ := .bf16) (V m c main_v10 : FVec Ideal S1792x1024 .bf16) (fun i j => wIn m c j i) := by
  rw [V_w]
  exact ((entries_slab _ _).transpose _).trunc _

end arrays

section blocks
variable (t : Fin cfg0.N)

/-- A grid point's columns of the gradient of the first columns. -/
theorem dh_block : Entries2 (φ := .bf16) (iblk m c 0 t : FVec Ideal S1536x512 .bf16)
    (fun i j => dhIn m c (512 * t.val + j) i) := fun i => by
  show V m c main_v2 ((win0_0.rect t).emb i) = _
  refine (dh_array m c _).trans ?_
  beta_reduce
  rw [Window.rect_emb_val win0_0 t i 0, Window.rect_emb_val win0_0 t i 1,
    (by decide +kernel : ∀ t : Fin grid0.N, win0_0.index t = ![0, t.val]) t]
  show dhIn m c (t.val * 512 + (i 1).val) (0 * 1536 + (i 0).val) = _
  rw [Nat.zero_mul, Nat.zero_add, Nat.mul_comm]

/-- A grid point's columns of the own share. -/
theorem own_block : Entries2 (φ := .f32) (iblk m c 1 t : FVec Ideal S256x512 .f32)
    (fun i j => ownIn m c (512 * t.val + j) i) := fun i => by
  show V m c main_v4 ((win0_1.rect t).emb i) = _
  refine (own_array m c _).trans ?_
  beta_reduce
  rw [Window.rect_emb_val win0_1 t i 0, Window.rect_emb_val win0_1 t i 1,
    (by decide +kernel : ∀ t : Fin grid0.N, win0_1.index t = ![0, t.val]) t]
  show ownIn m c (t.val * 512 + (i 1).val) (0 * 256 + (i 0).val) = _
  rw [Nat.zero_mul, Nat.zero_add, Nat.mul_comm]

/-- A grid point's columns of the share of the block after. -/
theorem next_block : Entries2 (φ := .f32) (iblk m c 2 t : FVec Ideal S256x256 .f32)
    (fun i j => nextIn m c (256 * t.val + j) i) := fun i => by
  show V m c main_v6 ((win0_2.rect t).emb i) = _
  refine (next_array m c _).trans ?_
  beta_reduce
  rw [Window.rect_emb_val win0_2 t i 0, Window.rect_emb_val win0_2 t i 1,
    (by decide +kernel : ∀ t : Fin grid0.N, win0_2.index t = ![0, t.val]) t]
  show nextIn m c (t.val * 256 + (i 1).val) (0 * 256 + (i 0).val) = _
  rw [Nat.zero_mul, Nat.zero_add, Nat.mul_comm]

/-- A grid point's rows of the gradient behind the norm. -/
theorem dz_block : Entries2 (φ := .f32) (iblk m c 3 t : FVec Ideal S512x1024 .f32)
    (fun i j => dzIn m c (512 * t.val + i) j) := fun i => by
  show V m c main_v7 ((win0_3.rect t).emb i) = _
  refine (dz_array m c _).trans ?_
  rw [Window.rect_emb_val win0_3 t i 0, Window.rect_emb_val win0_3 t i 1,
    (by decide +kernel : ∀ t : Fin grid0.N, win0_3.index t = ![t.val, 0]) t]
  show dzIn m c (t.val * 512 + (i 0).val) (0 * 1024 + (i 1).val) = _
  rw [Nat.zero_mul, Nat.zero_add, Nat.mul_comm]

/-- The weights, whole at every point. -/
theorem w_block : Entries2 (φ := .bf16) (iblk m c 4 t : FVec Ideal S1792x1024 .bf16) (fun i j => wIn m c j i) := fun i => by
  show V m c main_v10 ((win0_4.rect t).emb i) = _
  refine (w_array m c _).trans ?_
  beta_reduce
  rw [Window.rect_emb_val win0_4 t i 0, Window.rect_emb_val win0_4 t i 1,
    (by decide +kernel : ∀ t : Fin grid0.N, win0_4.index t = ![0, 0]) t]
  show wIn m c (0 * 1024 + (i 1).val) (0 * 1792 + (i 0).val) = _
  rw [Nat.zero_mul, Nat.zero_add, Nat.zero_add]

/-- The earlier 128 columns of 256: the own share. -/
theorem early (s : ℕ) (hs : s < 2) {x : Vec Ideal S256x128 .f32}
    (hx : Entries2 (φ := .f32) x (fun i j => ownIn m c (512 * t.val + (256 * s + j)) i)) :
    Entries2 (φ := .bf16) (k0_pay2 (F := Ideal) x)
      (fun i j => dkv (ownIn m c) (nextIn m c) (512 * t.val + (256 * s + j)) i) :=
  (((hx.cast _).trunc _).cast _).congr fun i j _ hj => by
    unfold dkv
    rw [if_pos (by omega)]

/-- The later 128 columns of 256: the own share and that of the block after. -/
theorem late (s : ℕ) (hs : s < 2) {x y : Vec Ideal S256x128 .f32}
    (hx : Entries2 (φ := .f32) x (fun i j => ownIn m c (512 * t.val + (256 * s + 128 + j)) i))
    (hy : Entries2 (φ := .f32) y (fun i j => nextIn m c (256 * t.val + (128 * s + j)) i)) :
    Entries2 (φ := .bf16) (k0_pay3 (F := Ideal) x y)
      (fun i j => dkv (ownIn m c) (nextIn m c) (512 * t.val + (256 * s + 128 + j)) i) :=
  ((((hx.cast _).add (hy.cast _)).trunc _).cast _).congr fun i j _ hj => by
    unfold dkv
    rw [if_neg (by omega)]
    congr 2
    omega

/-- The gradient of a grid point's keys and values, once its four pieces of 128 columns are stored. -/
theorem dkv_filled (i0 i1 i2 i3 j0 j1 j2 j3 k1 k3) : Entries2 (φ := .bf16) (View.canon (Val := Elt Ideal) (s := S256x512) (e := .bf16)
    [⟨Rect.unit (s := S256x512) ![0, 384] ![256, 128] i3,
        k0_pay5 (F := Ideal) (View.ld (iblk m c 1 t) (Rect.unit (s := S256x512) ![0, 384] ![256, 128] j3))
          (View.ld (iblk m c 2 t) (Rect.unit (s := S256x256) ![0, 128] ![256, 128] k3))⟩,
      ⟨Rect.unit (s := S256x512) ![0, 256] ![256, 128] i2,
        k0_pay4 (F := Ideal) (View.ld (iblk m c 1 t) (Rect.unit (s := S256x512) ![0, 256] ![256, 128] j2))⟩,
      ⟨Rect.unit (s := S256x512) ![0, 128] ![256, 128] i1,
        k0_pay3 (F := Ideal) (View.ld (iblk m c 1 t) (Rect.unit (s := S256x512) ![0, 128] ![256, 128] j1))
          (View.ld (iblk m c 2 t) (Rect.unit (s := S256x256) ![0, 0] ![256, 128] k1))⟩,
      ⟨Rect.unit (s := S256x512) ![0, 0] ![256, 128] i0,
        k0_pay2 (F := Ideal) (View.ld (iblk m c 1 t) (Rect.unit (s := S256x512) ![0, 0] ![256, 128] j0))⟩])
    (fun i j => dkv (ownIn m c) (nextIn m c) (512 * t.val + j) i) := fun y => by
  have o := own_block m c t
  have x := next_block m c t
  have p0 := early m c t 0 (by omega) ((ld o 0 0 j0).congr fun i j _ _ => by congr 1 <;> omega)
  have p1 := late m c t 0 (by omega) ((ld o 0 128 j1).congr fun i j _ _ => by congr 1 <;> omega)
    ((ld x 0 0 k1).congr fun i j _ _ => by congr 1 <;> omega)
  have p2 := early m c t 1 (by omega) ((ld o 0 256 j2).congr fun i j _ _ => by congr 1 <;> omega)
  have p3 := late m c t 1 (by omega) ((ld o 0 384 j3).congr fun i j _ _ => by congr 1 <;> omega)
    ((ld x 0 128 k3).congr fun i j _ _ => by congr 1 <;> omega)
  let f : ℕ → ℕ → EReal := fun i j => dkv (ownIn m c) (nextIn m c) (512 * t.val + j) i
  have q0 := columns_step (n := 0) (L := []) (f := f) (p0.congr fun i j _ _ => rfl) i0 fun _ h => absurd h (Nat.not_lt_zero _)
  have q1 := columns_step (n := 128) (f := f) p1 i1 q0
  have q2 := columns_step (n := 256) (f := f) p2 i2 q1
  exact columns_step (n := 384) (f := f) p3 i3 q2 y (idx2_lt1 y)

/-- The payload that is stored: the scaled gradient and the two products. -/
theorem stored {dz dh kv w : ℕ → ℕ → EReal} {x : Vec Ideal S512x1024 .f32} {y : Vec Ideal S1536x512 .bf16}
    {w1 : Vec Ideal S1536x1024 .bf16} {z : Vec Ideal S256x512 .bf16} {w2 : Vec Ideal S256x1024 .bf16}
    (hx : Entries2 (φ := .f32) x dz) (hy : Entries2 (φ := .bf16) y (fun i j => dh j i))
    (h1 : Entries2 (φ := .bf16) w1 (fun i j => w j i)) (hz : Entries2 (φ := .bf16) z (fun i j => kv j i))
    (h2 : Entries2 (φ := .bf16) w2 (fun i j => w j (1536 + i))) :
    Entries2 (φ := .f32) (k0_pay1 (F := Ideal) (k0_pay6 x) (FloatOps.ofBits .f32 0x3F9837F0#32) y w1 z w2)
      (fun i j => alpha * dz i j + ∑ q ∈ Finset.range 1536, dh i q * w j q
        + ∑ q ∈ Finset.range 256, kv i q * w j (1536 + q)) := by
  have hs : Entries2 (φ := .f32) (mulf (broadcast S512x1024 (FloatOps.ofBits (F := Ideal) .f32 0x3F9837F0#32)) (k0_pay6 x))
      (fun i j => alpha * dz i j) := fun i => by
    show alpha * k0_pay6 x i = _
    rw [show k0_pay6 x i = dz (i 0).val (i 1).val from (hx.cast _) i]
  exact (hs.add (mulTN (hy.cast _) (h1.cast _) _)).add (mulTN hz (h2.cast _) _)

/-- The rows that a grid point leaves. -/
theorem dx_left : Entries2 (φ := .f32) (outsAt0 m c t)
    (fun i j => dx (dzIn m c) (dhIn m c) (ownIn m c) (nextIn m c) (wIn m c) (512 * t.val + i) j) := by
  unfold outsAt0
  frame_open
  try simp (disch := decide) only [↓ View.readCov_skip, ↓ View.readCov_cons_toLoadRect, ↓ View.readCov_fill]
  frame_out
  try simp only [read_unread_whole]
  have hw := w_block m c t
  exact stored (dz_block m c t) (dh_block m c t)
    ((ld hw 0 0 _).congr fun i j _ _ => by rw [Nat.zero_add, Nat.zero_add])
    (readCov_whole _ _ (dkv_filled m c t _ _ _ _ _ _ _ _ _ _) _)
    ((ld hw 1536 0 _).congr fun i j _ _ => by rw [Nat.zero_add])

end blocks

/-- The result is, block of rows by block, what the grid points leave. -/
theorem dx_array : (dats m 0 c).arrAt 5 cfg0.N = fun i : S4096x1024.Idx =>
    dx (dzIn m c) (dhIn m c) (ownIn m c) (nextIn m c) (wIn m c) (i 0).val (i 1).val := by
  refine (dats m 0 c).arrAt_eq_of_covers 5 _ (by decide +kernel) fun t hf y => ?_
  have e := (by decide +kernel : ∀ t : Fin grid0.N, win0_5.index t 0 = t.val ∧ win0_5.index t 1 = 0) t
  have h := dx_left m c t
  rw [after0_5]
  generalize outsAt0 m c t = o at h ⊢
  refine (h y).trans ?_
  have e0 : ((win0_5.blk t).view.emb y 0).val = 512 * t.val + (y 0).val := by blk_simp; rw [e.1]; omega
  have e1 : ((win0_5.blk t).view.emb y 1).val = (y 1).val := by blk_simp; rw [e.2]; omega
  show dx _ _ _ _ _ (512 * t.val + (y 0).val) (y 1).val
    = dx _ _ _ _ _ ((win0_5.blk t).view.emb y 0).val ((win0_5.blk t).view.emb y 1).val
  rw [e0, e1]

end Cert.Dgrad

end
-- ==== Proof.DgradEquation.lean ====
/- The input projection's backward call and its reference leave the same extended reals, finite or not. -/
module

public import proofs.«01_k».proof.Defs
public import proofs.«01_k».proof.Proof.Gen.Reference4Ideal.Run
public import proofs.«01_k».proof.Proof.Gen.Reference4Ideal.Read
public import Idealize.ShloMosaic.Lib.KernelVsHost
public import proofs.«01_k».proof.Proof.Dgrad

@[expose] public section

set_option maxRecDepth 16384

noncomputable section

open scoped BigOperators

namespace Cert.Dgrad

open Idealize.ShloMosaic Idealize.ShloMosaic.TcCoe Idealize.SL.Sem
open Cert.Proj

section run
open Cert.Kernel4Ideal Cert.Kernel4Ideal.Gen

variable (m : (ℓ : Loc nD τ sig) → Buf (Elt Ideal) ℓ) (ρ : Dev nD → PrngReg)

/-- The arguments are as at the start. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- The program runs, leaves its result as its blocks leave it, and keeps the arguments. -/
theorem run_blocks : θ_run defs (onTc (τ := τ) (main (F := Ideal))) ⟨m, fun _ => 0, ρ⟩ fun r => ∀ c : Dev nD,
      r.2.mem ((c : Thread nD τ).loc main_v11) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, kept m r h c⟩) (run_main m ρ)

end run

section reference
open Cert.Reference4Ideal Cert.Reference4Ideal.Read Cert.Reference4Ideal.Gen

variable (x0 : FVec Ideal S1x4096x1024 .f32) (x1 : FVec Ideal S1x4096x1536 .f32) (x2 : FVec Ideal S1x4096x256 .f32)
  (x3 : FVec Ideal S1x2048x256 .f32) (x4 : FVec Ideal S1x1024x1792 .f32)

/-- The reference's gradient behind the norm. -/
theorem r10 : Entries2 (φ := .f32) (val_main_v10 (F := Ideal) x0 : FVec Ideal S4096x1024 .f32) (entry x0) := by
  unfold val_main_v10
  exact entries_slab _ _

/-- The reference's gradient of the first columns. -/
theorem r11 : Entries2 (φ := .f32) (val_main_v11 (F := Ideal) x1 : FVec Ideal S4096x1536 .f32) (entry x1) := by
  unfold val_main_v11
  exact entries_slab _ _

/-- The reference's own share. -/
theorem r12 : Entries2 (φ := .f32) (val_main_v12 (F := Ideal) x2 : FVec Ideal S4096x256 .f32) (entry x2) := by
  unfold val_main_v12
  exact entries_slab _ _

/-- The reference's share of the block after. -/
theorem r13 : Entries2 (φ := .f32) (val_main_v13 (F := Ideal) x3 : FVec Ideal S2048x256 .f32) (entry x3) := by
  unfold val_main_v13
  exact entries_slab _ _

/-- The reference's weights. -/
theorem r1 : Entries2 (φ := .f32) (val_main_v1 (F := Ideal) x4 : FVec Ideal S1024x1792 .f32) (entry x4) := by
  unfold val_main_v1
  exact entries_slab _ _

/-- What fills up an array is zero. -/
theorem zero_bits : FloatOps.ofBits (F := Ideal) .f32 0x00000000#32 = (0 : EReal) := by
  show Ideal.ofBits .f32 0x00000000#32 = _
  simp

/-- The reference's gradient of the first columns, filled up with zeros. -/
theorem r14 (i : S4096x1792.Idx) : val_main_v14 (F := Ideal) x1 i
    = if (i 1).val < 1536 then entry x1 (i 0).val (i 1).val else 0 := by
  unfold val_main_v14
  by_cases h : (i 1).val < 1536
  · rw [if_pos h]
    refine (pad_apply_of_inside _ _ _ _ _ _ _ i (ValueIdx.ix2 (i 0) (⟨(i 1).val, h⟩ : Fin 1536)) fun a => ?_).trans (r11 x1 _)
    match a with
    | ⟨0, _⟩ => show (i 0).val = 0 + (i 0).val * 1; omega
    | ⟨1, _⟩ => show (i 1).val = 0 + (i 1).val * 1; omega
  · rw [if_neg h]
    refine (pad_apply_of_not_inside _ _ _ _ _ _ _ i (1 : Fin 2) fun a => h ?_).trans zero_bits
    have := a.2.2
    change ((i 1).val - 0) / (0 + 1) < 1536 at this
    omega

/-- The reference's share of the block after, at its place among the tokens. -/
theorem r19 (i : S4096x256.Idx) : val_main_v19 (F := Ideal) x3 i = if (i 0).val % 256 < 128 then 0
    else entry x3 (128 * ((i 0).val / 256) + ((i 0).val % 256 - 128)) (i 1).val := by
  have h0 : (i 0).val < 4096 := (i 0).isLt
  have h1 : (i 1).val < 256 := (i 1).isLt
  rw [val_main_v19_apply]
  unfold val_main_v18
  by_cases h : (i 0).val % 256 < 128
  · rw [if_pos h]
    refine (pad_apply_of_not_inside _ _ _ _ _ _ _ _ (1 : Fin 3) fun a => ?_).trans zero_bits
    have := a.1
    change 128 ≤ ((i 0).val * 256 + (i 1).val) / 256 % 256 at this
    omega
  · rw [if_neg h]
    refine (pad_apply_of_inside _ _ _ _ _ _ _ _
      (ValueIdx.ix3 (⟨(i 0).val / 256, by omega⟩ : Fin 16) (⟨(i 0).val % 256 - 128, by omega⟩ : Fin 128) (i 1)) fun a => ?_).trans ?_
    · match a with
      | ⟨0, _⟩ => show ((i 0).val * 256 + (i 1).val) / 65536 = 0 + (i 0).val / 256 * 1; omega
      | ⟨1, _⟩ => show ((i 0).val * 256 + (i 1).val) / 256 % 256 = 128 + ((i 0).val % 256 - 128) * 1; omega
      | ⟨2, _⟩ => show ((i 0).val * 256 + (i 1).val) % 256 = 0 + (i 1).val * 1; omega
    · refine (val_main_v17_apply (F := Ideal) x3 _).trans ((r13 x3 (idx_main_v17 _)).trans ?_)
      congr 1
      · show (((i 0).val / 256 * 128 + ((i 0).val % 256 - 128)) * 256 + (i 1).val) / 256 = _
        omega
      · show (((i 0).val / 256 * 128 + ((i 0).val % 256 - 128)) * 256 + (i 1).val) % 256 = _
        omega

/-- The reference's gradient of the keys and values. -/
theorem r20 (i : S4096x256.Idx) : val_main_v20 (F := Ideal) x2 x3 i = dkv (entry x2) (entry x3) (i 0).val (i 1).val := by
  rw [val_main_v20_apply, r12 x2, r19 x3]
  unfold dkv
  split
  · exact add_zero _
  · rfl

/-- The same, after 1536 columns of zeros. -/
theorem r21 (i : S4096x1792.Idx) : val_main_v21 (F := Ideal) x2 x3 i
    = if (i 1).val < 1536 then 0 else dkv (entry x2) (entry x3) (i 0).val ((i 1).val - 1536) := by
  have h1 : (i 1).val < 1792 := (i 1).isLt
  unfold val_main_v21
  by_cases h : (i 1).val < 1536
  · rw [if_pos h]
    refine (pad_apply_of_not_inside _ _ _ _ _ _ _ i (1 : Fin 2) fun a => ?_).trans zero_bits
    have := a.1
    change 1536 ≤ (i 1).val at this
    omega
  · rw [if_neg h]
    refine (pad_apply_of_inside _ _ _ _ _ _ _ i (ValueIdx.ix2 (i 0) (⟨(i 1).val - 1536, by omega⟩ : Fin 256)) fun a => ?_).trans
      (r20 x2 x3 _)
    match a with
    | ⟨0, _⟩ => show (i 0).val = 0 + (i 0).val * 1; omega
    | ⟨1, _⟩ => show (i 1).val = 1536 + ((i 1).val - 1536) * 1; omega

/-- The reference's result. -/
theorem r24 (i : S4096x1024.Idx) : val_main_v24 (F := Ideal) x0 x1 x2 x3 x4 i
    = dx (entry x0) (entry x1) (entry x2) (entry x3) (entry x4) (i 0).val (i 1).val := by
  rw [val_main_v24_apply, val_main_v16_apply, val_main_v15_apply, val_main_cst_2_apply, r10 x0, val_main_v23_apply]
  unfold dx
  rw [add_assoc]
  show alpha * _ + _ = _
  congr 1
  let s : ℕ → EReal := fun q => ((if q < 1536 then entry x1 (i 0).val q else 0)
    + (if q < 1536 then 0 else dkv (entry x2) (entry x3) (i 0).val (q - 1536))) * entry x4 (i 1).val q
  have hs : ∀ k : Fin 1792, val_main_v22 (F := Ideal) x1 x2 x3 (lidx_main_v23 i k)
      * val_main_v1 (F := Ideal) x4 (ridx_main_v23 i k) = s k.val := fun k => by
    rw [val_main_v22_apply, r14, r21, r1 x4]
    rfl
  rw [Finset.sum_congr rfl fun k _ => hs k, Fin.sum_univ_eq_sum_range s 1792]
  refine (Finset.sum_range_add s 1536 256).trans ?_
  congr 1
  · refine Finset.sum_congr rfl fun q hq => ?_
    have hq := Finset.mem_range.mp hq
    show (_ + _) * _ = _
    rw [if_pos hq, if_pos hq, add_zero]
  · refine Finset.sum_congr rfl fun q _ => ?_
    show (_ + _) * _ = _
    rw [if_neg (by omega), if_neg (by omega), zero_add, Nat.add_sub_cancel_left]

end reference

open Cert.Kernel4Ideal Cert.Kernel4Ideal.Gen in
/-- Both programs run, keep their arguments, and agree on the result. -/
theorem equal : algebraic_Kernel4Ideal_Reference4Ideal := by
  intro m g m' g' _ hargs
  refine ⟨fun c => (dats m 0 c).arrAt 5 cfg0.N, run_blocks m g, ?_⟩
  refine (θ_run _ _ _).mono (fun r h c => ?_) (Cert.Reference4Ideal.Value.run m' g')
  obtain ⟨q0, q⟩ := h c
  obtain ⟨e0, e1, e2, e3, e4⟩ := hargs c
  refine ⟨funext fun i => ?_, q⟩
  refine (congrFun (q0.trans (Cert.Reference4Ideal.Read.val_main_v24_eq _ _ _ _ _)) i).trans ((r24 _ _ _ _ _ i).trans ?_)
  show _ = (dats m 0 c).arrAt 5 cfg0.N i
  rw [e0, e1, e2, e3, e4, dx_array]
  rfl

end Cert.Dgrad

end
-- ==== Proof.InProj.lean ====
/- The input projection and its reference leave the same extended reals, finite or not.

   Grid point `t` reads the tokens `512 t` to `512 t + 511` and writes their columns of the transposed product and their
   rows of the input in the shorter format. -/
module

public import proofs.«01_k».proof.Defs
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Claim
public import proofs.«01_k».proof.Proof.ProjEntries

@[expose] public section

set_option maxRecDepth 16384

noncomputable section

open scoped BigOperators

namespace Cert.InProj

open Idealize.ShloMosaic Idealize.ShloMosaic.TcCoe Idealize.SL.Sem Idealize.ShloMosaic.Pipeline
open Cert.Proj

/-- Row `i`, column `t` of the projection, transposed: column `i` of the weights times row `t` of the input. -/
def proj (x w : ℕ → ℕ → EReal) (i t : ℕ) : EReal := ∑ q ∈ Finset.range 1024, w q i * x t q

section kernel
open Cert.Kernel5Ideal Cert.Kernel5Ideal.Gen

variable (m : (ℓ : Loc nD τ sig) → Buf (Elt Ideal) ℓ) (ρ : Dev nD → PrngReg) (c : Dev nD)

/-- The input. -/
def xIn : ℕ → ℕ → EReal := entry (φ := .f32) (a := 4096) (b := 1024) (m (c.tc.loc main_arg0))

/-- The weights. -/
def wIn : ℕ → ℕ → EReal := entry (φ := .f32) (a := 1024) (b := 1792) (m (c.tc.loc main_arg1))

/-- The input without its leading axis. -/
theorem V_x : V m c main_v0 = shapeCast S4096x1024 (m (c.tc.loc main_arg0)) shapeCasts_S1x4096x1024_S4096x1024 := by
  unfold V
  simp only [hostOps0]
  entry_read
  rfl

/-- The weights, transposed. -/
theorem V_w : V m c main_v3 = truncf .bf16 (transpose S1792x1024 [1, 0]
    (shapeCast S1024x1792 (m (c.tc.loc main_arg1)) shapeCasts_S1x1024x1792_S1024x1792)
    transposes_S1024x1792_S1792x1024_1_0 : FVec Ideal S1792x1024 .f32) bitsLt_bf16_f32 := by
  unfold V
  simp only [hostOps0]
  entry_read
  rfl

/-- The input, as the call finds it. -/
theorem x_array : Entries2 (φ := .f32) (V m c main_v0 : FVec Ideal S4096x1024 .f32) (xIn m c) := by
  rw [V_x]
  exact entries_slab _ _

/-- The weights, as the call finds them. -/
theorem w_array : Entries2 (φ := .bf16) (V m c main_v3 : FVec Ideal S1792x1024 .bf16) (fun i j => wIn m c j i) := by
  rw [V_w]
  exact ((entries_slab _ _).transpose _).trunc _

section blocks
variable (t : Fin cfg0.N)

/-- A grid point's rows of the input. -/
theorem x_block : Entries2 (φ := .f32) (iblk m c 0 t : FVec Ideal S512x1024 .f32)
    (fun i j => xIn m c (512 * t.val + i) j) := fun i => by
  show V m c main_v0 ((win0_0.rect t).emb i) = _
  refine (x_array m c _).trans ?_
  rw [Window.rect_emb_val win0_0 t i 0, Window.rect_emb_val win0_0 t i 1,
    (by decide +kernel : ∀ t : Fin grid0.N, win0_0.index t = ![t.val, 0]) t]
  show xIn m c (t.val * 512 + (i 0).val) (0 * 1024 + (i 1).val) = _
  rw [Nat.zero_mul, Nat.zero_add, Nat.mul_comm]

/-- The weights, whole at every point. -/
theorem w_block : Entries2 (φ := .bf16) (iblk m c 1 t : FVec Ideal S1792x1024 .bf16) (fun i j => wIn m c j i) := fun i => by
  show V m c main_v3 ((win0_1.rect t).emb i) = _
  refine (w_array m c _).trans ?_
  beta_reduce
  rw [Window.rect_emb_val win0_1 t i 0, Window.rect_emb_val win0_1 t i 1,
    (by decide +kernel : ∀ t : Fin grid0.N, win0_1.index t = ![0, 0]) t]
  show wIn m c (0 * 1024 + (i 1).val) (0 * 1792 + (i 0).val) = _
  rw [Nat.zero_mul, Nat.zero_add, Nat.zero_add]

/-- The columns of the product that a grid point leaves. -/
theorem product_left : Entries2 (φ := .f32) (out0_2 (F := Ideal) (iblk m c 0 t) (iblk m c 1 t))
    (fun i j => proj (xIn m c) (wIn m c) i (512 * t.val + j)) := by
  unfold out0_2
  rw [View.canon_cons_unit_lit _ _ _ (by decide), View.ld_unit_lit _ _ (by decide), View.ld_unit_lit _ _ (by decide)]
  exact ((w_block m c t).cast _).mulNT (((x_block m c t).cast _).trunc _) _

/-- The rows of the input that a grid point leaves. -/
theorem input_left : Entries2 (φ := .bf16) (out0_3 (F := Ideal) (iblk m c 0 t) (iblk m c 1 t))
    (fun i j => xIn m c (512 * t.val + i) j) := by
  unfold out0_3
  rw [View.canon_cons_unit_lit _ _ _ (by decide), View.ld_unit_lit _ _ (by decide)]
  exact ((x_block m c t).cast _).trunc _

end blocks

/-- The first result, block of columns by block. -/
theorem product_array : (dats m 0 c).arrAt 2 cfg0.N = fun i : S1792x4096.Idx =>
    proj (xIn m c) (wIn m c) (i 0).val (i 1).val := by
  refine (dats m 0 c).arrAt_eq_of_covers 2 _ (by decide +kernel) fun t hf y => ?_
  have e := (by decide +kernel : ∀ t : Fin grid0.N, win0_2.index t 0 = 0 ∧ win0_2.index t 1 = t.val) t
  have h := product_left m c t
  rw [after0_2]
  generalize out0_2 (F := Ideal) (iblk m c 0 t) (iblk m c 1 t) = o at h ⊢
  refine (h y).trans ?_
  have e0 : ((win0_2.blk t).view.emb y 0).val = (y 0).val := by blk_simp; rw [e.1]; omega
  have e1 : ((win0_2.blk t).view.emb y 1).val = 512 * t.val + (y 1).val := by blk_simp; rw [e.2]; omega
  show proj _ _ (y 0).val (512 * t.val + (y 1).val)
    = proj _ _ ((win0_2.blk t).view.emb y 0).val ((win0_2.blk t).view.emb y 1).val
  rw [e0, e1]

/-- The second result, block of rows by block. -/
theorem input_array : (dats m 0 c).arrAt 3 cfg0.N = fun i : S4096x1024.Idx => xIn m c (i 0).val (i 1).val := by
  refine (dats m 0 c).arrAt_eq_of_covers 3 _ (by decide +kernel) fun t hf y => ?_
  have e := (by decide +kernel : ∀ t : Fin grid0.N, win0_3.index t 0 = t.val ∧ win0_3.index t 1 = 0) t
  have h := input_left m c t
  rw [after0_3]
  generalize out0_3 (F := Ideal) (iblk m c 0 t) (iblk m c 1 t) = o at h ⊢
  refine (h y).trans ?_
  have e0 : ((win0_3.blk t).view.emb y 0).val = 512 * t.val + (y 0).val := by blk_simp; rw [e.1]; omega
  have e1 : ((win0_3.blk t).view.emb y 1).val = (y 1).val := by blk_simp; rw [e.2]; omega
  show xIn m c (512 * t.val + (y 0).val) (y 1).val
    = xIn m c ((win0_3.blk t).view.emb y 0).val ((win0_3.blk t).view.emb y 1).val
  rw [e0, e1]

/-- The program runs, leaves each result as its blocks leave it, and keeps the arguments. -/
theorem run_blocks : θ_run defs (onTc (τ := τ) (main (F := Ideal))) ⟨m, fun _ => 0, ρ⟩ fun r => ∀ c : Dev nD,
      r.2.mem ((c : Thread nD τ).loc main_v4_0) = (dats m 0 c).arrAt 2 cfg0.N
      ∧ r.2.mem ((c : Thread nD τ).loc main_v4_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
    ((h c).2 main_arg0 (Pipeline.mem_restRefs_of main_arg0 (by decide) (by decide))).trans (V_main_arg0 m c),
    ((h c).2 main_arg1 (Pipeline.mem_restRefs_of main_arg1 (by decide) (by decide))).trans (V_main_arg1 m c)⟩)
    (run_main m ρ)

end kernel

section reference
open Cert.Reference5Ideal Cert.Reference5Ideal.Read Cert.Reference5Ideal.Gen

variable (x0 : FVec Ideal S1x4096x1024 .f32) (x1 : FVec Ideal S1x1024x1792 .f32)

/-- The reference's input. -/
theorem r0 : Entries2 (φ := .f32) (val_main_v0 (F := Ideal) x0 : FVec Ideal S4096x1024 .f32) (entry x0) := by
  unfold val_main_v0
  exact entries_slab _ _

/-- The reference's weights. -/
theorem r1 : Entries2 (φ := .f32) (val_main_v1 (F := Ideal) x1 : FVec Ideal S1024x1792 .f32) (entry x1) := by
  unfold val_main_v1
  exact entries_slab _ _

/-- The reference's product, transposed. -/
theorem r3 (i : S1792x4096.Idx) : val_main_v3 (F := Ideal) x0 x1 i = proj (entry x0) (entry x1) (i 0).val (i 1).val := by
  rw [val_main_v3_apply, val_main_v2_apply]
  unfold proj
  rw [← Fin.sum_univ_eq_sum_range (fun q => entry x1 q _ * entry x0 _ q)]
  refine Finset.sum_congr rfl fun q _ => ?_
  rw [r0 x0, r1 x1, mul_comm]

/-- The reference's input in the shorter format. -/
theorem r5 : Entries2 (φ := .bf16) (val_main_v5 (F := Ideal) x0 : FVec Ideal S4096x1024 .bf16) (entry x0) := by
  unfold val_main_v5 val_main_v4
  exact (entries_slab _ _).trunc _

end reference

open Cert.Kernel5Ideal Cert.Kernel5Ideal.Gen in
/-- Both programs run, keep their arguments, and agree on both results. -/
theorem equal : algebraic_Kernel5Ideal_Reference5Ideal := by
  intro m g m' g' _ hargs
  refine ⟨fun c => (dats m 0 c).arrAt 2 cfg0.N, fun c => (dats m 0 c).arrAt 3 cfg0.N, run_blocks m g, ?_⟩
  refine (θ_run _ _ _).mono (fun r h c => ?_) (Cert.Reference5Ideal.Value.run m' g')
  obtain ⟨q0, q1, q⟩ := h c
  obtain ⟨e0, e1⟩ := hargs c
  refine ⟨funext fun i => ?_, funext fun i => ?_, q⟩
  · refine (congrFun (q0.trans (Cert.Reference5Ideal.Read.val_main_v3_eq _ _)) i).trans ((r3 _ _ i).trans ?_)
    show _ = (dats m 0 c).arrAt 2 cfg0.N i
    rw [e0, e1, product_array]
    rfl
  · refine (congrFun (q1.trans (Cert.Reference5Ideal.Read.val_main_v5_eq _)) i).trans ((r5 _ i).trans ?_)
    show _ = (dats m 0 c).arrAt 3 cfg0.N i
    rw [e0, input_array]
    rfl

end Cert.InProj

end
-- ==== Proof.OutProj.lean ====
/- The output projection with the layer norm after it, and its reference, leave the same extended reals, finite or not.

   Grid point `t` reads the tokens `512 t` to `512 t + 511` and writes their rows of the three results: the normal form,
   the reciprocal deviation, and the norm's value in the shorter format. -/
module

public import proofs.«01_k».proof.Defs
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.ValueKit
public import Idealize.ShloMosaic.Lib.Claim
public import proofs.«01_k».proof.Proof.DgradEquation

@[expose] public section

set_option maxRecDepth 16384

noncomputable section

open scoped BigOperators

namespace Cert.OutProj

open Idealize.ShloMosaic Idealize.ShloMosaic.TcCoe Idealize.ShloMosaic.ValueIdx Idealize.SL.Sem Idealize.ShloMosaic.Pipeline
open Cert.Proj

section pieces
variable {φ : FTy} {a b : ℕ}

/-- Column `j` of the one row of an array; zero outside the array. -/
def row (x : FVec Ideal ⟨2, ![1, b]⟩ φ) (j : ℕ) : EReal := if h : j < b then x (ValueIdx.ix2 0 ⟨j, h⟩) else 0

/-- The one row as a two-axis array. -/
theorem entries_row (x : FVec Ideal ⟨2, ![1, b]⟩ φ) : Entries2 x (fun _ j => row x j) := fun i => by
  show x i = row x (i 1).val
  unfold row
  rw [dif_pos (idx2_lt1 i)]
  congr 1
  funext q
  match q with
  | ⟨0, _⟩ => exact Fin.ext (by have := idx2_lt0 i; show (i 0).val = 0; omega)
  | ⟨1, _⟩ => rfl

/-- The difference of two arrays. -/
theorem sub {x y : FVec Ideal ⟨2, ![a, b]⟩ φ} {f g : ℕ → ℕ → EReal} (hx : Entries2 x f) (hy : Entries2 y g) :
    Entries2 (subf x y) (fun i j => f i j - g i j) := fun i => by
  show x i - y i = _
  rw [hx i, hy i]

/-- The product of two arrays, entry by entry. -/
theorem mul {x y : FVec Ideal ⟨2, ![a, b]⟩ φ} {f g : ℕ → ℕ → EReal} (hx : Entries2 x f) (hy : Entries2 y g) :
    Entries2 (mulf x y) (fun i j => f i j * g i j) := fun i => by
  show x i * y i = _
  rw [hx i, hy i]

/-- One number in every entry. -/
theorem all (r : EReal) : Entries2 (a := a) (b := b) (φ := φ) (broadcast ⟨2, ![a, b]⟩ r) (fun _ _ => r) := fun _ => rfl

/-- A column repeated along the columns. -/
theorem cols {x : FVec Ideal ⟨2, ![a, 1]⟩ φ} {f : ℕ → ℕ → EReal} (hx : Entries2 x f) (ha : a ≠ 1)
    (h : (⟨2, ![a, 1]⟩ : Shape).Broadcasts ⟨2, ![a, b]⟩) :
    Entries2 (broadcastTo ⟨2, ![a, b]⟩ x h) (fun i _ => f i 0) := fun i => by
  rw [broadcastTo_apply x h i (ValueIdx.ix2 (i 0) 0) (fun q => by
    match q with
    | ⟨0, _⟩ => exact (if_neg ha).symm
    | ⟨1, _⟩ => rfl)]
  exact hx _

/-- A row repeated down the rows. -/
theorem rows {x : FVec Ideal ⟨2, ![1, b]⟩ φ} {f : ℕ → ℕ → EReal} (hx : Entries2 x f) (hb : b ≠ 1)
    (h : (⟨2, ![1, b]⟩ : Shape).Broadcasts ⟨2, ![a, b]⟩) :
    Entries2 (broadcastTo ⟨2, ![a, b]⟩ x h) (fun _ j => f 0 j) := fun i => by
  rw [broadcastTo_apply x h i (ValueIdx.ix2 0 (i 1)) (fun q => by
    match q with
    | ⟨0, _⟩ => rfl
    | ⟨1, _⟩ => exact (if_neg hb).symm)]
  exact hx _

/-- The sum along each row, kept as one column. -/
theorem sumCols {x : FVec Ideal ⟨2, ![a, b]⟩ .f32} {f : ℕ → ℕ → EReal} (hx : Entries2 x f)
    (h : (⟨2, ![a, b]⟩ : Shape).Reduces [1] ⟨1, ![a]⟩) (hφ hacc)
    (hc : (⟨1, ![a]⟩ : Shape).ShapeCasts ⟨2, ![a, 1]⟩) :
    Entries2 (shapeCast ⟨2, ![a, 1]⟩ (multiReduction .add [1] ⟨1, ![a]⟩ x 0x00000000#32 h hφ hacc) hc)
      (fun i _ => ∑ k ∈ Finset.range b, f i k) := fun i => by
  rw [shapeCast_apply _ hc i (ValueIdx.ix1 (i 0)) (by
    rw [Shape.rowMajor_val_one, Shape.rowMajor_val_two]
    have : (i 1).val = 0 := by have := idx2_lt1 i; omega
    show (i 0).val = (i 0).val * 1 + (i 1).val
    rw [this]; omega)]
  rw [Ideal.multiReduction_add_single x _ h hφ hacc]
  beta_reduce
  rw [← Fin.sum_univ_eq_sum_range (fun k => f _ k) b]
  refine Finset.sum_congr rfl fun k _ => ?_
  rw [hx]
  rfl

end pieces

/-- The average of 1024 values. -/
def mean (f : ℕ → EReal) : EReal :=
  FloatOps.divf (F := Ideal) (φ := .f32) (∑ k ∈ Finset.range 1024, f k) (Ideal.ofBits .f32 0x44800000#32)

/-- The reciprocal of the deviation of 1024 values, ε added to their variance. -/
def rstd (f : ℕ → EReal) : EReal :=
  Ideal.rsqrt (mean (fun k => (f k - mean f) * (f k - mean f)) + Ideal.ofBits .f32 0x3727C5AC#32)

/-- The normal form of 1024 values. -/
def hat (f : ℕ → EReal) (j : ℕ) : EReal := (f j - mean f) * rstd f

/-- The sum of the scaled residual and the projection of the mixer's output. -/
def z1 (cat x w : ℕ → ℕ → EReal) (t j : ℕ) : EReal :=
  Cert.Dgrad.alpha * x t j + ∑ q ∈ Finset.range 1024, cat t q * w q j

section kernel
open Cert.Kernel6Ideal Cert.Kernel6Ideal.Gen

section payloads
variable {x cat w : ℕ → ℕ → EReal} {g b : ℕ → EReal} {vx : Vec Ideal S512x1024 .f32} {vc : Vec Ideal S1024x512 .bf16}
  {vw : Vec Ideal S1024x1024 .bf16} {vg vb : Vec Ideal S1x1024 .f32}

/-- The rows, less their averages. -/
theorem centred (hx : Entries2 (φ := .f32) vx x) (hc : Entries2 (φ := .bf16) vc (fun i j => cat j i))
    (hw : Entries2 (φ := .bf16) vw w) :
    Entries2 (φ := .f32) (k0_pay1 (F := Ideal) vx vc vw) (fun i j => z1 cat x w i j - mean (z1 cat x w i)) := by
  have hz := (mul (all (a := 512) (b := 1024) (φ := .f32) Cert.Dgrad.alpha) (hx.cast shapeCasts_S512x1024_S512x1024)).add
    (Cert.Dgrad.mulTN (hc.cast shapeCasts_S1024x512_S1024x512) (hw.cast shapeCasts_S1024x1024_S1024x1024)
      dot_S1024x512_S1024x1024_S512x1024_0_0_1_1_n_n.wf)
  have hs := sumCols hz reduces_S512x1024_S512 (.inl rfl) rfl shapeCasts_S512_S512x1
  exact sub hz (cols (f := fun i _ => mean (z1 cat x w i)) (fun i => congrArg
    (fun s => FloatOps.divf (F := Ideal) (φ := .f32) s (Ideal.ofBits .f32 0x44800000#32)) (hs i)) (by norm_num)
    broadcasts_S512x1_S512x1024)

/-- The reciprocal deviations. -/
theorem deviation (hx : Entries2 (φ := .f32) vx x) (hc : Entries2 (φ := .bf16) vc (fun i j => cat j i))
    (hw : Entries2 (φ := .bf16) vw w) :
    Entries2 (φ := .f32) (k0_pay2 (F := Ideal) vx vc vw) (fun i _ => rstd (z1 cat x w i)) := by
  have hz := centred hx hc hw
  have hs := sumCols (mul hz hz) reduces_S512x1024_S512 (.inl rfl) rfl shapeCasts_S512_S512x1
  exact fun i => congrArg (fun s => Ideal.rsqrt (FloatOps.divf (F := Ideal) (φ := .f32) s
    (Ideal.ofBits .f32 0x44800000#32) + Ideal.ofBits .f32 0x3727C5AC#32)) (hs i)

/-- The normal form. -/
theorem normal (hx : Entries2 (φ := .f32) vx x) (hc : Entries2 (φ := .bf16) vc (fun i j => cat j i))
    (hw : Entries2 (φ := .bf16) vw w) :
    Entries2 (φ := .f32) (k0_pay3 (F := Ideal) vx vc vw) (fun i j => hat (z1 cat x w i) j) :=
  mul (centred hx hc hw) (cols (deviation hx hc hw) (by norm_num) broadcasts_S512x1_S512x1024)

/-- The norm's value. -/
theorem value (hx : Entries2 (φ := .f32) vx x) (hc : Entries2 (φ := .bf16) vc (fun i j => cat j i))
    (hw : Entries2 (φ := .bf16) vw w) (hg : Entries2 (φ := .f32) vg (fun _ j => g j))
    (hb : Entries2 (φ := .f32) vb (fun _ j => b j)) :
    Entries2 (φ := .bf16) (k0_pay4 (F := Ideal) vx vc vw vg vb) (fun i j => hat (z1 cat x w i) j * g j + b j) :=
  ((mul (normal hx hc hw) (rows hg (by norm_num) broadcasts_S1x1024_S512x1024)).add
    (rows hb (by norm_num) broadcasts_S1x1024_S512x1024)).trunc _

end payloads

variable (m : (ℓ : Loc nD τ sig) → Buf (Elt Ideal) ℓ) (ρ : Dev nD → PrngReg) (c : Dev nD)

/-- The mixer's output. -/
def catIn : ℕ → ℕ → EReal := entry (φ := .f32) (a := 4096) (b := 1024) (m (c.tc.loc main_arg0))

/-- The layer's input. -/
def xIn : ℕ → ℕ → EReal := entry (φ := .f32) (a := 4096) (b := 1024) (m (c.tc.loc main_arg1))

/-- The weights. -/
def wIn : ℕ → ℕ → EReal := entry (φ := .f32) (a := 1024) (b := 1024) (m (c.tc.loc main_arg2))

/-- The norm's factors. -/
def gIn : ℕ → EReal := row (φ := .f32) (b := 1024) (m (c.tc.loc main_arg3))

/-- The norm's summands. -/
def bIn : ℕ → EReal := row (φ := .f32) (b := 1024) (m (c.tc.loc main_arg4))

/-- The mixer's output, transposed. -/
theorem V_cat : V m c main_v2 = truncf .bf16 (transpose S1024x4096 [1, 0]
    (shapeCast S4096x1024 (m (c.tc.loc main_arg0)) shapeCasts_S1x4096x1024_S4096x1024)
    transposes_S4096x1024_S1024x4096_1_0 : FVec Ideal S1024x4096 .f32) bitsLt_bf16_f32 := by
  unfold V
  simp only [hostOps0]
  entry_read
  rfl

/-- The layer's input without its leading axis. -/
theorem V_x : V m c main_v3 = shapeCast S4096x1024 (m (c.tc.loc main_arg1)) shapeCasts_S1x4096x1024_S4096x1024 := by
  unfold V
  simp only [hostOps0]
  entry_read
  rfl

/-- The weights in the shorter format. -/
theorem V_w : V m c main_v5 = truncf .bf16
    (shapeCast S1024x1024 (m (c.tc.loc main_arg2)) shapeCasts_S1x1024x1024_S1024x1024 : FVec Ideal S1024x1024 .f32)
    bitsLt_bf16_f32 := by
  unfold V
  simp only [hostOps0]
  entry_read
  rfl

/-- The mixer's output, as the call finds it. -/
theorem cat_array : Entries2 (φ := .bf16) (V m c main_v2 : FVec Ideal S1024x4096 .bf16) (fun i t => catIn m c t i) := by
  rw [V_cat]
  exact ((entries_slab _ _).transpose _).trunc _

/-- The layer's input, as the call finds it. -/
theorem x_array : Entries2 (φ := .f32) (V m c main_v3 : FVec Ideal S4096x1024 .f32) (xIn m c) := by
  rw [V_x]
  exact entries_slab _ _

/-- The weights, as the call finds them. -/
theorem w_array : Entries2 (φ := .bf16) (V m c main_v5 : FVec Ideal S1024x1024 .bf16) (wIn m c) := by
  rw [V_w]
  exact (entries_slab _ _).trunc _

/-- The factors, as the call finds them. -/
theorem g_array : Entries2 (φ := .f32) (V m c main_arg3 : FVec Ideal S1x1024 .f32) (fun _ j => gIn m c j) := by
  rw [V_main_arg3]
  exact entries_row _

/-- The summands, as the call finds them. -/
theorem b_array : Entries2 (φ := .f32) (V m c main_arg4 : FVec Ideal S1x1024 .f32) (fun _ j => bIn m c j) := by
  rw [V_main_arg4]
  exact entries_row _

section blocks
variable (t : Fin cfg0.N)

/-- A grid point's tokens of the mixer's output. -/
theorem cat_block : Entries2 (φ := .bf16) (iblk m c 0 t : FVec Ideal S1024x512 .bf16)
    (fun i j => catIn m c (512 * t.val + j) i) := fun i => by
  show V m c main_v2 ((win0_0.rect t).emb i) = _
  refine (cat_array m c _).trans ?_
  beta_reduce
  rw [Window.rect_emb_val win0_0 t i 0, Window.rect_emb_val win0_0 t i 1,
    (by decide +kernel : ∀ t : Fin grid0.N, win0_0.index t = ![0, t.val]) t]
  show catIn m c (t.val * 512 + (i 1).val) (0 * 1024 + (i 0).val) = _
  rw [Nat.zero_mul, Nat.zero_add, Nat.mul_comm]

/-- A grid point's rows of the layer's input. -/
theorem x_block : Entries2 (φ := .f32) (iblk m c 1 t : FVec Ideal S512x1024 .f32)
    (fun i j => xIn m c (512 * t.val + i) j) := fun i => by
  show V m c main_v3 ((win0_1.rect t).emb i) = _
  refine (x_array m c _).trans ?_
  rw [Window.rect_emb_val win0_1 t i 0, Window.rect_emb_val win0_1 t i 1,
    (by decide +kernel : ∀ t : Fin grid0.N, win0_1.index t = ![t.val, 0]) t]
  show xIn m c (t.val * 512 + (i 0).val) (0 * 1024 + (i 1).val) = _
  rw [Nat.zero_mul, Nat.zero_add, Nat.mul_comm]

/-- The weights, whole at every point. -/
theorem w_block : Entries2 (φ := .bf16) (iblk m c 2 t : FVec Ideal S1024x1024 .bf16) (wIn m c) := fun i => by
  show V m c main_v5 ((win0_2.rect t).emb i) = _
  refine (w_array m c _).trans ?_
  rw [Window.rect_emb_val win0_2 t i 0, Window.rect_emb_val win0_2 t i 1,
    (by decide +kernel : ∀ t : Fin grid0.N, win0_2.index t = ![0, 0]) t]
  show wIn m c (0 * 1024 + (i 0).val) (0 * 1024 + (i 1).val) = _
  rw [Nat.zero_mul, Nat.zero_add, Nat.zero_add]

/-- The factors, whole at every point. -/
theorem g_block : Entries2 (φ := .f32) (iblk m c 3 t : FVec Ideal S1x1024 .f32) (fun _ j => gIn m c j) := fun i => by
  show V m c main_arg3 ((win0_3.rect t).emb i) = _
  refine (g_array m c _).trans ?_
  beta_reduce
  rw [Window.rect_emb_val win0_3 t i 1, (by decide +kernel : ∀ t : Fin grid0.N, win0_3.index t = ![0, 0]) t]
  show gIn m c (0 * 1024 + (i 1).val) = _
  rw [Nat.zero_mul, Nat.zero_add]

/-- The summands, whole at every point. -/
theorem b_block : Entries2 (φ := .f32) (iblk m c 4 t : FVec Ideal S1x1024 .f32) (fun _ j => bIn m c j) := fun i => by
  show V m c main_arg4 ((win0_4.rect t).emb i) = _
  refine (b_array m c _).trans ?_
  beta_reduce
  rw [Window.rect_emb_val win0_4 t i 1, (by decide +kernel : ∀ t : Fin grid0.N, win0_4.index t = ![0, 0]) t]
  show bIn m c (0 * 1024 + (i 1).val) = _
  rw [Nat.zero_mul, Nat.zero_add]

/-- The normal form that a grid point leaves. -/
theorem hat_left : Entries2 (φ := .f32)
    (out0_5 (F := Ideal) (iblk m c 0 t) (iblk m c 1 t) (iblk m c 2 t) (iblk m c 3 t) (iblk m c 4 t))
    (fun i j => hat (z1 (catIn m c) (xIn m c) (wIn m c) (512 * t.val + i)) j) := by
  unfold out0_5
  rw [View.canon_cons_unit_lit _ _ _ (by decide), View.ld_unit_lit _ _ (by decide), View.ld_unit_lit _ _ (by decide),
    View.ld_unit_lit _ _ (by decide)]
  exact normal (cat := fun i j => catIn m c (512 * t.val + i) j) (x_block m c t) (cat_block m c t) (w_block m c t)

/-- The reciprocal deviations that a grid point leaves. -/
theorem rstd_left : Entries2 (φ := .f32)
    (out0_6 (F := Ideal) (iblk m c 0 t) (iblk m c 1 t) (iblk m c 2 t) (iblk m c 3 t) (iblk m c 4 t))
    (fun i _ => rstd (z1 (catIn m c) (xIn m c) (wIn m c) (512 * t.val + i))) := by
  unfold out0_6
  rw [View.canon_cons_unit_lit _ _ _ (by decide), View.ld_unit_lit _ _ (by decide), View.ld_unit_lit _ _ (by decide),
    View.ld_unit_lit _ _ (by decide)]
  exact deviation (cat := fun i j => catIn m c (512 * t.val + i) j) (x_block m c t) (cat_block m c t) (w_block m c t)

/-- The norm's value that a grid point leaves. -/
theorem value_left : Entries2 (φ := .bf16)
    (out0_7 (F := Ideal) (iblk m c 0 t) (iblk m c 1 t) (iblk m c 2 t) (iblk m c 3 t) (iblk m c 4 t))
    (fun i j => hat (z1 (catIn m c) (xIn m c) (wIn m c) (512 * t.val + i)) j * gIn m c j + bIn m c j) := by
  unfold out0_7
  rw [View.canon_cons_unit_lit _ _ _ (by decide), View.ld_unit_lit _ _ (by decide), View.ld_unit_lit _ _ (by decide),
    View.ld_unit_lit _ _ (by decide), View.ld_unit_lit _ _ (by decide), View.ld_unit_lit _ _ (by decide)]
  exact value (cat := fun i j => catIn m c (512 * t.val + i) j) (x_block m c t) (cat_block m c t) (w_block m c t)
    (g_block m c t) (b_block m c t)

end blocks

/-- The first result, block of rows by block. -/
theorem hat_array : (dats m 0 c).arrAt 5 cfg0.N = fun i : S4096x1024.Idx =>
    hat (z1 (catIn m c) (xIn m c) (wIn m c) (i 0).val) (i 1).val := by
  refine (dats m 0 c).arrAt_eq_of_covers 5 _ (by decide +kernel) fun t hf y => ?_
  have e := (by decide +kernel : ∀ t : Fin grid0.N, win0_5.index t 0 = t.val ∧ win0_5.index t 1 = 0) t
  have h := hat_left m c t
  rw [after0_5]
  generalize out0_5 (F := Ideal) (iblk m c 0 t) (iblk m c 1 t) (iblk m c 2 t) (iblk m c 3 t) (iblk m c 4 t) = o at h ⊢
  refine (h y).trans ?_
  have e0 : ((win0_5.blk t).view.emb y 0).val = 512 * t.val + (y 0).val := by blk_simp; rw [e.1]; omega
  have e1 : ((win0_5.blk t).view.emb y 1).val = (y 1).val := by blk_simp; rw [e.2]; omega
  show hat (z1 _ _ _ (512 * t.val + (y 0).val)) (y 1).val
    = hat (z1 _ _ _ ((win0_5.blk t).view.emb y 0).val) ((win0_5.blk t).view.emb y 1).val
  rw [e0, e1]

/-- The second result, block of rows by block. -/
theorem rstd_array : (dats m 0 c).arrAt 6 cfg0.N = fun i : S4096x1.Idx =>
    rstd (z1 (catIn m c) (xIn m c) (wIn m c) (i 0).val) := by
  refine (dats m 0 c).arrAt_eq_of_covers 6 _ (by decide +kernel) fun t hf y => ?_
  have e := (by decide +kernel : ∀ t : Fin grid0.N, win0_6.index t 0 = t.val) t
  have h := rstd_left m c t
  rw [after0_6]
  generalize out0_6 (F := Ideal) (iblk m c 0 t) (iblk m c 1 t) (iblk m c 2 t) (iblk m c 3 t) (iblk m c 4 t) = o at h ⊢
  refine (h y).trans ?_
  have e0 : ((win0_6.blk t).view.emb y 0).val = 512 * t.val + (y 0).val := by blk_simp; rw [e]; omega
  show rstd (z1 _ _ _ (512 * t.val + (y 0).val)) = rstd (z1 _ _ _ ((win0_6.blk t).view.emb y 0).val)
  rw [e0]

/-- The third result, block of rows by block. -/
theorem value_array : (dats m 0 c).arrAt 7 cfg0.N = fun i : S4096x1024.Idx =>
    hat (z1 (catIn m c) (xIn m c) (wIn m c) (i 0).val) (i 1).val * gIn m c (i 1).val + bIn m c (i 1).val := by
  refine (dats m 0 c).arrAt_eq_of_covers 7 _ (by decide +kernel) fun t hf y => ?_
  have e := (by decide +kernel : ∀ t : Fin grid0.N, win0_7.index t 0 = t.val ∧ win0_7.index t 1 = 0) t
  have h := value_left m c t
  rw [after0_7]
  generalize out0_7 (F := Ideal) (iblk m c 0 t) (iblk m c 1 t) (iblk m c 2 t) (iblk m c 3 t) (iblk m c 4 t) = o at h ⊢
  refine (h y).trans ?_
  have e0 : ((win0_7.blk t).view.emb y 0).val = 512 * t.val + (y 0).val := by blk_simp; rw [e.1]; omega
  have e1 : ((win0_7.blk t).view.emb y 1).val = (y 1).val := by blk_simp; rw [e.2]; omega
  show hat (z1 _ _ _ (512 * t.val + (y 0).val)) (y 1).val * gIn m c (y 1).val + bIn m c (y 1).val
    = hat (z1 _ _ _ ((win0_7.blk t).view.emb y 0).val) ((win0_7.blk t).view.emb y 1).val
      * gIn m c ((win0_7.blk t).view.emb y 1).val + bIn m c ((win0_7.blk t).view.emb y 1).val
  rw [e0, e1]

/-- The arguments are as at the start. -/
theorem kept (r : PUnit × MemSt nD τ sig (Elt Ideal)) (h : Pipeline.FramePost cfgs (dats m) 0 (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩

end kernel

section reference
open Cert.Reference6Ideal Cert.Reference6Ideal.Read Cert.Reference6Ideal.Gen

variable (x0 x1 : FVec Ideal S1x4096x1024 .f32) (x2 : FVec Ideal S1x1024x1024 .f32) (x3 x4 : FVec Ideal S1x1024 .f32)

/-- The reference's row `t` before the norm. -/
abbrev zr (t : ℕ) : ℕ → EReal := z1 (entry x0) (entry x1) (entry x2) t

/-- The reference's sum of the scaled residual and the projection. -/
theorem r6 : Entries2 (φ := .f32) (val_main_v6 (F := Ideal) x0 x1 x2 : FVec Ideal S4096x1024 .f32) (zr x0 x1 x2) := fun i => by
  have h0 : Entries2 (φ := .f32) (val_main_v0 (F := Ideal) x1 : FVec Ideal S4096x1024 .f32) (entry x1) := by
    unfold val_main_v0
    exact entries_slab _ _
  have h3 : Entries2 (φ := .f32) (val_main_v3 (F := Ideal) x0 : FVec Ideal S4096x1024 .f32) (entry x0) := by
    unfold val_main_v3
    exact entries_slab _ _
  have h4 : Entries2 (φ := .f32) (val_main_v4 (F := Ideal) x2 : FVec Ideal S1024x1024 .f32) (entry x2) := by
    unfold val_main_v4
    exact entries_slab _ _
  rw [val_main_v6_apply, val_main_v2_apply, val_main_v1_apply, val_main_cst_apply, val_main_v5_apply, h0]
  show Cert.Dgrad.alpha * _ + _ = _
  unfold zr z1
  congr 1
  rw [← Fin.sum_univ_eq_sum_range (fun q => entry x0 _ q * entry x2 q _)]
  refine Finset.sum_congr rfl fun q _ => ?_
  rw [h3, h4]

/-- The reference's averages. -/
theorem r10 (i : S4096x1.Idx) : val_main_v10 (F := Ideal) x0 x1 x2 i = mean (zr x0 x1 x2 (i 0).val) := by
  rw [val_main_v10_apply, val_main_v9_apply, val_main_cst_1_apply, val_main_v8_apply, val_main_v7_apply, val_main_cst_0_apply,
    Cert.Dgrad.zero_bits, zero_add]
  unfold mean
  rw [← Fin.sum_univ_eq_sum_range (fun k => zr x0 x1 x2 _ k)]
  exact congrArg (fun s => FloatOps.divf (F := Ideal) (φ := .f32) s (Ideal.ofBits .f32 0x44800000#32))
    (Finset.sum_congr rfl fun k _ => r6 x0 x1 x2 _)

/-- The reference's rows, less their averages. -/
theorem r12 (i : S4096x1024.Idx) : val_main_v12 (F := Ideal) x0 x1 x2 i
    = zr x0 x1 x2 (i 0).val (i 1).val - mean (zr x0 x1 x2 (i 0).val) := by
  rw [val_main_v12_apply, val_main_v11_apply, r6, r10]
  rfl

/-- The reference's reciprocal deviations. -/
theorem r20 (i : S4096x1.Idx) : val_main_v20 (F := Ideal) x0 x1 x2 i = rstd (zr x0 x1 x2 (i 0).val) := by
  rw [val_main_v20_apply, val_main_v19_apply, val_main_v18_apply, val_main_cst_4_apply, val_main_v17_apply, val_main_v16_apply,
    val_main_cst_3_apply, val_main_v15_apply, val_main_v14_apply, val_main_cst_2_apply, Cert.Dgrad.zero_bits, zero_add]
  let s : ℕ → EReal := fun k => (zr x0 x1 x2 (i 0).val k - mean (zr x0 x1 x2 (i 0).val))
    * (zr x0 x1 x2 (i 0).val k - mean (zr x0 x1 x2 (i 0).val))
  have hs : ∑ k : Fin 1024, val_main_v13 (F := Ideal) x0 x1 x2 (idx_main_v14 (idx_main_v15 i) k)
      = ∑ k ∈ Finset.range 1024, s k := by
    rw [← Fin.sum_univ_eq_sum_range s 1024]
    refine Finset.sum_congr rfl fun k _ => ?_
    rw [val_main_v13_apply, r12]
    rfl
  rw [hs]
  rfl

/-- The reference's normal form. -/
theorem r24 (i : S4096x1024.Idx) : val_main_v24 (F := Ideal) x0 x1 x2 i = hat (zr x0 x1 x2 (i 0).val) (i 1).val := by
  rw [val_main_v24_apply, val_main_v22_apply, val_main_v21_apply, val_main_v23_apply, r6, r10, r20]
  rfl

/-- The reference's factors. -/
theorem r27 (i : S4096x1024.Idx) : val_main_v27 (F := Ideal) x3 i = row x3 (i 1).val := by
  rw [val_main_v27_apply, val_main_v26_apply, val_main_v25_apply]
  refine (entries_row x3 _).trans (congrArg (row x3) ?_)
  have h1 : (i 1).val < 1024 := (i 1).isLt
  show (i 1).val % 1024 = (i 1).val
  omega

/-- The reference's summands. -/
theorem r31 (i : S4096x1024.Idx) : val_main_v31 (F := Ideal) x4 i = row x4 (i 1).val := by
  rw [val_main_v31_apply, val_main_v30_apply, val_main_v29_apply]
  refine (entries_row x4 _).trans (congrArg (row x4) ?_)
  have h1 : (i 1).val < 1024 := (i 1).isLt
  show (i 1).val % 1024 = (i 1).val
  omega

/-- The reference's value of the norm. -/
theorem r33 (i : S4096x1024.Idx) : val_main_v33 (F := Ideal) x0 x1 x2 x3 x4 i
    = hat (zr x0 x1 x2 (i 0).val) (i 1).val * row x3 (i 1).val + row x4 (i 1).val := by
  rw [val_main_v33_apply, val_main_v32_apply, val_main_v28_apply, r24, r27, r31]
  rfl

end reference

section equal
open Cert.Kernel6Ideal Cert.Kernel6Ideal.Gen

variable (m : (ℓ : Loc nD τ sig) → Buf (Elt Ideal) ℓ) (ρ : Dev nD → PrngReg)

/-- The program runs, leaves each result as its blocks leave it, and keeps the arguments. -/
theorem run_blocks : θ_run defs (onTc (τ := τ) (main (F := Ideal))) ⟨m, fun _ => 0, ρ⟩ fun r => ∀ c : Dev nD,
      r.2.mem ((c : Thread nD τ).loc main_v6_0) = (dats m 0 c).arrAt 5 cfg0.N
      ∧ r.2.mem ((c : Thread nD τ).loc main_v6_1) = (dats m 0 c).arrAt 6 cfg0.N
      ∧ r.2.mem ((c : Thread nD τ).loc main_v6_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7, kept m r h c⟩) (run_main m ρ)

/-- Both programs run, keep their arguments, and agree on the three results. -/
theorem equal : algebraic_Kernel6Ideal_Reference6Ideal := by
  intro m g m' g' _ hargs
  refine ⟨fun c => (dats m 0 c).arrAt 5 cfg0.N, fun c => (dats m 0 c).arrAt 6 cfg0.N, fun c => (dats m 0 c).arrAt 7 cfg0.N,
    run_blocks m g, ?_⟩
  refine (θ_run _ _ _).mono (fun r h c => ?_) (Cert.Reference6Ideal.Value.run m' g')
  obtain ⟨q0, q1, q2, q⟩ := h c
  obtain ⟨e0, e1, e2, e3, e4⟩ := hargs c
  refine ⟨funext fun i => ?_, funext fun i => ?_, funext fun i => ?_, q⟩
  · refine (congrFun (q0.trans (Cert.Reference6Ideal.Read.val_main_v24_eq _ _ _)) i).trans ((r24 _ _ _ i).trans ?_)
    show _ = (dats m 0 c).arrAt 5 cfg0.N i
    rw [e0, e1, e2, hat_array]
    rfl
  · refine (congrFun (q1.trans (Cert.Reference6Ideal.Read.val_main_v20_eq _ _ _)) i).trans ((r20 _ _ _ i).trans ?_)
    show _ = (dats m 0 c).arrAt 6 cfg0.N i
    rw [e0, e1, e2, rstd_array]
    rfl
  · refine (congrFun (q2.trans (Cert.Reference6Ideal.Read.val_main_v33_eq _ _)) i).trans ((r33 _ _ _ _ _ i).trans ?_)
    show _ = (dats m 0 c).arrAt 7 cfg0.N i
    rw [e0, e1, e2, e3, e4, value_array]
    rfl

end equal

end Cert.OutProj

end
-- ==== Proof.RopeTables.lean ====
/- The tables of the rotary positions and their reference leave the same extended reals.

   Grid point `t` reads the positions `512 t` to `512 t + 511` and writes their columns of the two tables. -/
module

public import proofs.«01_k».proof.Defs
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit
public import Idealize.ShloMosaic.Lib.IdealHost
public import Idealize.ShloMosaic.Lib.Claim
public import proofs.«01_k».proof.Proof.OutProj

@[expose] public section

set_option maxRecDepth 16384

noncomputable section

open scoped BigOperators

namespace Cert.RopeTables

open Idealize.ShloMosaic Idealize.ShloMosaic.TcCoe Idealize.ShloMosaic.ValueIdx Idealize.SL.Sem Idealize.ShloMosaic.Pipeline
open Cert.Proj

/-- Position `t` as a number; zero outside the array. -/
def pos (x : IVec ⟨2, ![1, 4096]⟩ 32) (t : ℕ) : EReal :=
  if h : t < 4096 then FloatOps.sitofp (F := Ideal) .f32 (x (ValueIdx.ix2 0 ⟨t, h⟩)) else 0

/-- The frequency of row `d`: the rows after the first 32 repeat it. -/
def freq (d : ℕ) : EReal :=
  Cert.Reference7Ideal.Read.val_main_v9 (F := Ideal) (ValueIdx.ix1 ⟨d % 32, Nat.mod_lt _ (by norm_num)⟩)

/-- The angle of row `d` at position `t`. -/
def angle (x : IVec ⟨2, ![1, 4096]⟩ 32) (d t : ℕ) : EReal := pos x t * freq d

/-- The angles repeat after the first 32 rows. -/
theorem angle_later (x : IVec ⟨2, ![1, 4096]⟩ 32) (d t : ℕ) (h : 32 ≤ d) : angle x (d - 32) t = angle x d t := by
  unfold angle freq
  have e : (d - 32) % 32 = d % 32 := by omega
  simp only [e]

/-- The second table: the sines, negated in the first 32 rows. -/
def signed (x : IVec ⟨2, ![1, 4096]⟩ 32) (d t : ℕ) : EReal :=
  if d < 32 then -Ideal.sin (angle x d t) else Ideal.sin (angle x d t)

/-- The position read at an index of the one row. -/
theorem pos_at (x : IVec ⟨2, ![1, 4096]⟩ 32) (i : (⟨2, ![1, 4096]⟩ : Shape).Idx) :
    FloatOps.sitofp (F := Ideal) .f32 (x i) = pos x (i 1).val := by
  unfold pos
  rw [dif_pos (idx2_lt1 i)]
  congr 2
  funext q
  match q with
  | ⟨0, _⟩ => exact Fin.ext (by have := idx2_lt0 i; show (i 0).val = 0; omega)
  | ⟨1, _⟩ => rfl

/-- The bits of one. -/
theorem one_bits : Ideal.ofBits .f32 0x3F800000#32 = 1 := Ideal.ofBits_one_f32

/-- The bits of minus one. -/
theorem neg_one_bits : Ideal.ofBits .f32 0xBF800000#32 = -1 := by
  rw [show (-1 : EReal) = ((-(1 : ℝ) : ℝ) : EReal) by rw [EReal.coe_neg, EReal.coe_one]]
  simp [Ideal.ofBits, Ideal.ieee, -EReal.coe_mul, -EReal.coe_neg]; norm_num

section kernel
open Cert.Kernel7Ideal Cert.Kernel7Ideal.Gen

section payloads
variable {p f : ℕ → EReal} {vp : Vec Ideal S1x512 .i32} {vf : Vec Ideal S64x1 .f32}

/-- The angles of a grid point. -/
theorem angles (hp : ∀ i, FloatOps.sitofp (F := Ideal) .f32 (vp i) = p (i 1).val)
    (hf : Entries2 (φ := .f32) vf (fun d _ => f d)) :
    Entries2 (φ := .f32) (k0_pay1 (F := Ideal) vp vf) (fun d t => p t * f d) := by
  have h1 : Entries2 (φ := .f32) (sitofp .f32 vp : FVec Ideal S1x512 .f32) (fun _ t => p t) := hp
  exact Cert.OutProj.mul (Cert.OutProj.rows h1 (by norm_num) broadcasts_S1x512_S64x512)
    (Cert.OutProj.cols (hf.cast shapeCasts_S64x1_S64x1) (by norm_num) broadcasts_S64x1_S64x512)

/-- The cosines of a grid point. -/
theorem cosines (hp : ∀ i, FloatOps.sitofp (F := Ideal) .f32 (vp i) = p (i 1).val)
    (hf : Entries2 (φ := .f32) vf (fun d _ => f d)) :
    Entries2 (φ := .f32) (k0_pay2 (F := Ideal) vp vf) (fun d t => Ideal.cos (p t * f d)) := fun i =>
  congrArg Ideal.cos (angles hp hf i)

/-- Whether a row is one of the first 32, in the program's integers. -/
theorem early : ∀ d : Fin 64, IntOp.cmpi .slt (BitVec.ofNat 32 d.val) 32#32 = if d.val < 32 then 1#1 else 0#1 := by decide

/-- The signed sines of a grid point. -/
theorem sines (hp : ∀ i, FloatOps.sitofp (F := Ideal) .f32 (vp i) = p (i 1).val)
    (hf : Entries2 (φ := .f32) vf (fun d _ => f d)) :
    Entries2 (φ := .f32) (k0_pay3 (F := Ideal) vp vf)
      (fun d t => if d < 32 then -Ideal.sin (p t * f d) else Ideal.sin (p t * f d)) := fun i => by
  show Ideal.sin (k0_pay1 (F := Ideal) vp vf i) * Scalar.select
    (IntOp.cmpi .slt (iota .tc S64x512 32 [0] iota_S64x512_d0_w32 i) 32#32)
    (Ideal.ofBits .f32 0xBF800000#32) (Ideal.ofBits .f32 0x3F800000#32) = _
  rw [angles hp hf i, iota_single_apply, early (i 0), one_bits, neg_one_bits]
  beta_reduce
  by_cases hd : (i 0).val < 32
  · rw [if_pos hd, if_pos hd]
    show _ * (-1 : EReal) = _
    rw [mul_neg, mul_one]
  · rw [if_neg hd, if_neg hd]
    show _ * (1 : EReal) = _
    rw [mul_one]

end payloads

variable (m : (ℓ : Loc nD τ sig) → Buf (Elt Ideal) ℓ) (ρ : Dev nD → PrngReg) (c : Dev nD)

/-- The positions. -/
abbrev posIn : IVec ⟨2, ![1, 4096]⟩ 32 := m (c.tc.loc main_arg0)

/-- The frequencies, twice over, as one column. -/
theorem V_freq : V m c main_v13 = shapeCast S64x1 (shapeCast S64 (broadcastInDim S2x32 ![0, 1] bcast_S1x32_S2x32_0_1
    (shapeCast S1x32 (Cert.Reference7Ideal.Read.val_main_v9 (F := Ideal) : FVec Ideal S32 .f32) shapeCasts_S32_S1x32
      : FVec Ideal S1x32 .f32) : FVec Ideal S2x32 .f32) shapeCasts_S2x32_S64) shapeCasts_S64_S64x1 := by
  unfold V
  simp only [hostOps0]
  entry_read
  rfl

/-- The frequencies, as the call finds them. -/
theorem freq_array : Entries2 (φ := .f32) (V m c main_v13 : FVec Ideal S64x1 .f32) (fun d _ => freq d) := fun i => by
  have h0 : (i 0).val < 64 := (i 0).isLt
  have h1 : (i 1).val = 0 := by have := idx2_lt1 i; omega
  rw [V_freq]
  rw [shapeCast_apply _ shapeCasts_S64_S64x1 i (ValueIdx.ix1 (i 0)) (by
    rw [Shape.rowMajor_val_one, Shape.rowMajor_val_two]
    show (i 0).val = (i 0).val * 1 + (i 1).val
    omega)]
  rw [shapeCast_apply _ shapeCasts_S2x32_S64 (ValueIdx.ix1 (i 0))
    (ValueIdx.ix2 ⟨(i 0).val / 32, by omega⟩ ⟨(i 0).val % 32, by omega⟩) (by
    rw [Shape.rowMajor_val_one, Shape.rowMajor_val_two]
    show (i 0).val / 32 * 32 + (i 0).val % 32 = (i 0).val
    omega)]
  rw [broadcastInDim_apply _ bcast_S1x32_S2x32_0_1 _ _ (ValueIdx.ix2 0 ⟨(i 0).val % 32, by omega⟩) (fun q => by
    match q with
    | ⟨0, _⟩ => rfl
    | ⟨1, _⟩ => rfl)]
  rw [shapeCast_apply _ shapeCasts_S32_S1x32 _ (ValueIdx.ix1 ⟨(i 0).val % 32, by omega⟩) (by
    rw [Shape.rowMajor_val_one, Shape.rowMajor_val_two]
    show (i 0).val % 32 = 0 * 32 + (i 0).val % 32
    omega)]
  rfl

section blocks
variable (t : Fin cfg0.N)

/-- A grid point's positions. -/
theorem pos_block (i : S1x512.Idx) : FloatOps.sitofp (F := Ideal) .f32 ((iblk m c 0 t : IVec S1x512 32) i)
    = pos (posIn m c) (512 * t.val + (i 1).val) := by
  show FloatOps.sitofp (F := Ideal) .f32 ((V m c main_arg0 : IVec S1x4096 32) ((win0_0.rect t).emb i)) = _
  rw [V_main_arg0]
  refine (pos_at _ _).trans ?_
  rw [Window.rect_emb_val win0_0 t i 1, (by decide +kernel : ∀ t : Fin grid0.N, win0_0.index t = ![0, t.val]) t]
  show pos _ (t.val * 512 + (i 1).val) = _
  rw [Nat.mul_comm]

/-- The frequencies, whole at every point. -/
theorem freq_block : Entries2 (φ := .f32) (iblk m c 1 t : FVec Ideal S64x1 .f32) (fun d _ => freq d) := fun i => by
  show V m c main_v13 ((win0_1.rect t).emb i) = _
  refine (freq_array m c _).trans ?_
  beta_reduce
  rw [Window.rect_emb_val win0_1 t i 0, (by decide +kernel : ∀ t : Fin grid0.N, win0_1.index t = ![0, 0]) t]
  show freq (0 * 64 + (i 0).val) = _
  rw [Nat.zero_mul, Nat.zero_add]

/-- The cosines that a grid point leaves. -/
theorem cos_left : Entries2 (φ := .f32) (out0_2 (F := Ideal) (iblk m c 0 t) (iblk m c 1 t))
    (fun d j => Ideal.cos (angle (posIn m c) d (512 * t.val + j))) := by
  unfold out0_2
  rw [View.canon_cons_unit_lit _ _ _ (by decide), View.ld_unit_lit _ _ (by decide), View.ld_unit_lit _ _ (by decide)]
  exact cosines (p := fun j => pos (posIn m c) (512 * t.val + j)) (pos_block m c t) (freq_block m c t)

/-- The signed sines that a grid point leaves. -/
theorem sin_left : Entries2 (φ := .f32) (out0_3 (F := Ideal) (iblk m c 0 t) (iblk m c 1 t))
    (fun d j => signed (posIn m c) d (512 * t.val + j)) := by
  unfold out0_3
  rw [View.canon_cons_unit_lit _ _ _ (by decide), View.ld_unit_lit _ _ (by decide), View.ld_unit_lit _ _ (by decide)]
  exact sines (p := fun j => pos (posIn m c) (512 * t.val + j)) (pos_block m c t) (freq_block m c t)

end blocks

/-- The first table, block of columns by block. -/
theorem cos_array : (dats m 0 c).arrAt 2 cfg0.N = fun i : S64x4096.Idx =>
    Ideal.cos (angle (posIn m c) (i 0).val (i 1).val) := by
  refine (dats m 0 c).arrAt_eq_of_covers 2 _ (by decide +kernel) fun t hf y => ?_
  have e := (by decide +kernel : ∀ t : Fin grid0.N, win0_2.index t 0 = 0 ∧ win0_2.index t 1 = t.val) t
  have h := cos_left m c t
  rw [after0_2]
  generalize out0_2 (F := Ideal) (iblk m c 0 t) (iblk m c 1 t) = o at h ⊢
  refine (h y).trans ?_
  have e0 : ((win0_2.blk t).view.emb y 0).val = (y 0).val := by blk_simp; rw [e.1]; omega
  have e1 : ((win0_2.blk t).view.emb y 1).val = 512 * t.val + (y 1).val := by blk_simp; rw [e.2]; omega
  show Ideal.cos (angle _ (y 0).val (512 * t.val + (y 1).val))
    = Ideal.cos (angle _ ((win0_2.blk t).view.emb y 0).val ((win0_2.blk t).view.emb y 1).val)
  rw [e0, e1]

/-- The second table, block of columns by block. -/
theorem sin_array : (dats m 0 c).arrAt 3 cfg0.N = fun i : S64x4096.Idx =>
    signed (posIn m c) (i 0).val (i 1).val := by
  refine (dats m 0 c).arrAt_eq_of_covers 3 _ (by decide +kernel) fun t hf y => ?_
  have e := (by decide +kernel : ∀ t : Fin grid0.N, win0_3.index t 0 = 0 ∧ win0_3.index t 1 = t.val) t
  have h := sin_left m c t
  rw [after0_3]
  generalize out0_3 (F := Ideal) (iblk m c 0 t) (iblk m c 1 t) = o at h ⊢
  refine (h y).trans ?_
  have e0 : ((win0_3.blk t).view.emb y 0).val = (y 0).val := by blk_simp; rw [e.1]; omega
  have e1 : ((win0_3.blk t).view.emb y 1).val = 512 * t.val + (y 1).val := by blk_simp; rw [e.2]; omega
  show signed _ (y 0).val (512 * t.val + (y 1).val)
    = signed _ ((win0_3.blk t).view.emb y 0).val ((win0_3.blk t).view.emb y 1).val
  rw [e0, e1]

end kernel

section reference
open Cert.Reference7Ideal Cert.Reference7Ideal.Read Cert.Reference7Ideal.Gen

variable (x : IVec ⟨2, ![1, 4096]⟩ 32)

/-- The reference's angles. -/
theorem r16 (i : S4096x32.Idx) : val_main_v16 (F := Ideal) x i = angle x (i 1).val (i 0).val := by
  have h0 : (i 0).val < 4096 := (i 0).isLt
  have h1 : (i 1).val < 32 := (i 1).isLt
  rw [val_main_v16_apply, val_main_v14_apply, val_main_v12_apply, val_main_v11_apply, val_main_v10_apply, val_main_v15_apply,
    val_main_v13_apply]
  unfold angle
  refine congrArg₂ (fun a b : EReal => a * b) ((pos_at x _).trans (congrArg (pos x) ?_)) ?_
  · show (i 0).val % 4096 = (i 0).val
    omega
  · unfold freq
    congr 1
    funext q
    match q with
    | ⟨0, _⟩ => exact Fin.ext (by show (i 1).val = (i 1).val % 32; omega)

/-- Two arrays of 32 columns side by side, read in the first. -/
theorem beside_first (u v : FVec Ideal S4096x32 .f32) (j : S4096x64.Idx) (h : (j 1).val < 32) :
    concatenate S4096x64 1 [⟨S4096x32, u⟩, ⟨S4096x32, v⟩] concatenates_S4096x32_S4096x32_S4096x64_d1 j
      = u (ValueIdx.ix2 (j 0) ⟨(j 1).val, h⟩) :=
  concatenate_pair_apply_left (s₁ := S4096x32) (s₂ := S4096x32) (1 : Fin 2) u v _ j rfl _ fun q => by
    match q with
    | ⟨0, _⟩ => rfl
    | ⟨1, _⟩ => rfl

/-- Two arrays of 32 columns side by side, read in the second. -/
theorem beside_second (u v : FVec Ideal S4096x32 .f32) (j : S4096x64.Idx) (h : (j 1).val - 32 < 32) (h' : 32 ≤ (j 1).val) :
    concatenate S4096x64 1 [⟨S4096x32, u⟩, ⟨S4096x32, v⟩] concatenates_S4096x32_S4096x32_S4096x64_d1 j
      = v (ValueIdx.ix2 (j 0) ⟨(j 1).val - 32, h⟩) :=
  concatenate_pair_apply_right (s₁ := S4096x32) (s₂ := S4096x32) (1 : Fin 2) u v _ j rfl rfl _ (fun q hq => by
    match q with
    | ⟨0, _⟩ => rfl
    | ⟨1, _⟩ => exact absurd rfl hq) (by show (j 1).val - 32 + 32 = (j 1).val; omega)

/-- The reference's first table. -/
theorem r20 (i : S64x4096.Idx) : val_main_v20 (F := Ideal) x i = Ideal.cos (angle x (i 0).val (i 1).val) := by
  have h0 : (i 0).val < 64 := (i 0).isLt
  rw [val_main_v20_apply]
  unfold val_main_v19
  by_cases h : (i 0).val < 32
  · rw [beside_first _ _ _ h, val_main_v17_apply, r16]
    rfl
  · rw [beside_second _ _ _ (by show (i 0).val - 32 < 32; omega) (by show 32 ≤ (i 0).val; omega), val_main_v17_apply, r16]
    show Ideal.cos (angle x ((i 0).val - 32) (i 1).val) = _
    rw [angle_later x _ _ (by omega)]

/-- The reference's second table. -/
theorem r23 (i : S64x4096.Idx) : val_main_v23 (F := Ideal) x i = signed x (i 0).val (i 1).val := by
  have h0 : (i 0).val < 64 := (i 0).isLt
  rw [val_main_v23_apply]
  unfold val_main_v22 signed
  by_cases h : (i 0).val < 32
  · rw [beside_first _ _ _ h, val_main_v21_apply, val_main_v18_apply, r16, if_pos h]
    rfl
  · rw [beside_second _ _ _ (by show (i 0).val - 32 < 32; omega) (by show 32 ≤ (i 0).val; omega), val_main_v18_apply, r16,
      if_neg h]
    show Ideal.sin (angle x ((i 0).val - 32) (i 1).val) = _
    rw [angle_later x _ _ (by omega)]

end reference

section equal
open Cert.Kernel7Ideal Cert.Kernel7Ideal.Gen

variable (m : (ℓ : Loc nD τ sig) → Buf (Elt Ideal) ℓ) (ρ : Dev nD → PrngReg)

/-- The program runs, leaves each table as its blocks leave it, and keeps the positions. -/
theorem run_blocks : θ_run defs (onTc (τ := τ) (main (F := Ideal))) ⟨m, fun _ => 0, ρ⟩ fun r => ∀ c : Dev nD,
      r.2.mem ((c : Thread nD τ).loc main_v14_0) = (dats m 0 c).arrAt 2 cfg0.N
      ∧ r.2.mem ((c : Thread nD τ).loc main_v14_1) = (dats m 0 c).arrAt 3 cfg0.N
      ∧ r.2.mem ((c : Thread nD τ).loc main_arg0) = m ((c : Thread nD τ).loc main_arg0) :=
  (θ_run defs _ _).mono (fun r h c => ⟨(h c).1 2, (h c).1 3,
    ((h c).1 0).trans (((dats m 0 c).arrAt_in 0 rfl _).trans ((A_eq m c 0).trans (V_main_arg0 m c)))⟩) (run_main m ρ)

/-- Both programs run, keep the positions, and agree on the two tables. -/
theorem equal : algebraic_Kernel7Ideal_Reference7Ideal := by
  intro m g m' g' _ hargs
  refine ⟨fun c => (dats m 0 c).arrAt 2 cfg0.N, fun c => (dats m 0 c).arrAt 3 cfg0.N, run_blocks m g, ?_⟩
  refine (θ_run _ _ _).mono (fun r h c => ?_) (Cert.Reference7Ideal.Value.run m' g')
  obtain ⟨q0, q1, q⟩ := h c
  have e0 := hargs c
  refine ⟨funext fun i => ?_, funext fun i => ?_, q⟩
  · refine (congrFun (q0.trans (Cert.Reference7Ideal.Read.val_main_v20_eq _)) i).trans ((r20 _ i).trans ?_)
    show _ = (dats m 0 c).arrAt 2 cfg0.N i
    rw [e0, cos_array]
  · refine (congrFun (q1.trans (Cert.Reference7Ideal.Read.val_main_v23_eq _)) i).trans ((r23 _ i).trans ?_)
    show _ = (dats m 0 c).arrAt 3 cfg0.N i
    rw [e0, sin_array]

end equal

end Cert.RopeTables

end
-- ==== Proof.lean ====
/- The certificate of seven calls, the mixer's backward pass, the feed-forward net with the loss, the two projections
   forward and back, and the tables of the rotary positions: their programs run and keep their arguments, the idealized kernels differ from the kernels
   by two named constants, and the results of the mixer's gated branch and all those of the other calls are their
   references'. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Equation
public import proofs.«01_k».proof.Proof.Gen.Kernel2
public import proofs.«01_k».proof.Proof.FfnSame
public import proofs.«01_k».proof.Proof.FfnEquation
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.ProjEquation
public import proofs.«01_k».proof.Proof.DgradEquation
public import proofs.«01_k».proof.Proof.InProj
public import proofs.«01_k».proof.Proof.OutProj
public import proofs.«01_k».proof.Proof.RopeTables
public import Idealize.ShloMosaic.PureOps.IdealRules
public import Idealize.ShloMosaic.Lib.Quiescent

@[expose] public section

noncomputable section

namespace Cert.Proof

open Idealize.ShloMosaic Idealize.SL.Sem

/-- What the precondition's text needs of its shapes. -/
theorem pre_facts : Cert.Pre_finite.Facts := by constructor <;> decide

/-- What the mask's text needs of its shapes. -/
theorem mask_facts : Cert.On_gmlp_results.Facts := by constructor <;> decide

/-- The reference runs and keeps its arguments; it has no semaphore. -/
theorem reference_frame : quiescent_ReferenceIdeal := fun m ρ _ =>
  (θ_run _ _ _).mono (fun r h => ⟨fun c => (h c).2.2.2.2.2.2.2, sem_eq_zero_of_no_sems (by decide) _⟩)
    (Cert.ReferenceIdeal.Value.run m ρ)

/-- What the precondition's text of the feed-forward call needs of its shapes. -/
theorem ffn_pre_facts : Cert.Pre_finite2.Facts := by constructor <;> decide

/-- The feed-forward call over the extended reals runs, keeps its arguments and leaves every semaphore at zero. -/
theorem ffn_frame_ideal : quiescent_Kernel2Ideal := fun m ρ _ => Cert.FfnRun.frame m ρ

/-- Its reference runs and keeps its arguments; it has no semaphore. -/
theorem ffn_reference_frame : quiescent_Reference2Ideal := fun m ρ _ =>
  (θ_run _ _ _).mono (fun r h => ⟨fun c => (h c).2.2.2.2.2, sem_eq_zero_of_no_sems (by decide) _⟩)
    (Cert.Reference2Ideal.Value.run m ρ)

/-- The reference of the output projection's way back runs and keeps its arguments; it has no semaphore. -/
theorem proj_reference_frame : quiescent_Reference3Ideal := fun m ρ _ =>
  (θ_run _ _ _).mono (fun r h => ⟨fun c => (h c).2.2, sem_eq_zero_of_no_sems (by decide) _⟩)
    (Cert.Reference3Ideal.Value.run m ρ)

/-- The reference of the input projection's way back runs and keeps its arguments; it has no semaphore. -/
theorem dgrad_reference_frame : quiescent_Reference4Ideal := fun m ρ _ =>
  (θ_run _ _ _).mono (fun r h => ⟨fun c => (h c).2, sem_eq_zero_of_no_sems (by decide) _⟩)
    (Cert.Reference4Ideal.Value.run m ρ)

/-- The reference of the input projection runs and keeps its arguments; it has no semaphore. -/
theorem in_reference_frame : quiescent_Reference5Ideal := fun m ρ _ =>
  (θ_run _ _ _).mono (fun r h => ⟨fun c => (h c).2.2, sem_eq_zero_of_no_sems (by decide) _⟩)
    (Cert.Reference5Ideal.Value.run m ρ)

/-- The reference of the output projection runs and keeps its arguments; it has no semaphore. -/
theorem out_reference_frame : quiescent_Reference6Ideal := fun m ρ _ =>
  (θ_run _ _ _).mono (fun r h => ⟨fun c => (h c).2.2.2, sem_eq_zero_of_no_sems (by decide) _⟩)
    (Cert.Reference6Ideal.Value.run m ρ)

/-- The reference of the rotary positions' tables runs and keeps its argument; it has no semaphore. -/
theorem tables_reference_frame : quiescent_Reference7Ideal := fun m ρ _ =>
  (θ_run _ _ _).mono (fun r h => ⟨fun c => (h c).2.2, sem_eq_zero_of_no_sems (by decide) _⟩)
    (Cert.Reference7Ideal.Value.run m ρ)

/-- All the claims: first what the texts need of their shapes, then the frames, then what the programs compute. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    pre_facts, ffn_pre_facts, mask_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    Cert.FfnSame.frame, ffn_frame_ideal,
    fun m ρ _ => ffn_frame_ideal m ρ trivial,
    ffn_reference_frame,
    fun m ρ _ => ffn_reference_frame m ρ trivial,
    fun m ρ _ => Cert.Kernel3.Gen.frame m ρ,
    fun m ρ _ => Cert.Kernel3Ideal.Gen.frame m ρ,
    proj_reference_frame,
    fun m ρ _ => Cert.Kernel4.Gen.frame m ρ,
    fun m ρ _ => Cert.Kernel4Ideal.Gen.frame m ρ,
    dgrad_reference_frame,
    fun m ρ _ => Cert.Kernel5.Gen.frame m ρ,
    fun m ρ _ => Cert.Kernel5Ideal.Gen.frame m ρ,
    in_reference_frame,
    fun m ρ _ => Cert.Kernel6.Gen.frame m ρ,
    fun m ρ _ => Cert.Kernel6Ideal.Gen.frame m ρ,
    out_reference_frame,
    fun m ρ _ => Cert.Kernel7.Gen.frame m ρ,
    fun m ρ _ => Cert.Kernel7Ideal.Gen.frame m ρ,
    tables_reference_frame,
    ⟨IdealRules.named_const.statement Cert.KernelIdeal.κ "gelu_a" .f32 0x3D372713#32 _ rfl,
      IdealRules.named_const.statement Cert.KernelIdeal.κ "gelu_3a" .f32 0x3E095D4F#32 _ rfl⟩,
    @Cert.Equation.equal pre_facts mask_facts,
    trivial,
    @Cert.FfnEquation.equal ffn_pre_facts,
    trivial, Cert.Proj.equal,
    trivial, Cert.Dgrad.equal,
    trivial, Cert.InProj.equal,
    trivial, Cert.OutProj.equal,
    trivial, Cert.RopeTables.equal⟩

end Cert.Proof

end
